-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_above [hPre_above : Cert.Pre_above.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_above.fn (F := Ideal) (m ((c.tc : Thread Cert.Kernel10Ideal.nD Cert.Kernel10Ideal.τ).loc Cert.Kernel10Ideal.main_arg0))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_above [hPre_above : Cert.Pre_above.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_above.fn (F := Ideal) (m ((c.tc : Thread Cert.Reference10Ideal.nD Cert.Reference10Ideal.τ).loc Cert.Reference10Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel10Ideal_pre_above [hKernel10Ideal : Cert.Kernel10Ideal.Facts] [hPre_above : Cert.Pre_above.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_above m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10Ideal_pre_above [hReference10Ideal : Cert.Reference10Ideal.Facts] [hPre_above : Cert.Pre_above.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_above m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  IdealRules.named_const.Statement Cert.KernelIdeal.κ "start" .f32 0xF1C9F2CA#32 ⊥
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v108_0)) (v1 : (c : Dev Cert.Kernel4Ideal.nD) → Buf (Elt Ideal) ((c.tc : Thread Cert.Kernel4Ideal.nD Cert.Kernel4Ideal.τ).loc Cert.Kernel4Ideal.main_v108_1)) (v2 : (c : Dev Cert.Kernel4Ideal.nD) → Buf (Elt Ideal) ((c.tc : Thread Cert.Kernel4Ideal.nD Cert.Kernel4Ideal.τ).loc Cert.Kernel4Ideal.main_v108_2)) (v3 : (c : Dev Cert.Kernel4Ideal.nD) → Buf (Elt Ideal) ((c.tc : Thread Cert.Kernel4Ideal.nD Cert.Kernel4Ideal.τ).loc Cert.Kernel4Ideal.main_v108_3)) (v4 : (c : Dev Cert.Kernel4Ideal.nD) → Buf (Elt Ideal) ((c.tc : Thread Cert.Kernel4Ideal.nD Cert.Kernel4Ideal.τ).loc Cert.Kernel4Ideal.main_v108_4)) (v5 : (c : Dev Cert.Kernel4Ideal.nD) → Buf (Elt Ideal) ((c.tc : Thread Cert.Kernel4Ideal.nD Cert.Kernel4Ideal.τ).loc Cert.Kernel4Ideal.main_v108_5)) (v6 : (c : Dev Cert.Kernel4Ideal.nD) → Buf (Elt Ideal) ((c.tc : Thread Cert.Kernel4Ideal.nD Cert.Kernel4Ideal.τ).loc Cert.Kernel4Ideal.main_v108_6)) (v7 : (c : Dev Cert.Kernel4Ideal.nD) → Buf (Elt Ideal) ((c.tc : Thread Cert.Kernel4Ideal.nD Cert.Kernel4Ideal.τ).loc Cert.Kernel4Ideal.main_v108_7)) (v8 : (c : Dev Cert.Kernel4Ideal.nD) → Buf (Elt Ideal) ((c.tc : Thread Cert.Kernel4Ideal.nD Cert.Kernel4Ideal.τ).loc Cert.Kernel4Ideal.main_v108_8)) (v9 : (c : Dev Cert.Kernel4Ideal.nD) → Buf (Elt Ideal) ((c.tc : Thread Cert.Kernel4Ideal.nD Cert.Kernel4Ideal.τ).loc Cert.Kernel4Ideal.main_v108_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v108_0) = v0 c
          ∧ r.2.mem ((c.tc : Thread Cert.Kernel4Ideal.nD Cert.Kernel4Ideal.τ).loc Cert.Kernel4Ideal.main_v108_1) = v1 c
          ∧ r.2.mem ((c.tc : Thread Cert.Kernel4Ideal.nD Cert.Kernel4Ideal.τ).loc Cert.Kernel4Ideal.main_v108_2) = v2 c
          ∧ r.2.mem ((c.tc : Thread Cert.Kernel4Ideal.nD Cert.Kernel4Ideal.τ).loc Cert.Kernel4Ideal.main_v108_3) = v3 c
          ∧ r.2.mem ((c.tc : Thread Cert.Kernel4Ideal.nD Cert.Kernel4Ideal.τ).loc Cert.Kernel4Ideal.main_v108_4) = v4 c
          ∧ r.2.mem ((c.tc : Thread Cert.Kernel4Ideal.nD Cert.Kernel4Ideal.τ).loc Cert.Kernel4Ideal.main_v108_5) = v5 c
          ∧ r.2.mem ((c.tc : Thread Cert.Kernel4Ideal.nD Cert.Kernel4Ideal.τ).loc Cert.Kernel4Ideal.main_v108_6) = v6 c
          ∧ r.2.mem ((c.tc : Thread Cert.Kernel4Ideal.nD Cert.Kernel4Ideal.τ).loc Cert.Kernel4Ideal.main_v108_7) = v7 c
          ∧ r.2.mem ((c.tc : Thread Cert.Kernel4Ideal.nD Cert.Kernel4Ideal.τ).loc Cert.Kernel4Ideal.main_v108_8) = v8 c
          ∧ r.2.mem ((c.tc : Thread Cert.Kernel4Ideal.nD Cert.Kernel4Ideal.τ).loc Cert.Kernel4Ideal.main_v108_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v391) = v0 c
          ∧ r.2.mem ((c.tc : Thread Cert.Reference4Ideal.nD Cert.Reference4Ideal.τ).loc Cert.Reference4Ideal.main_v394) = v1 c
          ∧ r.2.mem ((c.tc : Thread Cert.Reference4Ideal.nD Cert.Reference4Ideal.τ).loc Cert.Reference4Ideal.main_v211) = v2 c
          ∧ r.2.mem ((c.tc : Thread Cert.Reference4Ideal.nD Cert.Reference4Ideal.τ).loc Cert.Reference4Ideal.main_v307) = v3 c
          ∧ r.2.mem ((c.tc : Thread Cert.Reference4Ideal.nD Cert.Reference4Ideal.τ).loc Cert.Reference4Ideal.main_v410) = v4 c
          ∧ r.2.mem ((c.tc : Thread Cert.Reference4Ideal.nD Cert.Reference4Ideal.τ).loc Cert.Reference4Ideal.main_v411) = v5 c
          ∧ r.2.mem ((c.tc : Thread Cert.Reference4Ideal.nD Cert.Reference4Ideal.τ).loc Cert.Reference4Ideal.main_v385) = v6 c
          ∧ r.2.mem ((c.tc : Thread Cert.Reference4Ideal.nD Cert.Reference4Ideal.τ).loc Cert.Reference4Ideal.main_v301) = v7 c
          ∧ r.2.mem ((c.tc : Thread Cert.Reference4Ideal.nD Cert.Reference4Ideal.τ).loc Cert.Reference4Ideal.main_v409) = v8 c
          ∧ r.2.mem ((c.tc : Thread Cert.Reference4Ideal.nD Cert.Reference4Ideal.τ).loc Cert.Reference4Ideal.main_v412) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v108_0)) (v1 : (c : Dev Cert.Kernel6Ideal.nD) → Buf (Elt Ideal) ((c.tc : Thread Cert.Kernel6Ideal.nD Cert.Kernel6Ideal.τ).loc Cert.Kernel6Ideal.main_v108_1)) (v2 : (c : Dev Cert.Kernel6Ideal.nD) → Buf (Elt Ideal) ((c.tc : Thread Cert.Kernel6Ideal.nD Cert.Kernel6Ideal.τ).loc Cert.Kernel6Ideal.main_v108_2)) (v3 : (c : Dev Cert.Kernel6Ideal.nD) → Buf (Elt Ideal) ((c.tc : Thread Cert.Kernel6Ideal.nD Cert.Kernel6Ideal.τ).loc Cert.Kernel6Ideal.main_v108_3)) (v4 : (c : Dev Cert.Kernel6Ideal.nD) → Buf (Elt Ideal) ((c.tc : Thread Cert.Kernel6Ideal.nD Cert.Kernel6Ideal.τ).loc Cert.Kernel6Ideal.main_v108_4)) (v5 : (c : Dev Cert.Kernel6Ideal.nD) → Buf (Elt Ideal) ((c.tc : Thread Cert.Kernel6Ideal.nD Cert.Kernel6Ideal.τ).loc Cert.Kernel6Ideal.main_v108_5)) (v6 : (c : Dev Cert.Kernel6Ideal.nD) → Buf (Elt Ideal) ((c.tc : Thread Cert.Kernel6Ideal.nD Cert.Kernel6Ideal.τ).loc Cert.Kernel6Ideal.main_v108_6)) (v7 : (c : Dev Cert.Kernel6Ideal.nD) → Buf (Elt Ideal) ((c.tc : Thread Cert.Kernel6Ideal.nD Cert.Kernel6Ideal.τ).loc Cert.Kernel6Ideal.main_v108_7)) (v8 : (c : Dev Cert.Kernel6Ideal.nD) → Buf (Elt Ideal) ((c.tc : Thread Cert.Kernel6Ideal.nD Cert.Kernel6Ideal.τ).loc Cert.Kernel6Ideal.main_v108_8)) (v9 : (c : Dev Cert.Kernel6Ideal.nD) → Buf (Elt Ideal) ((c.tc : Thread Cert.Kernel6Ideal.nD Cert.Kernel6Ideal.τ).loc Cert.Kernel6Ideal.main_v108_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v108_0) = v0 c
          ∧ r.2.mem ((c.tc : Thread Cert.Kernel6Ideal.nD Cert.Kernel6Ideal.τ).loc Cert.Kernel6Ideal.main_v108_1) = v1 c
          ∧ r.2.mem ((c.tc : Thread Cert.Kernel6Ideal.nD Cert.Kernel6Ideal.τ).loc Cert.Kernel6Ideal.main_v108_2) = v2 c
          ∧ r.2.mem ((c.tc : Thread Cert.Kernel6Ideal.nD Cert.Kernel6Ideal.τ).loc Cert.Kernel6Ideal.main_v108_3) = v3 c
          ∧ r.2.mem ((c.tc : Thread Cert.Kernel6Ideal.nD Cert.Kernel6Ideal.τ).loc Cert.Kernel6Ideal.main_v108_4) = v4 c
          ∧ r.2.mem ((c.tc : Thread Cert.Kernel6Ideal.nD Cert.Kernel6Ideal.τ).loc Cert.Kernel6Ideal.main_v108_5) = v5 c
          ∧ r.2.mem ((c.tc : Thread Cert.Kernel6Ideal.nD Cert.Kernel6Ideal.τ).loc Cert.Kernel6Ideal.main_v108_6) = v6 c
          ∧ r.2.mem ((c.tc : Thread Cert.Kernel6Ideal.nD Cert.Kernel6Ideal.τ).loc Cert.Kernel6Ideal.main_v108_7) = v7 c
          ∧ r.2.mem ((c.tc : Thread Cert.Kernel6Ideal.nD Cert.Kernel6Ideal.τ).loc Cert.Kernel6Ideal.main_v108_8) = v8 c
          ∧ r.2.mem ((c.tc : Thread Cert.Kernel6Ideal.nD Cert.Kernel6Ideal.τ).loc Cert.Kernel6Ideal.main_v108_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v388) = v0 c
          ∧ r.2.mem ((c.tc : Thread Cert.Reference6Ideal.nD Cert.Reference6Ideal.τ).loc Cert.Reference6Ideal.main_v391) = v1 c
          ∧ r.2.mem ((c.tc : Thread Cert.Reference6Ideal.nD Cert.Reference6Ideal.τ).loc Cert.Reference6Ideal.main_v208) = v2 c
          ∧ r.2.mem ((c.tc : Thread Cert.Reference6Ideal.nD Cert.Reference6Ideal.τ).loc Cert.Reference6Ideal.main_v304) = v3 c
          ∧ r.2.mem ((c.tc : Thread Cert.Reference6Ideal.nD Cert.Reference6Ideal.τ).loc Cert.Reference6Ideal.main_v407) = v4 c
          ∧ r.2.mem ((c.tc : Thread Cert.Reference6Ideal.nD Cert.Reference6Ideal.τ).loc Cert.Reference6Ideal.main_v408) = v5 c
          ∧ r.2.mem ((c.tc : Thread Cert.Reference6Ideal.nD Cert.Reference6Ideal.τ).loc Cert.Reference6Ideal.main_v382) = v6 c
          ∧ r.2.mem ((c.tc : Thread Cert.Reference6Ideal.nD Cert.Reference6Ideal.τ).loc Cert.Reference6Ideal.main_v298) = v7 c
          ∧ r.2.mem ((c.tc : Thread Cert.Reference6Ideal.nD Cert.Reference6Ideal.τ).loc Cert.Reference6Ideal.main_v406) = v8 c
          ∧ r.2.mem ((c.tc : Thread Cert.Reference6Ideal.nD Cert.Reference6Ideal.τ).loc Cert.Reference6Ideal.main_v409) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_above [hKernel10Ideal : Cert.Kernel10Ideal.Facts] [hReference10Ideal : Cert.Reference10Ideal.Facts] [hPre_above : Cert.Pre_above.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_above m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_above : Cert.Pre_above.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_above (hKernel10Ideal := hKernel10Ideal) (hPre_above := hPre_above)
    ∧ quiescent_Reference10Ideal (hReference10Ideal := hReference10Ideal)
    ∧ quiescent_Reference10Ideal_pre_above (hReference10Ideal := hReference10Ideal) (hPre_above := hPre_above)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_above (hKernel10Ideal := hKernel10Ideal) (hReference10Ideal := hReference10Ideal) (hPre_above := hPre_above)
-- ==== Pre_above.lean ====
abbrev S128x512 : Shape := ⟨2, ![128, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel

variable [Facts]

def fn {F : FTy → Type} [FloatOps F] (main_arg0 : FVec F S128x512 .f32) : IVec S_ 1 :=
  let main_cst : FVec F S_ .f32 := constant S_ .f32 0xFF800000#32
  let main_v0 : FVec F S128x512 .f32 := broadcastInDim S128x512 ![] bcast_S_S128x512 main_cst
  let main_v1 : IVec S128x512 1 := cmpf .ogt main_arg0 main_v0
  let main_c : IVec S_ 1 := constantI S_ 1 1#1
  let main_v2 : IVec S_ 1 := (fun x v => Host.reduce IntOp.andi x v reducesTo_S128x512_S_d0_1 h_S_) main_v1 main_c
  main_v2
-- ==== Pre_finite.lean ====
abbrev S8x32768x160 : Shape := ⟨3, ![8, 32768, 160]⟩
abbrev S32768x160 : Shape := ⟨2, ![32768, 160]⟩
abbrev S8x128x64 : Shape := ⟨3, ![8, 128, 64]⟩
abbrev S_ : Shape := ⟨0, ![]⟩

class Facts : Prop where
  bitsLt_bf16_f32 : FTy.bits .bf16 < FTy.bits .f32
  bcast_S_S8x32768x160 : S_.BroadcastsInDim S8x32768x160 (![] : Fin 0 → Fin S8x32768x160.rank)
  reducesTo_S8x32768x160_S_d0_1_2 : S8x32768x160.ReducesTo [0, 1, 2] S_
  h_S_ : 0 < S_.numel
  bcast_S_S32768x160 : S_.BroadcastsInDim S32768x160 (![] : Fin 0 → Fin S32768x160.rank)
  reducesTo_S32768x160_S_d0_1 : S32768x160.ReducesTo [0, 1] S_

variable [Facts]

def fn {F : FTy → Type} [FloatOps F] (main_arg0 : FVec F S8x32768x160 .bf16) (main_arg1 : FVec F S32768x160 .bf16) (main_arg2 : FVec F S8x128x64 .bf16) : IVec S_ 1 :=
  let main_v0 : FVec F S8x32768x160 .f32 := (extf .f32 · bitsLt_bf16_f32) main_arg0
  let main_v1 : FVec F S8x32768x160 .f32 := Host.absf main_v0
  let main_cst : FVec F S_ .f32 := constant S_ .f32 0x7F800000#32
  let main_v2 : FVec F S8x32768x160 .f32 := broadcastInDim S8x32768x160 ![] bcast_S_S8x32768x160 main_cst
  let main_v3 : IVec S8x32768x160 1 := cmpf .olt main_v1 main_v2
  let main_c : IVec S_ 1 := constantI S_ 1 1#1
  let main_v4 : IVec S_ 1 := (fun x v => Host.reduce IntOp.andi x v reducesTo_S8x32768x160_S_d0_1_2 h_S_) main_v3 main_c
  let main_v5 : FVec F S32768x160 .f32 := (extf .f32 · bitsLt_bf16_f32) main_arg1
  let main_v6 : FVec F S32768x160 .f32 := Host.absf main_v5
  let main_cst_0 : FVec F S_ .f32 := constant S_ .f32 0x7F800000#32
  let main_v7 : FVec F S32768x160 .f32 := broadcastInDim S32768x160 ![] bcast_S_S32768x160 main_cst_0
  let main_v8 : IVec S32768x160 1 := cmpf .olt main_v6 main_v7
  let main_c_1 : IVec S_ 1 := constantI S_ 1 1#1
  let main_v9 : IVec S_ 1 := (fun x v => Host.reduce IntOp.andi x v reducesTo_S32768x160_S_d0_1 h_S_) main_v8 main_c_1
  let main_v10 : IVec S_ 1 := andi main_v4 main_v9
  main_v10
-- ==== Kernel.lean ====
abbrev S8x32768x160 : Shape := ⟨3, ![8, 32768, 160]⟩
abbrev S32768x160 : Shape := ⟨2, ![32768, 160]⟩
abbrev S8x128x64 : Shape := ⟨3, ![8, 128, 64]⟩
abbrev S32768x512 : Shape := ⟨2, ![32768, 512]⟩
abbrev S8x128x160 : Shape := ⟨3, ![8, 128, 160]⟩
abbrev S2048x160 : Shape := ⟨2, ![2048, 160]⟩
abbrev S128x512 : Shape := ⟨2, ![128, 512]⟩
abbrev S128x1 : Shape := ⟨2, ![128, 1]⟩
abbrev S1x512 : Shape := ⟨2, ![1, 512]⟩
abbrev S1024x160 : Shape := ⟨2, ![1024, 160]⟩
abbrev S1024x1 : Shape := ⟨2, ![1024, 1]⟩
abbrev S1024x128 : Shape := ⟨2, ![1024, 128]⟩
abbrev S512x160 : Shape := ⟨2, ![512, 160]⟩
abbrev S512x128 : Shape := ⟨2, ![512, 128]⟩
abbrev S1024x512 : Shape := ⟨2, ![1024, 512]⟩
abbrev S8x128x512 : Shape := ⟨3, ![8, 128, 512]⟩
abbrev S1x128x512 : Shape := ⟨3, ![1, 128, 512]⟩
abbrev S1024 : Shape := ⟨1, ![1024]⟩
abbrev S128x128 : Shape := ⟨2, ![128, 128]⟩
abbrev S1x128x64 : Shape := ⟨3, ![1, 128, 64]⟩
abbrev S128x64 : Shape := ⟨2, ![128, 64]⟩

abbrev nBuf : Space → Nat
  | .hbm => 4
  | .vmem => 7
  | .smem => 0
  | _ => 0

abbrev bufTy : (tb : Table) → Fin (tcTables nBuf tb) → BufTy
  | .hbm, ⟨0, _⟩ => ⟨S8x32768x160, .bf16⟩
  | .hbm, ⟨1, _⟩ => ⟨S32768x160, .bf16⟩
  | .hbm, ⟨2, _⟩ => ⟨S8x128x64, .bf16⟩
  | .hbm, ⟨3, _⟩ => ⟨S32768x512, .bf16⟩
  | .local _ .vmem, ⟨0, _⟩ => ⟨S8x128x160, .bf16⟩
  | .local _ .vmem, ⟨1, _⟩ => ⟨S8x128x160, .bf16⟩
  | .local _ .vmem, ⟨2, _⟩ => ⟨S2048x160, .bf16⟩
  | .local _ .vmem, ⟨3, _⟩ => ⟨S2048x160, .bf16⟩
  | .local _ .vmem, ⟨4, _⟩ => ⟨S8x128x64, .bf16⟩
  | .local _ .vmem, ⟨5, _⟩ => ⟨S128x512, .bf16⟩
  | .local _ .vmem, ⟨6, _⟩ => ⟨S128x512, .bf16⟩
  | _, _ => ⟨S8x32768x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_12 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v31 : BitVec 32 := Scalar.subi v20 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_14 : BitVec 32 := 1#32
  ⟨c0_i32_12, v35, c1_i32_14⟩
def k0_mult1 (i : grid0.Coords) (k0_t1 : Fin (k0_t1_loop i).trips) : BitVec 32 :=
  let c0_i32_12 : BitVec 32 := 0#32
  let c1_i32_14 : BitVec 32 := 1#32
  let arg6 : BitVec 32 := Scf.iv c0_i32_12 c1_i32_14 k0_t1
  let c512_i32_43 : BitVec 32 := 512#32
  let v76 : BitVec 32 := Scalar.muli arg6 c512_i32_43
  v76
def k0_off1 (i : grid0.Coords) (k0_t1 : Fin (k0_t1_loop i).trips) : Fin 2 → Nat :=
  let c0_i32_12 : BitVec 32 := 0#32
  let c1_i32_14 : BitVec 32 := 1#32
  let arg6 : BitVec 32 := Scf.iv c0_i32_12 c1_i32_14 k0_t1
  let c512_i32_43 : BitVec 32 := 512#32
  let v76 : BitVec 32 := Scalar.muli arg6 c512_i32_43
  let v77 : BitVec 32 := v76
  let v78 : Index := Scalar.indexCast v77
  let c0_44 : Index := 0#32
  ![v78.toNat, 0]
@[reducible] def k0_t2_loop (i : grid0.Coords) : Scf.Loop 32 :=
  let c0_i32_12 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v31 : BitVec 32 := Scalar.subi v20 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let v32 : BitVec 32 := Scalar.addi c0_i32_12 v31
  let c1_i32_15 : BitVec 32 := 1#32
  ⟨v35, v32, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v31 : BitVec 32 := Scalar.subi v20 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg6 : BitVec 32 := Scf.iv v35 c1_i32_15 k0_t2
  let c512_i32_43 : BitVec 32 := 512#32
  let v76 : BitVec 32 := Scalar.muli arg6 c512_i32_43
  v76
def k0_off2 (i : grid0.Coords) (k0_t2 : Fin (k0_t2_loop i).trips) : Fin 2 → Nat :=
  let c0_i32_12 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v31 : BitVec 32 := Scalar.subi v20 c0_i32_12
  let c1_i32_13 : BitVec 32 := 1#32
  let v33 : BitVec 32 := Scalar.divsi v31 c1_i32_13
  let v34 : BitVec 32 := Scalar.muli v33 c1_i32_13
  let v35 : BitVec 32 := Scalar.addi c0_i32_12 v34
  let c1_i32_15 : BitVec 32 := 1#32
  let arg6 : BitVec 32 := Scf.iv v35 c1_i32_15 k0_t2
  let c512_i32_43 : BitVec 32 := 512#32
  let v76 : BitVec 32 := Scalar.muli arg6 c512_i32_43
  let v77 : BitVec 32 := v76
  let v78 : Index := Scalar.indexCast v77
  let c0_44 : Index := 0#32
  ![v78.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "start" => some ⊥
  | _ => none
-- ==== ReferenceIdeal.lean ====
abbrev S8x32768x160 : Shape := ⟨3, ![8, 32768, 160]⟩
abbrev S32768x160 : Shape := ⟨2, ![32768, 160]⟩
abbrev S8x128x64 : Shape := ⟨3, ![8, 128, 64]⟩
abbrev S8x16x2048x160 : Shape := ⟨4, ![8, 16, 2048, 160]⟩
abbrev S16x2048x160 : Shape := ⟨3, ![16, 2048, 160]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x2048x128 : Shape := ⟨3, ![16, 2048, 128]⟩
abbrev S16x8x2048x128 : Shape := ⟨4, ![16, 8, 2048, 128]⟩
abbrev S8x64x16x2048 : Shape := ⟨4, ![8, 64, 16, 2048]⟩
abbrev S16x2048x8x64 : Shape := ⟨4, ![16, 2048, 8, 64]⟩
abbrev S32768x512 : Shape := ⟨2, ![32768, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x32768x160, .bf16⟩
  | .hbm, ⟨1, _⟩ => ⟨S32768x160, .bf16⟩
  | .hbm, ⟨2, _⟩ => ⟨S8x128x64, .bf16⟩
  | .hbm, ⟨3, _⟩ => ⟨S8x32768x160, .f32⟩
  | .hbm, ⟨4, _⟩ => ⟨S8x16x2048x160, .f32⟩
  | .hbm, ⟨5, _⟩ => ⟨S32768x160, .f32⟩
  | .hbm, ⟨6, _⟩ => ⟨S16x2048x160, .f32⟩
  | .hbm, ⟨7, _⟩ => ⟨S16x8x2048x2048, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S_, .f32⟩
  | .hbm, ⟨19, _⟩ => ⟨S_, .f32⟩
  | .hbm, ⟨20, _⟩ => ⟨S16x8x2048x2048, .i1⟩
  | .hbm, ⟨21, _⟩ => ⟨S16x8x2048x2048, .f32⟩
  | .hbm, ⟨22, _⟩ => ⟨S16x8x2048x2048, .f32⟩
  | .hbm, ⟨23, _⟩ => ⟨S_, .f32⟩
  | .hbm, ⟨24, _⟩ => ⟨S16x8x2048, .f32⟩
  | .hbm, ⟨25, _⟩ => ⟨S_, .f32⟩
  | .hbm, ⟨26, _⟩ => ⟨S16x8x2048, .f32⟩
  | .hbm, ⟨27, _⟩ => ⟨S16x8x2048, .f32⟩
  | .hbm, ⟨28, _⟩ => ⟨S16x8x2048x1, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S_, .f32⟩
  | .hbm, ⟨33, _⟩ => ⟨S16x8x2048, .f32⟩
  | .hbm, ⟨34, _⟩ => ⟨S16x8x2048x1, .f32⟩
  | .hbm, ⟨35, _⟩ => ⟨S16x8x2048x2048, .f32⟩
  | .hbm, ⟨36, _⟩ => ⟨S16x8x2048x2048, .f32⟩
  | .hbm, ⟨37, _⟩ => ⟨S16x2048x128, .f32⟩
  | .hbm, ⟨38, _⟩ => ⟨S16x8x2048x128, .f32⟩
  | .hbm, ⟨39, _⟩ => ⟨S8x128x64, .f32⟩
  | .hbm, ⟨40, _⟩ => ⟨S8x64x16x2048, .f32⟩
  | .hbm, ⟨41, _⟩ => ⟨S16x2048x8x64, .f32⟩
  | .hbm, ⟨42, _⟩ => ⟨S32768x512, .f32⟩
  | .hbm, ⟨43, _⟩ => ⟨S32768x512, .bf16⟩
  | _, _ => ⟨S8x32768x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .hbm, ⟨12, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x5632 : Shape := ⟨2, ![1024, 5632]⟩
abbrev S32768x512 : Shape := ⟨2, ![32768, 512]⟩
abbrev S512x1024 : Shape := ⟨2, ![512, 1024]⟩
abbrev S1024x1024 : Shape := ⟨2, ![1024, 1024]⟩
abbrev S1x1024 : Shape := ⟨2, ![1, 1024]⟩
abbrev S1024x3072 : Shape := ⟨2, ![1024, 3072]⟩
abbrev S1x512x1024 : Shape := ⟨3, ![1, 512, 1024]⟩
abbrev S3x512x1024 : Shape := ⟨3, ![3, 512, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩

abbrev nBuf : Space → Nat
  | .hbm => 20
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S3x512x1024, .f32⟩
  | .hbm, ⟨17, _⟩ => ⟨S3x512x1024, .bf16⟩
  | .hbm, ⟨18, _⟩ => ⟨S1024x1024, .bf16⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S3x512x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S1024 : Shape := ⟨1, ![1024]⟩
abbrev S1024x5632 : Shape := ⟨2, ![1024, 5632]⟩
abbrev S32768x512 : Shape := ⟨2, ![32768, 512]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x5632, .f32⟩
  | .hbm, ⟨27, _⟩ => ⟨S32768x3072, .f32⟩
  | .hbm, ⟨28, _⟩ => ⟨S32768x3x1024, .f32⟩
  | .hbm, ⟨29, _⟩ => ⟨S32768x3x1024, .f32⟩
  | .hbm, ⟨30, _⟩ => ⟨S32768x3x1024, .f32⟩
  | .hbm, ⟨31, _⟩ => ⟨S_, .f32⟩
  | .hbm, ⟨32, _⟩ => ⟨S32768x3x1024, .f32⟩
  | .hbm, ⟨33, _⟩ => ⟨S32768x3x1024, .f32⟩
  | .hbm, ⟨34, _⟩ => ⟨S_, .f32⟩
  | .hbm, ⟨35, _⟩ => ⟨S32768x3x1024, .f32⟩
  | .hbm, ⟨36, _⟩ => ⟨S32768x3x1024, .f32⟩
  | .hbm, ⟨37, _⟩ => ⟨S32768x1x1024, .f32⟩
  | .hbm, ⟨38, _⟩ => ⟨S32768x1024, .f32⟩
  | .hbm, ⟨39, _⟩ => ⟨S32768x512, .f32⟩
  | .hbm, ⟨40, _⟩ => ⟨S32768x1024, .f32⟩
  | .hbm, ⟨41, _⟩ => ⟨S32768x1024, .f32⟩
  | .hbm, ⟨42, _⟩ => ⟨S32768x1x1024, .f32⟩
  | .hbm, ⟨43, _⟩ => ⟨S32768x1024, .f32⟩
  | .hbm, ⟨44, _⟩ => ⟨S32768x512, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1x1024, .f32⟩
  | .hbm, ⟨49, _⟩ => ⟨S32768x1024, .f32⟩
  | .hbm, ⟨50, _⟩ => ⟨S32768x512, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x5632 : Shape := ⟨2, ![1024, 5632]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S1024x512 : Shape := ⟨2, ![1024, 512]⟩
abbrev S1024x64 : Shape := ⟨2, ![1024, 64]⟩
abbrev S1024x8 : Shape := ⟨2, ![1024, 8]⟩
abbrev S1024x24 : Shape := ⟨2, ![1024, 24]⟩
abbrev S1024x256 : Shape := ⟨2, ![1024, 256]⟩
abbrev S1024x128 : Shape := ⟨2, ![1024, 128]⟩
abbrev S1024x32 : Shape := ⟨2, ![1024, 32]⟩
abbrev S1024x3072 : Shape := ⟨2, ![1024, 3072]⟩
abbrev S_ : Shape := ⟨0, ![]⟩
abbrev S1024x1920 : Shape := ⟨2, ![1024, 1920]⟩
abbrev S1024x768 : Shape := ⟨2, ![1024, 768]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S1x1024 : Shape := ⟨2, ![1, 1024]⟩
abbrev S1x256 : Shape := ⟨2, ![1, 256]⟩
abbrev S1x128 : Shape := ⟨2, ![1, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x4x32 : Shape := ⟨4, ![1, 2048, 4, 32]⟩
abbrev S3x8x32768x64 : Shape := ⟨4, ![3, 8, 32768, 64]⟩
abbrev S8x32768x160 : Shape := ⟨3, ![8, 32768, 160]⟩
abbrev S32768x8 : Shape := ⟨2, ![32768, 8]⟩
abbrev S32768x24 : Shape := ⟨2, ![32768, 24]⟩
abbrev S32768x192 : Shape := ⟨2, ![32768, 192]⟩
abbrev S32768x256 : Shape := ⟨2, ![32768, 256]⟩
abbrev S32768x160 : Shape := ⟨2, ![32768, 160]⟩
abbrev S32768x128 : Shape := ⟨2, ![32768, 128]⟩
abbrev S7x32768x64 : Shape := ⟨3, ![7, 32768, 64]⟩
abbrev S256x1024 : Shape := ⟨2, ![256, 1024]⟩
abbrev S256x128 : Shape := ⟨2, ![256, 128]⟩
abbrev S3x8x256x64 : Shape := ⟨4, ![3, 8, 256, 64]⟩
abbrev S8x256x160 : Shape := ⟨3, ![8, 256, 160]⟩
abbrev S256x8 : Shape := ⟨2, ![256, 8]⟩
abbrev S256x24 : Shape := ⟨2, ![256, 24]⟩
abbrev S256x192 : Shape := ⟨2, ![256, 192]⟩
abbrev S256x160 : Shape := ⟨2, ![256, 160]⟩
abbrev S7x256x64 : Shape := ⟨3, ![7, 256, 64]⟩
abbrev S256x1 : Shape := ⟨2, ![256, 1]⟩
abbrev S256x1920 : Shape := ⟨2, ![256, 1920]⟩
abbrev S256x64 : Shape := ⟨2, ![256, 64]⟩
abbrev S1x1x256x64 : Shape := ⟨4, ![1, 1, 256, 64]⟩
abbrev S1x256x64 : Shape := ⟨3, ![1, 256, 64]⟩
abbrev S256x32 : Shape := ⟨2, ![256, 32]⟩
abbrev S1x256x128 : Shape := ⟨3, ![1, 256, 128]⟩
abbrev S1x256x32 : Shape := ⟨3, ![1, 256, 32]⟩

abbrev nBuf : Space → Nat
  | .hbm => 135
  | .vmem => 41
  | .smem => 0
  | _ => 0

abbrev hbmTy0_0 (i : Nat) : BufTy := match i % 128 with
  | 0 => ⟨S32768x1024, .f32⟩
  | 1 => ⟨S1024, .f32⟩
  | 2 => ⟨S1024x5632, .f32⟩
  | 3 => ⟨S256, .f32⟩
  | 4 => ⟨S256x768, .f32⟩
  | 5 => ⟨S128, .f32⟩
  | 6 => ⟨S128x8x64, .f32⟩
  | 7 => ⟨S1024x512, .f32⟩
  | 8 => ⟨S1024x64, .f32⟩
  | 9 => ⟨S1024x64, .f32⟩
  | 10 => ⟨S1024x512, .f32⟩
  | 11 => ⟨S1024x64, .f32⟩
  | 12 => ⟨S1024x8, .f32⟩
  | 13 => ⟨S1024x512, .f32⟩
  | 14 => ⟨S1024x64, .f32⟩
  | 15 => ⟨S1024x64, .f32⟩
  | 16 => ⟨S1024x64, .f32⟩
  | 17 => ⟨S1024x64, .f32⟩
  | 18 => ⟨S1024x64, .f32⟩
  | 19 => ⟨S1024x64, .f32⟩
  | 20 => ⟨S1024x24, .f32⟩
  | 21 => ⟨S1024x256, .f32⟩
  | 22 => ⟨S1024x128, .f32⟩
  | 23 => ⟨S1024x32, .f32⟩
  | 24 => ⟨S1024x3072, .f32⟩
  | 25 => ⟨S_, .f32⟩
  | 26 => ⟨S1024x64, .f32⟩
  | 27 => ⟨S1024x1920, .f32⟩
  | 28 => ⟨S1024x768, .f32⟩
  | 29 => ⟨S256x8x96, .f32⟩
  | 30 => ⟨S256x8x64, .f32⟩
  | 31 => ⟨S256x512, .f32⟩
  | 32 => ⟨S256x8x32, .f32⟩
  | 33 => ⟨S256x256, .f32⟩
  | 34 => ⟨S256x768, .f32⟩
  | 35 => ⟨S8x64x128, .f32⟩
  | 36 => ⟨S8x8, .i32⟩
  | 37 => ⟨S8x8, .i32⟩
  | 38 => ⟨S_, .i32⟩
  | 39 => ⟨S8x8, .i32⟩
  | 40 => ⟨S8x8, .i32⟩
  | 41 => ⟨S8x8, .i1⟩
  | 42 => ⟨S8x8, .f32⟩
  | 43 => ⟨S8x1x8x1, .f32⟩
  | 44 => ⟨S8x64x1x128, .f32⟩
  | 45 => ⟨S8x64x8x128, .f32⟩
  | 46 => ⟨S8x64x8x128, .f32⟩
  | 47 => ⟨S8x64x8x128, .f32⟩
  | 48 => ⟨S512x1024, .f32⟩
  | 49 => ⟨S1x1024, .f32⟩
  | 50 => ⟨S1024x1920, .bf16⟩
  | 51 => ⟨S1024x768, .bf16⟩
  | 52 => ⟨S1x256, .f32⟩
  | 53 => ⟨S256x768, .bf16⟩
  | 54 => ⟨S512x1024, .bf16⟩
  | 55 => ⟨S1x128, .f32⟩
  | 56 => ⟨S2048, .i32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S2048, .f32⟩
  | 69 => ⟨S2048x1, .f32⟩
  | 70 => ⟨S1x32, .f32⟩
  | 71 => ⟨S2048x32, .f32⟩
  | 72 => ⟨S2048x32, .f32⟩
  | 73 => ⟨S2048x32, .f32⟩
  | 74 => ⟨S2048x32, .f32⟩
  | 75 => ⟨S2048x32, .f32⟩
  | 76 => ⟨S_, .f32⟩
  | 77 => ⟨S2048x32, .f32⟩
  | 78 => ⟨S2048x64, .f32⟩
  | 79 => ⟨S1x2048x1x64, .f32⟩
  | 80 => ⟨S1x2048x2x64, .f32⟩
  | 81 => ⟨S2048x128, .f32⟩
  | 82 => ⟨S2048x32, .f32⟩
  | 83 => ⟨S2048x64, .f32⟩
  | 84 => ⟨S1x2048x1x64, .f32⟩
  | 85 => ⟨S1x2048x2x64, .f32⟩
  | 86 => ⟨S2048x128, .f32⟩
  | 87 => ⟨S2048x64, .f32⟩
  | 88 => ⟨S1x2048x1x64, .f32⟩
  | 89 => ⟨S1x2048x2x64, .f32⟩
  | 90 => ⟨S2048x128, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048, .f32⟩
  | 103 => ⟨S2048x1, .f32⟩
  | 104 => ⟨S1x16, .f32⟩
  | 105 => ⟨S2048x16, .f32⟩
  | 106 => ⟨S2048x16, .f32⟩
  | 107 => ⟨S2048x16, .f32⟩
  | 108 => ⟨S2048x16, .f32⟩
  | 109 => ⟨S2048x16, .f32⟩
  | 110 => ⟨S_, .f32⟩
  | 111 => ⟨S2048x16, .f32⟩
  | 112 => ⟨S2048x32, .f32⟩
  | 113 => ⟨S1x2048x1x32, .f32⟩
  | 114 => ⟨S1x2048x4x32, .f32⟩
  | 115 => ⟨S2048x128, .f32⟩
  | 116 => ⟨S2048x16, .f32⟩
  | 117 => ⟨S2048x32, .f32⟩
  | 118 => ⟨S1x2048x1x32, .f32⟩
  | 119 => ⟨S1x2048x4x32, .f32⟩
  | 120 => ⟨S2048x128, .f32⟩
  | 121 => ⟨S2048x32, .f32⟩
  | 122 => ⟨S1x2048x1x32, .f32⟩
  | 123 => ⟨S1x2048x4x32, .f32⟩
  | 124 => ⟨S2048x128, .f32⟩
  | 125 => ⟨S3x8x32768x64, .bf16⟩
  | 126 => ⟨S8x32768x160, .bf16⟩
  | 127 => ⟨S32768x8, .f32⟩
  | _ => ⟨S32768x1024, .f32⟩

abbrev hbmTy0_1 (i : Nat) : BufTy := match i % 128 with
  | 0 => ⟨S32768x24, .f32⟩
  | 1 => ⟨S32768x192, .f32⟩
  | 2 => ⟨S32768x256, .f32⟩
  | 3 => ⟨S32768x160, .f32⟩
  | 4 => ⟨S32768x128, .f32⟩
  | 5 => ⟨S7x32768x64, .bf16⟩
  | 6 => ⟨S32768x160, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1920, .bf16⟩
  | .local _ .vmem, ⟨4, _⟩ => ⟨S1024x768, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x256, .f32⟩
  | .local _ .vmem, ⟨18, _⟩ => ⟨S256x768, .bf16⟩
  | .local _ .vmem, ⟨19, _⟩ => ⟨S512x1024, .bf16⟩
  | .local _ .vmem, ⟨20, _⟩ => ⟨S1x128, .f32⟩
  | .local _ .vmem, ⟨21, _⟩ => ⟨S3x8x256x64, .bf16⟩
  | .local _ .vmem, ⟨22, _⟩ => ⟨S3x8x256x64, .bf16⟩
  | .local _ .vmem, ⟨23, _⟩ => ⟨S8x256x160, .bf16⟩
  | .local _ .vmem, ⟨24, _⟩ => ⟨S8x256x160, .bf16⟩
  | .local _ .vmem, ⟨25, _⟩ => ⟨S256x8, .f32⟩
  | .local _ .vmem, ⟨26, _⟩ => ⟨S256x8, .f32⟩
  | .local _ .vmem, ⟨27, _⟩ => ⟨S256x24, .f32⟩
  | .local _ .vmem, ⟨28, _⟩ => ⟨S256x24, .f32⟩
  | .local _ .vmem, ⟨29, _⟩ => ⟨S256x192, .f32⟩
  | .local _ .vmem, ⟨30, _⟩ => ⟨S256x192, .f32⟩
  | .local _ .vmem, ⟨31, _⟩ => ⟨S256x256, .f32⟩
  | .local _ .vmem, ⟨32, _⟩ => ⟨S256x256, .f32⟩
  | .local _ .vmem, ⟨33, _⟩ => ⟨S256x160, .f32⟩
  | .local _ .vmem, ⟨34, _⟩ => ⟨S256x160, .f32⟩
  | .local _ .vmem, ⟨35, _⟩ => ⟨S256x128, .f32⟩
  | .local _ .vmem, ⟨36, _⟩ => ⟨S256x128, .f32⟩
  | .local _ .vmem, ⟨37, _⟩ => ⟨S7x256x64, .bf16⟩
  | .local _ .vmem, ⟨38, _⟩ => ⟨S7x256x64, .bf16⟩
  | .local _ .vmem, ⟨39, _⟩ => ⟨S256x160, .bf16⟩
  | .local _ .vmem, ⟨40, _⟩ => ⟨S256x160, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_0 : Ref sig .tc := ⟨.hbm, 59, rfl⟩
abbrev main_v50 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_3 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_4 : Ref sig .tc := ⟨.hbm, 93, rfl⟩
abbrev main_v80 : Ref sig .tc := ⟨.hbm, 94, rfl⟩
abbrev main_v81 : Ref sig .tc := ⟨.hbm, 95, rfl⟩
abbrev main_cst_5 : Ref sig .tc := ⟨.hbm, 96, rfl⟩
abbrev main_v82 : Ref sig .tc := ⟨.hbm, 97, rfl⟩
abbrev main_v83 : Ref sig .tc := ⟨.hbm, 98, rfl⟩
abbrev main_cst_6 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_7 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108_0 : Ref sig .tc := ⟨.hbm, 125, rfl⟩
abbrev main_v108_1 : Ref sig .tc := ⟨.hbm, 126, rfl⟩
abbrev main_v108_2 : Ref sig .tc := ⟨.hbm, 127, rfl⟩
abbrev main_v108_3 : Ref sig .tc := ⟨.hbm, 128, rfl⟩
abbrev main_v108_4 : Ref sig .tc := ⟨.hbm, 129, rfl⟩
abbrev main_v108_5 : Ref sig .tc := ⟨.hbm, 130, rfl⟩
abbrev main_v108_6 : Ref sig .tc := ⟨.hbm, 131, rfl⟩
abbrev main_v108_7 : Ref sig .tc := ⟨.hbm, 132, rfl⟩
abbrev main_v108_8 : Ref sig .tc := ⟨.hbm, 133, rfl⟩
abbrev main_v108_9 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3x8x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x160 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x24 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x160 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S7x256x64 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x160 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference4Ideal.lean ====
abbrev S32768x1024 : Shape := ⟨2, ![32768, 1024]⟩
abbrev S1024 : Shape := ⟨1, ![1024]⟩
abbrev S1024x5632 : Shape := ⟨2, ![1024, 5632]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S2048 : Shape := ⟨1, ![2048]⟩
abbrev S1x2048 : Shape := ⟨2, ![1, 2048]⟩
abbrev S16x2048 : Shape := ⟨2, ![16, 2048]⟩
abbrev S32768 : Shape := ⟨1, ![32768]⟩
abbrev S_ : Shape := ⟨0, ![]⟩
abbrev S32768x1 : Shape := ⟨2, ![32768, 1]⟩
abbrev S1x1024 : Shape := ⟨2, ![1, 1024]⟩
abbrev S32768x5632 : Shape := ⟨2, ![32768, 5632]⟩
abbrev S32768x512 : Shape := ⟨2, ![32768, 512]⟩
abbrev S32768x64 : Shape := ⟨2, ![32768, 64]⟩
abbrev S32768x8 : Shape := ⟨2, ![32768, 8]⟩
abbrev S32768x24 : Shape := ⟨2, ![32768, 24]⟩
abbrev S32768x256 : Shape := ⟨2, ![32768, 256]⟩
abbrev S32768x128 : Shape := ⟨2, ![32768, 128]⟩
abbrev S32768x32 : Shape := ⟨2, ![32768, 32]⟩
abbrev S32768x3072 : Shape := ⟨2, ![32768, 3072]⟩
abbrev S1x256 : Shape := ⟨2, ![1, 256]⟩
abbrev S32768x768 : Shape := ⟨2, ![32768, 768]⟩
abbrev S32768x8x96 : Shape := ⟨3, ![32768, 8, 96]⟩
abbrev S32768x8x64 : Shape := ⟨3, ![32768, 8, 64]⟩
abbrev S32 : Shape := ⟨1, ![32]⟩
abbrev S1x32 : Shape := ⟨2, ![1, 32]⟩
abbrev S32768x1x32 : Shape := ⟨3, ![32768, 1, 32]⟩
abbrev S32768x8x32 : Shape := ⟨3, ![32768, 8, 32]⟩
abbrev S32768x1x64 : Shape := ⟨3, ![32768, 1, 64]⟩
abbrev S8x128x32768 : Shape := ⟨3, ![8, 128, 32768]⟩
abbrev S32768x8x128 : Shape := ⟨3, ![32768, 8, 128]⟩
abbrev S16 : Shape := ⟨1, ![16]⟩
abbrev S1x16 : Shape := ⟨2, ![1, 16]⟩
abbrev S32768x16 : Shape := ⟨2, ![32768, 16]⟩
abbrev S32768x1x16 : Shape := ⟨3, ![32768, 1, 16]⟩
abbrev S32768x8x16 : Shape := ⟨3, ![32768, 8, 16]⟩
abbrev S1x128 : Shape := ⟨2, ![1, 128]⟩
abbrev S32768x160 : Shape := ⟨2, ![32768, 160]⟩
abbrev S1x32768x8x64 : Shape := ⟨4, ![1, 32768, 8, 64]⟩
abbrev S3x32768x8x64 : Shape := ⟨4, ![3, 32768, 8, 64]⟩
abbrev S3x8x32768x64 : Shape := ⟨4, ![3, 8, 32768, 64]⟩
abbrev S32768x8x160 : Shape := ⟨3, ![32768, 8, 160]⟩
abbrev S8x32768x160 : Shape := ⟨3, ![8, 32768, 160]⟩
abbrev S1x32768x64 : Shape := ⟨3, ![1, 32768, 64]⟩
abbrev S7x32768x64 : Shape := ⟨3, ![7, 32768, 64]⟩
abbrev S32768x192 : Shape := ⟨2, ![32768, 192]⟩

abbrev nBuf : Space → Nat
  | .hbm => 464
  | .vmem => 0
  | .smem => 0
  | _ => 0

abbrev hbmTy0_0 (i : Nat) : BufTy := match i % 128 with
  | 0 => ⟨S32768x1024, .f32⟩
  | 1 => ⟨S1024, .f32⟩
  | 2 => ⟨S1024x5632, .f32⟩
  | 3 => ⟨S256, .f32⟩
  | 4 => ⟨S256x768, .f32⟩
  | 5 => ⟨S128, .f32⟩
  | 6 => ⟨S128x8x64, .f32⟩
  | 7 => ⟨S2048, .i32⟩
  | 8 => ⟨S1x2048, .i32⟩
  | 9 => ⟨S16x2048, .i32⟩
  | 10 => ⟨S32768, .i32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S32768x5632, .f32⟩
  | 28 => ⟨S32768x512, .f32⟩
  | 29 => ⟨S32768x64, .f32⟩
  | 30 => ⟨S32768x64, .f32⟩
  | 31 => ⟨S32768x512, .f32⟩
  | 32 => ⟨S32768x64, .f32⟩
  | 33 => ⟨S32768x8, .f32⟩
  | 34 => ⟨S32768x512, .f32⟩
  | 35 => ⟨S32768x64, .f32⟩
  | 36 => ⟨S32768x64, .f32⟩
  | 37 => ⟨S32768x64, .f32⟩
  | 38 => ⟨S32768x64, .f32⟩
  | 39 => ⟨S32768x64, .f32⟩
  | 40 => ⟨S32768x64, .f32⟩
  | 41 => ⟨S32768x24, .f32⟩
  | 42 => ⟨S32768x256, .f32⟩
  | 43 => ⟨S32768x128, .f32⟩
  | 44 => ⟨S32768x32, .f32⟩
  | 45 => ⟨S32768x3072, .f32⟩
  | 46 => ⟨S32768x256, .f32⟩
  | 47 => ⟨S_, .f32⟩
  | 48 => ⟨S32768, .f32⟩
  | 49 => ⟨S32768x1, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S32768x1, .f32⟩
  | 57 => ⟨S32768x256, .f32⟩
  | 58 => ⟨S32768x256, .f32⟩
  | 59 => ⟨S1x256, .f32⟩
  | 60 => ⟨S32768x256, .f32⟩
  | 61 => ⟨S32768x256, .f32⟩
  | 62 => ⟨S32768x768, .f32⟩
  | 63 => ⟨S32768x8x96, .f32⟩
  | 64 => ⟨S32768x8x64, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S32768, .f32⟩
  | 77 => ⟨S32768x1, .f32⟩
  | 78 => ⟨S1x32, .f32⟩
  | 79 => ⟨S32768x32, .f32⟩
  | 80 => ⟨S32768x32, .f32⟩
  | 81 => ⟨S32768x32, .f32⟩
  | 82 => ⟨S32768x32, .f32⟩
  | 83 => ⟨S32768x1x32, .f32⟩
  | 84 => ⟨S32768x32, .f32⟩
  | 85 => ⟨S32768x1x32, .f32⟩
  | 86 => ⟨S32768x8x32, .f32⟩
  | 87 => ⟨S32768x8x32, .f32⟩
  | 88 => ⟨S32768x8x32, .f32⟩
  | 89 => ⟨S32768x8x32, .f32⟩
  | 90 => ⟨S32768x8x32, .f32⟩
  | 91 => ⟨S32768x8x32, .f32⟩
  | 92 => ⟨S32768x8x32, .f32⟩
  | 93 => ⟨S32768x8x32, .f32⟩
  | 94 => ⟨S32768x8x32, .f32⟩
  | 95 => ⟨S32768x8x32, .f32⟩
  | 96 => ⟨S32768x8x32, .f32⟩
  | 97 => ⟨S32768x8x32, .f32⟩
  | 98 => ⟨S32768x8x64, .f32⟩
  | 99 => ⟨S_, .f32⟩
  | 100 => ⟨S32768x8x64, .f32⟩
  | 101 => ⟨S32768x8x64, .f32⟩
  | 102 => ⟨S32768x8x64, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S32768, .f32⟩
  | 115 => ⟨S32768x1, .f32⟩
  | 116 => ⟨S1x32, .f32⟩
  | 117 => ⟨S32768x32, .f32⟩
  | 118 => ⟨S32768x32, .f32⟩
  | 119 => ⟨S32768x32, .f32⟩
  | 120 => ⟨S32768x32, .f32⟩
  | 121 => ⟨S32768x1x32, .f32⟩
  | 122 => ⟨S32768x32, .f32⟩
  | 123 => ⟨S32768x1x32, .f32⟩
  | 124 => ⟨S32768x8x32, .f32⟩
  | 125 => ⟨S32768x8x32, .f32⟩
  | 126 => ⟨S32768x8x32, .f32⟩
  | 127 => ⟨S32768x8x32, .f32⟩
  | _ => ⟨S32768x1024, .f32⟩

abbrev hbmTy0_1 (i : Nat) : BufTy := match i % 128 with
  | 0 => ⟨S32768x8x32, .f32⟩
  | 1 => ⟨S32768x8x32, .f32⟩
  | 2 => ⟨S32768x8x32, .f32⟩
  | 3 => ⟨S32768x8x32, .f32⟩
  | 4 => ⟨S32768x8x32, .f32⟩
  | 5 => ⟨S32768x8x32, .f32⟩
  | 6 => ⟨S32768x8x32, .f32⟩
  | 7 => ⟨S32768x8x32, .f32⟩
  | 8 => ⟨S32768x8x64, .f32⟩
  | 9 => ⟨S32768x8x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32768, .f32⟩
  | 22 => ⟨S32768x1, .f32⟩
  | 23 => ⟨S1x32, .f32⟩
  | 24 => ⟨S32768x32, .f32⟩
  | 25 => ⟨S32768x32, .f32⟩
  | 26 => ⟨S32768x32, .f32⟩
  | 27 => ⟨S32768x32, .f32⟩
  | 28 => ⟨S32768x1x32, .f32⟩
  | 29 => ⟨S32768x32, .f32⟩
  | 30 => ⟨S32768x1x32, .f32⟩
  | 31 => ⟨S32768x8x32, .f32⟩
  | 32 => ⟨S32768x8x32, .f32⟩
  | 33 => ⟨S32768x8x32, .f32⟩
  | 34 => ⟨S32768x8x32, .f32⟩
  | 35 => ⟨S32768x8x32, .f32⟩
  | 36 => ⟨S32768x8x32, .f32⟩
  | 37 => ⟨S32768x8x32, .f32⟩
  | 38 => ⟨S32768x8x32, .f32⟩
  | 39 => ⟨S32768x8x32, .f32⟩
  | 40 => ⟨S32768x8x32, .f32⟩
  | 41 => ⟨S32768x8x32, .f32⟩
  | 42 => ⟨S32768x8x32, .f32⟩
  | 43 => ⟨S32768x8x64, .f32⟩
  | 44 => ⟨S_, .f32⟩
  | 45 => ⟨S32768x8x64, .f32⟩
  | 46 => ⟨S32768x8x64, .f32⟩
  | 47 => ⟨S32768x1x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32768, .f32⟩
  | 60 => ⟨S32768x1, .f32⟩
  | 61 => ⟨S1x32, .f32⟩
  | 62 => ⟨S32768x32, .f32⟩
  | 63 => ⟨S32768x32, .f32⟩
  | 64 => ⟨S32768x32, .f32⟩
  | 65 => ⟨S32768x32, .f32⟩
  | 66 => ⟨S32768x1x32, .f32⟩
  | 67 => ⟨S32768x32, .f32⟩
  | 68 => ⟨S32768x1x32, .f32⟩
  | 69 => ⟨S32768x1x32, .f32⟩
  | 70 => ⟨S32768x1x32, .f32⟩
  | 71 => ⟨S32768x1x32, .f32⟩
  | 72 => ⟨S32768x1x32, .f32⟩
  | 73 => ⟨S32768x1x32, .f32⟩
  | 74 => ⟨S32768x1x32, .f32⟩
  | 75 => ⟨S32768x1x32, .f32⟩
  | 76 => ⟨S32768x1x32, .f32⟩
  | 77 => ⟨S32768x1x64, .f32⟩
  | 78 => ⟨S32768x64, .f32⟩
  | 79 => ⟨S32768x128, .f32⟩
  | 80 => ⟨S32768x1x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S32768, .f32⟩
  | 93 => ⟨S32768x1, .f32⟩
  | 94 => ⟨S1x32, .f32⟩
  | 95 => ⟨S32768x32, .f32⟩
  | 96 => ⟨S32768x32, .f32⟩
  | 97 => ⟨S32768x32, .f32⟩
  | 98 => ⟨S32768x32, .f32⟩
  | 99 => ⟨S32768x1x32, .f32⟩
  | 100 => ⟨S32768x32, .f32⟩
  | 101 => ⟨S32768x1x32, .f32⟩
  | 102 => ⟨S32768x1x32, .f32⟩
  | 103 => ⟨S32768x1x32, .f32⟩
  | 104 => ⟨S32768x1x32, .f32⟩
  | 105 => ⟨S32768x1x32, .f32⟩
  | 106 => ⟨S32768x1x32, .f32⟩
  | 107 => ⟨S32768x1x32, .f32⟩
  | 108 => ⟨S32768x1x32, .f32⟩
  | 109 => ⟨S32768x1x32, .f32⟩
  | 110 => ⟨S32768x1x64, .f32⟩
  | 111 => ⟨S32768x64, .f32⟩
  | 112 => ⟨S_, .f32⟩
  | 113 => ⟨S32768x8, .f32⟩
  | 114 => ⟨S32768x8, .f32⟩
  | 115 => ⟨S32768x1x64, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S32768, .f32⟩
  | _ => ⟨S32768x1024, .f32⟩

abbrev hbmTy0_2 (i : Nat) : BufTy := match i % 128 with
  | 0 => ⟨S32768x1, .f32⟩
  | 1 => ⟨S1x32, .f32⟩
  | 2 => ⟨S32768x32, .f32⟩
  | 3 => ⟨S32768x32, .f32⟩
  | 4 => ⟨S32768x32, .f32⟩
  | 5 => ⟨S32768x32, .f32⟩
  | 6 => ⟨S32768x1x32, .f32⟩
  | 7 => ⟨S32768x32, .f32⟩
  | 8 => ⟨S32768x1x32, .f32⟩
  | 9 => ⟨S32768x1x32, .f32⟩
  | 10 => ⟨S32768x1x32, .f32⟩
  | 11 => ⟨S32768x1x32, .f32⟩
  | 12 => ⟨S32768x1x32, .f32⟩
  | 13 => ⟨S32768x1x32, .f32⟩
  | 14 => ⟨S32768x1x32, .f32⟩
  | 15 => ⟨S32768x1x32, .f32⟩
  | 16 => ⟨S32768x1x32, .f32⟩
  | 17 => ⟨S32768x1x64, .f32⟩
  | 18 => ⟨S32768x64, .f32⟩
  | 19 => ⟨S32768x128, .f32⟩
  | 20 => ⟨S32768x1x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32768, .f32⟩
  | 33 => ⟨S32768x1, .f32⟩
  | 34 => ⟨S1x32, .f32⟩
  | 35 => ⟨S32768x32, .f32⟩
  | 36 => ⟨S32768x32, .f32⟩
  | 37 => ⟨S32768x32, .f32⟩
  | 38 => ⟨S32768x32, .f32⟩
  | 39 => ⟨S32768x1x32, .f32⟩
  | 40 => ⟨S32768x32, .f32⟩
  | 41 => ⟨S32768x1x32, .f32⟩
  | 42 => ⟨S32768x1x32, .f32⟩
  | 43 => ⟨S32768x1x32, .f32⟩
  | 44 => ⟨S32768x1x32, .f32⟩
  | 45 => ⟨S32768x1x32, .f32⟩
  | 46 => ⟨S32768x1x32, .f32⟩
  | 47 => ⟨S32768x1x32, .f32⟩
  | 48 => ⟨S32768x1x32, .f32⟩
  | 49 => ⟨S32768x1x32, .f32⟩
  | 50 => ⟨S32768x1x64, .f32⟩
  | 51 => ⟨S32768x64, .f32⟩
  | 52 => ⟨S32768x128, .f32⟩
  | 53 => ⟨S32768x1x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S32768, .f32⟩
  | 66 => ⟨S32768x1, .f32⟩
  | 67 => ⟨S1x32, .f32⟩
  | 68 => ⟨S32768x32, .f32⟩
  | 69 => ⟨S32768x32, .f32⟩
  | 70 => ⟨S32768x32, .f32⟩
  | 71 => ⟨S32768x32, .f32⟩
  | 72 => ⟨S32768x1x32, .f32⟩
  | 73 => ⟨S32768x32, .f32⟩
  | 74 => ⟨S32768x1x32, .f32⟩
  | 75 => ⟨S32768x1x32, .f32⟩
  | 76 => ⟨S32768x1x32, .f32⟩
  | 77 => ⟨S32768x1x32, .f32⟩
  | 78 => ⟨S32768x1x32, .f32⟩
  | 79 => ⟨S32768x1x32, .f32⟩
  | 80 => ⟨S32768x1x32, .f32⟩
  | 81 => ⟨S32768x1x32, .f32⟩
  | 82 => ⟨S32768x1x32, .f32⟩
  | 83 => ⟨S32768x1x64, .f32⟩
  | 84 => ⟨S32768x64, .f32⟩
  | 85 => ⟨S32768x128, .f32⟩
  | 86 => ⟨S32768x24, .f32⟩
  | 87 => ⟨S32768x24, .f32⟩
  | 88 => ⟨S_, .f32⟩
  | 89 => ⟨S32768x24, .f32⟩
  | 90 => ⟨S32768x24, .f32⟩
  | 91 => ⟨S_, .f32⟩
  | 92 => ⟨S32768x24, .f32⟩
  | 93 => ⟨S32768x24, .f32⟩
  | 94 => ⟨S32768x8x64, .f32⟩
  | 95 => ⟨S8x128x32768, .f32⟩
  | 96 => ⟨S32768x8x128, .f32⟩
  | 97 => ⟨S32768x8x32, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S32768, .f32⟩
  | 110 => ⟨S32768x1, .f32⟩
  | 111 => ⟨S1x16, .f32⟩
  | 112 => ⟨S32768x16, .f32⟩
  | 113 => ⟨S32768x16, .f32⟩
  | 114 => ⟨S32768x16, .f32⟩
  | 115 => ⟨S32768x16, .f32⟩
  | 116 => ⟨S32768x1x16, .f32⟩
  | 117 => ⟨S32768x16, .f32⟩
  | 118 => ⟨S32768x1x16, .f32⟩
  | 119 => ⟨S32768x8x16, .f32⟩
  | 120 => ⟨S32768x8x16, .f32⟩
  | 121 => ⟨S32768x8x16, .f32⟩
  | 122 => ⟨S32768x8x16, .f32⟩
  | 123 => ⟨S32768x8x16, .f32⟩
  | 124 => ⟨S32768x8x16, .f32⟩
  | 125 => ⟨S32768x8x16, .f32⟩
  | 126 => ⟨S32768x8x16, .f32⟩
  | 127 => ⟨S32768x8x16, .f32⟩
  | _ => ⟨S32768x1024, .f32⟩

abbrev hbmTy0_3 (i : Nat) : BufTy := match i % 128 with
  | 0 => ⟨S32768x8x16, .f32⟩
  | 1 => ⟨S32768x8x16, .f32⟩
  | 2 => ⟨S32768x8x16, .f32⟩
  | 3 => ⟨S32768x8x32, .f32⟩
  | 4 => ⟨S32768x128, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x128, .f32⟩
  | 16 => ⟨S32768x128, .f32⟩
  | 17 => ⟨S1x128, .f32⟩
  | 18 => ⟨S32768x128, .f32⟩
  | 19 => ⟨S32768x128, .f32⟩
  | 20 => ⟨S32768x1x32, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S32768, .f32⟩
  | 33 => ⟨S32768x1, .f32⟩
  | 34 => ⟨S1x16, .f32⟩
  | 35 => ⟨S32768x16, .f32⟩
  | 36 => ⟨S32768x16, .f32⟩
  | 37 => ⟨S32768x16, .f32⟩
  | 38 => ⟨S32768x16, .f32⟩
  | 39 => ⟨S32768x1x16, .f32⟩
  | 40 => ⟨S32768x16, .f32⟩
  | 41 => ⟨S32768x1x16, .f32⟩
  | 42 => ⟨S32768x1x16, .f32⟩
  | 43 => ⟨S32768x1x16, .f32⟩
  | 44 => ⟨S32768x1x16, .f32⟩
  | 45 => ⟨S32768x1x16, .f32⟩
  | 46 => ⟨S32768x1x16, .f32⟩
  | 47 => ⟨S32768x1x16, .f32⟩
  | 48 => ⟨S32768x1x16, .f32⟩
  | 49 => ⟨S32768x1x16, .f32⟩
  | 50 => ⟨S32768x1x32, .f32⟩
  | 51 => ⟨S32768x32, .f32⟩
  | 52 => ⟨S32768x160, .f32⟩
  | 53 => ⟨S1x32768x8x64, .f32⟩
  | 54 => ⟨S1x32768x8x64, .f32⟩
  | 55 => ⟨S1x32768x8x64, .f32⟩
  | 56 => ⟨S3x32768x8x64, .f32⟩
  | 57 => ⟨S3x8x32768x64, .f32⟩
  | 58 => ⟨S3x8x32768x64, .bf16⟩
  | 59 => ⟨S32768x8x160, .f32⟩
  | 60 => ⟨S8x32768x160, .f32⟩
  | 61 => ⟨S8x32768x160, .bf16⟩
  | 62 => ⟨S32768x64, .f32⟩
  | 63 => ⟨S32768x64, .f32⟩
  | 64 => ⟨S32768x64, .f32⟩
  | 65 => ⟨S32768x64, .f32⟩
  | 66 => ⟨S32768x64, .f32⟩
  | 67 => ⟨S32768x64, .f32⟩
  | 68 => ⟨S1x32768x64, .f32⟩
  | 69 => ⟨S1x32768x64, .f32⟩
  | 70 => ⟨S1x32768x64, .f32⟩
  | 71 => ⟨S1x32768x64, .f32⟩
  | 72 => ⟨S1x32768x64, .f32⟩
  | 73 => ⟨S1x32768x64, .f32⟩
  | 74 => ⟨S1x32768x64, .f32⟩
  | 75 => ⟨S7x32768x64, .f32⟩
  | 76 => ⟨S7x32768x64, .bf16⟩
  | 77 => ⟨S32768x192, .f32⟩
  | 78 => ⟨S32768x256, .f32⟩
  | 79 => ⟨S32768x160, .bf16⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_8 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_12 : Ref sig .tc := ⟨.hbm, 140, rfl⟩
abbrev main_v120 : Ref sig .tc := ⟨.hbm, 141, rfl⟩
abbrev main_v121 : Ref sig .tc := ⟨.hbm, 142, rfl⟩
abbrev main_cst_13 : Ref sig .tc := ⟨.hbm, 143, rfl⟩
abbrev main_v122 : Ref sig .tc := ⟨.hbm, 144, rfl⟩
abbrev main_v123 : Ref sig .tc := ⟨.hbm, 145, rfl⟩
abbrev main_cst_14 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_15 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_16 : Ref sig .tc := ⟨.hbm, 178, rfl⟩
abbrev main_v154 : Ref sig .tc := ⟨.hbm, 179, rfl⟩
abbrev main_v155 : Ref sig .tc := ⟨.hbm, 180, rfl⟩
abbrev main_cst_17 : Ref sig .tc := ⟨.hbm, 181, rfl⟩
abbrev main_v156 : Ref sig .tc := ⟨.hbm, 182, rfl⟩
abbrev main_v157 : Ref sig .tc := ⟨.hbm, 183, rfl⟩
abbrev main_cst_18 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_19 : Ref sig .tc := ⟨.hbm, 211, rfl⟩
abbrev main_v184 : Ref sig .tc := ⟨.hbm, 212, rfl⟩
abbrev main_v185 : Ref sig .tc := ⟨.hbm, 213, rfl⟩
abbrev main_cst_20 : Ref sig .tc := ⟨.hbm, 214, rfl⟩
abbrev main_v186 : Ref sig .tc := ⟨.hbm, 215, rfl⟩
abbrev main_v187 : Ref sig .tc := ⟨.hbm, 216, rfl⟩
abbrev main_cst_21 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_cst_22 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_cst_23 : Ref sig .tc := ⟨.hbm, 246, rfl⟩
abbrev main_v215 : Ref sig .tc := ⟨.hbm, 247, rfl⟩
abbrev main_v216 : Ref sig .tc := ⟨.hbm, 248, rfl⟩
abbrev main_cst_24 : Ref sig .tc := ⟨.hbm, 249, rfl⟩
abbrev main_v217 : Ref sig .tc := ⟨.hbm, 250, rfl⟩
abbrev main_v218 : Ref sig .tc := ⟨.hbm, 251, rfl⟩
abbrev main_cst_25 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_cst_26 : Ref sig .tc := ⟨.hbm, 279, rfl⟩
abbrev main_v245 : Ref sig .tc := ⟨.hbm, 280, rfl⟩
abbrev main_v246 : Ref sig .tc := ⟨.hbm, 281, rfl⟩
abbrev main_cst_27 : Ref sig .tc := ⟨.hbm, 282, rfl⟩
abbrev main_v247 : Ref sig .tc := ⟨.hbm, 283, rfl⟩
abbrev main_v248 : Ref sig .tc := ⟨.hbm, 284, rfl⟩
abbrev main_cst_28 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_cst_29 : Ref sig .tc := ⟨.hbm, 312, rfl⟩
abbrev main_v275 : Ref sig .tc := ⟨.hbm, 313, rfl⟩
abbrev main_v276 : Ref sig .tc := ⟨.hbm, 314, rfl⟩
abbrev main_cst_30 : Ref sig .tc := ⟨.hbm, 315, rfl⟩
abbrev main_v277 : Ref sig .tc := ⟨.hbm, 316, rfl⟩
abbrev main_v278 : Ref sig .tc := ⟨.hbm, 317, rfl⟩
abbrev main_cst_31 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_cst_32 : Ref sig .tc := ⟨.hbm, 344, rfl⟩
abbrev main_v304 : Ref sig .tc := ⟨.hbm, 345, rfl⟩
abbrev main_v305 : Ref sig .tc := ⟨.hbm, 346, rfl⟩
abbrev main_cst_33 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_cst_34 : Ref sig .tc := ⟨.hbm, 356, rfl⟩
abbrev main_v314 : Ref sig .tc := ⟨.hbm, 357, rfl⟩
abbrev main_v315 : Ref sig .tc := ⟨.hbm, 358, rfl⟩
abbrev main_cst_35 : Ref sig .tc := ⟨.hbm, 359, rfl⟩
abbrev main_v316 : Ref sig .tc := ⟨.hbm, 360, rfl⟩
abbrev main_v317 : Ref sig .tc := ⟨.hbm, 361, rfl⟩
abbrev main_cst_36 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_cst_37 : Ref sig .tc := ⟨.hbm, 389, rfl⟩
abbrev main_v344 : Ref sig .tc := ⟨.hbm, 390, rfl⟩
abbrev main_v345 : Ref sig .tc := ⟨.hbm, 391, rfl⟩
abbrev main_cst_38 : Ref sig .tc := ⟨.hbm, 392, rfl⟩
abbrev main_v346 : Ref sig .tc := ⟨.hbm, 393, rfl⟩
abbrev main_v347 : Ref sig .tc := ⟨.hbm, 394, rfl⟩
abbrev main_cst_39 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_cst_40 : Ref sig .tc := ⟨.hbm, 407, rfl⟩
abbrev main_v359 : Ref sig .tc := ⟨.hbm, 408, rfl⟩
abbrev main_v360 : Ref sig .tc := ⟨.hbm, 409, rfl⟩
abbrev main_cst_41 : Ref sig .tc := ⟨.hbm, 410, rfl⟩
abbrev main_v361 : Ref sig .tc := ⟨.hbm, 411, rfl⟩
abbrev main_v362 : Ref sig .tc := ⟨.hbm, 412, rfl⟩
abbrev main_cst_42 : Ref sig .tc := ⟨.hbm, 413, rfl⟩
abbrev main_v363 : Ref sig .tc := ⟨.hbm, 414, rfl⟩
abbrev main_v364 : Ref sig .tc := ⟨.hbm, 415, rfl⟩
abbrev main_v365 : Ref sig .tc := ⟨.hbm, 416, rfl⟩
abbrev main_v366 : Ref sig .tc := ⟨.hbm, 417, rfl⟩
abbrev main_v367 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_v371 : Ref sig .tc := ⟨.hbm, 422, rfl⟩
abbrev main_v372 : Ref sig .tc := ⟨.hbm, 423, rfl⟩
abbrev main_v373 : Ref sig .tc := ⟨.hbm, 424, rfl⟩
abbrev main_v374 : Ref sig .tc := ⟨.hbm, 425, rfl⟩
abbrev main_v375 : Ref sig .tc := ⟨.hbm, 426, rfl⟩
abbrev main_v376 : Ref sig .tc := ⟨.hbm, 427, rfl⟩
abbrev main_v377 : Ref sig .tc := ⟨.hbm, 428, rfl⟩
abbrev main_v378 : Ref sig .tc := ⟨.hbm, 429, rfl⟩
abbrev main_v379 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_v385 : Ref sig .tc := ⟨.hbm, 436, rfl⟩
abbrev main_v386 : Ref sig .tc := ⟨.hbm, 437, rfl⟩
abbrev main_v387 : Ref sig .tc := ⟨.hbm, 438, rfl⟩
abbrev main_v388 : Ref sig .tc := ⟨.hbm, 439, rfl⟩
abbrev main_v389 : Ref sig .tc := ⟨.hbm, 440, rfl⟩
abbrev main_v390 : Ref sig .tc := ⟨.hbm, 441, rfl⟩
abbrev main_v391 : Ref sig .tc := ⟨.hbm, 442, rfl⟩
abbrev main_v392 : Ref sig .tc := ⟨.hbm, 443, rfl⟩
abbrev main_v393 : Ref sig .tc := ⟨.hbm, 444, rfl⟩
abbrev main_v394 : Ref sig .tc := ⟨.hbm, 445, rfl⟩
abbrev main_v395 : Ref sig .tc := ⟨.hbm, 446, rfl⟩
abbrev main_v396 : Ref sig .tc := ⟨.hbm, 447, rfl⟩
abbrev main_v397 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x5632 : Shape := ⟨2, ![1024, 5632]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S1024x512 : Shape := ⟨2, ![1024, 512]⟩
abbrev S1024x64 : Shape := ⟨2, ![1024, 64]⟩
abbrev S1024x8 : Shape := ⟨2, ![1024, 8]⟩
abbrev S1024x24 : Shape := ⟨2, ![1024, 24]⟩
abbrev S1024x256 : Shape := ⟨2, ![1024, 256]⟩
abbrev S1024x128 : Shape := ⟨2, ![1024, 128]⟩
abbrev S1024x32 : Shape := ⟨2, ![1024, 32]⟩
abbrev S1024x3072 : Shape := ⟨2, ![1024, 3072]⟩
abbrev S_ : Shape := ⟨0, ![]⟩
abbrev S1024x1920 : Shape := ⟨2, ![1024, 1920]⟩
abbrev S1024x768 : Shape := ⟨2, ![1024, 768]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S1x1024 : Shape := ⟨2, ![1, 1024]⟩
abbrev S1x256 : Shape := ⟨2, ![1, 256]⟩
abbrev S1x128 : Shape := ⟨2, ![1, 128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S16 : Shape := ⟨1, ![16]⟩
abbrev S1x16 : Shape := ⟨2, ![1, 16]⟩
abbrev S128x16 : Shape := ⟨2, ![128, 16]⟩
abbrev S1x128x1x32 : Shape := ⟨4, ![1, 128, 1, 32]⟩
abbrev S1x128x4x32 : Shape := ⟨4, ![1, 128, 4, 32]⟩
abbrev S3x8x128x64 : Shape := ⟨4, ![3, 8, 128, 64]⟩
abbrev S8x128x160 : Shape := ⟨3, ![8, 128, 160]⟩
abbrev S128x8 : Shape := ⟨2, ![128, 8]⟩
abbrev S128x24 : Shape := ⟨2, ![128, 24]⟩
abbrev S128x192 : Shape := ⟨2, ![128, 192]⟩
abbrev S128x256 : Shape := ⟨2, ![128, 256]⟩
abbrev S128x160 : Shape := ⟨2, ![128, 160]⟩
abbrev S7x128x64 : Shape := ⟨3, ![7, 128, 64]⟩
abbrev S128x1920 : Shape := ⟨2, ![128, 1920]⟩
abbrev S128x768 : Shape := ⟨2, ![128, 768]⟩
abbrev S1x1x128x64 : Shape := ⟨4, ![1, 1, 128, 64]⟩
abbrev S1x128x64 : Shape := ⟨3, ![1, 128, 64]⟩
abbrev S128x512 : Shape := ⟨2, ![128, 512]⟩
abbrev S1x128x128 : Shape := ⟨3, ![1, 128, 128]⟩
abbrev S1x128x32 : Shape := ⟨3, ![1, 128, 32]⟩

abbrev nBuf : Space → Nat
  | .hbm => 136
  | .vmem => 24
  | .smem => 0
  | _ => 0

abbrev hbmTy0_0 (i : Nat) : BufTy := match i % 128 with
  | 0 => ⟨S128x1024, .f32⟩
  | 1 => ⟨S1024, .f32⟩
  | 2 => ⟨S1024x5632, .f32⟩
  | 3 => ⟨S256, .f32⟩
  | 4 => ⟨S256x768, .f32⟩
  | 5 => ⟨S128, .f32⟩
  | 6 => ⟨S128x8x64, .f32⟩
  | 7 => ⟨S1024x512, .f32⟩
  | 8 => ⟨S1024x64, .f32⟩
  | 9 => ⟨S1024x64, .f32⟩
  | 10 => ⟨S1024x512, .f32⟩
  | 11 => ⟨S1024x64, .f32⟩
  | 12 => ⟨S1024x8, .f32⟩
  | 13 => ⟨S1024x512, .f32⟩
  | 14 => ⟨S1024x64, .f32⟩
  | 15 => ⟨S1024x64, .f32⟩
  | 16 => ⟨S1024x64, .f32⟩
  | 17 => ⟨S1024x64, .f32⟩
  | 18 => ⟨S1024x64, .f32⟩
  | 19 => ⟨S1024x64, .f32⟩
  | 20 => ⟨S1024x24, .f32⟩
  | 21 => ⟨S1024x256, .f32⟩
  | 22 => ⟨S1024x128, .f32⟩
  | 23 => ⟨S1024x32, .f32⟩
  | 24 => ⟨S1024x3072, .f32⟩
  | 25 => ⟨S_, .f32⟩
  | 26 => ⟨S1024x64, .f32⟩
  | 27 => ⟨S1024x1920, .f32⟩
  | 28 => ⟨S1024x768, .f32⟩
  | 29 => ⟨S256x8x96, .f32⟩
  | 30 => ⟨S256x8x64, .f32⟩
  | 31 => ⟨S256x512, .f32⟩
  | 32 => ⟨S256x8x32, .f32⟩
  | 33 => ⟨S256x256, .f32⟩
  | 34 => ⟨S256x768, .f32⟩
  | 35 => ⟨S8x64x128, .f32⟩
  | 36 => ⟨S8x8, .i32⟩
  | 37 => ⟨S8x8, .i32⟩
  | 38 => ⟨S_, .i32⟩
  | 39 => ⟨S8x8, .i32⟩
  | 40 => ⟨S8x8, .i32⟩
  | 41 => ⟨S8x8, .i1⟩
  | 42 => ⟨S8x8, .f32⟩
  | 43 => ⟨S8x1x8x1, .f32⟩
  | 44 => ⟨S8x64x1x128, .f32⟩
  | 45 => ⟨S8x64x8x128, .f32⟩
  | 46 => ⟨S8x64x8x128, .f32⟩
  | 47 => ⟨S8x64x8x128, .f32⟩
  | 48 => ⟨S512x1024, .f32⟩
  | 49 => ⟨S1x1024, .f32⟩
  | 50 => ⟨S1024x1920, .bf16⟩
  | 51 => ⟨S1024x768, .bf16⟩
  | 52 => ⟨S1x256, .f32⟩
  | 53 => ⟨S256x768, .bf16⟩
  | 54 => ⟨S512x1024, .bf16⟩
  | 55 => ⟨S1x128, .f32⟩
  | 56 => ⟨S_, .i32⟩
  | 57 => ⟨S128, .i32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S128, .f32⟩
  | 70 => ⟨S128x1, .f32⟩
  | 71 => ⟨S1x32, .f32⟩
  | 72 => ⟨S128x32, .f32⟩
  | 73 => ⟨S128x32, .f32⟩
  | 74 => ⟨S128x32, .f32⟩
  | 75 => ⟨S128x32, .f32⟩
  | 76 => ⟨S128x32, .f32⟩
  | 77 => ⟨S_, .f32⟩
  | 78 => ⟨S128x32, .f32⟩
  | 79 => ⟨S128x64, .f32⟩
  | 80 => ⟨S1x128x1x64, .f32⟩
  | 81 => ⟨S1x128x2x64, .f32⟩
  | 82 => ⟨S128x128, .f32⟩
  | 83 => ⟨S128x32, .f32⟩
  | 84 => ⟨S128x64, .f32⟩
  | 85 => ⟨S1x128x1x64, .f32⟩
  | 86 => ⟨S1x128x2x64, .f32⟩
  | 87 => ⟨S128x128, .f32⟩
  | 88 => ⟨S128x64, .f32⟩
  | 89 => ⟨S1x128x1x64, .f32⟩
  | 90 => ⟨S1x128x2x64, .f32⟩
  | 91 => ⟨S128x128, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S128, .f32⟩
  | 104 => ⟨S128x1, .f32⟩
  | 105 => ⟨S1x16, .f32⟩
  | 106 => ⟨S128x16, .f32⟩
  | 107 => ⟨S128x16, .f32⟩
  | 108 => ⟨S128x16, .f32⟩
  | 109 => ⟨S128x16, .f32⟩
  | 110 => ⟨S128x16, .f32⟩
  | 111 => ⟨S_, .f32⟩
  | 112 => ⟨S128x16, .f32⟩
  | 113 => ⟨S128x32, .f32⟩
  | 114 => ⟨S1x128x1x32, .f32⟩
  | 115 => ⟨S1x128x4x32, .f32⟩
  | 116 => ⟨S128x128, .f32⟩
  | 117 => ⟨S128x16, .f32⟩
  | 118 => ⟨S128x32, .f32⟩
  | 119 => ⟨S1x128x1x32, .f32⟩
  | 120 => ⟨S1x128x4x32, .f32⟩
  | 121 => ⟨S128x128, .f32⟩
  | 122 => ⟨S128x32, .f32⟩
  | 123 => ⟨S1x128x1x32, .f32⟩
  | 124 => ⟨S1x128x4x32, .f32⟩
  | 125 => ⟨S128x128, .f32⟩
  | 126 => ⟨S3x8x128x64, .bf16⟩
  | 127 => ⟨S8x128x160, .bf16⟩
  | _ => ⟨S128x1024, .f32⟩

abbrev hbmTy0_1 (i : Nat) : BufTy := match i % 128 with
  | 0 => ⟨S128x8, .f32⟩
  | 1 => ⟨S128x24, .f32⟩
  | 2 => ⟨S128x192, .f32⟩
  | 3 => ⟨S128x256, .f32⟩
  | 4 => ⟨S128x160, .f32⟩
  | 5 => ⟨S128x128, .f32⟩
  | 6 => ⟨S7x128x64, .bf16⟩
  | 7 => ⟨S128x160, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x1920, .bf16⟩
  | .local _ .vmem, ⟨3, _⟩ => ⟨S1024x768, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x256, .f32⟩
  | .local _ .vmem, ⟨11, _⟩ => ⟨S256x768, .bf16⟩
  | .local _ .vmem, ⟨12, _⟩ => ⟨S512x1024, .bf16⟩
  | .local _ .vmem, ⟨13, _⟩ => ⟨S1x128, .f32⟩
  | .local _ .vmem, ⟨14, _⟩ => ⟨S3x8x128x64, .bf16⟩
  | .local _ .vmem, ⟨15, _⟩ => ⟨S8x128x160, .bf16⟩
  | .local _ .vmem, ⟨16, _⟩ => ⟨S128x8, .f32⟩
  | .local _ .vmem, ⟨17, _⟩ => ⟨S128x24, .f32⟩
  | .local _ .vmem, ⟨18, _⟩ => ⟨S128x192, .f32⟩
  | .local _ .vmem, ⟨19, _⟩ => ⟨S128x256, .f32⟩
  | .local _ .vmem, ⟨20, _⟩ => ⟨S128x160, .f32⟩
  | .local _ .vmem, ⟨21, _⟩ => ⟨S128x128, .f32⟩
  | .local _ .vmem, ⟨22, _⟩ => ⟨S7x128x64, .bf16⟩
  | .local _ .vmem, ⟨23, _⟩ => ⟨S128x160, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_0 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_1 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_5 : Ref sig .tc := ⟨.hbm, 94, rfl⟩
abbrev main_v80 : Ref sig .tc := ⟨.hbm, 95, rfl⟩
abbrev main_v81 : Ref sig .tc := ⟨.hbm, 96, rfl⟩
abbrev main_cst_6 : Ref sig .tc := ⟨.hbm, 97, rfl⟩
abbrev main_v82 : Ref sig .tc := ⟨.hbm, 98, rfl⟩
abbrev main_v83 : Ref sig .tc := ⟨.hbm, 99, rfl⟩
abbrev main_cst_7 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_8 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108_0 : Ref sig .tc := ⟨.hbm, 126, rfl⟩
abbrev main_v108_1 : Ref sig .tc := ⟨.hbm, 127, rfl⟩
abbrev main_v108_2 : Ref sig .tc := ⟨.hbm, 128, rfl⟩
abbrev main_v108_3 : Ref sig .tc := ⟨.hbm, 129, rfl⟩
abbrev main_v108_4 : Ref sig .tc := ⟨.hbm, 130, rfl⟩
abbrev main_v108_5 : Ref sig .tc := ⟨.hbm, 131, rfl⟩
abbrev main_v108_6 : Ref sig .tc := ⟨.hbm, 132, rfl⟩
abbrev main_v108_7 : Ref sig .tc := ⟨.hbm, 133, rfl⟩
abbrev main_v108_8 : Ref sig .tc := ⟨.hbm, 134, rfl⟩
abbrev main_v108_9 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x8x128x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x128x160 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x24 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x160 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S7x128x64 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x160 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== Reference6Ideal.lean ====
abbrev S128x1024 : Shape := ⟨2, ![128, 1024]⟩
abbrev S1024 : Shape := ⟨1, ![1024]⟩
abbrev S1024x5632 : Shape := ⟨2, ![1024, 5632]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S128x1 : Shape := ⟨2, ![128, 1]⟩
abbrev S1x1024 : Shape := ⟨2, ![1, 1024]⟩
abbrev S128x5632 : Shape := ⟨2, ![128, 5632]⟩
abbrev S128x512 : Shape := ⟨2, ![128, 512]⟩
abbrev S128x64 : Shape := ⟨2, ![128, 64]⟩
abbrev S128x8 : Shape := ⟨2, ![128, 8]⟩
abbrev S128x24 : Shape := ⟨2, ![128, 24]⟩
abbrev S128x256 : Shape := ⟨2, ![128, 256]⟩
abbrev S128x128 : Shape := ⟨2, ![128, 128]⟩
abbrev S128x32 : Shape := ⟨2, ![128, 32]⟩
abbrev S128x3072 : Shape := ⟨2, ![128, 3072]⟩
abbrev S1x256 : Shape := ⟨2, ![1, 256]⟩
abbrev S128x768 : Shape := ⟨2, ![128, 768]⟩
abbrev S128x8x96 : Shape := ⟨3, ![128, 8, 96]⟩
abbrev S32 : Shape := ⟨1, ![32]⟩
abbrev S1x32 : Shape := ⟨2, ![1, 32]⟩
abbrev S128x1x32 : Shape := ⟨3, ![128, 1, 32]⟩
abbrev S128x8x32 : Shape := ⟨3, ![128, 8, 32]⟩
abbrev S128x1x64 : Shape := ⟨3, ![128, 1, 64]⟩
abbrev S8x128x128 : Shape := ⟨3, ![8, 128, 128]⟩
abbrev S128x8x128 : Shape := ⟨3, ![128, 8, 128]⟩
abbrev S16 : Shape := ⟨1, ![16]⟩
abbrev S1x16 : Shape := ⟨2, ![1, 16]⟩
abbrev S128x16 : Shape := ⟨2, ![128, 16]⟩
abbrev S128x1x16 : Shape := ⟨3, ![128, 1, 16]⟩
abbrev S128x8x16 : Shape := ⟨3, ![128, 8, 16]⟩
abbrev S1x128 : Shape := ⟨2, ![1, 128]⟩
abbrev S128x160 : Shape := ⟨2, ![128, 160]⟩
abbrev S1x128x8x64 : Shape := ⟨4, ![1, 128, 8, 64]⟩
abbrev S3x128x8x64 : Shape := ⟨4, ![3, 128, 8, 64]⟩
abbrev S3x8x128x64 : Shape := ⟨4, ![3, 8, 128, 64]⟩
abbrev S128x8x160 : Shape := ⟨3, ![128, 8, 160]⟩
abbrev S8x128x160 : Shape := ⟨3, ![8, 128, 160]⟩
abbrev S1x128x64 : Shape := ⟨3, ![1, 128, 64]⟩
abbrev S7x128x64 : Shape := ⟨3, ![7, 128, 64]⟩
abbrev S128x192 : Shape := ⟨2, ![128, 192]⟩

abbrev nBuf : Space → Nat
  | .hbm => 462
  | .vmem => 0
  | .smem => 0
  | _ => 0

abbrev hbmTy0_0 (i : Nat) : BufTy := match i % 128 with
  | 0 => ⟨S128x1024, .f32⟩
  | 1 => ⟨S1024, .f32⟩
  | 2 => ⟨S1024x5632, .f32⟩
  | 3 => ⟨S256, .f32⟩
  | 4 => ⟨S256x768, .f32⟩
  | 5 => ⟨S128, .f32⟩
  | 6 => ⟨S128x8x64, .f32⟩
  | 7 => ⟨S_, .i32⟩
  | 8 => ⟨S128, .i32⟩
  | 9 => ⟨S128x1024, .f32⟩
  | 10 => ⟨S_, .f32⟩
  | 11 => ⟨S128, .f32⟩
  | 12 => ⟨S128x1, .f32⟩
  | 13 => ⟨S_, .f32⟩
  | 14 => ⟨S128x1, .f32⟩
  | 15 => ⟨S128x1, .f32⟩
  | 16 => ⟨S_, .f32⟩
  | 17 => ⟨S128x1, .f32⟩
  | 18 => ⟨S128x1, .f32⟩
  | 19 => ⟨S128x1, .f32⟩
  | 20 => ⟨S128x1024, .f32⟩
  | 21 => ⟨S128x1024, .f32⟩
  | 22 => ⟨S1x1024, .f32⟩
  | 23 => ⟨S128x1024, .f32⟩
  | 24 => ⟨S128x1024, .f32⟩
  | 25 => ⟨S128x5632, .f32⟩
  | 26 => ⟨S128x512, .f32⟩
  | 27 => ⟨S128x64, .f32⟩
  | 28 => ⟨S128x64, .f32⟩
  | 29 => ⟨S128x512, .f32⟩
  | 30 => ⟨S128x64, .f32⟩
  | 31 => ⟨S128x8, .f32⟩
  | 32 => ⟨S128x512, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S128x24, .f32⟩
  | 40 => ⟨S128x256, .f32⟩
  | 41 => ⟨S128x128, .f32⟩
  | 42 => ⟨S128x32, .f32⟩
  | 43 => ⟨S128x3072, .f32⟩
  | 44 => ⟨S128x256, .f32⟩
  | 45 => ⟨S_, .f32⟩
  | 46 => ⟨S128, .f32⟩
  | 47 => ⟨S128x1, .f32⟩
  | 48 => ⟨S_, .f32⟩
  | 49 => ⟨S128x1, .f32⟩
  | 50 => ⟨S128x1, .f32⟩
  | 51 => ⟨S_, .f32⟩
  | 52 => ⟨S128x1, .f32⟩
  | 53 => ⟨S128x1, .f32⟩
  | 54 => ⟨S128x1, .f32⟩
  | 55 => ⟨S128x256, .f32⟩
  | 56 => ⟨S128x256, .f32⟩
  | 57 => ⟨S1x256, .f32⟩
  | 58 => ⟨S128x256, .f32⟩
  | 59 => ⟨S128x256, .f32⟩
  | 60 => ⟨S128x768, .f32⟩
  | 61 => ⟨S128x8x96, .f32⟩
  | 62 => ⟨S128x8x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S128, .f32⟩
  | 75 => ⟨S128x1, .f32⟩
  | 76 => ⟨S1x32, .f32⟩
  | 77 => ⟨S128x32, .f32⟩
  | 78 => ⟨S128x32, .f32⟩
  | 79 => ⟨S128x32, .f32⟩
  | 80 => ⟨S128x32, .f32⟩
  | 81 => ⟨S128x1x32, .f32⟩
  | 82 => ⟨S128x32, .f32⟩
  | 83 => ⟨S128x1x32, .f32⟩
  | 84 => ⟨S128x8x32, .f32⟩
  | 85 => ⟨S128x8x32, .f32⟩
  | 86 => ⟨S128x8x32, .f32⟩
  | 87 => ⟨S128x8x32, .f32⟩
  | 88 => ⟨S128x8x32, .f32⟩
  | 89 => ⟨S128x8x32, .f32⟩
  | 90 => ⟨S128x8x32, .f32⟩
  | 91 => ⟨S128x8x32, .f32⟩
  | 92 => ⟨S128x8x32, .f32⟩
  | 93 => ⟨S128x8x32, .f32⟩
  | 94 => ⟨S128x8x32, .f32⟩
  | 95 => ⟨S128x8x32, .f32⟩
  | 96 => ⟨S128x8x64, .f32⟩
  | 97 => ⟨S_, .f32⟩
  | 98 => ⟨S128x8x64, .f32⟩
  | 99 => ⟨S128x8x64, .f32⟩
  | 100 => ⟨S128x8x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S128, .f32⟩
  | 113 => ⟨S128x1, .f32⟩
  | 114 => ⟨S1x32, .f32⟩
  | 115 => ⟨S128x32, .f32⟩
  | 116 => ⟨S128x32, .f32⟩
  | 117 => ⟨S128x32, .f32⟩
  | 118 => ⟨S128x32, .f32⟩
  | 119 => ⟨S128x1x32, .f32⟩
  | 120 => ⟨S128x32, .f32⟩
  | 121 => ⟨S128x1x32, .f32⟩
  | 122 => ⟨S128x8x32, .f32⟩
  | 123 => ⟨S128x8x32, .f32⟩
  | 124 => ⟨S128x8x32, .f32⟩
  | 125 => ⟨S128x8x32, .f32⟩
  | 126 => ⟨S128x8x32, .f32⟩
  | 127 => ⟨S128x8x32, .f32⟩
  | _ => ⟨S128x1024, .f32⟩

abbrev hbmTy0_1 (i : Nat) : BufTy := match i % 128 with
  | 0 => ⟨S128x8x32, .f32⟩
  | 1 => ⟨S128x8x32, .f32⟩
  | 2 => ⟨S128x8x32, .f32⟩
  | 3 => ⟨S128x8x32, .f32⟩
  | 4 => ⟨S128x8x32, .f32⟩
  | 5 => ⟨S128x8x32, .f32⟩
  | 6 => ⟨S128x8x64, .f32⟩
  | 7 => ⟨S128x8x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S128, .f32⟩
  | 20 => ⟨S128x1, .f32⟩
  | 21 => ⟨S1x32, .f32⟩
  | 22 => ⟨S128x32, .f32⟩
  | 23 => ⟨S128x32, .f32⟩
  | 24 => ⟨S128x32, .f32⟩
  | 25 => ⟨S128x32, .f32⟩
  | 26 => ⟨S128x1x32, .f32⟩
  | 27 => ⟨S128x32, .f32⟩
  | 28 => ⟨S128x1x32, .f32⟩
  | 29 => ⟨S128x8x32, .f32⟩
  | 30 => ⟨S128x8x32, .f32⟩
  | 31 => ⟨S128x8x32, .f32⟩
  | 32 => ⟨S128x8x32, .f32⟩
  | 33 => ⟨S128x8x32, .f32⟩
  | 34 => ⟨S128x8x32, .f32⟩
  | 35 => ⟨S128x8x32, .f32⟩
  | 36 => ⟨S128x8x32, .f32⟩
  | 37 => ⟨S128x8x32, .f32⟩
  | 38 => ⟨S128x8x32, .f32⟩
  | 39 => ⟨S128x8x32, .f32⟩
  | 40 => ⟨S128x8x32, .f32⟩
  | 41 => ⟨S128x8x64, .f32⟩
  | 42 => ⟨S_, .f32⟩
  | 43 => ⟨S128x8x64, .f32⟩
  | 44 => ⟨S128x8x64, .f32⟩
  | 45 => ⟨S128x1x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S128, .f32⟩
  | 58 => ⟨S128x1, .f32⟩
  | 59 => ⟨S1x32, .f32⟩
  | 60 => ⟨S128x32, .f32⟩
  | 61 => ⟨S128x32, .f32⟩
  | 62 => ⟨S128x32, .f32⟩
  | 63 => ⟨S128x32, .f32⟩
  | 64 => ⟨S128x1x32, .f32⟩
  | 65 => ⟨S128x32, .f32⟩
  | 66 => ⟨S128x1x32, .f32⟩
  | 67 => ⟨S128x1x32, .f32⟩
  | 68 => ⟨S128x1x32, .f32⟩
  | 69 => ⟨S128x1x32, .f32⟩
  | 70 => ⟨S128x1x32, .f32⟩
  | 71 => ⟨S128x1x32, .f32⟩
  | 72 => ⟨S128x1x32, .f32⟩
  | 73 => ⟨S128x1x32, .f32⟩
  | 74 => ⟨S128x1x32, .f32⟩
  | 75 => ⟨S128x1x64, .f32⟩
  | 76 => ⟨S128x64, .f32⟩
  | 77 => ⟨S128x128, .f32⟩
  | 78 => ⟨S128x1x64, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S128, .f32⟩
  | 91 => ⟨S128x1, .f32⟩
  | 92 => ⟨S1x32, .f32⟩
  | 93 => ⟨S128x32, .f32⟩
  | 94 => ⟨S128x32, .f32⟩
  | 95 => ⟨S128x32, .f32⟩
  | 96 => ⟨S128x32, .f32⟩
  | 97 => ⟨S128x1x32, .f32⟩
  | 98 => ⟨S128x32, .f32⟩
  | 99 => ⟨S128x1x32, .f32⟩
  | 100 => ⟨S128x1x32, .f32⟩
  | 101 => ⟨S128x1x32, .f32⟩
  | 102 => ⟨S128x1x32, .f32⟩
  | 103 => ⟨S128x1x32, .f32⟩
  | 104 => ⟨S128x1x32, .f32⟩
  | 105 => ⟨S128x1x32, .f32⟩
  | 106 => ⟨S128x1x32, .f32⟩
  | 107 => ⟨S128x1x32, .f32⟩
  | 108 => ⟨S128x1x64, .f32⟩
  | 109 => ⟨S128x64, .f32⟩
  | 110 => ⟨S_, .f32⟩
  | 111 => ⟨S128x8, .f32⟩
  | 112 => ⟨S128x8, .f32⟩
  | 113 => ⟨S128x1x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S128, .f32⟩
  | 126 => ⟨S128x1, .f32⟩
  | 127 => ⟨S1x32, .f32⟩
  | _ => ⟨S128x1024, .f32⟩

abbrev hbmTy0_2 (i : Nat) : BufTy := match i % 128 with
  | 0 => ⟨S128x32, .f32⟩
  | 1 => ⟨S128x32, .f32⟩
  | 2 => ⟨S128x32, .f32⟩
  | 3 => ⟨S128x32, .f32⟩
  | 4 => ⟨S128x1x32, .f32⟩
  | 5 => ⟨S128x32, .f32⟩
  | 6 => ⟨S128x1x32, .f32⟩
  | 7 => ⟨S128x1x32, .f32⟩
  | 8 => ⟨S128x1x32, .f32⟩
  | 9 => ⟨S128x1x32, .f32⟩
  | 10 => ⟨S128x1x32, .f32⟩
  | 11 => ⟨S128x1x32, .f32⟩
  | 12 => ⟨S128x1x32, .f32⟩
  | 13 => ⟨S128x1x32, .f32⟩
  | 14 => ⟨S128x1x32, .f32⟩
  | 15 => ⟨S128x1x64, .f32⟩
  | 16 => ⟨S128x64, .f32⟩
  | 17 => ⟨S128x128, .f32⟩
  | 18 => ⟨S128x1x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S128, .f32⟩
  | 31 => ⟨S128x1, .f32⟩
  | 32 => ⟨S1x32, .f32⟩
  | 33 => ⟨S128x32, .f32⟩
  | 34 => ⟨S128x32, .f32⟩
  | 35 => ⟨S128x32, .f32⟩
  | 36 => ⟨S128x32, .f32⟩
  | 37 => ⟨S128x1x32, .f32⟩
  | 38 => ⟨S128x32, .f32⟩
  | 39 => ⟨S128x1x32, .f32⟩
  | 40 => ⟨S128x1x32, .f32⟩
  | 41 => ⟨S128x1x32, .f32⟩
  | 42 => ⟨S128x1x32, .f32⟩
  | 43 => ⟨S128x1x32, .f32⟩
  | 44 => ⟨S128x1x32, .f32⟩
  | 45 => ⟨S128x1x32, .f32⟩
  | 46 => ⟨S128x1x32, .f32⟩
  | 47 => ⟨S128x1x32, .f32⟩
  | 48 => ⟨S128x1x64, .f32⟩
  | 49 => ⟨S128x64, .f32⟩
  | 50 => ⟨S128x128, .f32⟩
  | 51 => ⟨S128x1x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S128, .f32⟩
  | 64 => ⟨S128x1, .f32⟩
  | 65 => ⟨S1x32, .f32⟩
  | 66 => ⟨S128x32, .f32⟩
  | 67 => ⟨S128x32, .f32⟩
  | 68 => ⟨S128x32, .f32⟩
  | 69 => ⟨S128x32, .f32⟩
  | 70 => ⟨S128x1x32, .f32⟩
  | 71 => ⟨S128x32, .f32⟩
  | 72 => ⟨S128x1x32, .f32⟩
  | 73 => ⟨S128x1x32, .f32⟩
  | 74 => ⟨S128x1x32, .f32⟩
  | 75 => ⟨S128x1x32, .f32⟩
  | 76 => ⟨S128x1x32, .f32⟩
  | 77 => ⟨S128x1x32, .f32⟩
  | 78 => ⟨S128x1x32, .f32⟩
  | 79 => ⟨S128x1x32, .f32⟩
  | 80 => ⟨S128x1x32, .f32⟩
  | 81 => ⟨S128x1x64, .f32⟩
  | 82 => ⟨S128x64, .f32⟩
  | 83 => ⟨S128x128, .f32⟩
  | 84 => ⟨S128x24, .f32⟩
  | 85 => ⟨S128x24, .f32⟩
  | 86 => ⟨S_, .f32⟩
  | 87 => ⟨S128x24, .f32⟩
  | 88 => ⟨S128x24, .f32⟩
  | 89 => ⟨S_, .f32⟩
  | 90 => ⟨S128x24, .f32⟩
  | 91 => ⟨S128x24, .f32⟩
  | 92 => ⟨S128x8x64, .f32⟩
  | 93 => ⟨S8x128x128, .f32⟩
  | 94 => ⟨S128x8x128, .f32⟩
  | 95 => ⟨S128x8x32, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S128, .f32⟩
  | 108 => ⟨S128x1, .f32⟩
  | 109 => ⟨S1x16, .f32⟩
  | 110 => ⟨S128x16, .f32⟩
  | 111 => ⟨S128x16, .f32⟩
  | 112 => ⟨S128x16, .f32⟩
  | 113 => ⟨S128x16, .f32⟩
  | 114 => ⟨S128x1x16, .f32⟩
  | 115 => ⟨S128x16, .f32⟩
  | 116 => ⟨S128x1x16, .f32⟩
  | 117 => ⟨S128x8x16, .f32⟩
  | 118 => ⟨S128x8x16, .f32⟩
  | 119 => ⟨S128x8x16, .f32⟩
  | 120 => ⟨S128x8x16, .f32⟩
  | 121 => ⟨S128x8x16, .f32⟩
  | 122 => ⟨S128x8x16, .f32⟩
  | 123 => ⟨S128x8x16, .f32⟩
  | 124 => ⟨S128x8x16, .f32⟩
  | 125 => ⟨S128x8x16, .f32⟩
  | 126 => ⟨S128x8x16, .f32⟩
  | 127 => ⟨S128x8x16, .f32⟩
  | _ => ⟨S128x1024, .f32⟩

abbrev hbmTy0_3 (i : Nat) : BufTy := match i % 128 with
  | 0 => ⟨S128x8x16, .f32⟩
  | 1 => ⟨S128x8x32, .f32⟩
  | 2 => ⟨S128x128, .f32⟩
  | 3 => ⟨S_, .f32⟩
  | 4 => ⟨S128, .f32⟩
  | 5 => ⟨S128x1, .f32⟩
  | 6 => ⟨S_, .f32⟩
  | 7 => ⟨S128x1, .f32⟩
  | 8 => ⟨S128x1, .f32⟩
  | 9 => ⟨S_, .f32⟩
  | 10 => ⟨S128x1, .f32⟩
  | 11 => ⟨S128x1, .f32⟩
  | 12 => ⟨S128x1, .f32⟩
  | 13 => ⟨S128x128, .f32⟩
  | 14 => ⟨S128x128, .f32⟩
  | 15 => ⟨S1x128, .f32⟩
  | 16 => ⟨S128x128, .f32⟩
  | 17 => ⟨S128x128, .f32⟩
  | 18 => ⟨S128x1x32, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S128, .f32⟩
  | 31 => ⟨S128x1, .f32⟩
  | 32 => ⟨S1x16, .f32⟩
  | 33 => ⟨S128x16, .f32⟩
  | 34 => ⟨S128x16, .f32⟩
  | 35 => ⟨S128x16, .f32⟩
  | 36 => ⟨S128x16, .f32⟩
  | 37 => ⟨S128x1x16, .f32⟩
  | 38 => ⟨S128x16, .f32⟩
  | 39 => ⟨S128x1x16, .f32⟩
  | 40 => ⟨S128x1x16, .f32⟩
  | 41 => ⟨S128x1x16, .f32⟩
  | 42 => ⟨S128x1x16, .f32⟩
  | 43 => ⟨S128x1x16, .f32⟩
  | 44 => ⟨S128x1x16, .f32⟩
  | 45 => ⟨S128x1x16, .f32⟩
  | 46 => ⟨S128x1x16, .f32⟩
  | 47 => ⟨S128x1x16, .f32⟩
  | 48 => ⟨S128x1x32, .f32⟩
  | 49 => ⟨S128x32, .f32⟩
  | 50 => ⟨S128x160, .f32⟩
  | 51 => ⟨S1x128x8x64, .f32⟩
  | 52 => ⟨S1x128x8x64, .f32⟩
  | 53 => ⟨S1x128x8x64, .f32⟩
  | 54 => ⟨S3x128x8x64, .f32⟩
  | 55 => ⟨S3x8x128x64, .f32⟩
  | 56 => ⟨S3x8x128x64, .bf16⟩
  | 57 => ⟨S128x8x160, .f32⟩
  | 58 => ⟨S8x128x160, .f32⟩
  | 59 => ⟨S8x128x160, .bf16⟩
  | 60 => ⟨S128x64, .f32⟩
  | 61 => ⟨S128x64, .f32⟩
  | 62 => ⟨S128x64, .f32⟩
  | 63 => ⟨S128x64, .f32⟩
  | 64 => ⟨S128x64, .f32⟩
  | 65 => ⟨S128x64, .f32⟩
  | 66 => ⟨S1x128x64, .f32⟩
  | 67 => ⟨S1x128x64, .f32⟩
  | 68 => ⟨S1x128x64, .f32⟩
  | 69 => ⟨S1x128x64, .f32⟩
  | 70 => ⟨S1x128x64, .f32⟩
  | 71 => ⟨S1x128x64, .f32⟩
  | 72 => ⟨S1x128x64, .f32⟩
  | 73 => ⟨S7x128x64, .f32⟩
  | 74 => ⟨S7x128x64, .bf16⟩
  | 75 => ⟨S128x192, .f32⟩
  | 76 => ⟨S128x256, .f32⟩
  | 77 => ⟨S128x160, .bf16⟩
  | _ => ⟨S128x1024, .f32⟩

abbrev hbmTy (i : Nat) : BufTy := match i / 128 with
  | 0 => hbmTy0_0 i
  | 1 => hbmTy0_1 i
  | 2 => hbmTy0_2 i
  | 3 => hbmTy0_3 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_12 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_15 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_16 : Ref sig .tc := ⟨.hbm, 176, rfl⟩
abbrev main_v151 : Ref sig .tc := ⟨.hbm, 177, rfl⟩
abbrev main_v152 : Ref sig .tc := ⟨.hbm, 178, rfl⟩
abbrev main_cst_17 : Ref sig .tc := ⟨.hbm, 179, rfl⟩
abbrev main_v153 : Ref sig .tc := ⟨.hbm, 180, rfl⟩
abbrev main_v154 : Ref sig .tc := ⟨.hbm, 181, rfl⟩
abbrev main_cst_18 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_cst_19 : Ref sig .tc := ⟨.hbm, 209, rfl⟩
abbrev main_v181 : Ref sig .tc := ⟨.hbm, 210, rfl⟩
abbrev main_v182 : Ref sig .tc := ⟨.hbm, 211, rfl⟩
abbrev main_cst_20 : Ref sig .tc := ⟨.hbm, 212, rfl⟩
abbrev main_v183 : Ref sig .tc := ⟨.hbm, 213, rfl⟩
abbrev main_v184 : Ref sig .tc := ⟨.hbm, 214, rfl⟩
abbrev main_cst_21 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_cst_22 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_cst_23 : Ref sig .tc := ⟨.hbm, 244, rfl⟩
abbrev main_v212 : Ref sig .tc := ⟨.hbm, 245, rfl⟩
abbrev main_v213 : Ref sig .tc := ⟨.hbm, 246, rfl⟩
abbrev main_cst_24 : Ref sig .tc := ⟨.hbm, 247, rfl⟩
abbrev main_v214 : Ref sig .tc := ⟨.hbm, 248, rfl⟩
abbrev main_v215 : Ref sig .tc := ⟨.hbm, 249, rfl⟩
abbrev main_cst_25 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_cst_26 : Ref sig .tc := ⟨.hbm, 277, rfl⟩
abbrev main_v242 : Ref sig .tc := ⟨.hbm, 278, rfl⟩
abbrev main_v243 : Ref sig .tc := ⟨.hbm, 279, rfl⟩
abbrev main_cst_27 : Ref sig .tc := ⟨.hbm, 280, rfl⟩
abbrev main_v244 : Ref sig .tc := ⟨.hbm, 281, rfl⟩
abbrev main_v245 : Ref sig .tc := ⟨.hbm, 282, rfl⟩
abbrev main_cst_28 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_cst_29 : Ref sig .tc := ⟨.hbm, 310, rfl⟩
abbrev main_v272 : Ref sig .tc := ⟨.hbm, 311, rfl⟩
abbrev main_v273 : Ref sig .tc := ⟨.hbm, 312, rfl⟩
abbrev main_cst_30 : Ref sig .tc := ⟨.hbm, 313, rfl⟩
abbrev main_v274 : Ref sig .tc := ⟨.hbm, 314, rfl⟩
abbrev main_v275 : Ref sig .tc := ⟨.hbm, 315, rfl⟩
abbrev main_cst_31 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_cst_32 : Ref sig .tc := ⟨.hbm, 342, rfl⟩
abbrev main_v301 : Ref sig .tc := ⟨.hbm, 343, rfl⟩
abbrev main_v302 : Ref sig .tc := ⟨.hbm, 344, rfl⟩
abbrev main_cst_33 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_cst_34 : Ref sig .tc := ⟨.hbm, 354, rfl⟩
abbrev main_v311 : Ref sig .tc := ⟨.hbm, 355, rfl⟩
abbrev main_v312 : Ref sig .tc := ⟨.hbm, 356, rfl⟩
abbrev main_cst_35 : Ref sig .tc := ⟨.hbm, 357, rfl⟩
abbrev main_v313 : Ref sig .tc := ⟨.hbm, 358, rfl⟩
abbrev main_v314 : Ref sig .tc := ⟨.hbm, 359, rfl⟩
abbrev main_cst_36 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_cst_37 : Ref sig .tc := ⟨.hbm, 387, rfl⟩
abbrev main_v341 : Ref sig .tc := ⟨.hbm, 388, rfl⟩
abbrev main_v342 : Ref sig .tc := ⟨.hbm, 389, rfl⟩
abbrev main_cst_38 : Ref sig .tc := ⟨.hbm, 390, rfl⟩
abbrev main_v343 : Ref sig .tc := ⟨.hbm, 391, rfl⟩
abbrev main_v344 : Ref sig .tc := ⟨.hbm, 392, rfl⟩
abbrev main_cst_39 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_cst_40 : Ref sig .tc := ⟨.hbm, 405, rfl⟩
abbrev main_v356 : Ref sig .tc := ⟨.hbm, 406, rfl⟩
abbrev main_v357 : Ref sig .tc := ⟨.hbm, 407, rfl⟩
abbrev main_cst_41 : Ref sig .tc := ⟨.hbm, 408, rfl⟩
abbrev main_v358 : Ref sig .tc := ⟨.hbm, 409, rfl⟩
abbrev main_v359 : Ref sig .tc := ⟨.hbm, 410, rfl⟩
abbrev main_cst_42 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_v366 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_v381 : Ref sig .tc := ⟨.hbm, 433, rfl⟩
abbrev main_v382 : Ref sig .tc := ⟨.hbm, 434, rfl⟩
abbrev main_v383 : Ref sig .tc := ⟨.hbm, 435, rfl⟩
abbrev main_v384 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_v393 : Ref sig .tc := ⟨.hbm, 445, rfl⟩
abbrev main_v394 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S1024x5632 : Shape := ⟨2, ![1024, 5632]⟩
abbrev S128x512 : Shape := ⟨2, ![128, 512]⟩
abbrev S512x1024 : Shape := ⟨2, ![512, 1024]⟩
abbrev S1024x1024 : Shape := ⟨2, ![1024, 1024]⟩
abbrev S1x1024 : Shape := ⟨2, ![1, 1024]⟩
abbrev S1024x3072 : Shape := ⟨2, ![1024, 3072]⟩
abbrev S1x512x1024 : Shape := ⟨3, ![1, 512, 1024]⟩
abbrev S3x512x1024 : Shape := ⟨3, ![3, 512, 1024]⟩
abbrev S128 : Shape := ⟨1, ![128]⟩
abbrev S128x1 : Shape := ⟨2, ![128, 1]⟩
abbrev S128x3072 : Shape := ⟨2, ![128, 3072]⟩

abbrev nBuf : Space → Nat
  | .hbm => 20
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S128x512, .bf16⟩
  | .hbm, ⟨4, _⟩ => ⟨S128x512, .bf16⟩
  | .hbm, ⟨5, _⟩ => ⟨S128x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S3x512x1024, .f32⟩
  | .hbm, ⟨17, _⟩ => ⟨S3x512x1024, .bf16⟩
  | .hbm, ⟨18, _⟩ => ⟨S1024x1024, .bf16⟩
  | .hbm, ⟨19, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S3x512x1024, .bf16⟩
  | .local _ .vmem, ⟨7, _⟩ => ⟨S1024x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference7Ideal.lean ====
abbrev S128x1024 : Shape := ⟨2, ![128, 1024]⟩
abbrev S1024 : Shape := ⟨1, ![1024]⟩
abbrev S1024x5632 : Shape := ⟨2, ![1024, 5632]⟩
abbrev S128x512 : Shape := ⟨2, ![128, 512]⟩
abbrev S512x1024 : Shape := ⟨2, ![512, 1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x3072 : Shape := ⟨2, ![128, 3072]⟩
abbrev S128x3x1024 : Shape := ⟨3, ![128, 3, 1024]⟩
abbrev S128x1x1024 : Shape := ⟨3, ![128, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S128x512, .bf16⟩
  | .hbm, ⟨4, _⟩ => ⟨S128x512, .bf16⟩
  | .hbm, ⟨5, _⟩ => ⟨S128x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S128x1024, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x1024, .f32⟩
  | .hbm, ⟨22, _⟩ => ⟨S128x1024, .f32⟩
  | .hbm, ⟨23, _⟩ => ⟨S1x1024, .f32⟩
  | .hbm, ⟨24, _⟩ => ⟨S128x1024, .f32⟩
  | .hbm, ⟨25, _⟩ => ⟨S128x1024, .f32⟩
  | .hbm, ⟨26, _⟩ => ⟨S128x5632, .f32⟩
  | .hbm, ⟨27, _⟩ => ⟨S128x3072, .f32⟩
  | .hbm, ⟨28, _⟩ => ⟨S128x3x1024, .f32⟩
  | .hbm, ⟨29, _⟩ => ⟨S128x3x1024, .f32⟩
  | .hbm, ⟨30, _⟩ => ⟨S128x3x1024, .f32⟩
  | .hbm, ⟨31, _⟩ => ⟨S_, .f32⟩
  | .hbm, ⟨32, _⟩ => ⟨S128x3x1024, .f32⟩
  | .hbm, ⟨33, _⟩ => ⟨S128x3x1024, .f32⟩
  | .hbm, ⟨34, _⟩ => ⟨S_, .f32⟩
  | .hbm, ⟨35, _⟩ => ⟨S128x3x1024, .f32⟩
  | .hbm, ⟨36, _⟩ => ⟨S128x3x1024, .f32⟩
  | .hbm, ⟨37, _⟩ => ⟨S128x1x1024, .f32⟩
  | .hbm, ⟨38, _⟩ => ⟨S128x1024, .f32⟩
  | .hbm, ⟨39, _⟩ => ⟨S128x512, .f32⟩
  | .hbm, ⟨40, _⟩ => ⟨S128x1024, .f32⟩
  | .hbm, ⟨41, _⟩ => ⟨S128x1024, .f32⟩
  | .hbm, ⟨42, _⟩ => ⟨S128x1x1024, .f32⟩
  | .hbm, ⟨43, _⟩ => ⟨S128x1024, .f32⟩
  | .hbm, ⟨44, _⟩ => ⟨S128x512, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1x1024, .f32⟩
  | .hbm, ⟨49, _⟩ => ⟨S128x1024, .f32⟩
  | .hbm, ⟨50, _⟩ => ⟨S128x512, .f32⟩
  | .hbm, ⟨51, _⟩ => ⟨S128x1024, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S128x2816 : Shape := ⟨2, ![128, 2816]⟩

abbrev nBuf : Space → Nat
  | .hbm => 13
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S128x1024, .f32⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x2816, .f32⟩
  | .hbm, ⟨23, _⟩ => ⟨S128x2816, .f32⟩
  | .hbm, ⟨24, _⟩ => ⟨S128x2816, .f32⟩
  | .hbm, ⟨25, _⟩ => ⟨S_, .f32⟩
  | .hbm, ⟨26, _⟩ => ⟨S128x2816, .f32⟩
  | .hbm, ⟨27, _⟩ => ⟨S128x2816, .f32⟩
  | .hbm, ⟨28, _⟩ => ⟨S_, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x2816, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel9.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S128x2816 : Shape := ⟨2, ![128, 2816]⟩

abbrev nBuf : Space → Nat
  | .hbm => 12
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 36
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x2816, .f32⟩
  | .hbm, ⟨23, _⟩ => ⟨S128x2816, .f32⟩
  | .hbm, ⟨24, _⟩ => ⟨S128x2816, .f32⟩
  | .hbm, ⟨25, _⟩ => ⟨S_, .f32⟩
  | .hbm, ⟨26, _⟩ => ⟨S128x2816, .f32⟩
  | .hbm, ⟨27, _⟩ => ⟨S128x2816, .f32⟩
  | .hbm, ⟨28, _⟩ => ⟨S_, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x2816, .f32⟩
  | .hbm, ⟨34, _⟩ => ⟨S128x1024, .f32⟩
  | .hbm, ⟨35, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel10.lean ====
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 2
  | .vmem => 2
  | .smem => 0
  | _ => 0

abbrev bufTy : (tb : Table) → Fin (tcTables nBuf tb) → BufTy
  | .hbm, ⟨0, _⟩ => ⟨S128x512, .f32⟩
  | .hbm, ⟨1, _⟩ => ⟨S128x128, .i32⟩
  | .local _ .vmem, ⟨0, _⟩ => ⟨S128x512, .f32⟩
  | .local _ .vmem, ⟨1, _⟩ => ⟨S128x128, .i32⟩
  | _, _ => ⟨S128x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference10Ideal.lean ====
abbrev S128x512 : Shape := ⟨2, ![128, 512]⟩
abbrev S128x255 : Shape := ⟨2, ![128, 255]⟩
abbrev S128x14 : Shape := ⟨2, ![128, 14]⟩
abbrev S_ : Shape := ⟨0, ![]⟩
abbrev S128x128 : Shape := ⟨2, ![128, 128]⟩

abbrev nBuf : Space → Nat
  | .hbm => 10
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x255, .f32⟩
  | .hbm, ⟨2, _⟩ => ⟨S128x14, .f32⟩
  | .hbm, ⟨3, _⟩ => ⟨S128x14, .i32⟩
  | .hbm, ⟨4, _⟩ => ⟨S_, .i32⟩
  | .hbm, ⟨5, _⟩ => ⟨S128x14, .i32⟩
  | .hbm, ⟨6, _⟩ => ⟨S128x14, .i32⟩
  | .hbm, ⟨7, _⟩ => ⟨S_, .i32⟩
  | .hbm, ⟨8, _⟩ => ⟨S_, .i32⟩
  | .hbm, ⟨9, _⟩ => ⟨S128x128, .i32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Proof.PickMath.lean ====
module

public import Idealize.ShloMosaic.Lib.SortPrefix
public import Idealize.ShloMosaic.Lib.SortNet.Extract
public import Idealize.ShloMosaic.Lib.Pointwise

@[expose] public section

set_option maxRecDepth 16384

noncomputable section

/-! # Picking the greatest, one round after another, is sorting -/

namespace Cert.Pick

open Idealize.ShloMosaic

/-- The greater value comes first, and of two equal ones the earlier place. -/
def before {n : Nat} (y : Fin n → EReal) (k k' : Fin n) : Bool := decide (y k' < y k) || (decide (y k = y k') && decide (k < k'))

theorem before_strict {n : Nat} (y : Fin n → EReal) : StrictTotalBefore (before y) :=
  StrictTotalBefore.of_key_then_position (fun a b : EReal => decide (b < a)) y (fun a => by simp)
    (fun a b c h h' => by simp only [decide_eq_true_eq] at h h' ⊢; exact lt_trans h' h)
    (fun a b => by
      simp only [decide_eq_true_eq]
      rcases lt_trichotomy a b with h | h | h
      · exact Or.inr (Or.inr h)
      · exact Or.inr (Or.inl h)
      · exact Or.inl h)

/-- Two orders that agree on every element against the later ones sort a list alike. -/
theorem stableSort_later {ι : Type} (R : ι → ι → Prop) (B B' : ι → ι → Bool) (h : ∀ a b, R a b → B b a = B' b a) :
    ∀ l : List ι, l.Pairwise R → stableSort B l = stableSort B' l
  | [], _ => rfl
  | a :: l, hl => by
    rw [List.pairwise_cons] at hl
    unfold stableSort
    rw [stableSort_later R B B' h l hl.2]
    exact insertBefore_congr B B' a _ fun b hb => h a b (hl.1 b ((perm_stableSort B' l).mem_iff.mp hb))

/-- A stable sort by the value alone is the sort by the value and then the place. -/
theorem sortedFrom_value {n : Nat} (y : Fin n → EReal) (B : Fin n → Fin n → Bool) (hB : ∀ k k', B k k' = decide (y k' < y k)) :
    sortedFrom B = sortedFrom (before y) := by
  have e : sortPositions n B = sortPositions n (before y) :=
    stableSort_later (fun a b => a < b) _ _ (fun a b hab => by
      rw [hB]
      have : decide (b < a) = false := by simp [le_of_lt hab]
      simp [before, this]) _ (List.pairwise_lt_finRange n)
  funext k
  unfold sortedFrom
  rw [List.get_of_eq e]
  rfl

/-- `p` is the first place at which `f` is greatest. -/
def IsPick {n : Nat} (f : Fin n → EReal) (p : Fin n) : Prop := (∀ q, f q ≤ f p) ∧ ∀ q, q < p → f q < f p

/-- The least lane number among the lanes that hold the greatest value is the first such lane's. -/
theorem first_max (f : Fin 512 → EReal) :
    ∃ p : Fin 512, Finset.univ.fold IntOp.minsi 2147483647#32
        (fun x : Fin 512 => if f x = Finset.univ.fold max ⊥ f then BitVec.ofNat 32 x.val else 512#32) = BitVec.ofNat 32 p.val ∧ IsPick f p := by
  generalize hM : Finset.univ.fold max ⊥ f = M
  have hle : ∀ q, f q ≤ M := fun q => by
    rw [← hM, Finset.le_fold_max]
    exact Or.inr ⟨q, Finset.mem_univ q, le_refl _⟩
  have hex : ∃ q, f q = M := by
    have h : M ≤ Finset.univ.fold max ⊥ f := le_of_eq hM.symm
    rw [Finset.le_fold_max] at h
    rcases h with h | ⟨q, -, h⟩
    · exact ⟨0, le_antisymm (hle 0) (le_trans h bot_le)⟩
    · exact ⟨q, le_antisymm (hle q) h⟩
  have hne : (Finset.univ.filter fun q => f q = M).Nonempty := hex.elim fun q h => ⟨q, by simp [h]⟩
  have hin := Finset.min'_mem _ hne
  have hmin : ∀ q, f q = M → (Finset.univ.filter fun q => f q = M).min' hne ≤ q := fun q h => Finset.min'_le _ q (by simp [h])
  generalize (Finset.univ.filter fun q => f q = M).min' hne = p at hin hmin
  have hpM : f p = M := by simpa using hin
  have hint : ∀ x : Fin 512, (BitVec.ofNat 32 x.val).toInt = (x.val : Int) := by decide +kernel
  refine ⟨p, BitVec.eq_of_toInt_eq ?_, fun q => hpM ▸ hle q, fun q hq => hpM ▸ lt_of_le_of_ne (hle q) fun e => absurd (hmin q e) (not_le.mpr hq)⟩
  rw [← Finset.fold_hom (op' := min) (m := BitVec.toInt) SortNet.toInt_minsi, hint]
  refine le_antisymm ?_ ?_
  · rw [Finset.fold_min_le]
    exact Or.inr ⟨p, Finset.mem_univ p, by rw [if_pos hpM, hint]⟩
  · rw [Finset.le_fold_min]
    refine ⟨?_, fun x _ => ?_⟩
    · have := p.isLt
      show (p.val : Int) ≤ 2147483647
      omega
    · split
      · rename_i h
        rw [hint]
        have := Fin.le_def.mp (hmin x h)
        omega
      · have := p.isLt
        show (p.val : Int) ≤ 512
        omega

theorem in_row (k : Fin 255) : 2 * k.val + 2 < 512 := by omega

theorem in_blocks (q : Fin 512) : q.val / 2 - 1 < 255 := by omega

theorem picks_le : 14 ≤ 255 := by omega

section rounds

variable (f : Nat → Fin 512 → EReal) (p : Nat → Fin 512) (y : Fin 255 → EReal)
  (hy : ∀ k, ⊥ < y k) (h0 : ∀ k : Fin 255, f 0 ⟨2 * k.val + 2, in_row k⟩ = y k)
  (hbot : ∀ q : Fin 512, ⊥ < f 0 q → q.val % 2 = 0 ∧ 2 ≤ q.val)
  (hp : ∀ n, IsPick (f n) (p n)) (hn : ∀ n q, f (n + 1) q = if q = p n then ⊥ else f n q)

include hn in
theorem round_eq (n : Nat) (q : Fin 512) : f n q = if ∃ j, j < n ∧ p j = q then ⊥ else f 0 q := by
  induction n with
  | zero => simp
  | succ n ih =>
    rw [hn, ih]
    by_cases e : q = p n
    · rw [if_pos e, if_pos ⟨n, Nat.lt_succ_self n, e.symm⟩]
    · rw [if_neg e]
      have : (∃ j, j < n ∧ p j = q) ↔ ∃ j, j < n + 1 ∧ p j = q :=
        ⟨fun ⟨j, hj, e'⟩ => ⟨j, by omega, e'⟩, fun ⟨j, hj, e'⟩ => ⟨j, by
          rcases Nat.lt_succ_iff_lt_or_eq.mp hj with h | h
          · exact h
          · subst h; exact absurd e'.symm e, e'⟩⟩
      simp only [this]

include hy h0 hp hn in
/-- A round before the fifteenth finds a block that is not picked yet. -/
theorem pick_pos (n : Nat) (h : n < 14) : ⊥ < f n (p n) := by
  obtain ⟨k, hk⟩ : ∃ k : Fin 255, ∀ j, j < n → p j ≠ ⟨2 * k.val + 2, in_row k⟩ := by
    by_contra hc
    push Not at hc
    choose g hg hg' using hc
    have hi : Function.Injective fun k : Fin 255 => (⟨g k, hg k⟩ : Fin n) := fun a b hab => by
      have e : g a = g b := congrArg Fin.val hab
      have e' := hg' a
      rw [e, hg' b] at e'
      have := congrArg Fin.val e'
      simp only at this
      exact Fin.ext (by omega)
    have := Fintype.card_le_of_injective _ hi
    simp at this
    omega
  refine lt_of_lt_of_le (hy k) ?_
  have e := round_eq f p hn n ⟨2 * k.val + 2, in_row k⟩
  rw [if_neg (fun ⟨j, hj, e'⟩ => hk j hj e'), h0] at e
  rw [← e]
  exact (hp n).1 _

include hy h0 hp hn in
theorem pick_new (n : Nat) (h : n < 14) (j : Nat) (hj : j < n) : p j ≠ p n := fun e => by
  have := pick_pos f p y hy h0 hp hn n h
  rw [round_eq f p hn, if_pos ⟨j, hj, e⟩] at this
  exact lt_irrefl _ this

include hy h0 hp hn hbot in
theorem pick_even (n : Nat) (h : n < 14) : (p n).val % 2 = 0 ∧ 2 ≤ (p n).val := by
  have := pick_pos f p y hy h0 hp hn n h
  rw [round_eq f p hn, if_neg (fun ⟨j, hj, e⟩ => pick_new f p y hy h0 hp hn n h j hj e)] at this
  exact hbot _ this

/-- The block picked in a round. -/
def blockOf (n : Nat) : Fin 255 := ⟨(p n).val / 2 - 1, in_blocks (p n)⟩

include hy h0 hp hn hbot in
theorem blockOf_eq (n : Nat) (h : n < 14) : p n = ⟨2 * (blockOf p n).val + 2, by unfold blockOf; dsimp only; omega⟩ := by
  have := pick_even f p y hy h0 hbot hp hn n h
  refine Fin.ext ?_
  unfold blockOf
  dsimp only
  omega

include hy h0 hp hn hbot in
/-- A block not picked before a round does not come before the one picked in it. -/
theorem not_before (n : Nat) (h : n < 14) (k : Fin 255) (hk : ∀ j, j < n → blockOf p j ≠ k) : before y k (blockOf p n) = false := by
  have e : f n ⟨2 * k.val + 2, in_row k⟩ = y k := by
    rw [round_eq f p hn, if_neg, h0]
    rintro ⟨j, hj, e⟩
    rw [blockOf_eq f p y hy h0 hbot hp hn j (by omega)] at e
    have := congrArg Fin.val e
    simp only at this
    exact hk j hj (Fin.ext (by omega))
  have e' : f n (p n) = y (blockOf p n) := by
    rw [round_eq f p hn, if_neg (fun ⟨j, hj, e⟩ => pick_new f p y hy h0 hp hn n h j hj e)]
    conv_lhs => rw [blockOf_eq f p y hy h0 hbot hp hn n h]
    exact h0 _
  have h1 := (hp n).1 ⟨2 * k.val + 2, in_row k⟩
  rw [e, e'] at h1
  unfold before
  simp only [Bool.or_eq_false_iff, Bool.and_eq_false_iff, decide_eq_false_iff_not, not_lt]
  refine ⟨h1, ?_⟩
  by_cases hlt : k < blockOf p n
  · left
    have h2 := (hp n).2 ⟨2 * k.val + 2, in_row k⟩ (by
      rw [Fin.lt_def, blockOf_eq f p y hy h0 hbot hp hn n h]
      dsimp only
      have := Fin.lt_def.mp hlt
      omega)
    rw [e, e'] at h2
    exact ne_of_lt h2
  · right
    exact not_lt.mp hlt

include hy h0 hp hn hbot in
/-- The block picked in round `n` is the one that the sort puts at place `n`. -/
theorem rounds_sorted (n : Fin 14) (B : Fin 255 → Fin 255 → Bool) (hB : ∀ k k', B k k' = decide (y k' < y k)) :
    sortedFrom B (n.castLE picks_le) = blockOf p n.val := by
  rw [sortedFrom_value y B hB]
  have hinj : ∀ i j : Fin 14, i < j → blockOf p i.val ≠ blockOf p j.val := fun i j hij e => by
    have h1 := blockOf_eq f p y hy h0 hbot hp hn i.val i.isLt
    have h2 := blockOf_eq f p y hy h0 hbot hp hn j.val j.isLt
    refine pick_new f p y hy h0 hp hn j.val j.isLt i.val hij ?_
    rw [h1, h2]
    simp only [e]
  refine (before_strict y).sortedFrom_eq_of_prefix (k := 14) (by omega) (fun i : Fin 14 => blockOf p i.val) ?_ ?_ ?_ n
  · intro i j e
    rcases lt_trichotomy i j with h | h | h
    · exact absurd e (hinj i j h)
    · exact h
    · exact absurd e.symm (hinj j i h)
  · intro i j hij
    exact not_before f p y hy h0 hbot hp hn i.val i.isLt _ fun l hl => hinj ⟨l, by omega⟩ j (lt_trans (Fin.lt_def.mpr hl) hij)
  · intro i k hk
    exact not_before f p y hy h0 hbot hp hn i.val i.isLt _ fun l hl => hk ⟨l, by omega⟩

end rounds

end Cert.Pick
-- ==== Proof.Real.lean ====
module

public import Idealize.ShloMosaic.PureOps.Ideal
public import Idealize.ShloMosaic.PureOps.Ideal.Laws
public import Idealize.ShloMosaic.Lib.Pointwise

@[expose] public section

noncomputable section

namespace Cert.Mla

open Idealize.ShloMosaic

/-- An extended real that is a real number. -/
def IsReal (x : EReal) : Prop := x = ((x.toReal : ℝ) : EReal)

theorem isReal_coe (r : ℝ) : IsReal ((r : ℝ) : EReal) := by unfold IsReal; rw [EReal.toReal_coe]

theorem IsReal.mul {x y : EReal} (hx : IsReal x) (hy : IsReal y) : IsReal (x * y) := by
  rw [hx, hy, ← EReal.coe_mul]; exact isReal_coe _

theorem IsReal.add {x y : EReal} (hx : IsReal x) (hy : IsReal y) : IsReal (x + y) := by
  rw [hx, hy, ← EReal.coe_add]; exact isReal_coe _

theorem IsReal.sum {ι : Type} (S : Finset ι) (f : ι → EReal) (h : ∀ x ∈ S, IsReal (f x)) : IsReal (∑ x ∈ S, f x) := by
  classical
  induction S using Finset.induction_on with
  | empty => rw [Finset.sum_empty]; exact isReal_coe 0
  | insert a S ha ih =>
    rw [Finset.sum_insert ha]
    exact (h a (Finset.mem_insert_self a S)).add (ih fun x hx => h x (Finset.mem_insert_of_mem hx))

/-- A number whose absolute value is below plus infinity is real. -/
theorem isReal_of_abs_lt {x : EReal} (h : x ≠ ⊤ ∧ x ≠ ⊥) : IsReal x := (EReal.coe_toReal h.1 h.2).symm

/-- The scale of the scores, as both programs print it: the f32 nearest to `96 ^ (-1/2)`. -/
abbrev scale : EReal := Ideal.ofBits .f32 0x3DD105EC#32

theorem isReal_scale : IsReal scale := by
  unfold scale Ideal.ofBits Ideal.ieee
  simp only
  split
  · rename_i h; exact absurd h (by decide)
  · split <;> exact isReal_coe _

/-- The pattern of minus infinity is minus infinity. -/
theorem ninf : Ideal.ofBits .f32 0xFF800000#32 = ⊥ := by
  unfold Ideal.ofBits Ideal.ieee
  simp

/-- A signed comparison of two words that hold small naturals. -/
theorem sle_ofNat (a b : ℕ) (ha : a < 2 ^ 31) (hb : b < 2 ^ 31) :
    IntOp.cmpi .sle (BitVec.ofNat 32 a) (BitVec.ofNat 32 b) = if a ≤ b then 1#1 else 0#1 := by
  have e : BitVec.sle (BitVec.ofNat 32 a) (BitVec.ofNat 32 b) = decide (a ≤ b) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.2 (by omega)
  show BitVec.ofBool (BitVec.sle (BitVec.ofNat 32 a) (BitVec.ofNat 32 b)) = _
  rw [e]
  by_cases h : a ≤ b <;> simp [h]

theorem select_ite {α : Type} (p : Prop) [Decidable p] (x y : α) :
    Scalar.select (if p then 1#1 else 0#1) x y = if p then x else y := by
  by_cases h : p <;> simp [h, Scalar.select]

end Cert.Mla
-- ==== Proof.Pick.lean ====
module

public import proofs.«01_k».proof.Proof.Gen.Kernel10Ideal.Value
public import proofs.«01_k».proof.Proof.PickMath
public import proofs.«01_k».proof.Proof.Real

@[expose] public section

set_option maxRecDepth 16384

noncomputable section

/-! # The choice of past blocks: the kernel's result array, at an index -/

namespace Cert.Pick

open Cert.Kernel10Ideal Cert.Kernel10Ideal.Gen Cert.Kernel10Ideal.Value Idealize.ShloMosaic Idealize.ShloMosaic.TcCoe Idealize.SL.Sem

/-- The lane's own number. -/
def lanes : IVec S128x512 32 := iota .tc S128x512 32 [1] iota_S128x512_d1_w32

/-- Each row's greatest value. -/
def maxOf (v : FVec Ideal S128x512 .f32) : FVec Ideal S128x1 .f32 :=
  shapeCast S128x1 (multiReduction .maximumf [1] S128 v 0xFF800000#32 reduces_S128x512_S128 (.inl rfl) rfl) shapeCasts_S128_S128x1

/-- The first lane that holds the row's greatest value. -/
def idxRow (v : FVec Ideal S128x512 .f32) : IVec S128 32 :=
  multiReductionI .minsi [1] S128 (select (cmpf .oeq v (broadcastTo S128x512 (maxOf v) broadcasts_S128x1_S128x512)) lanes
    (broadcast S128x512 512#32)) 2147483647#32 reduces_S128x512_S128 rfl
@[inherit_doc idxRow] def idxOf (v : FVec Ideal S128x512 .f32) : IVec S128x1 32 := shapeCast S128x1 (idxRow v) shapeCasts_S128_S128x1

/-- The values with that lane taken out. -/
def next (v : FVec Ideal S128x512 .f32) : FVec Ideal S128x512 .f32 :=
  select (cmpi .eq lanes (broadcastTo S128x512 (idxOf v) broadcasts_S128x1_S128x512)) (broadcast S128x512 (Scalar.ofBits .f32 0xFF800000#32)) v

/-- The values as a round finds them. -/
def vals (x : FVec Ideal S128x512 .f32) : Nat → FVec Ideal S128x512 .f32
  | 0 => k0_pay1 (F := Ideal) x
  | n + 1 => next (vals x n)

/-- Half of a word, rounded down. -/
def half (b : BitVec 32) : BitVec 32 :=
  Scalar.select (IntOp.andi (IntOp.cmpi .ne (IntOp.subi ((IntOp.cmpi .sgt b 0#32).setWidth 32) ((IntOp.cmpi .slt b 0#32).setWidth 32)) 1#32)
    (IntOp.cmpi .ne (IntOp.remsi .vector b 2#32) 0#32)) (IntOp.subi (IntOp.divsi .vector b 2#32) 1#32) (IntOp.divsi .vector b 2#32)

/-- The ids with slot `k` set. -/
def put (k : BitVec 32) (id : IVec S128x1 32) (ids : IVec S128x128 32) : IVec S128x128 32 :=
  select (cmpi .eq (iota .tc S128x128 32 [1] iota_S128x128_d1_w32) (broadcast S128x128 k))
    (broadcastTo S128x128 (shapeCast S128x1 (fun i => half (id i)) shapeCasts_S128x1_S128x1) broadcasts_S128x1_S128x128) ids

/-- The ids after a number of rounds. -/
def puts (x : FVec Ideal S128x512 .f32) : Nat → IVec S128x128 32
  | 0 => broadcast S128x128 0#32
  | n + 1 => put (BitVec.ofNat 32 (n + 1)) (idxOf (vals x n)) (puts x n)

theorem select_cmpi {α : Type} {w : Nat} (a b : BitVec w) (x y : α) : Scalar.select (IntOp.cmpi .eq a b) x y = if a = b then x else y := by
  by_cases h : a = b
  · subst h
    rw [if_pos rfl]
    show Scalar.select (BitVec.ofBool (a == a)) x y = x
    rw [beq_self_eq_true]
    rfl
  · rw [if_neg h]
    show Scalar.select (BitVec.ofBool (a == b)) x y = y
    rw [beq_eq_false_iff_ne.mpr h]
    rfl

/-- A round picks, in every row, the first lane that holds the greatest value. -/
theorem idxOf_pick (v : FVec Ideal S128x512 .f32) (r : Fin 128) :
    ∃ p : Fin 512, idxOf v (ix2 r (0 : Fin 1)) = BitVec.ofNat 32 p.val ∧ IsPick (fun q : Fin 512 => (v (ix2 r q) : EReal)) p := by
  obtain ⟨p, h, hp⟩ := first_max fun q : Fin 512 => (v (ix2 r q) : EReal)
  refine ⟨p, ?_, hp⟩
  rw [← h]
  unfold idxOf idxRow maxOf lanes
  pointwise
  rw [Cert.Mla.ninf]

theorem ofNat_inj : ∀ p q : Fin 512, BitVec.ofNat 32 p.val = BitVec.ofNat 32 q.val → p = q := fun p q h => by
  have h' := congrArg BitVec.toNat h
  rw [BitVec.toNat_ofNat, BitVec.toNat_ofNat] at h'
  exact Fin.ext (by omega)

theorem next_apply (v : FVec Ideal S128x512 .f32) (r : Fin 128) (p q : Fin 512) (h : idxOf v (ix2 r (0 : Fin 1)) = BitVec.ofNat 32 p.val) :
    next v (ix2 r q) = if q = p then (⊥ : EReal) else v (ix2 r q) := by
  unfold next lanes
  pointwise
  rw [h, select_cmpi, Cert.Mla.ninf]
  by_cases e : q = p
  · rw [if_pos e, if_pos (by rw [e])]
  · rw [if_neg e, if_neg fun h => e (ofNat_inj q p h)]

theorem put_apply (k : BitVec 32) (id : IVec S128x1 32) (ids : IVec S128x128 32) (r s : Fin 128) :
    put k id ids (ix2 r s) = if BitVec.ofNat 32 s.val = k then half (id (ix2 r (0 : Fin 1))) else ids (ix2 r s) := by
  unfold put
  pointwise
  rw [select_cmpi]

/-- Whether a lane starts a block other than the first. -/
def keep (b : BitVec 32) : BitVec 1 :=
  IntOp.andi (IntOp.cmpi .eq (Scalar.select (IntOp.andi (IntOp.xori (IntOp.cmpi .slt (IntOp.remsi .vector b
      (Scalar.select (Scalar.cmpi .eq 2#32 0#32) 1#32 2#32)) 0#32) (Scalar.cmpi .slt (Scalar.select (Scalar.cmpi .eq 2#32 0#32) 1#32 2#32) 0#32))
      (IntOp.cmpi .ne (IntOp.remsi .vector b (Scalar.select (Scalar.cmpi .eq 2#32 0#32) 1#32 2#32)) 0#32))
    (IntOp.addi (IntOp.remsi .vector b (Scalar.select (Scalar.cmpi .eq 2#32 0#32) 1#32 2#32)) (Scalar.select (Scalar.cmpi .eq 2#32 0#32) 1#32 2#32))
    (IntOp.remsi .vector b (Scalar.select (Scalar.cmpi .eq 2#32 0#32) 1#32 2#32))) 0#32) (IntOp.cmpi .sge b 2#32)

theorem keep_apply : ∀ q : Fin 512, keep (BitVec.ofNat 32 q.val) = if q.val % 2 = 0 ∧ 2 ≤ q.val then 1#1 else 0#1 := by decide +kernel

theorem pay1_apply (x : FVec Ideal S128x512 .f32) (r : Fin 128) (q : Fin 512) :
    k0_pay1 (F := Ideal) x (ix2 r q) = if q.val % 2 = 0 ∧ 2 ≤ q.val then (x (ix2 r q) : EReal) else ⊥ := by
  have e : k0_pay1 (F := Ideal) x (ix2 r q) = Scalar.select (keep (BitVec.ofNat 32 q.val)) (x (ix2 r q)) (Ideal.ofBits .f32 0xFF800000#32) := by
    unfold k0_pay1 keep
    pointwise
  rw [e, keep_apply, Cert.Mla.ninf]
  split <;> rfl

theorem half_apply : ∀ p : Fin 512, half (BitVec.ofNat 32 p.val) = BitVec.ofNat 32 (p.val / 2) := by decide +kernel

theorem s72 (x : Vec Ideal S128x512 .f32) : k0_pay72 (F := Ideal) x = vals x 0 := by
  unfold k0_pay72
  rw [View.ld_unit_zero (S := S128x512) hz0 _ x]
  rfl

theorem s73 (x : Vec Ideal S128x512 .f32) : k0_pay73 (F := Ideal) x = idxOf (vals x 0) := by
  unfold k0_pay73
  rw [View.ld_unit_zero (S := S128x512) hz0 _ x]
  rfl

theorem s74 (x : FVec Ideal S128x512 .f32) : k0_pay74 (F := Ideal) x = vals x 1 := by
  unfold k0_pay74
  rw [s72 x, s73 x]
  rfl

theorem s75 (x : FVec Ideal S128x512 .f32) : k0_pay75 (F := Ideal) x = idxOf (vals x 1) := by
  unfold k0_pay75
  rw [s72 x, s73 x]
  rfl

theorem s76 (x : FVec Ideal S128x512 .f32) : k0_pay76 (F := Ideal) x = vals x 2 := by
  unfold k0_pay76
  rw [s74 x, s75 x]
  rfl

theorem s77 (x : FVec Ideal S128x512 .f32) : k0_pay77 (F := Ideal) x = idxOf (vals x 2) := by
  unfold k0_pay77
  rw [s74 x, s75 x]
  rfl

theorem s78 (x : FVec Ideal S128x512 .f32) : k0_pay78 (F := Ideal) x = vals x 3 := by
  unfold k0_pay78
  rw [s76 x, s77 x]
  rfl

theorem s79 (x : FVec Ideal S128x512 .f32) : k0_pay79 (F := Ideal) x = idxOf (vals x 3) := by
  unfold k0_pay79
  rw [s76 x, s77 x]
  rfl

theorem s80 (x : FVec Ideal S128x512 .f32) : k0_pay80 (F := Ideal) x = vals x 4 := by
  unfold k0_pay80
  rw [s78 x, s79 x]
  rfl

theorem s81 (x : FVec Ideal S128x512 .f32) : k0_pay81 (F := Ideal) x = broadcastTo S128x512 (idxOf (vals x 4)) broadcasts_S128x1_S128x512 := by
  unfold k0_pay81
  rw [s78 x, s79 x]
  rfl

theorem s82 (x : FVec Ideal S128x512 .f32) : k0_pay82 (F := Ideal) x = vals x 6 := by
  unfold k0_pay82
  rw [s80 x, s81 x]
  rfl

theorem s83 (x : FVec Ideal S128x512 .f32) : k0_pay83 (F := Ideal) x = maxOf (vals x 6) := by
  unfold k0_pay83
  rw [s80 x, s81 x]
  rfl

theorem s84 (x : FVec Ideal S128x512 .f32) : k0_pay84 (F := Ideal) x = vals x 7 := by
  unfold k0_pay84
  rw [s82 x, s83 x]
  rfl

theorem s85 (x : FVec Ideal S128x512 .f32) : k0_pay85 (F := Ideal) x = idxRow (vals x 7) := by
  unfold k0_pay85
  rw [s82 x, s83 x]
  rfl

theorem s86 (x : FVec Ideal S128x512 .f32) : k0_pay86 (F := Ideal) x = vals x 8 := by
  unfold k0_pay86
  rw [s84 x, s85 x]
  rfl

theorem s87 (x : FVec Ideal S128x512 .f32) : k0_pay87 (F := Ideal) x = idxOf (vals x 8) := by
  unfold k0_pay87
  rw [s84 x, s85 x]
  rfl

theorem s88 (x : FVec Ideal S128x512 .f32) : k0_pay88 (F := Ideal) x = vals x 9 := by
  unfold k0_pay88
  rw [s86 x, s87 x]
  rfl

theorem s89 (x : FVec Ideal S128x512 .f32) : k0_pay89 (F := Ideal) x = idxOf (vals x 9) := by
  unfold k0_pay89
  rw [s86 x, s87 x]
  rfl

theorem s90 (x : FVec Ideal S128x512 .f32) : k0_pay90 (F := Ideal) x = vals x 10 := by
  unfold k0_pay90
  rw [s88 x, s89 x]
  rfl

theorem s91 (x : FVec Ideal S128x512 .f32) : k0_pay91 (F := Ideal) x = idxOf (vals x 10) := by
  unfold k0_pay91
  rw [s88 x, s89 x]
  rfl

theorem s92 (x : FVec Ideal S128x512 .f32) : k0_pay92 (F := Ideal) x = vals x 11 := by
  unfold k0_pay92
  rw [s90 x, s91 x]
  rfl

theorem s93 (x : FVec Ideal S128x512 .f32) : k0_pay93 (F := Ideal) x = idxOf (vals x 11) := by
  unfold k0_pay93
  rw [s90 x, s91 x]
  rfl

theorem t7 (x : FVec Ideal S128x512 .f32) : k0_pay7 k0_pay2 (k0_pay73 (F := Ideal) x) k0_pay4 2#32 (k0_pay5 (F := Ideal) x) (k0_pay6 (F := Ideal) x) = puts x 1 := by
  rw [s73 x]
  rfl

theorem t13 (x : FVec Ideal S128x512 .f32) : k0_pay13 (puts x 1) (k0_pay75 (F := Ideal) x) (k0_pay10 (k0_pay71 (F := Ideal) x)) 2#32 (k0_pay11 (k0_pay70 (F := Ideal) x) (k0_pay72 (F := Ideal) x) (k0_pay73 (F := Ideal) x)) (k0_pay12 (k0_pay70 (F := Ideal) x) (k0_pay72 (F := Ideal) x) (k0_pay73 (F := Ideal) x)) (Scalar.cmpi .sgt 2#32 0#32) = puts x 2 := by
  rw [s75 x, s72 x, s73 x]
  rfl

theorem t19 (x : FVec Ideal S128x512 .f32) : k0_pay19 (puts x 2) (k0_pay77 (F := Ideal) x) (k0_pay16 (k0_pay71 (F := Ideal) x)) 2#32 (k0_pay17 (k0_pay70 (F := Ideal) x) (k0_pay74 (F := Ideal) x) (k0_pay75 (F := Ideal) x)) (k0_pay18 (k0_pay70 (F := Ideal) x) (k0_pay74 (F := Ideal) x) (k0_pay75 (F := Ideal) x)) = puts x 3 := by
  rw [s77 x, s74 x, s75 x]
  rfl

theorem t27 (x : FVec Ideal S128x512 .f32) : k0_pay27 (k0_pay70 (F := Ideal) x) (k0_pay71 (F := Ideal) x) (puts x 3) (k0_pay78 (F := Ideal) x) (k0_pay79 (F := Ideal) x) (k0_pay22 (k0_pay71 (F := Ideal) x)) (k0_pay23 (k0_pay70 (F := Ideal) x) (k0_pay76 (F := Ideal) x) (k0_pay77 (F := Ideal) x)) (k0_pay24 (k0_pay70 (F := Ideal) x) (k0_pay76 (F := Ideal) x) (k0_pay77 (F := Ideal) x)) 1#32 = puts x 5 := by
  rw [s78 x, s79 x, s76 x, s77 x]
  rfl

theorem t31 (x : FVec Ideal S128x512 .f32) : k0_pay31 (k0_pay70 (F := Ideal) x) (k0_pay71 (F := Ideal) x) (k0_pay80 (F := Ideal) x) (puts x 5) (k0_pay81 (F := Ideal) x) = puts x 6 := by
  rw [s80 x, s81 x]
  rfl

theorem t35 (x : FVec Ideal S128x512 .f32) : k0_pay35 (k0_pay70 (F := Ideal) x) (k0_pay71 (F := Ideal) x) (puts x 6) (k0_pay82 (F := Ideal) x) (k0_pay83 (F := Ideal) x) = puts x 7 := by
  rw [s82 x, s83 x]
  rfl

theorem t39 (x : FVec Ideal S128x512 .f32) : k0_pay39 (k0_pay71 (F := Ideal) x) (puts x 7) (k0_pay85 (F := Ideal) x) = puts x 8 := by
  rw [s85 x]
  rfl

theorem t44 (x : FVec Ideal S128x512 .f32) : k0_pay44 (puts x 8) (k0_pay87 (F := Ideal) x) (k0_pay42 (k0_pay71 (F := Ideal) x)) 2#32 (k0_pay43 (k0_pay70 (F := Ideal) x) (k0_pay84 (F := Ideal) x) (k0_pay85 (F := Ideal) x)) = puts x 9 := by
  rw [s87 x, s84 x, s85 x]
  rfl

theorem t51 (x : FVec Ideal S128x512 .f32) : k0_pay51 (puts x 9) (k0_pay89 (F := Ideal) x) (k0_pay47 (k0_pay71 (F := Ideal) x)) 2#32 (k0_pay48 (k0_pay70 (F := Ideal) x) (k0_pay86 (F := Ideal) x) (k0_pay87 (F := Ideal) x)) (k0_pay49 (k0_pay70 (F := Ideal) x) (k0_pay86 (F := Ideal) x) (k0_pay87 (F := Ideal) x)) (k0_pay50 (k0_pay70 (F := Ideal) x) (k0_pay86 (F := Ideal) x) (k0_pay87 (F := Ideal) x)) = puts x 10 := by
  rw [s89 x, s86 x, s87 x]
  rfl

theorem t57 (x : FVec Ideal S128x512 .f32) : k0_pay57 (puts x 10) (k0_pay91 (F := Ideal) x) (k0_pay54 (k0_pay71 (F := Ideal) x)) 2#32 (k0_pay55 (k0_pay70 (F := Ideal) x) (k0_pay88 (F := Ideal) x) (k0_pay89 (F := Ideal) x)) (k0_pay56 (k0_pay70 (F := Ideal) x) (k0_pay88 (F := Ideal) x) (k0_pay89 (F := Ideal) x)) (Scalar.extui (Scalar.cmpi .sgt 2#32 0#32)) (Scalar.cmpi .slt 2#32 0#32) = puts x 11 := by
  rw [s91 x, s88 x, s89 x]
  rfl

theorem t64 (x : FVec Ideal S128x512 .f32) : k0_pay64 (puts x 11) (k0_pay60 (k0_pay71 (F := Ideal) x)) (k0_pay61 (k0_pay70 (F := Ideal) x) (k0_pay90 (F := Ideal) x) (k0_pay91 (F := Ideal) x)) (k0_pay62 (k0_pay70 (F := Ideal) x) (k0_pay90 (F := Ideal) x) (k0_pay91 (F := Ideal) x)) (k0_pay63 (k0_pay70 (F := Ideal) x) (k0_pay90 (F := Ideal) x) (k0_pay91 (F := Ideal) x)) 0#32 = puts x 12 := by
  rw [s90 x, s91 x]
  rfl

theorem t69 (x : FVec Ideal S128x512 .f32) : k0_pay69 (k0_pay70 (F := Ideal) x) (k0_pay71 (F := Ideal) x) (puts x 12) (k0_pay65 (k0_pay70 (F := Ideal) x) (k0_pay92 (F := Ideal) x) (k0_pay93 (F := Ideal) x)) (k0_pay66 (k0_pay70 (F := Ideal) x) (k0_pay92 (F := Ideal) x) (k0_pay93 (F := Ideal) x)) (k0_pay67 (k0_pay71 (F := Ideal) x)) (k0_pay68 (k0_pay70 (F := Ideal) x) (k0_pay92 (F := Ideal) x) (k0_pay93 (F := Ideal) x)) = puts x 14 := by
  rw [s92 x, s93 x]
  rfl

/-- The kernel's result is the ids after fourteen rounds. -/
theorem G1_eq (x : FVec Ideal S128x512 .f32) : G1 (F := Ideal) x = puts x 14 := by
  unfold G1
  rw [t7, t13, t19, t27, t31, t35, t39, t44, t51, t57, t64, t69]

end Cert.Pick
-- ==== Proof.PickRef.lean ====
module

public import proofs.«01_k».proof.Proof.Gen.Reference10Ideal.Run
public import proofs.«01_k».proof.Proof.Gen.Pre_above
public import proofs.«01_k».proof.Proof.Pick
public import Idealize.ShloMosaic.Lib.ReduceAll

@[expose] public section

set_option maxRecDepth 16384

noncomputable section

/-! # The choice of past blocks: the reference's result array, and that the kernel's is the same -/

namespace Cert.Pick

open Idealize.ShloMosaic Idealize.ShloMosaic.TcCoe Idealize.SL.Sem Cert.Kernel10Ideal

/-- Every slot of the ids: the block picked in the slot's round, or zero. -/
theorem puts_apply (x : FVec Ideal S128x512 .f32) (n : Nat) (hn : n ≤ 14) (r s : Fin 128) :
    puts x n (ix2 r s) = if 1 ≤ s.val ∧ s.val ≤ n then half (idxOf (vals x (s.val - 1)) (ix2 r (0 : Fin 1))) else 0#32 := by
  induction n with
  | zero =>
    rw [if_neg (by omega)]
    rfl
  | succ n ih =>
    show put (BitVec.ofNat 32 (n + 1)) (idxOf (vals x n)) (puts x n) (ix2 r s) = _
    rw [put_apply, ih (by omega)]
    have he : BitVec.ofNat 32 s.val = BitVec.ofNat 32 (n + 1) ↔ s.val = n + 1 := by
      constructor
      · intro h
        have h' := congrArg BitVec.toNat h
        rw [BitVec.toNat_ofNat, BitVec.toNat_ofNat] at h'
        omega
      · intro h
        rw [h]
    by_cases e : s.val = n + 1
    · rw [if_pos (he.mpr e), if_pos (by omega), e]
      rfl
    · rw [if_neg (fun h => e (he.mp h))]
      by_cases e' : 1 ≤ s.val ∧ s.val ≤ n
      · rw [if_pos e', if_pos (by omega)]
      · rw [if_neg e', if_neg (by omega)]

/-- The first `k` places of the sorted row. -/
theorem topK_apply (y : FVec Ideal Cert.Reference10Ideal.S128x255 .f32) (h : Cert.Reference10Ideal.S128x255.Slices (fun _ => 0) Cert.Reference10Ideal.S128x14)
    (r : Fin 128) (n : Fin 14) :
    (Host.topK Cert.Reference10Ideal.S128x14 1 (FloatOps.cmpfTotal .gt) y h).2 (ix2 r n)
      = BitVec.ofNat 32 (sortedFrom (fun k k' : Fin 255 => decide ((y (ix2 r k') : EReal) < y (ix2 r k))) (n.castLE (by omega))).val := by
  have hd : 1 < Cert.Reference10Ideal.S128x255.rank := by decide
  unfold Host.topK Host.sort2
  simp only [dif_pos hd]
  have e : ∀ k : Fin 255, Shape.Idx.along (s := Cert.Reference10Ideal.S128x255) (ix2 r (n.castLE (by omega) : Fin 255)) ⟨1, hd⟩ k = ix2 r k := by
    intro k
    funext a
    match a with
    | 0 => rfl
    | 1 => rfl
  have ei : ∀ i : Cert.Reference10Ideal.S128x255.Idx, i = ix2 r (n.castLE (by omega) : Fin 255) →
      iotaInDim Cert.Reference10Ideal.S128x255 32 ⟨1, hd⟩ (Shape.Idx.along i ⟨1, hd⟩
        (sortedFrom (fun k k' => FloatOps.cmpfTotal CmpDirection.gt (y (Shape.Idx.along i ⟨1, hd⟩ k)) (y (Shape.Idx.along i ⟨1, hd⟩ k')) == 1#1) (i ⟨1, hd⟩)))
        = BitVec.ofNat 32 (sortedFrom (fun k k' : Fin 255 => decide ((y (ix2 r k') : EReal) < y (ix2 r k))) (n.castLE (by omega))).val := by
    intro i hi
    subst hi
    have ec : (fun k k' : Fin 255 => FloatOps.cmpfTotal CmpDirection.gt (y (Shape.Idx.along (s := Cert.Reference10Ideal.S128x255) (ix2 r (n.castLE (by omega) : Fin 255)) ⟨1, hd⟩ k)) (y (Shape.Idx.along (s := Cert.Reference10Ideal.S128x255) (ix2 r (n.castLE (by omega) : Fin 255)) ⟨1, hd⟩ k')) == 1#1)
        = fun k k' : Fin 255 => decide ((y (ix2 r k') : EReal) < y (ix2 r k)) := by
      funext k k'
      rw [e k, e k']
      show (BitVec.ofBool (decide ((y (ix2 r k') : EReal) < y (ix2 r k))) == 1#1) = _
      by_cases hlt : (y (ix2 r k') : EReal) < y (ix2 r k)
      · simp [hlt]
      · simp [hlt]
    refine Eq.trans (congrArg (iotaInDim Cert.Reference10Ideal.S128x255 32 ⟨1, hd⟩) (e _)) ?_
    exact congrArg (fun B => BitVec.ofNat 32 (sortedFrom B (n.castLE (by omega) : Fin 255)).val) ec
  refine ei _ ?_
  funext a
  match a with
  | 0 => exact Fin.ext (by simp)
  | 1 => exact Fin.ext (by simp)

/-- The reference's result. -/
def refOf (x : FVec Ideal S128x512 .f32) : IVec S128x128 32 :=
  pad Cert.Reference10Ideal.S128x128 ![0, 1] ![0, 113] ![0, 0] (addi ((Host.topK Cert.Reference10Ideal.S128x14 1 (FloatOps.cmpfTotal .gt) (Host.slice Cert.Reference10Ideal.S128x255 ![0, 2] ![1, 2] x Cert.Reference10Ideal.Gen.slicesBy_S128x512_S128x255_0s1_2s2) Cert.Reference10Ideal.Gen.sliceFits_S128x255_S128x14).2) (broadcastInDim Cert.Reference10Ideal.S128x14 ![] Cert.Reference10Ideal.Gen.bcast_S_S128x14 (constantI Cert.Reference10Ideal.S_ 32 1#32))) (id (constantI Cert.Reference10Ideal.S_ 32 0#32)) Cert.Reference10Ideal.Gen.pads_S128x14_S128x128_000_11130 Cert.Reference10Ideal.Gen.h_S_

theorem sl_apply (x : FVec Ideal S128x512 .f32) (r : Fin 128) (s : Fin 255) :
    Host.slice Cert.Reference10Ideal.S128x255 ![0, 2] ![1, 2] x Cert.Reference10Ideal.Gen.slicesBy_S128x512_S128x255_0s1_2s2 (ix2 r s) = x (ix2 r (⟨2 * s.val + 2, by omega⟩ : Fin 512)) := by
  pointwise
  exact congrArg (fun q => x (ix2 r q)) (Fin.ext (by show 2 + 2 * s.val = 2 * s.val + 2; omega))

theorem refOf_apply (x : FVec Ideal S128x512 .f32) (r s : Fin 128) :
    refOf x (ix2 r s) = if h : 1 ≤ s.val ∧ s.val ≤ 14 then
        BitVec.ofNat 32 (sortedFrom (fun k k' : Fin 255 => decide ((x (ix2 r (⟨2 * k'.val + 2, by omega⟩ : Fin 512)) : EReal) < x (ix2 r (⟨2 * k.val + 2, by omega⟩ : Fin 512))))
          ((⟨s.val - 1, by omega⟩ : Fin 14).castLE (by omega))).val + 1#32
      else 0#32 := by
  unfold refOf
  pointwise
  by_cases h : 1 ≤ s.val ∧ s.val ≤ 14
  · rw [dif_pos (by omega), dif_pos h, topK_apply]
    simp only [sl_apply]
    rfl
  · rw [dif_neg (by omega), dif_neg h]
    rfl

/-- Under the precondition every entry lies above minus infinity. -/
theorem above_of_pre (x : FVec Ideal S128x512 .f32) (h : Cert.Pre_above.fn x = fun _ => 1#1) (j : S128x512.Idx) : (⊥ : EReal) < x j := by
  have h' := congrFun h (Shape.Idx.first Cert.Pre_above.Gen.h_S_)
  dsimp only [Cert.Pre_above.fn] at h'
  have h1 : FloatOps.cmpf .ogt (x j) (FloatOps.ofBits (F := Ideal) .f32 0xFF800000#32) = 1#1 := Host.reduce_andi_all _ _ _ _ _ h' j
  have h2 : BitVec.ofBool (decide (Ideal.ofBits .f32 0xFF800000#32 < (x j : EReal))) = 1#1 := h1
  rw [Cert.Mla.ninf] at h2
  by_cases hlt : (⊥ : EReal) < x j
  · exact hlt
  · simp [hlt] at h2

/-- The reference's result is the kernel's. -/
theorem ref_eq (x : FVec Ideal S128x512 .f32) (hx : ∀ j, (⊥ : EReal) < x j) : refOf x = puts x 14 := by
  funext i
  obtain ⟨r, s, rfl⟩ : ∃ r s : Fin 128, i = ix2 r s := ⟨i 0, i 1, by funext a; match a with | 0 => rfl | 1 => rfl⟩
  rw [refOf_apply, puts_apply x 14 (by omega)]
  by_cases h : 1 ≤ s.val ∧ s.val ≤ 14
  · rw [dif_pos h, if_pos h]
    choose p hp using fun n => idxOf_pick (vals x n) r
    have h0 : ∀ k : Fin 255, (fun n q => vals x n (ix2 r q) : Nat → Fin 512 → EReal) 0 ⟨2 * k.val + 2, by omega⟩ = (fun k : Fin 255 => (x (ix2 r (⟨2 * k.val + 2, by omega⟩ : Fin 512)) : EReal)) k := by
      intro k
      refine (pay1_apply x r _).trans (if_pos ⟨?_, ?_⟩)
      · show (2 * k.val + 2) % 2 = 0
        omega
      · show 2 ≤ 2 * k.val + 2
        omega
    have hbot : ∀ q : Fin 512, ⊥ < (fun n q => vals x n (ix2 r q) : Nat → Fin 512 → EReal) 0 q → q.val % 2 = 0 ∧ 2 ≤ q.val := by
      intro q hq
      by_contra hn
      have e : (fun n q => vals x n (ix2 r q) : Nat → Fin 512 → EReal) 0 q = ⊥ := (pay1_apply x r q).trans (if_neg hn)
      rw [e] at hq
      exact lt_irrefl _ hq
    have hn : ∀ n q, (fun n q => vals x n (ix2 r q) : Nat → Fin 512 → EReal) (n + 1) q = if q = p n then ⊥ else (fun n q => vals x n (ix2 r q) : Nat → Fin 512 → EReal) n q :=
      fun n q => next_apply (vals x n) r (p n) q (hp n).1
    have hs := rounds_sorted _ p _ (fun k => hx _) h0 hbot (fun n => (hp n).2) hn (⟨s.val - 1, by omega⟩ : Fin 14) _ (fun _ _ => rfl)
    have hb := blockOf_eq _ p _ (fun k => hx _) h0 hbot (fun n => (hp n).2) hn (s.val - 1) (by omega)
    rw [(hp (s.val - 1)).1, half_apply]
    have e1 : (p (s.val - 1)).val / 2 = (blockOf p (s.val - 1)).val + 1 := by
      have := congrArg Fin.val hb
      simp only at this
      omega
    rw [e1]
    refine Eq.trans (congrArg (fun k : Fin 255 => BitVec.ofNat 32 k.val + 1#32) hs) ?_
    exact (BitVec.ofNat_add _ _).symm
  · rw [dif_neg h, if_neg h]

end Cert.Pick
-- ==== Proof.Trip.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Mla

open Cert.KernelIdeal Cert.KernelIdeal.Gen Idealize.ShloMosaic Idealize.ShloMosaic.TcCoe Idealize.SL.Sem

variable {F : FTy → Type} [FloatOps F] [Named F]

/-- One trip of the chunk loop: the new running maximum, the new running sum and the new running numerator, as the
    body's own values of the chunk of rows that the trip loads. -/
theorem trip_eq (c : Dev nD) (i : grid0.Coords) (arg2 : Memref sig .tc .vmem S8x128x160 .bf16) (harg2 : arg2.IsWhole) (arg3 : Memref sig .tc .vmem S2048x160 .bf16) (harg3 : arg3.IsWhole) (arg4 : Memref sig .tc .vmem S8x128x64 .bf16) (harg4 : arg4.IsWhole) (arg5 : Memref sig .tc .vmem S128x512 .bf16) (harg5 : arg5.IsWhole)
    (v26 : Vec F S8x128x160 .bf16) (X : BufTy.Contents (Elt F) arg3.view.ty) (k : Fin (k0_t1_loop i).trips)
    (acc : FVec F S1024x1 .f32 × FVec F S1024x1 .f32 × FVec F S1024x128 .f32) :
    tripR_k0_t1 (F := F) Variants.none c none i arg2 harg2 arg3 harg3 arg4 harg4 arg5 harg5 v26 X k acc
      = (k0_pay8 i v26 k acc.1 (arg3.view.readAt (Elt F) (Rect.unit (s := S2048x160) (k0_off1 i k) S512x160.size (k0_off1_inb i k)).toLoadRect X),
         k0_pay11 i v26 k acc.1 acc.2.1 (arg3.view.readAt (Elt F) (Rect.unit (s := S2048x160) (k0_off1 i k) S512x160.size (k0_off1_inb i k)).toLoadRect X),
         k0_pay12 i v26 k acc.1 acc.2.2 (arg3.view.readAt (Elt F) (Rect.unit (s := S2048x160) (k0_off1 i k) S512x160.size (k0_off1_inb i k)).toLoadRect X)) := by
  unfold tripR_k0_t1 trip_k0_t1
  rfl

/-- What the chunk loop carries at its end: the running maximum, sum and numerator after all of the block's chunks. -/
def carried (c : Dev nD) (i : grid0.Coords) (arg2 : Memref sig .tc .vmem S8x128x160 .bf16) (harg2 : arg2.IsWhole) (arg3 : Memref sig .tc .vmem S2048x160 .bf16) (harg3 : arg3.IsWhole) (arg4 : Memref sig .tc .vmem S8x128x64 .bf16) (harg4 : arg4.IsWhole) (arg5 : Memref sig .tc .vmem S128x512 .bf16) (harg5 : arg5.IsWhole)
    (x0 : Vec F S8x128x160 .bf16) (x1 : Vec F S2048x160 .bf16) (x2 : Vec F S8x128x64 .bf16) :
    FVec F S1024x1 .f32 × FVec F S1024x1 .f32 × FVec F S1024x128 .f32 :=
  st_k0_t1 (F := F) Variants.none c none i arg2 harg2 arg3 harg3 arg4 harg4 arg5 harg5 x0 (harg3.unread x1) (k0_pay4, k0_pay5, k0_pay6) (k0_t1_loop i).trips

/-- The second half of the split loop runs no trip. -/
theorem rest_trips (i : grid0.Coords) : (k0_t2_loop i).trips = 0 := Nat.le_zero.1 (k0_t2_abs i).2.1

/-- One head's matrix of the value up-projection, as the body loads it. -/
abbrev head (x2 : Vec F S8x128x64 .bf16) (g : ℕ) (h : ∀ a, (![g, 0, 0] : Fin 3 → ℕ) a + S1x128x64.size a ≤ S8x128x64.size a) : Vec F S1x128x64 .bf16 :=
  View.ld x2 (Rect.unit (s := S8x128x64) ![g, 0, 0] S1x128x64.size h)

/-- The block that one point writes, from the loop's carried sum and numerator. -/
def blockOf (A : FVec F S1024x1 .f32 × FVec F S1024x1 .f32 × FVec F S1024x128 .f32) (x2 : Vec F S8x128x64 .bf16) : FVec F S128x512 .bf16 :=
  k0_pay1 (k0_pay19 A.2.1 A.2.2)
    (k0_pay20 A.2.1 A.2.2 (head x2 0 inb_S8x128x64_S1x128x64_0_0_0))
    (k0_pay21 A.2.1 A.2.2 (head x2 1 inb_S8x128x64_S1x128x64_1_0_0))
    (k0_pay22 A.2.1 A.2.2 (head x2 2 inb_S8x128x64_S1x128x64_2_0_0))
    (k0_pay23 A.2.1 A.2.2 (head x2 3 inb_S8x128x64_S1x128x64_3_0_0))
    (k0_pay24 A.2.1 A.2.2 (head x2 4 inb_S8x128x64_S1x128x64_4_0_0))
    (k0_pay25 A.2.1 A.2.2 (head x2 5 inb_S8x128x64_S1x128x64_5_0_0))
    (k0_pay26 A.2.1 A.2.2) (k0_pay27 (head x2 6 inb_S8x128x64_S1x128x64_6_0_0))
    (constant S128x64 .f32 0x00000000#32)
    (head x2 7 inb_S8x128x64_S1x128x64_7_0_0)

/-- What one point leaves in the output's staging buffer. -/
theorem out_eq (c : Dev nD) (i : grid0.Coords) (arg2 : Memref sig .tc .vmem S8x128x160 .bf16) (harg2 : arg2.IsWhole) (arg3 : Memref sig .tc .vmem S2048x160 .bf16) (harg3 : arg3.IsWhole) (arg4 : Memref sig .tc .vmem S8x128x64 .bf16) (harg4 : arg4.IsWhole) (arg5 : Memref sig .tc .vmem S128x512 .bf16) (harg5 : arg5.IsWhole)
    (x0 : Vec F S8x128x160 .bf16) (x1 : Vec F S2048x160 .bf16) (x2 : Vec F S8x128x64 .bf16) :
    out0_A_3 c i arg2 harg2 arg3 harg3 arg4 harg4 arg5 harg5 x0 x1 x2 = blockOf (carried c i arg2 harg2 arg3 harg3 arg4 harg4 arg5 harg5 x0 x1 x2) x2 := by
  frame_out
  have h0 : ∀ init, st_k0_t2 (F := F) Variants.none c none i arg2 harg2 arg3 harg3 arg4 harg4 arg5 harg5 (k0_pay2 i) (iota .tc S1x512 32 [1] iota_S1x512_d1_w32) (k0_pay3 x0)
      (k0_t2_loop i).lb (carried c i arg2 harg2 arg3 harg3 arg4 harg4 arg5 harg5 x0 x1 x2).1 (carried c i arg2 harg2 arg3 harg3 arg4 harg4 arg5 harg5 x0 x1 x2).2.1 (carried c i arg2 harg2 arg3 harg3 arg4 harg4 arg5 harg5 x0 x1 x2).2.2
      (harg3.unread x1) init (k0_t2_loop i).trips = init := by
    intro init; rw [rest_trips]; rfl
  have h1 := h0 (carried c i arg2 harg2 arg3 harg3 arg4 harg4 arg5 harg5 x0 x1 x2)
  refine Eq.trans ?_ (congrArg (fun A => blockOf A x2) h1)
  rfl

end Cert.Mla
-- ==== Proof.Online.lean ====
module

public import Idealize.ShloMosaic.PureOps.Ideal
public import Idealize.ShloMosaic.PureOps.Ideal.Laws

@[expose] public section

noncomputable section

/-! # The running softmax over the extended reals

    A row of attention has real scores `s j`; the causal mask leaves a score where `j ≤ t` and puts `−∞` elsewhere. The
    weighted mean of values `v j` under the weights `exp (s j)` of the columns left is `mean s v t`. Here: the softmax
    taken at once is that mean whatever real number is subtracted first, and so is the running form, which sees the
    columns chunk by chunk and rescales its sums at each new maximum. -/

namespace Cert.Mla

open Idealize.ShloMosaic

/-- The coercion of the reals passes through a finite sum. -/
theorem coe_sum {ι : Type} (S : Finset ι) (f : ι → ℝ) : ∑ x ∈ S, ((f x : ℝ) : EReal) = ((∑ x ∈ S, f x : ℝ) : EReal) := by
  classical
  induction S using Finset.induction_on with
  | empty => simp
  | insert a S ha ih => rw [Finset.sum_insert ha, Finset.sum_insert ha, ih, EReal.coe_add]

/-- The score of column `j` seen from position `t`: the real score up to `t`, minus infinity past it. -/
def masked (s : ℕ → ℝ) (t j : ℕ) : EReal := if j ≤ t then ((s j : ℝ) : EReal) else ⊥

/-- The weight of column `j` from position `t` with `M` subtracted from the scores. -/
def wt (s : ℕ → ℝ) (t : ℕ) (M : ℝ) (j : ℕ) : ℝ := if j ≤ t then Real.exp (s j - M) else 0

/-- The mean of the values `v` under the weights `exp (s j)` of the columns up to `t`. -/
def mean (s v : ℕ → ℝ) (t : ℕ) : ℝ :=
  (∑ j ∈ Finset.range (t + 1), Real.exp (s j) * v j) / ∑ j ∈ Finset.range (t + 1), Real.exp (s j)

theorem exp_masked (s : ℕ → ℝ) (t j : ℕ) (M : ℝ) : Ideal.exp (masked s t j - (M : EReal)) = ((wt s t M j : ℝ) : EReal) := by
  unfold masked wt
  split
  · rw [← EReal.coe_sub, Ideal.exp_coe]
  · rw [EReal.bot_sub]; simp

theorem wt_shift (s : ℕ → ℝ) (t : ℕ) (M M' : ℝ) (j : ℕ) : Real.exp (M - M') * wt s t M j = wt s t M' j := by
  unfold wt
  split
  · rw [← Real.exp_add]; congr 1; ring
  · simp

/-- Weighted sums over any range of columns that reaches `t` are the sums over the columns up to `t`, scaled. -/
theorem sum_wt (s g : ℕ → ℝ) (t N : ℕ) (h : t < N) (M : ℝ) :
    ∑ j ∈ Finset.range N, wt s t M j * g j = Real.exp (-M) * ∑ j ∈ Finset.range (t + 1), Real.exp (s j) * g j := by
  rw [Finset.mul_sum, ← Finset.sum_subset (Finset.range_subset_range.2 h)]
  · refine Finset.sum_congr rfl fun j hj => ?_
    have : j ≤ t := by have := Finset.mem_range.1 hj; omega
    unfold wt
    rw [if_pos this, ← mul_assoc, ← Real.exp_add]; congr 2; ring
  · intro j _ hj
    have : ¬ j ≤ t := by rw [Finset.mem_range] at hj; omega
    unfold wt; rw [if_neg this, zero_mul]

theorem sum_exp_pos (s : ℕ → ℝ) (t : ℕ) : 0 < ∑ j ∈ Finset.range (t + 1), Real.exp (s j) :=
  Finset.sum_pos (fun _ _ => Real.exp_pos _) ⟨0, by simp⟩

theorem sum_wt_one (s : ℕ → ℝ) (t N : ℕ) (h : t < N) (M : ℝ) :
    ∑ j ∈ Finset.range N, wt s t M j = Real.exp (-M) * ∑ j ∈ Finset.range (t + 1), Real.exp (s j) := by
  have := sum_wt s (fun _ => 1) t N h M
  simpa using this

/-- The quotient of the two weighted sums is the mean, whatever `M`. -/
theorem quotient_eq_mean (s v : ℕ → ℝ) (t N : ℕ) (h : t < N) (M : ℝ) :
    (∑ j ∈ Finset.range N, wt s t M j * v j) / (∑ j ∈ Finset.range N, wt s t M j) = mean s v t := by
  rw [sum_wt s v t N h, sum_wt_one s t N h, mul_div_mul_left _ _ (Real.exp_pos _).ne']; rfl

theorem sum_wt_ne_zero (s : ℕ → ℝ) (t N : ℕ) (h : t < N) (M : ℝ) : ∑ j ∈ Finset.range N, wt s t M j ≠ 0 := by
  rw [sum_wt_one s t N h]; exact (mul_pos (Real.exp_pos _) (sum_exp_pos s t)).ne'

/-! ## The running form -/

/-- What the running form holds after the columns below `N`: nothing yet, or some real maximum `M` with the two sums taken
    with `M` subtracted. -/
def Held (s v : ℕ → ℝ) (t N : ℕ) (m l a : EReal) : Prop :=
  (N = 0 ∧ m = ⊥ ∧ l = 0 ∧ a = 0) ∨
  ∃ M : ℝ, m = (M : EReal) ∧ l = ((∑ j ∈ Finset.range N, wt s t M j : ℝ) : EReal)
    ∧ a = ((∑ j ∈ Finset.range N, wt s t M j * v j : ℝ) : EReal)

/-- The largest of a chunk's masked scores is not plus infinity. -/
theorem fold_masked_ne_top (s : ℕ → ℝ) (t N C : ℕ) :
    Finset.fold max ⊥ (fun x : Fin C => masked s t (N + x.val)) Finset.univ ≠ ⊤ := by
  rw [← lt_top_iff_ne_top, Finset.fold_max_lt]
  refine ⟨bot_lt_top, fun x _ => ?_⟩
  unfold masked
  split
  · exact EReal.coe_lt_top _
  · exact bot_lt_top

/-- A chunk that holds column 0 has a maximum above minus infinity. -/
theorem fold_masked_ne_bot (s : ℕ → ℝ) (t C : ℕ) (hC : 0 < C) :
    Finset.fold max ⊥ (fun x : Fin C => masked s t (0 + x.val)) Finset.univ ≠ ⊥ := by
  rw [← bot_lt_iff_ne_bot, Finset.lt_fold_max]
  refine Or.inr ⟨⟨0, hC⟩, Finset.mem_univ _, ?_⟩
  unfold masked
  rw [if_pos (by simp)]
  exact EReal.bot_lt_coe _

/-- One chunk: the new maximum, and the two sums rescaled to it and extended by the chunk's columns. -/
theorem Held.step {s v : ℕ → ℝ} {t N C : ℕ} {m l a m' : EReal} (hC : 0 < C) (h : Held s v t N m l a)
    (hm' : m' = max m (Finset.fold max ⊥ (fun x : Fin C => masked s t (N + x.val)) Finset.univ)) :
    Held s v t (N + C) m'
      (Ideal.exp (m - m') * l + ∑ x : Fin C, Ideal.exp (masked s t (N + x.val) - m'))
      (Ideal.exp (m - m') * a + ∑ x : Fin C, Ideal.exp (masked s t (N + x.val) - m') * ((v (N + x.val) : ℝ) : EReal)) := by
  have hreal : ∃ M' : ℝ, m' = (M' : EReal) := by
    have ht : m' ≠ ⊤ := by
      rw [hm', ← lt_top_iff_ne_top, max_lt_iff]
      refine ⟨?_, lt_top_iff_ne_top.2 (fold_masked_ne_top s t N C)⟩
      rcases h with ⟨-, rfl, -⟩ | ⟨M, rfl, -⟩
      · exact bot_lt_top
      · exact EReal.coe_lt_top _
    have hb : m' ≠ ⊥ := by
      rw [hm', ← bot_lt_iff_ne_bot, lt_max_iff]
      rcases h with ⟨rfl, -⟩ | ⟨M, rfl, -⟩
      · exact Or.inr (bot_lt_iff_ne_bot.2 (fold_masked_ne_bot s t C hC))
      · exact Or.inl (EReal.bot_lt_coe _)
    exact ⟨m'.toReal, (EReal.coe_toReal ht hb).symm⟩
  obtain ⟨M', rfl⟩ := hreal
  have e1 : ∑ x : Fin C, Ideal.exp (masked s t (N + x.val) - (M' : EReal))
      = ((∑ x ∈ Finset.range C, wt s t M' (N + x) : ℝ) : EReal) := by
    rw [← coe_sum, ← Fin.sum_univ_eq_sum_range (fun x => ((wt s t M' (N + x) : ℝ) : EReal))]
    exact Finset.sum_congr rfl fun x _ => exp_masked ..
  have e2 : ∑ x : Fin C, Ideal.exp (masked s t (N + x.val) - (M' : EReal)) * ((v (N + x.val) : ℝ) : EReal)
      = ((∑ x ∈ Finset.range C, wt s t M' (N + x) * v (N + x) : ℝ) : EReal) := by
    rw [← coe_sum, ← Fin.sum_univ_eq_sum_range (fun x => ((wt s t M' (N + x) * v (N + x) : ℝ) : EReal))]
    exact Finset.sum_congr rfl fun x _ => by rw [exp_masked, EReal.coe_mul]
  right
  refine ⟨M', rfl, ?_, ?_⟩
  · rw [e1, Finset.sum_range_add]
    rcases h with ⟨rfl, rfl, rfl, rfl⟩ | ⟨M, rfl, rfl, rfl⟩
    · simp
    · rw [← EReal.coe_sub, Ideal.exp_coe, ← EReal.coe_mul, ← EReal.coe_add, Finset.mul_sum]
      simp only [wt_shift]
  · rw [e2, Finset.sum_range_add]
    rcases h with ⟨rfl, rfl, rfl, rfl⟩ | ⟨M, rfl, rfl, rfl⟩
    · simp
    · rw [← EReal.coe_sub, Ideal.exp_coe, ← EReal.coe_mul, ← EReal.coe_add, Finset.mul_sum]
      simp only [← mul_assoc, wt_shift]

/-- The running form's numerator over its sum, once the columns up to `t` are in, is the mean. -/
theorem Held.div {s v : ℕ → ℝ} {t N : ℕ} {m l a : EReal} (h : Held s v t N m l a) (hN : t < N) :
    Ideal.div a l = ((mean s v t : ℝ) : EReal) := by
  rcases h with ⟨rfl, -⟩ | ⟨M, rfl, rfl, rfl⟩
  · omega
  · rw [Ideal.div_coe (sum_wt_ne_zero s t N hN M), ← EReal.coe_mul, mul_one_div, quotient_eq_mean s v t N hN]

/-! ## The softmax taken at once -/

/-- The softmax of the masked scores over all `N` columns, applied to the values, is the mean. -/
theorem softmax_mean (s v : ℕ → ℝ) (t N : ℕ) (hN : t < N) (m : EReal)
    (hm : m = Finset.fold max ⊥ (fun x : Fin N => masked s t x.val) Finset.univ) :
    ∑ j : Fin N, Ideal.div (Ideal.exp (masked s t j.val - m)) (∑ x : Fin N, Ideal.exp (masked s t x.val - m)) * ((v j.val : ℝ) : EReal)
      = ((mean s v t : ℝ) : EReal) := by
  have h0 : m = Finset.fold max ⊥ (fun x : Fin N => masked s t (0 + x.val)) Finset.univ := by simpa using hm
  obtain ⟨M, rfl⟩ : ∃ M : ℝ, m = (M : EReal) :=
    ⟨m.toReal, (EReal.coe_toReal (h0 ▸ fold_masked_ne_top s t 0 N) (h0 ▸ fold_masked_ne_bot s t N (by omega))).symm⟩
  simp only [exp_masked]
  rw [Fin.sum_univ_eq_sum_range (fun x => ((wt s t M x : ℝ) : EReal)), coe_sum]
  simp only [Ideal.div_coe (sum_wt_ne_zero s t N hN M), ← EReal.coe_mul]
  rw [coe_sum, Fin.sum_univ_eq_sum_range (fun j => wt s t M j * (1 / ∑ x ∈ Finset.range N, wt s t M x) * v j),
    ← quotient_eq_mean s v t N hN M, Finset.sum_div]
  congr 1
  exact Finset.sum_congr rfl fun j _ => by ring

end Cert.Mla
-- ==== Proof.Block.lean ====
module

public import proofs.«01_k».proof.Proof.Trip
public import proofs.«01_k».proof.Proof.Online
public import proofs.«01_k».proof.Proof.Real

@[expose] public section

set_option maxRecDepth 16384

noncomputable section

/-! # What one grid point computes, at an index -/

namespace Cert.Mla

open Cert.KernelIdeal Cert.KernelIdeal.Gen Idealize.ShloMosaic Idealize.ShloMosaic.TcCoe Idealize.SL.Sem

/-- The chunks that the queries of row block `i 1` run over: all that hold a column of theirs or an earlier one. -/
theorem trips_eq (i : grid0.Coords) : (k0_t1_loop i).trips = ((i 1).val * 128 + 128 + 511) / 512 := by
  have h : ∀ n : Fin 16, (k0_t1_loop (fun a => match a with | ⟨0, _⟩ => (0 : Fin 16) | ⟨1, _⟩ => n)).trips = (n.val * 128 + 128 + 511) / 512 := by decide +kernel
  exact h (i 1)

/-- The named mask is minus infinity. -/
theorem mask_eq : Named.named (F := Ideal) κ "mask" (φ := .f32) 0xF149F2CA#32 = (⊥ : EReal) :=
  IdealRules.named_const.ideal_named_scalar _ _ _ _ rfl

/-- The named starting maximum is minus infinity. -/
theorem start_eq : Named.named (F := Ideal) κ "start" (φ := .f32) 0xF1C9F2CA#32 = (⊥ : EReal) :=
  IdealRules.named_const.ideal_named_scalar _ _ _ _ rfl

/-- The scaled product of query row `r` of a block with row `j` of the block's rows. -/
def dotB (x0 : Vec Ideal S8x128x160 .bf16) (x1 : Vec Ideal S2048x160 .bf16) (r : Fin 1024) (j : ℕ) : EReal :=
  (∑ c : Fin 160, x0 (ix3 (⟨r.val / 128, by omega⟩ : Fin 8) (⟨r.val % 128, by omega⟩ : Fin 128) c)
    * x1 (ix2 (⟨j % 2048, by omega⟩ : Fin 2048) c)) * scale

/-- The score of row `j` for query row `r`, as a real number. -/
def scB (x0 : Vec Ideal S8x128x160 .bf16) (x1 : Vec Ideal S2048x160 .bf16) (r : Fin 1024) (j : ℕ) : ℝ := (dotB x0 x1 r j).toReal

/-- Entry `d` of row `j`, as a real number. -/
def valB (x1 : Vec Ideal S2048x160 .bf16) (d : Fin 128) (j : ℕ) : ℝ :=
  EReal.toReal (x1 (ix2 (⟨j % 2048, by omega⟩ : Fin 2048) (⟨d.val, by omega⟩ : Fin 160)))

/-- The chunk of rows that trip `k` loads. -/
abbrev chunk (i : grid0.Coords) (k : Fin (k0_t1_loop i).trips) (x1 : Vec Ideal S2048x160 .bf16) : Vec Ideal S512x160 .bf16 :=
  View.ld x1 (Rect.unit (s := S2048x160) (k0_off1 i k) S512x160.size (k0_off1_inb i k))

theorem trip_lt (i : grid0.Coords) (k : Fin (k0_t1_loop i).trips) : k.val < 4 := lt_of_lt_of_le k.isLt (k0_t1_abs i).2.1

theorem chunk_apply (i : grid0.Coords) (k : Fin (k0_t1_loop i).trips) (x1 : Vec Ideal S2048x160 .bf16) (x : Fin 512) (c : Fin 160) :
    chunk i k x1 (ix2 x c) = x1 (ix2 (⟨(512 * k.val + x.val) % 2048, by omega⟩ : Fin 2048) c) := by
  have hk := trip_lt i k
  refine congrArg x1 (funext fun a => Fin.ext ?_)
  have h := congrFun (k0_off1_eq i k)
  match a with
  | ⟨0, _⟩ =>
    refine (Rect.idx_unit_val ..).trans ?_
    have h0 : k0_off1 i k (0 : Fin 2) = 512 * k.val := h 0
    show k0_off1 i k (0 : Fin 2) + x.val = (512 * k.val + x.val) % 2048
    omega
  | ⟨1, _⟩ =>
    refine (Rect.idx_unit_val ..).trans ?_
    have h0 : k0_off1 i k (1 : Fin 2) = 0 := h 1
    show k0_off1 i k (1 : Fin 2) + c.val = c.val
    omega

variable (i : grid0.Coords) (x0 : Vec Ideal S8x128x160 .bf16) (x1 : Vec Ideal S2048x160 .bf16)

/-- The position in its sequence of query row `r` of the block. -/
def posB (r : Fin 1024) : ℕ := 128 * (i 1).val + r.val % 128

theorem dotB_real (h0 : ∀ j, IsReal (x0 j)) (h1 : ∀ j, IsReal (x1 j)) (r : Fin 1024) (j : ℕ) : IsReal (dotB x0 x1 r j) :=
  (IsReal.sum _ _ fun _ _ => (h0 _).mul (h1 _)).mul isReal_scale

/-- A trip's scores: the masked scaled products with the chunk's rows. -/
theorem score_apply (h0 : ∀ j, IsReal (x0 j)) (h1 : ∀ j, IsReal (x1 j)) (k : Fin (k0_t1_loop i).trips) (r : Fin 1024) (x : Fin 512) :
    k0_pay7 (F := Ideal) i x0 k (chunk i k x1) (ix2 r x) = masked (scB x0 x1 r) (posB i r) (512 * k.val + x.val) := by
  have hk := trip_lt i k
  have hi : (i 1).val < 16 := (i 1).isLt
  generalize hw : chunk i k x1 = w
  pointwise [k0_pay7, k0_pay3, k0_pay2]
  rw [mask_eq]
  have e1 : IntOp.addi (Scalar.muli (Scf.iv 0#32 1#32 k.val) 512#32) (BitVec.ofNat 32 x.val) = BitVec.ofNat 32 (512 * k.val + x.val) := by
    simp [IntOp.addi, Scalar.muli, IntOp.muli, Scf.iv, BitVec.ofNat_add, BitVec.ofNat_mul, mul_comm]
  have e2 : IntOp.addi (Scalar.muli (BitVec.ofNat 32 (i 1).val) 128#32) (BitVec.ofNat 32 (r.val % 128)) = BitVec.ofNat 32 (posB i r) := by
    unfold posB
    simp only [IntOp.addi, Scalar.muli, IntOp.muli, BitVec.ofNat_add, BitVec.ofNat_mul]
    exact congrArg (fun z => z + _) (BitVec.mul_comm _ _)
  rw [e1, e2, sle_ofNat _ _ (by omega) (by unfold posB; omega), select_ite]
  have e3 : (∑ c : Fin 160, x0 (ix3 (⟨r.val / 128, by omega⟩ : Fin 8) (⟨r.val % 128, by omega⟩ : Fin 128) c) * w (ix2 x c)) * scale
      = dotB x0 x1 r (512 * k.val + x.val) := by
    unfold dotB
    congr 1
    refine Finset.sum_congr rfl fun c _ => ?_
    rw [← hw, chunk_apply]
  refine (congrArg (fun e => e + _) (e3.trans (dotB_real x0 x1 h0 h1 r _))).trans ?_
  unfold masked scB
  split
  · rw [add_zero]
  · rw [EReal.add_bot]

/-- A trip's new maximum. -/
theorem max_apply (h0 : ∀ j, IsReal (x0 j)) (h1 : ∀ j, IsReal (x1 j)) (k : Fin (k0_t1_loop i).trips) (m : FVec Ideal S1024x1 .f32) (r : Fin 1024) :
    k0_pay8 (F := Ideal) i x0 k m (chunk i k x1) (ix2 r 0)
      = max (m (ix2 r 0)) (Finset.fold max ⊥ (fun x : Fin 512 => masked (scB x0 x1 r) (posB i r) (512 * k.val + x.val)) Finset.univ) := by
  have hs := fun x => score_apply i x0 x1 h0 h1 k r x
  generalize hw : chunk i k x1 = w at hs ⊢
  pointwise [k0_pay8]
  rw [ninf]
  simp only [hs]

/-- A trip's new sum. -/
theorem sum_apply (h0 : ∀ j, IsReal (x0 j)) (h1 : ∀ j, IsReal (x1 j)) (k : Fin (k0_t1_loop i).trips) (m l : FVec Ideal S1024x1 .f32) (r : Fin 1024) :
    k0_pay11 (F := Ideal) i x0 k m l (chunk i k x1) (ix2 r 0)
      = Ideal.exp (m (ix2 r 0) - k0_pay8 (F := Ideal) i x0 k m (chunk i k x1) (ix2 r 0)) * l (ix2 r 0)
        + ∑ x : Fin 512, Ideal.exp (masked (scB x0 x1 r) (posB i r) (512 * k.val + x.val) - k0_pay8 (F := Ideal) i x0 k m (chunk i k x1) (ix2 r 0)) := by
  have hs := fun x => score_apply i x0 x1 h0 h1 k r x
  generalize hw : chunk i k x1 = w at hs ⊢
  pointwise [k0_pay11, k0_pay9, k0_pay10]
  simp only [hs]

/-- A trip's new numerator. -/
theorem num_apply (h0 : ∀ j, IsReal (x0 j)) (h1 : ∀ j, IsReal (x1 j)) (k : Fin (k0_t1_loop i).trips) (m : FVec Ideal S1024x1 .f32)
    (a : FVec Ideal S1024x128 .f32) (r : Fin 1024) (d : Fin 128) :
    k0_pay12 (F := Ideal) i x0 k m a (chunk i k x1) (ix2 r d)
      = Ideal.exp (m (ix2 r 0) - k0_pay8 (F := Ideal) i x0 k m (chunk i k x1) (ix2 r 0)) * a (ix2 r d)
        + ∑ x : Fin 512, Ideal.exp (masked (scB x0 x1 r) (posB i r) (512 * k.val + x.val) - k0_pay8 (F := Ideal) i x0 k m (chunk i k x1) (ix2 r 0))
            * ((valB x1 d (512 * k.val + x.val) : ℝ) : EReal) := by
  have hs := fun x => score_apply i x0 x1 h0 h1 k r x
  have hv : ∀ x : Fin 512, chunk i k x1 (ix2 x (⟨d.val, by omega⟩ : Fin 160)) = ((valB x1 d (512 * k.val + x.val) : ℝ) : EReal) := fun x => by
    rw [chunk_apply]; exact h1 _
  generalize hw : chunk i k x1 = w at hs hv ⊢
  pointwise [k0_pay12, k0_pay9, k0_pay10]
  simp only [hs, hv]

section
variable (c : Dev nD) (arg2 : Memref sig .tc .vmem S8x128x160 .bf16) (harg2 : arg2.IsWhole) (arg3 : Memref sig .tc .vmem S2048x160 .bf16) (harg3 : arg3.IsWhole) (arg4 : Memref sig .tc .vmem S8x128x64 .bf16) (harg4 : arg4.IsWhole) (arg5 : Memref sig .tc .vmem S128x512 .bf16) (harg5 : arg5.IsWhole)

/-- What the loop carries before trip `k`. -/
abbrev st (k : ℕ) : FVec Ideal S1024x1 .f32 × FVec Ideal S1024x1 .f32 × FVec Ideal S1024x128 .f32 :=
  st_k0_t1 (F := Ideal) Variants.none c none i arg2 harg2 arg3 harg3 arg4 harg4 arg5 harg5 x0 (harg3.unread x1) (k0_pay4, k0_pay5, k0_pay6) k

/-- After `k` trips the loop holds the running maximum and sums over the first `512 k` columns. -/
theorem held_st (h0 : ∀ j, IsReal (x0 j)) (h1 : ∀ j, IsReal (x1 j)) (r : Fin 1024) (d : Fin 128) :
    ∀ k, k ≤ (k0_t1_loop i).trips → Held (scB x0 x1 r) (valB x1 d) (posB i r) (512 * k)
      ((st i x0 x1 c arg2 harg2 arg3 harg3 arg4 harg4 arg5 harg5 k).1 (ix2 r 0))
      ((st i x0 x1 c arg2 harg2 arg3 harg3 arg4 harg4 arg5 harg5 k).2.1 (ix2 r 0))
      ((st i x0 x1 c arg2 harg2 arg3 harg3 arg4 harg4 arg5 harg5 k).2.2 (ix2 r d))
  | 0, _ => by
    left
    refine ⟨rfl, ?_, ?_, ?_⟩
    · exact start_eq
    · exact Ideal.ofBits_zero_f32
    · exact Ideal.ofBits_zero_f32
  | k + 1, hk => by
    have ih := held_st h0 h1 r d k (by omega)
    have e := (st_k0_t1_succ (F := Ideal) Variants.none c none i arg2 harg2 arg3 harg3 arg4 harg4 arg5 harg5 x0 (harg3.unread x1) (k0_pay4, k0_pay5, k0_pay6) ⟨k, hk⟩).trans
      (trip_eq c i arg2 harg2 arg3 harg3 arg4 harg4 arg5 harg5 x0 (harg3.unread x1) ⟨k, hk⟩ _)
    rw [View.readAt_eq_ld, harg3.read_unread] at e
    have e' : st i x0 x1 c arg2 harg2 arg3 harg3 arg4 harg4 arg5 harg5 (k + 1) = _ := e
    rw [e']
    dsimp only
    have hm := max_apply i x0 x1 h0 h1 ⟨k, hk⟩ (st i x0 x1 c arg2 harg2 arg3 harg3 arg4 harg4 arg5 harg5 k).1 r
    have := ih.step (by norm_num : 0 < 512) hm
    rw [← sum_apply i x0 x1 h0 h1, ← num_apply i x0 x1 h0 h1] at this
    exact this

end

/-- The block that a point writes, from the loop's carried sum and numerator: head `d / 64`'s latent means times that
    head's matrix. -/
theorem block_apply (A : FVec Ideal S1024x1 .f32 × FVec Ideal S1024x1 .f32 × FVec Ideal S1024x128 .f32) (x2 : Vec Ideal S8x128x64 .bf16) (r : Fin 128) (d : Fin 512) :
    blockOf A x2 (ix2 r d)
      = ∑ c : Fin 128, Ideal.div (A.2.2 (ix2 (⟨d.val / 64 * 128 + r.val, by omega⟩ : Fin 1024) c)) (A.2.1 (ix2 (⟨d.val / 64 * 128 + r.val, by omega⟩ : Fin 1024) 0))
          * x2 (ix3 (⟨d.val / 64, by omega⟩ : Fin 8) c (⟨d.val % 64, by omega⟩ : Fin 64)) := by
  have b1 : d.val / 64 * 128 + r.val < 1024 := by omega
  have b2 : d.val / 64 < 8 := by omega
  have b3 : d.val % 64 < 64 := by omega
  have key : ∀ (g o : ℕ) (ho : o < 64) (hd : d.val = 64 * g + o) (f : Fin 1024) (hf : f.val = 128 * g + r.val) (g' : Fin 8) (hg' : g'.val = g),
      (∑ c : Fin 128, Ideal.div (A.2.2 (ix2 f c)) (A.2.1 (ix2 f 0)) * x2 (ix3 g' c (⟨o, ho⟩ : Fin 64)))
      = ∑ c : Fin 128, Ideal.div (A.2.2 (ix2 (⟨_, b1⟩ : Fin 1024) c)) (A.2.1 (ix2 (⟨_, b1⟩ : Fin 1024) 0))
          * x2 (ix3 (⟨_, b2⟩ : Fin 8) c (⟨_, b3⟩ : Fin 64)) := by
    intro g o ho hd f hf g' hg'
    have a1 : f = ⟨_, b1⟩ := Fin.ext (by rw [hf]; show _ = d.val / 64 * 128 + r.val; omega)
    have a2 : g' = ⟨_, b2⟩ := Fin.ext (by rw [hg']; show _ = d.val / 64; omega)
    have a3 : (⟨o, ho⟩ : Fin 64) = ⟨_, b3⟩ := Fin.ext (by show o = d.val % 64; omega)
    rw [a1, a2, a3]
  pointwise [blockOf, k0_pay1, k0_pay19, k0_pay20, k0_pay21, k0_pay22, k0_pay23, k0_pay24, k0_pay25, k0_pay26, k0_pay27, head]
  have hd := d.isLt
  split
  · exact key 0 _ (by omega) (by omega) _ (by simp) _ rfl
  split
  · exact key 1 _ (by omega) (by omega) _ (by simp) _ rfl
  split
  · exact key 2 _ (by omega) (by omega) _ (by simp) _ rfl
  split
  · exact key 3 _ (by omega) (by omega) _ (by simp) _ rfl
  split
  · exact key 4 _ (by omega) (by omega) _ (by simp) _ rfl
  split
  · exact key 5 _ (by omega) (by omega) _ (by simp) _ rfl
  split
  · exact key 6 _ (by omega) (by omega) _ (by simp) _ rfl
  · exact key 7 _ (by omega) (by omega) _ (by simp) _ rfl

/-- THE BLOCK AT AN INDEX: what the body leaves in the output's staging buffer, on real queries and rows. -/
theorem out_apply (c : Dev nD) (arg2 : Memref sig .tc .vmem S8x128x160 .bf16) (harg2 : arg2.IsWhole) (arg3 : Memref sig .tc .vmem S2048x160 .bf16) (harg3 : arg3.IsWhole) (arg4 : Memref sig .tc .vmem S8x128x64 .bf16) (harg4 : arg4.IsWhole) (arg5 : Memref sig .tc .vmem S128x512 .bf16) (harg5 : arg5.IsWhole)
    (x2 : Vec Ideal S8x128x64 .bf16) (h0 : ∀ j, IsReal (x0 j)) (h1 : ∀ j, IsReal (x1 j)) (r : Fin 128) (d : Fin 512) :
    out0_A_3 (F := Ideal) c i arg2 harg2 arg3 harg3 arg4 harg4 arg5 harg5 x0 x1 x2 (ix2 r d)
      = ∑ e : Fin 128, ((mean (scB x0 x1 (⟨d.val / 64 * 128 + r.val, by omega⟩ : Fin 1024)) (valB x1 e) (128 * (i 1).val + r.val) : ℝ) : EReal)
          * x2 (ix3 (⟨d.val / 64, by omega⟩ : Fin 8) e (⟨d.val % 64, by omega⟩ : Fin 64)) := by
  have hi : (i 1).val < 16 := (i 1).isLt
  rw [out_eq, block_apply]
  refine Finset.sum_congr rfl fun e _ => congrArg (fun z => z * _) ?_
  have h := held_st i x0 x1 c arg2 harg2 arg3 harg3 arg4 harg4 arg5 harg5 h0 h1 (⟨d.val / 64 * 128 + r.val, by omega⟩ : Fin 1024) e _ le_rfl
  have hp : posB i (⟨d.val / 64 * 128 + r.val, by omega⟩ : Fin 1024) = 128 * (i 1).val + r.val := by
    unfold posB
    show 128 * (i 1).val + (d.val / 64 * 128 + r.val) % 128 = _
    omega
  rw [hp] at h
  exact h.div (by rw [trips_eq]; omega)

end Cert.Mla
-- ==== Proof.Array.lean ====
module

public import proofs.«01_k».proof.Proof.Block

@[expose] public section

set_option maxRecDepth 16384

noncomputable section

/-! # The kernel's result array, at an index -/

namespace Cert.Mla

open Cert.KernelIdeal Cert.KernelIdeal.Gen Idealize.ShloMosaic Idealize.ShloMosaic.TcCoe Idealize.SL.Sem
open Idealize.ShloMosaic.Pipeline (Dat)

/-- The scaled product of query `(h, R)` with row `j` of the sequence that row `R` belongs to. -/
def dotA (q : FVec Ideal S8x32768x160 .bf16) (k : FVec Ideal S32768x160 .bf16) (h : Fin 8) (R : Fin 32768) (j : ℕ) : EReal :=
  (∑ c : Fin 160, q (ix3 h R c) * k (ix2 (⟨(R.val / 2048 * 2048 + j) % 32768, by omega⟩ : Fin 32768) c)) * scale

/-- The score of row `j` for query `(h, R)`, as a real number. -/
def scA (q : FVec Ideal S8x32768x160 .bf16) (k : FVec Ideal S32768x160 .bf16) (h : Fin 8) (R : Fin 32768) (j : ℕ) : ℝ := (dotA q k h R j).toReal

/-- Entry `e` of row `j` of the sequence that row `R` belongs to, as a real number. -/
def valA (k : FVec Ideal S32768x160 .bf16) (R : Fin 32768) (e : Fin 128) (j : ℕ) : ℝ :=
  EReal.toReal (k (ix2 (⟨(R.val / 2048 * 2048 + j) % 32768, by omega⟩ : Fin 32768) (⟨e.val, by omega⟩ : Fin 160)))

/-- THE ATTENTION AT AN INDEX: for row `R` and column `d`, head `d / 64`: the mean of the latent rows up to `R`'s position
    under the head's softmax weights, times the head's matrix. -/
def attn (q : FVec Ideal S8x32768x160 .bf16) (k : FVec Ideal S32768x160 .bf16) (w : FVec Ideal S8x128x64 .bf16) (y : S32768x512.Idx) : EReal :=
  ∑ e : Fin 128, ((mean (scA q k ⟨(y 1).val / 64, by have : (y 1).val < 512 := (y 1).isLt; omega⟩ (y 0)) (valA k (y 0) e) ((y 0).val % 2048) : ℝ) : EReal)
    * w (ix3 (⟨(y 1).val / 64, by have : (y 1).val < 512 := (y 1).isLt; omega⟩ : Fin 8) e (⟨(y 1).val % 64, by omega⟩ : Fin 64))

/-- A mean depends on the scores and values up to its position only. -/
theorem mean_congr {s s' v v' : ℕ → ℝ} {t t' : ℕ} (ht : t = t') (hs : ∀ j ≤ t, s j = s' j) (hv : ∀ j ≤ t, v j = v' j) : mean s v t = mean s' v' t' := by
  subst ht
  unfold mean
  have b : ∀ j ∈ Finset.range (t + 1), j ≤ t := fun j hj => by have := Finset.mem_range.1 hj; omega
  congr 1
  · exact Finset.sum_congr rfl fun j hj => by rw [hs j (b j hj), hv j (b j hj)]
  · exact Finset.sum_congr rfl fun j hj => by rw [hs j (b j hj)]

/-- Where each point's blocks lie. -/
theorem idx_facts : ∀ t : Fin cfg0.N, win0_0.index t = ![0, t.val, 0] ∧ win0_1.index t = ![t.val / 16, 0] ∧ win0_2.index t = ![0, 0, 0]
    ∧ win0_3.index t = ![t.val, 0] ∧ (grid0.coords t 1).val = t.val % 16 :=
  (by decide +kernel : ∀ t : Fin grid0.N, _)

variable (m : (ℓ : Loc nD τ sig) → Buf (Elt Ideal) ℓ)

/-- Device `c`'s queries. -/
abbrev qs (c : Dev nD) : FVec Ideal S8x32768x160 .bf16 := m ((c : Thread nD τ).loc main_arg0)
/-- Device `c`'s rows. -/
abbrev ks (c : Dev nD) : FVec Ideal S32768x160 .bf16 := m ((c : Thread nD τ).loc main_arg1)
/-- Device `c`'s head matrices. -/
abbrev ws (c : Dev nD) : FVec Ideal S8x128x64 .bf16 := m ((c : Thread nD τ).loc main_arg2)

theorem N_eq : cfg0.N = 256 := by decide

theorem q_blk (c : Dev nD) (t : Fin cfg0.N) (h : Fin 8) (r : Fin 128) (x : Fin 160) :
    iblk m c 0 t (ix3 h r x) = qs m c (ix3 h (⟨t.val * 128 + r.val, by have := t.isLt; have := N_eq; omega⟩ : Fin 32768) x) := by
  obtain ⟨e0, e1, e2, e3, e4⟩ := idx_facts t
  blk_ext [iblk, V, e0]

theorem k_blk (c : Dev nD) (t : Fin cfg0.N) (r : Fin 2048) (x : Fin 160) :
    iblk m c 1 t (ix2 r x) = ks m c (ix2 (⟨t.val / 16 * 2048 + r.val, by have := t.isLt; have := N_eq; omega⟩ : Fin 32768) x) := by
  obtain ⟨e0, e1, e2, e3, e4⟩ := idx_facts t
  blk_ext [iblk, V, e1]

theorem w_blk (c : Dev nD) (t : Fin cfg0.N) (h : Fin 8) (r : Fin 128) (x : Fin 64) :
    iblk m c 2 t (ix3 h r x) = ws m c (ix3 h r x) := by
  obtain ⟨e0, e1, e2, e3, e4⟩ := idx_facts t
  blk_ext [iblk, V, e2]

theorem out_emb (t : Fin cfg0.N) (r : Fin 128) (d : Fin 512) :
    ((cfg0.win 3).blk t).view.emb (ix2 r d) = (ix2 (⟨t.val * 128 + r.val, by have := t.isLt; have := N_eq; omega⟩ : Fin 32768) d : S32768x512.Idx) := by
  obtain ⟨e0, e1, e2, e3, e4⟩ := idx_facts t
  funext a; apply Fin.ext
  match a with
  | ⟨0, _⟩ => show win0_3.index t (0 : Fin 2) * 128 + 1 * r.val = t.val * 128 + r.val; rw [e3]; simp
  | ⟨1, _⟩ => show win0_3.index t (1 : Fin 2) * 512 + 1 * d.val = d.val; rw [e3]; simp

theorem dot_blk (c : Dev nD) (t : Fin cfg0.N) (h : Fin 8) (r : Fin 128) (b1 : h.val * 128 + r.val < 1024)
    (b2 : t.val * 128 + r.val < 32768) (j : ℕ) (hj : j < 2048) :
    dotB (iblk m c 0 t) (iblk m c 1 t) ⟨h.val * 128 + r.val, b1⟩ j = dotA (qs m c) (ks m c) h ⟨t.val * 128 + r.val, b2⟩ j := by
  unfold dotB dotA
  congr 1
  refine Finset.sum_congr rfl fun x _ => ?_
  rw [q_blk, k_blk]
  congr 2
  · funext a; apply Fin.ext
    match a with
    | ⟨0, _⟩ => show (h.val * 128 + r.val) / 128 = h.val; omega
    | ⟨1, _⟩ => show t.val * 128 + (h.val * 128 + r.val) % 128 = t.val * 128 + r.val; omega
    | ⟨2, _⟩ => rfl
  · funext a; apply Fin.ext
    match a with
    | ⟨0, _⟩ => show t.val / 16 * 2048 + j % 2048 = ((t.val * 128 + r.val) / 2048 * 2048 + j) % 32768; have := t.isLt; have := N_eq; omega
    | ⟨1, _⟩ => rfl

theorem val_blk (c : Dev nD) (t : Fin cfg0.N) (r : Fin 128)
    (b2 : t.val * 128 + r.val < 32768) (e : Fin 128) (j : ℕ) (hj : j < 2048) :
    valB (iblk m c 1 t) e j = valA (ks m c) ⟨t.val * 128 + r.val, b2⟩ e j := by
  unfold valB valA
  rw [k_blk]
  congr 2
  funext a; apply Fin.ext
  match a with
  | ⟨0, _⟩ => show t.val / 16 * 2048 + j % 2048 = ((t.val * 128 + r.val) / 2048 * 2048 + j) % 32768; have := t.isLt; have := N_eq; omega
  | ⟨1, _⟩ => rfl

/-- One point's output block at an index is the attention at the index's place in the whole array. -/
theorem out_attn (c : Dev nD) (hq : ∀ j, IsReal (qs m c j)) (hk : ∀ j, IsReal (ks m c j)) (t : Fin cfg0.N) (r : Fin 128) (d : Fin 512) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix2 r d)
      = attn (qs m c) (ks m c) (ws m c) (((cfg0.win 3).blk t).view.emb (ix2 r d)) := by
  have b2 : t.val * 128 + r.val < 32768 := by have := t.isLt; have := N_eq; omega
  have hd : d.val / 64 < 8 := by omega
  have hp : 128 * (grid0.coords t 1).val + r.val = (t.val * 128 + r.val) % 2048 := by
    rw [(idx_facts t).2.2.2.2]; omega
  have h0 : ∀ j, IsReal (iblk m c 0 t j) := fun j => hq _
  have h1 : ∀ j, IsReal (iblk m c 1 t j) := fun j => hk _
  rw [out_apply (h0 := h0) (h1 := h1), out_emb]
  unfold attn
  refine Finset.sum_congr rfl fun e _ => ?_
  rw [w_blk]
  have hm : mean (scB (iblk m c 0 t) (iblk m c 1 t) ⟨d.val / 64 * 128 + r.val, by omega⟩) (valB (iblk m c 1 t) e) (128 * (grid0.coords t 1).val + r.val)
      = mean (scA (qs m c) (ks m c) ⟨d.val / 64, hd⟩ ⟨t.val * 128 + r.val, b2⟩) (valA (ks m c) ⟨t.val * 128 + r.val, b2⟩ e) ((t.val * 128 + r.val) % 2048) := by
    refine mean_congr hp (fun j hj => ?_) fun j hj => ?_
    · rw [hp] at hj
      exact congrArg EReal.toReal (dot_blk m c t ⟨d.val / 64, hd⟩ r (by show d.val / 64 * 128 + r.val < 1024; omega) b2 j (by omega))
    · rw [hp] at hj
      exact val_blk m c t r b2 e j (by omega)
  rw [hm]
  rfl

/-- THE KERNEL'S RESULT ARRAY is the attention of its arguments, on real queries and rows. -/
theorem final (c : Dev nD) (hq : ∀ j, IsReal (qs m c j)) (hk : ∀ j, IsReal (ks m c j)) :
    (dats m 0 c).arrAt 3 cfg0.N = attn (qs m c) (ks m c) (ws m c) := by
  refine (dats m 0 c).arrAt_eq_of_covers 3 _ (by decide +kernel) fun t hf y => ?_
  refine (congrFun (Cert.KernelIdeal.Value.flushed3_A m c t) y).trans ?_
  have hy : y = ix2 (y 0) (y 1) := by funext a; match a with | ⟨0, _⟩ => rfl | ⟨1, _⟩ => rfl
  rw [hy]
  exact out_attn m c hq hk t (y 0) (y 1)

end Cert.Mla
-- ==== Proof.RefAttn.lean ====
module

public import proofs.«01_k».proof.Proof.Gen.ReferenceIdeal.Run
public import proofs.«01_k».proof.Proof.Array

@[expose] public section

set_option maxRecDepth 16384

noncomputable section

/-! # The reference's result array, at an index -/

namespace Cert.Mla

open Cert.ReferenceIdeal Cert.ReferenceIdeal.Gen Idealize.ShloMosaic Idealize.ShloMosaic.TcCoe Idealize.SL.Sem

/-- The reference's masked scores. -/
def scoresR (q : FVec Ideal S8x32768x160 .bf16) (k : FVec Ideal S32768x160 .bf16) : FVec Ideal S16x8x2048x2048 .f32 :=
  select (broadcastInDim S16x8x2048x2048 ![0, 1, 2, 3] bcast_S1x1x2048x2048_S16x8x2048x2048_0_1_2_3 (broadcastInDim S1x1x2048x2048 ![2, 3] bcast_S2048x2048_S1x1x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0))))))
    (mulf (Host.dotGeneral dot_S8x16x2048x160_S16x2048x160_S16x8x2048x2048_3_2_02_1_1_0 none
        (shapeCast _ (extf .f32 q bitsLt_bf16_f32) shapeCasts_S8x32768x160_S8x16x2048x160) (shapeCast _ (extf .f32 k bitsLt_bf16_f32) shapeCasts_S32768x160_S16x2048x160))
      (broadcastInDim S16x8x2048x2048 ![] bcast_S_S16x8x2048x2048 (constant S_ .f32 0x3DD105EC#32)))
    (broadcastInDim S16x8x2048x2048 ![] bcast_S_S16x8x2048x2048 (id (constant S_ .f32 0xFF800000#32)))

/-- The row maxima of scores `s`, folded from minus infinity. -/
def hostMax (s : FVec Ideal S16x8x2048x2048 .f32) : FVec Ideal S16x8x2048 .f32 :=
  Host.reduce FloatOps.maximumf s (constant S_ .f32 0xFF800000#32) reducesTo_S16x8x2048x2048_S16x8x2048_d3 h_S_

/-- A row value, at least minus infinity. -/
def atLeast (z : FVec Ideal S16x8x2048 .f32) : FVec Ideal S16x8x2048 .f32 :=
  maximumf (broadcastInDim S16x8x2048 ![] bcast_S_S16x8x2048 (constant S_ .f32 0xFF800000#32)) z

/-- The row maxima of scores `s`. -/
def maxR (s : FVec Ideal S16x8x2048x2048 .f32) : FVec Ideal S16x8x2048 .f32 := atLeast (hostMax s)

/-- `exp (s − x)`, `x` a row's. -/
def expR (s : FVec Ideal S16x8x2048x2048 .f32) (x : FVec Ideal S16x8x2048 .f32) : FVec Ideal S16x8x2048x2048 .f32 :=
  Host.exp (subf s (broadcastInDim S16x8x2048x2048 ![0, 1, 2, 3] bcast_S16x8x2048x1_S16x8x2048x2048_0_1_2_3 (broadcastInDim S16x8x2048x1 ![0, 1, 2] bcast_S16x8x2048_S16x8x2048x1_0_1_2 x)))

/-- The result from the exponentials `z`. -/
def outR (z : FVec Ideal S16x8x2048x2048 .f32) (k : FVec Ideal S32768x160 .bf16) (w : FVec Ideal S8x128x64 .bf16) : FVec Ideal S32768x512 .bf16 :=
  truncf .bf16 (shapeCast _ (transpose S16x2048x8x64 [2, 3, 0, 1] (Host.dotGeneral dot_S8x128x64_S16x8x2048x128_S8x64x16x2048_1_3_2_02_0_1 none (extf .f32 w bitsLt_bf16_f32)
    (Host.dotGeneral dot_S16x8x2048x2048_S16x2048x128_S16x8x2048x128_3_1_12_2_0_0 none
      (Host.divf z (broadcastInDim S16x8x2048x2048 ![0, 1, 2, 3] bcast_S16x8x2048x1_S16x8x2048x2048_0_1_2_3 (broadcastInDim S16x8x2048x1 ![0, 1, 2] bcast_S16x8x2048_S16x8x2048x1_0_1_2
        (Host.reduceAdd z (constant S_ .f32 0x00000000#32) reducesTo_S16x8x2048x2048_S16x8x2048_d3 h_S_))))
      (extractStridedSlice S16x2048x128 ![0, 0, 0] (shapeCast _ (extf .f32 k bitsLt_bf16_f32) shapeCasts_S32768x160_S16x2048x160) slices_S16x2048x160_S16x2048x128_0_0_0)))
    transposes_S8x64x16x2048_S16x2048x8x64_2_3_0_1) shapeCasts_S16x2048x8x64_S32768x512) bitsLt_bf16_f32

/-- The run's result is these four steps in turn. -/
theorem res_eq (m : (ℓ : Loc nD τ sig) → Buf (Elt Ideal) ℓ) (c : Dev nD) :
    Cert.ReferenceIdeal.Value.res_main_v32 (F := Ideal) m c
      = outR (expR (scoresR (m ((c.tc : Thread nD τ).loc main_arg0)) (m ((c.tc : Thread nD τ).loc main_arg1)))
          (maxR (scoresR (m ((c.tc : Thread nD τ).loc main_arg0)) (m ((c.tc : Thread nD τ).loc main_arg1)))))
        (m ((c.tc : Thread nD τ).loc main_arg1)) (m ((c.tc : Thread nD τ).loc main_arg2)) := rfl

theorem expR_apply (s : FVec Ideal S16x8x2048x2048 .f32) (x : FVec Ideal S16x8x2048 .f32) (b : Fin 16) (h : Fin 8) (t j : Fin 2048) :
    expR s x (ix4 b h t j) = Ideal.exp (s (ix4 b h t j) - x (ix3 b h t)) := by
  unfold expR; pointwise

theorem hostMax_apply (s : FVec Ideal S16x8x2048x2048 .f32) (b : Fin 16) (h : Fin 8) (t : Fin 2048) :
    hostMax s (ix3 b h t) = Finset.fold max (Ideal.ofBits .f32 0xFF800000#32) (fun x : Fin 2048 => s (ix4 b h t x)) Finset.univ := by
  unfold hostMax; pointwise

theorem atLeast_apply (z : FVec Ideal S16x8x2048 .f32) (b : Fin 16) (h : Fin 8) (t : Fin 2048) : atLeast z (ix3 b h t) = z (ix3 b h t) := by
  unfold atLeast; pointwise
  rw [ninf]; exact max_eq_right bot_le

theorem maxR_apply (s : FVec Ideal S16x8x2048x2048 .f32) (b : Fin 16) (h : Fin 8) (t : Fin 2048) :
    maxR s (ix3 b h t) = Finset.fold max ⊥ (fun x : Fin 2048 => s (ix4 b h t x)) Finset.univ := by
  unfold maxR
  rw [atLeast_apply, hostMax_apply, ninf]

/-- The result at an index, from the exponentials. -/
theorem outR_apply (z : FVec Ideal S16x8x2048x2048 .f32) (k : FVec Ideal S32768x160 .bf16) (w : FVec Ideal S8x128x64 .bf16) (R : Fin 32768) (d : Fin 512) :
    outR z k w (ix2 R d) = ∑ e : Fin 128, w (ix3 (⟨d.val / 64, by omega⟩ : Fin 8) e (⟨d.val % 64, by omega⟩ : Fin 64))
      * ∑ j : Fin 2048, Ideal.div (z (ix4 (⟨R.val / 2048, by omega⟩ : Fin 16) (⟨d.val / 64, by omega⟩ : Fin 8) (⟨R.val % 2048, by omega⟩ : Fin 2048) j))
          (∑ x : Fin 2048, z (ix4 (⟨R.val / 2048, by omega⟩ : Fin 16) (⟨d.val / 64, by omega⟩ : Fin 8) (⟨R.val % 2048, by omega⟩ : Fin 2048) x))
        * k (ix2 (⟨R.val / 2048 * 2048 + j.val, by omega⟩ : Fin 32768) (⟨e.val, by omega⟩ : Fin 160)) := by
  unfold outR; pointwise

/-- The masked scores at an index, on real queries and rows. -/
theorem scoresR_apply (q : FVec Ideal S8x32768x160 .bf16) (k : FVec Ideal S32768x160 .bf16) (hq : ∀ j, IsReal (q j)) (hk : ∀ j, IsReal (k j))
    (b : Fin 16) (h : Fin 8) (t j : Fin 2048) (hR : b.val * 2048 + t.val < 32768) :
    scoresR q k (ix4 b h t j) = masked (scA q k h ⟨b.val * 2048 + t.val, hR⟩) t j := by
  have bt : t.val < 2 ^ 31 := by omega
  have bj : j.val < 2 ^ 31 := by omega
  unfold scoresR; pointwise
  have hd : (∑ x : Fin 160, q (ix3 h (⟨b.val * 2048 + t.val, hR⟩ : Fin 32768) x) * k (ix2 (⟨b.val * 2048 + j.val, by omega⟩ : Fin 32768) x)) * Ideal.ofBits FTy.f32 1037108716#32
      = ((scA q k h ⟨b.val * 2048 + t.val, hR⟩ j : ℝ) : EReal) := by
    have e : (⟨b.val * 2048 + j.val, by omega⟩ : Fin 32768) = ⟨((⟨b.val * 2048 + t.val, hR⟩ : Fin 32768).val / 2048 * 2048 + j.val) % 32768, by omega⟩ := by
      apply Fin.ext; show b.val * 2048 + j.val = ((b.val * 2048 + t.val) / 2048 * 2048 + j.val) % 32768; omega
    have hr : IsReal (dotA q k h ⟨b.val * 2048 + t.val, hR⟩ j) := IsReal.mul (IsReal.sum _ _ fun x _ => (hq _).mul (hk _)) isReal_scale
    rw [e]
    exact hr
  rw [hd, sle_ofNat _ _ bj bt, select_ite]
  have hi : id (constant (F := Ideal) S_ FTy.f32 4286578688#32) ix0 = ⊥ := ninf
  rw [hi]
  rfl

/-- The reference's result at an index is the attention there, on real queries and rows. -/
theorem ref_attn_at (q : FVec Ideal S8x32768x160 .bf16) (k : FVec Ideal S32768x160 .bf16) (w : FVec Ideal S8x128x64 .bf16)
    (hq : ∀ j, IsReal (q j)) (hk : ∀ j, IsReal (k j))
    (R : Fin 32768) (d : Fin 512) : outR (expR (scoresR q k) (maxR (scoresR q k))) k w (ix2 R d) = attn q k w (ix2 R d) := by
  have b1 : R.val / 2048 < 16 := by omega
  have b2 : R.val % 2048 < 2048 := by omega
  have b3 : d.val / 64 < 8 := by omega
  rw [outR_apply]
  unfold attn
  refine Finset.sum_congr rfl fun e _ => ?_
  rw [mul_comm]
  refine congrArg (· * _) ?_
  have hs : ∀ j : Fin 2048, scoresR q k (ix4 (⟨R.val / 2048, b1⟩ : Fin 16) (⟨d.val / 64, b3⟩ : Fin 8) (⟨R.val % 2048, b2⟩ : Fin 2048) j)
      = masked (scA q k ⟨d.val / 64, b3⟩ R) (R.val % 2048) j := fun j => by
    rw [scoresR_apply q k hq hk _ _ _ _ (by show R.val / 2048 * 2048 + R.val % 2048 < 32768; omega)]
    have e : (⟨R.val / 2048 * 2048 + R.val % 2048, by omega⟩ : Fin 32768) = R := Fin.ext (by show R.val / 2048 * 2048 + R.val % 2048 = R.val; omega)
    rw [e]
  have hm := maxR_apply (scoresR q k) (⟨R.val / 2048, b1⟩ : Fin 16) (⟨d.val / 64, b3⟩ : Fin 8) (⟨R.val % 2048, b2⟩ : Fin 2048)
  have hv : ∀ j : Fin 2048, k (ix2 (⟨R.val / 2048 * 2048 + j.val, by omega⟩ : Fin 32768) (⟨e.val, by omega⟩ : Fin 160)) = ((valA k R e j : ℝ) : EReal) := fun j => by
    have e' : (⟨R.val / 2048 * 2048 + j.val, by omega⟩ : Fin 32768) = ⟨(R.val / 2048 * 2048 + j.val) % 32768, by omega⟩ := by
      apply Fin.ext; show R.val / 2048 * 2048 + j.val = (R.val / 2048 * 2048 + j.val) % 32768; omega
    rw [e']
    exact hk _
  simp only [expR_apply, hs, hv] at hm ⊢
  exact softmax_mean _ _ _ 2048 b2 _ hm

/-- THE REFERENCE'S RESULT is the attention of its arguments, on real queries and rows. -/
theorem ref_attn (m : (ℓ : Loc nD τ sig) → Buf (Elt Ideal) ℓ) (c : Dev nD) (q : FVec Ideal S8x32768x160 .bf16) (k : FVec Ideal S32768x160 .bf16)
    (w : FVec Ideal S8x128x64 .bf16) (eq : m ((c.tc : Thread nD τ).loc main_arg0) = q) (ek : m ((c.tc : Thread nD τ).loc main_arg1) = k)
    (ew : m ((c.tc : Thread nD τ).loc main_arg2) = w) (hq : ∀ j, IsReal (q j)) (hk : ∀ j, IsReal (k j)) :
    Cert.ReferenceIdeal.Value.res_main_v32 (F := Ideal) m c = attn q k w := by
  subst eq ek ew
  refine (res_eq m c).trans ?_
  funext y
  have hy : y = ix2 (y 0) (y 1) := by funext a; match a with | ⟨0, _⟩ => rfl | ⟨1, _⟩ => rfl
  rw [hy]
  exact ref_attn_at _ _ _ hq hk (y 0) (y 1)

end Cert.Mla
-- ==== Proof.Finite.lean ====
module

public import proofs.«01_k».proof.Proof.Gen.Pre_finite
public import proofs.«01_k».proof.Proof.Real
public import Idealize.ShloMosaic.Lib.ReduceAll
public import Idealize.ShloMosaic.Lib.Affine
public import Idealize.ShloMosaic.Lib.KernelVsHost

@[expose] public section

set_option maxRecDepth 16384

noncomputable section

/-! # What the precondition says -/

namespace Cert.Mla

open Cert.Pre_finite Cert.Pre_finite.Gen Idealize.ShloMosaic

/-- An array all of whose magnitudes compare below plus infinity has real entries. -/
theorem real_of_all {s : Shape} {axes : List (Fin s.rank)} (x : FVec Ideal s .bf16) (hb : S_.BroadcastsInDim s (![] : Fin 0 → Fin s.rank))
    (hr : s.ReducesTo axes S_) (hu : 0 < S_.numel) (hlt : FTy.bits .bf16 < FTy.bits .f32) (j : S_.Idx)
    (e : Host.reduce IntOp.andi (cmpf .olt (Host.absf (extf .f32 x hlt)) (broadcastInDim s ![] hb (constant (F := Ideal) S_ .f32 0x7F800000#32)))
        (constantI S_ 1 1#1) hr hu j = 1#1) (i : s.Idx) : IsReal (x i) := by
  have h : FloatOps.cmpf .olt (FloatOps.hostAbsf (F := Ideal) (φ := .f32) (x i)) (FloatOps.ofBits (F := Ideal) .f32 0x7F800000#32) = 1#1 :=
    Host.reduce_andi_all _ _ hr hu j e i
  rw [← Ideal.xori_weird_eq_hostAbsf_olt_inf] at h
  by_cases hw : (x i : EReal) = ⊤ ∨ (x i : EReal) = ⊥
  · have hb : FloatOps.weird (show Ideal .f32 from x i) = 1#1 := by
      show BitVec.ofBool (decide ((x i : EReal) = ⊤ ∨ (x i : EReal) = ⊥)) = 1#1
      simp [hw]
    rw [hb] at h
    exact absurd h (by decide)
  · exact isReal_of_abs_lt ⟨fun e => hw (Or.inl e), fun e => hw (Or.inr e)⟩

/-- Under the precondition every query entry and every row entry is a real number. -/
theorem real_of_pre (q : FVec Ideal S8x32768x160 .bf16) (k : FVec Ideal S32768x160 .bf16) (w : FVec Ideal S8x128x64 .bf16)
    (h : Cert.Pre_finite.fn q k w = fun _ => 1#1) : (∀ j, IsReal (q j)) ∧ ∀ j, IsReal (k j) := by
  have h' := congrFun h (Shape.Idx.first h_S_)
  dsimp only [fn] at h'
  obtain ⟨h0, h1⟩ := IntOp.andi_eq_one.1 h'
  exact ⟨real_of_all q _ _ _ _ _ h0, real_of_all k _ _ _ _ _ h1⟩

end Cert.Mla
-- ==== Proof.Row.lean ====
module

public import Idealize.ShloMosaic.Lib.Pointwise

@[expose] public section

noncomputable section

/-! # One row of the layer's dense parts, as extended reals -/

namespace Cert.Row

open Idealize.ShloMosaic

/-- A row's root-mean-square normalisation, times the gains `g`. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- The feed-forward block on a row: the row plus the gated product of its normalisation, sent through the last matrix. -/
def ffn (x g : Fin 1024 → EReal) (wg wu : Fin 1024 → Fin 2816 → EReal) (wd : Fin 2816 → Fin 1024 → EReal) (j : Fin 1024) : EReal :=
  x j + ∑ k, (∑ i, norm x g i * wg i k) * Ideal.logistic (∑ i, norm x g i * wg i k) * (∑ i, norm x g i * wu i k) * wd k j

/-- A branch's gate at column `j`, from the branch's columns of the input projection. -/
def gate (x g : Fin 1024 → EReal) (w : Fin 1024 → Fin 1024 → EReal) (j : Fin 1024) : EReal :=
  Ideal.logistic (∑ i, norm x g i * w i j)

/-- A row of a branch times the branch's matrix, at column `j`. -/
def branch (o : Fin 512 → EReal) (w : Fin 512 → Fin 1024 → EReal) (j : Fin 1024) : EReal := ∑ i, o i * w i j

/-- The gated mix of three branches on a row, sent through the output matrix and added to the row. -/
def merge (x g : Fin 1024 → EReal) (w0 w1 w2 : Fin 1024 → Fin 1024 → EReal) (o0 o1 o2 : Fin 512 → EReal)
    (b0 b1 b2 : Fin 512 → Fin 1024 → EReal) (wo : Fin 1024 → Fin 1024 → EReal) (j : Fin 1024) : EReal :=
  x j + ∑ k, (gate x g w0 k * branch o0 b0 k + gate x g w1 k * branch o1 b1 k + gate x g w2 k * branch o2 b2 k) * wo k j

end Cert.Row
-- ==== Proof.Ffn.lean ====
module

public import proofs.«01_k».proof.Proof.Gen.Kernel2Ideal.Value
public import Idealize.ShloMosaic.Lib.Pointwise
public import Idealize.ShloMosaic.Lib.Pipeline.ValueKit
public import proofs.«01_k».proof.Proof.Row

@[expose] public section

set_option maxRecDepth 16384

noncomputable section

/-! # The feed-forward kernel's two result arrays, at an index -/

namespace Cert.Ffn

open Cert.Kernel2Ideal Cert.Kernel2Ideal.Gen Idealize.ShloMosaic Idealize.ShloMosaic.TcCoe Idealize.SL.Sem
open Idealize.ShloMosaic.Pipeline (Dat)

/-! ## One block -/

/-- The first result's block at an index is the feed-forward block on the index's row. -/
theorem pay2_apply (x : Vec Ideal S256x1024 .f32) (g : Vec Ideal S1x1024 .f32) (wg wu : Vec Ideal S1024x2816 .bf16) (wd : Vec Ideal S2816x1024 .bf16)
    (r : Fin 256) (d : Fin 1024) :
    k0_pay2 (F := Ideal) x g wg wu wd (ix2 r d)
      = Row.ffn (fun i => x (ix2 r i)) (fun i => g (ix2 (0 : Fin 1) i)) (fun i k => wg (ix2 i k)) (fun i k => wu (ix2 i k)) (fun k j => wd (ix2 k j)) d := by
  unfold k0_pay2
  pointwise
  rfl

/-- The mean of the squares of the first result's row. -/
theorem pay3_apply (x : Vec Ideal S256x1024 .f32) (g : Vec Ideal S1x1024 .f32) (wg wu : Vec Ideal S1024x2816 .bf16) (wd : Vec Ideal S2816x1024 .bf16)
    (r : Fin 256) :
    k0_pay3 (F := Ideal) x g wg wu wd (ix2 r (0 : Fin 1))
      = Ideal.div (∑ k : Fin 1024, k0_pay2 (F := Ideal) x g wg wu wd (ix2 r k) * k0_pay2 (F := Ideal) x g wg wu wd (ix2 r k)) (Ideal.ofBits .f32 0x44800000#32) := by
  unfold k0_pay3
  generalize k0_pay2 (F := Ideal) x g wg wu wd = z
  pointwise

/-- The second result's block at an index is the normalisation of the first result's row. -/
theorem pay1_apply (x : Vec Ideal S256x1024 .f32) (g : Vec Ideal S1x1024 .f32) (wg wu : Vec Ideal S1024x2816 .bf16) (wd : Vec Ideal S2816x1024 .bf16)
    (gf : Vec Ideal S1x1024 .f32) (r : Fin 256) (d : Fin 1024) :
    k0_pay1 (F := Ideal) (k0_pay2 x g wg wu wd) (k0_pay3 x g wg wu wd) k0_pay4 gf (ix2 r d)
      = Row.norm (fun i => k0_pay2 (F := Ideal) x g wg wu wd (ix2 r i)) (fun i => gf (ix2 (0 : Fin 1) i)) d := by
  have h3 := pay3_apply x g wg wu wd r
  unfold Row.norm
  beta_reduce
  rw [← h3]
  generalize k0_pay3 (F := Ideal) x g wg wu wd = y
  generalize k0_pay2 (F := Ideal) x g wg wu wd = z
  unfold k0_pay1 k0_pay4
  pointwise

/-- What one point leaves in the first result's staging buffer. -/
theorem out6_eq (x : Vec Ideal S256x1024 .f32) (g : Vec Ideal S1x1024 .f32) (wg wu : Vec Ideal S1024x2816 .bf16) (wd : Vec Ideal S2816x1024 .bf16)
    (gf : Vec Ideal S1x1024 .f32) : out0_6 (F := Ideal) x g wg wu wd gf = k0_pay2 x g wg wu wd := by
  frame_out

/-- What one point leaves in the second result's staging buffer. -/
theorem out7_eq (x : Vec Ideal S256x1024 .f32) (g : Vec Ideal S1x1024 .f32) (wg wu : Vec Ideal S1024x2816 .bf16) (wd : Vec Ideal S2816x1024 .bf16)
    (gf : Vec Ideal S1x1024 .f32) :
    out0_7 (F := Ideal) x g wg wu wd gf = k0_pay1 (k0_pay2 x g wg wu wd) (k0_pay3 x g wg wu wd) k0_pay4 gf := by
  frame_out

/-! ## The arrays the region finds -/

variable (m : (ℓ : Loc nD τ sig) → Buf (Elt Ideal) ℓ)

/-- Device `c`'s rows. -/
abbrev xs (c : Dev nD) : FVec Ideal S32768x1024 .f32 := m ((c : Thread nD τ).loc main_arg0)
/-- Device `c`'s gains of the first normalisation. -/
abbrev gs (c : Dev nD) : FVec Ideal S1024 .f32 := m ((c : Thread nD τ).loc main_arg1)
/-- Device `c`'s gate matrix. -/
abbrev wgs (c : Dev nD) : FVec Ideal S1024x2816 .f32 := m ((c : Thread nD τ).loc main_arg2)
/-- Device `c`'s up matrix. -/
abbrev wus (c : Dev nD) : FVec Ideal S1024x2816 .f32 := m ((c : Thread nD τ).loc main_arg3)
/-- Device `c`'s down matrix. -/
abbrev wds (c : Dev nD) : FVec Ideal S2816x1024 .f32 := m ((c : Thread nD τ).loc main_arg4)
/-- Device `c`'s gains of the last normalisation. -/
abbrev gfs (c : Dev nD) : FVec Ideal S1024 .f32 := m ((c : Thread nD τ).loc main_arg5)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host4 (c : Dev nD) (j : Fin 1024) : V m c main_v4 (ix2 (0 : Fin 1) j) = gfs m c (ix1 j) := by
  have e : V m c main_v4 = broadcastInDim S1x1024 ![1] bcast_S1024_S1x1024_1 (gfs m c) := by
    unfold_abbrev_sides
    after_results_simp
  rw [e]
  pointwise

theorem host1 (c : Dev nD) : V m c main_v1 = wgs m c := by
  unfold_abbrev_sides
  after_results_simp
  rfl

theorem host2 (c : Dev nD) : V m c main_v2 = wus m c := by
  unfold_abbrev_sides
  after_results_simp
  rfl

theorem host3 (c : Dev nD) : V m c main_v3 = wds m c := by
  unfold_abbrev_sides
  after_results_simp
  rfl

theorem N_eq : cfg0.N = 128 := by decide

/-- Where each point's blocks lie. -/
theorem idx_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The row of the whole array at place `r` of point `t`'s block. -/
abbrev rowAt (t : Fin cfg0.N) (r : Fin 256) : Fin 32768 := ⟨t.val * 256 + r.val, by have := t.isLt; have := N_eq; omega⟩

theorem x_blk (c : Dev nD) (t : Fin cfg0.N) (r : Fin 256) (i : Fin 1024) : iblk m c 0 t (ix2 r i) = xs m c (ix2 (rowAt t r) i) := by
  have e0 := (idx_facts t).1
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := (idx_facts t).2.1
  refine Eq.trans (b := V m c main_v0 (ix2 (0 : Fin 1) i)) ?_ (host0 m c i)
  blk_ext [iblk, e0]

theorem wg_blk (c : Dev nD) (t : Fin cfg0.N) (i : Fin 1024) (k : Fin 2816) : iblk m c 2 t (ix2 i k) = wgs m c (ix2 i k) := by
  have e0 := (idx_facts t).2.2.1
  refine Eq.trans (b := V m c main_v1 (ix2 i k)) ?_ (congrFun (host1 m c) _)
  blk_ext [iblk, e0]

theorem wu_blk (c : Dev nD) (t : Fin cfg0.N) (i : Fin 1024) (k : Fin 2816) : iblk m c 3 t (ix2 i k) = wus m c (ix2 i k) := by
  have e0 := (idx_facts t).2.2.2.1
  refine Eq.trans (b := V m c main_v2 (ix2 i k)) ?_ (congrFun (host2 m c) _)
  blk_ext [iblk, e0]

theorem wd_blk (c : Dev nD) (t : Fin cfg0.N) (k : Fin 2816) (i : Fin 1024) : iblk m c 4 t (ix2 k i) = wds m c (ix2 k i) := by
  have e0 := (idx_facts t).2.2.2.2.1
  refine Eq.trans (b := V m c main_v3 (ix2 k i)) ?_ (congrFun (host3 m c) _)
  blk_ext [iblk, e0]

theorem gf_blk (c : Dev nD) (t : Fin cfg0.N) (i : Fin 1024) : iblk m c 5 t (ix2 (0 : Fin 1) i) = gfs m c (ix1 i) := by
  have e0 := (idx_facts t).2.2.2.2.2.1
  refine Eq.trans (b := V m c main_v4 (ix2 (0 : Fin 1) i)) ?_ (host4 m c i)
  blk_ext [iblk, e0]

/-! ## The whole arrays -/

/-- THE FEED-FORWARD BLOCK, at an index of the whole array. -/
def mid (x : FVec Ideal S32768x1024 .f32) (g : FVec Ideal S1024 .f32) (wg wu : FVec Ideal S1024x2816 .f32) (wd : FVec Ideal S2816x1024 .f32)
    (y : S32768x1024.Idx) : EReal :=
  Row.ffn (fun i => x (ix2 (y 0) i)) (fun i => g (ix1 i)) (fun i k => wg (ix2 i k)) (fun i k => wu (ix2 i k)) (fun k j => wd (ix2 k j)) (y 1)

/-- An array's rows normalised, at an index. -/
def normed (x : S32768x1024.Idx → EReal) (g : FVec Ideal S1024 .f32) (y : S32768x1024.Idx) : EReal :=
  Row.norm (fun i => x (ix2 (y 0) i)) (fun i => g (ix1 i)) (y 1)

theorem emb6 (t : Fin cfg0.N) (r : Fin 256) (d : Fin 1024) :
    ((cfg0.win 6).blk t).view.emb (ix2 r d) = (ix2 (rowAt t r) d : S32768x1024.Idx) := by
  have e := (idx_facts t).2.2.2.2.2.2.1
  funext a; apply Fin.ext
  match a with
  | ⟨0, _⟩ => show win0_6.index t (0 : Fin 2) * 256 + 1 * r.val = t.val * 256 + r.val; rw [e]; simp
  | ⟨1, _⟩ => show win0_6.index t (1 : Fin 2) * 1024 + 1 * d.val = d.val; rw [e]; simp

theorem emb7 (t : Fin cfg0.N) (r : Fin 256) (d : Fin 1024) :
    ((cfg0.win 7).blk t).view.emb (ix2 r d) = (ix2 (rowAt t r) d : S32768x1024.Idx) := by
  have e := (idx_facts t).2.2.2.2.2.2.2
  funext a; apply Fin.ext
  match a with
  | ⟨0, _⟩ => show win0_7.index t (0 : Fin 2) * 256 + 1 * r.val = t.val * 256 + r.val; rw [e]; simp
  | ⟨1, _⟩ => show win0_7.index t (1 : Fin 2) * 1024 + 1 * d.val = d.val; rw [e]; simp

/-- The first payload, from a point's blocks, is the feed-forward block at the whole array's row. -/
theorem pay2_blk (c : Dev nD) (t : Fin cfg0.N) (r : Fin 256) (d : Fin 1024) :
    k0_pay2 (F := Ideal) (iblk m c 0 t) (iblk m c 1 t) (iblk m c 2 t) (iblk m c 3 t) (iblk m c 4 t) (ix2 r d)
      = mid (xs m c) (gs m c) (wgs m c) (wus m c) (wds m c) (ix2 (rowAt t r) d) := by
  rw [pay2_apply]
  simp only [x_blk, g_blk, wg_blk, wu_blk, wd_blk]
  rfl

/-- What one point writes to the first result, at an index. -/
theorem out6_blk (c : Dev nD) (t : Fin cfg0.N) (r : Fin 256) (d : Fin 1024) :
    out0_6 (F := Ideal) (iblk m c 0 t) (iblk m c 1 t) (iblk m c 2 t) (iblk m c 3 t) (iblk m c 4 t) (iblk m c 5 t) (ix2 r d)
      = mid (xs m c) (gs m c) (wgs m c) (wus m c) (wds m c) (((cfg0.win 6).blk t).view.emb (ix2 r d)) := by
  rw [emb6, out6_eq, pay2_blk]

/-- What one point writes to the second result, at an index. -/
theorem out7_blk (c : Dev nD) (t : Fin cfg0.N) (r : Fin 256) (d : Fin 1024) :
    out0_7 (F := Ideal) (iblk m c 0 t) (iblk m c 1 t) (iblk m c 2 t) (iblk m c 3 t) (iblk m c 4 t) (iblk m c 5 t) (ix2 r d)
      = normed (mid (xs m c) (gs m c) (wgs m c) (wus m c) (wds m c)) (gfs m c) (((cfg0.win 7).blk t).view.emb (ix2 r d)) := by
  rw [emb7, out7_eq, pay1_apply]
  simp only [pay2_blk, gf_blk]
  rfl

/-- THE FIRST RESULT ARRAY is the feed-forward block of the arguments. -/
theorem final6 (c : Dev nD) : (dats m 0 c).arrAt 6 cfg0.N = mid (xs m c) (gs m c) (wgs m c) (wus m c) (wds m c) := by
  refine (dats m 0 c).arrAt_eq_of_covers 6 _ (by decide +kernel) fun t hf y => ?_
  refine (congrFun (Cert.Kernel2Ideal.Value.flushed6 m c t) y).trans ?_
  have hy : y = ix2 (y 0) (y 1) := by funext a; match a with | ⟨0, _⟩ => rfl | ⟨1, _⟩ => rfl
  rw [hy]
  exact out6_blk m c t (y 0) (y 1)

/-- THE SECOND RESULT ARRAY is the normalisation of the first. -/
theorem final7 (c : Dev nD) : (dats m 0 c).arrAt 7 cfg0.N = normed (mid (xs m c) (gs m c) (wgs m c) (wus m c) (wds m c)) (gfs m c) := by
  refine (dats m 0 c).arrAt_eq_of_covers 7 _ (by decide +kernel) fun t hf y => ?_
  refine (congrFun (Cert.Kernel2Ideal.Value.flushed7 m c t) y).trans ?_
  have hy : y = ix2 (y 0) (y 1) := by funext a; match a with | ⟨0, _⟩ => rfl | ⟨1, _⟩ => rfl
  rw [hy]
  exact out7_blk m c t (y 0) (y 1)

end Cert.Ffn
-- ==== Proof.FfnRef.lean ====
module

public import proofs.«01_k».proof.Proof.Gen.Reference2Ideal.Run
public import proofs.«01_k».proof.Proof.Ffn

@[expose] public section

set_option maxRecDepth 16384

noncomputable section

/-! # The feed-forward reference's two result arrays, at an index -/

namespace Cert.Ffn

open Cert.Reference2Ideal Cert.Reference2Ideal.Gen Idealize.ShloMosaic Idealize.ShloMosaic.TcCoe Idealize.SL.Sem

/-- The reference's normalisation. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
      (Host.divf (broadcastInDim S32768x1 ![0] bcast_S32768_S32768x1_0 (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's `p · 1 / (1 + exp (−p))`. -/
def siluR (p : FVec Ideal S32768x2816 .f32) : FVec Ideal S32768x2816 .f32 :=
  mulf p (Host.divf (broadcastInDim S32768x2816 ![] bcast_S_S32768x2816 (constant S_ .f32 0x3F800000#32))
    (addf (broadcastInDim S32768x2816 ![] bcast_S_S32768x2816 (constant S_ .f32 0x3F800000#32)) (Host.exp (Host.negf p))))

/-- The reference's gate and up products. -/
def prodR (h : FVec Ideal S32768x1024 .f32) (w : FVec Ideal S1024x2816 .f32) : FVec Ideal S32768x2816 .f32 :=
  Host.dotGeneral dot_S32768x1024_S1024x2816_S32768x2816_1_0_0_1_n_n none h w

/-- The reference's last product, added to the rows. -/
def downR (x : FVec Ideal S32768x1024 .f32) (s u : FVec Ideal S32768x2816 .f32) (w : FVec Ideal S2816x1024 .f32) : FVec Ideal S32768x1024 .f32 :=
  addf x (Host.dotGeneral dot_S32768x2816_S2816x1024_S32768x1024_1_0_0_1_n_n none (mulf s u) w)

/-- The reference's first result. -/
def midR (x : FVec Ideal S32768x1024 .f32) (g : FVec Ideal S1024 .f32) (wg wu : FVec Ideal S1024x2816 .f32) (w : FVec Ideal S2816x1024 .f32) : FVec Ideal S32768x1024 .f32 :=
  downR x (siluR (prodR (normR x g) wg)) (prodR (normR x g) wu) w

/-- The run's second result is the normalisation of the first. -/
theorem res_eq (m : (ℓ : Loc nD τ sig) → Buf (Elt Ideal) ℓ) (c : Dev nD) :
    Cert.Reference2Ideal.Value.res_main_v31 (F := Ideal) m c
      = normR (midR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg5)) := rfl

theorem normR_apply (x : FVec Ideal S32768x1024 .f32) (g : FVec Ideal S1024 .f32) (r : Fin 32768) (d : Fin 1024) :
    normR x g (ix2 r d) = Row.norm (fun i => x (ix2 r i)) (fun i => g (ix1 i)) d := by
  unfold normR
  pointwise
  rfl

theorem siluR_apply (p : FVec Ideal S32768x2816 .f32) (r : Fin 32768) (d : Fin 2816) : siluR p (ix2 r d) = p (ix2 r d) * Ideal.logistic (p (ix2 r d)) := by
  unfold siluR
  pointwise
  rfl

theorem prodR_apply (h : FVec Ideal S32768x1024 .f32) (w : FVec Ideal S1024x2816 .f32) (r : Fin 32768) (d : Fin 2816) :
    prodR h w (ix2 r d) = ∑ i : Fin 1024, h (ix2 r i) * w (ix2 i d) := by
  unfold prodR
  pointwise

theorem downR_apply (x : FVec Ideal S32768x1024 .f32) (s u : FVec Ideal S32768x2816 .f32) (w : FVec Ideal S2816x1024 .f32) (r : Fin 32768) (d : Fin 1024) :
    downR x s u w (ix2 r d) = x (ix2 r d) + ∑ k : Fin 2816, s (ix2 r k) * u (ix2 r k) * w (ix2 k d) := by
  unfold downR
  pointwise

/-- The reference's first result is the feed-forward block. -/
theorem midR_eq (x : FVec Ideal S32768x1024 .f32) (g : FVec Ideal S1024 .f32) (wg wu : FVec Ideal S1024x2816 .f32) (w : FVec Ideal S2816x1024 .f32) :
    midR x g wg wu w = mid x g wg wu w := by
  funext y
  have key : ∀ (r : Fin 32768) (d : Fin 1024), midR x g wg wu w (ix2 r d) = mid x g wg wu w (ix2 r d) := fun r d => by
    unfold midR
    simp only [downR_apply, siluR_apply, prodR_apply, normR_apply]
    rfl
  have hy : y = ix2 (y 0) (y 1) := by funext a; match a with | ⟨0, _⟩ => rfl | ⟨1, _⟩ => rfl
  rw [hy]
  exact key (y 0) (y 1)

/-- The reference's normalisation is a row's. -/
theorem normR_eq (x : FVec Ideal S32768x1024 .f32) (g : FVec Ideal S1024 .f32) : normR x g = normed x g := by
  funext y
  have hy : y = ix2 (y 0) (y 1) := by funext a; match a with | ⟨0, _⟩ => rfl | ⟨1, _⟩ => rfl
  rw [hy]
  exact normR_apply x g (y 0) (y 1)

end Cert.Ffn
-- ==== Proof.Merge.lean ====
module

public import proofs.«01_k».proof.Proof.Gen.Kernel3Ideal.Value
public import Idealize.ShloMosaic.Lib.Pointwise
public import Idealize.ShloMosaic.Lib.Pipeline.ValueKit
public import proofs.«01_k».proof.Proof.Row

@[expose] public section

set_option maxRecDepth 16384

noncomputable section

/-! # The merge kernel's result array, at an index -/

namespace Cert.Merge

open Cert.Kernel3Ideal Cert.Kernel3Ideal.Gen Idealize.ShloMosaic Idealize.ShloMosaic.TcCoe Idealize.SL.Sem
open Idealize.ShloMosaic.Pipeline (Dat)

/-! ## One block -/

/-- The gates of all three branches, at an index. -/
theorem pay2_apply (x : Vec Ideal S256x1024 .f32) (g : Vec Ideal S1x1024 .f32) (w : Vec Ideal S1024x3072 .bf16) (r : Fin 256) (k : Fin 3072) :
    k0_pay2 (F := Ideal) x g w (ix2 r k)
      = Ideal.logistic (∑ i : Fin 1024, Row.norm (fun i => x (ix2 r i)) (fun i => g (ix2 (0 : Fin 1) i)) i * w (ix2 i k)) := by
  unfold k0_pay2
  pointwise
  rfl

/-- The first two branches' share of the mix, from the gates `z`. -/
theorem pay3_apply (x : Vec Ideal S256x1024 .f32) (g : Vec Ideal S1x1024 .f32) (w : Vec Ideal S1024x3072 .bf16)
    (o0 : Vec Ideal S256x512 .bf16) (b0 : Vec Ideal S1x512x1024 .bf16) (o1 : Vec Ideal S256x512 .bf16) (b1 : Vec Ideal S1x512x1024 .bf16)
    (r : Fin 256) (d : Fin 1024) :
    k0_pay3 (F := Ideal) x g w o0 b0 o1 b1 (ix2 r d)
      = k0_pay2 (F := Ideal) x g w (ix2 r (⟨d.val, by omega⟩ : Fin 3072)) * Row.branch (fun i => o0 (ix2 r i)) (fun i j => b0 (ix3 (0 : Fin 1) i j)) d
        + k0_pay2 (F := Ideal) x g w (ix2 r (⟨1024 + d.val, by omega⟩ : Fin 3072)) * Row.branch (fun i => o1 (ix2 r i)) (fun i j => b1 (ix3 (0 : Fin 1) i j)) d := by
  unfold k0_pay3
  generalize k0_pay2 (F := Ideal) x g w = z
  pointwise
  rfl

/-- The last branch's gate. -/
theorem pay4_apply (x : Vec Ideal S256x1024 .f32) (g : Vec Ideal S1x1024 .f32) (w : Vec Ideal S1024x3072 .bf16) (r : Fin 256) (d : Fin 1024) :
    k0_pay4 (F := Ideal) x g w (ix2 r d) = k0_pay2 (F := Ideal) x g w (ix2 r (⟨2048 + d.val, by omega⟩ : Fin 3072)) := by
  unfold k0_pay4
  generalize k0_pay2 (F := Ideal) x g w = z
  pointwise

/-- The block, from the first two branches' share `y` and the last branch's gate `z`. -/
theorem pay1_apply (x : Vec Ideal S256x1024 .f32) (y z : FVec Ideal S256x1024 .f32) (o : Vec Ideal S256x512 .bf16) (b : Vec Ideal S1x512x1024 .bf16)
    (wo : Vec Ideal S1024x1024 .bf16) (r : Fin 256) (d : Fin 1024) :
    k0_pay1 (F := Ideal) x y z o b wo (ix2 r d)
      = x (ix2 r d) + ∑ k : Fin 1024, (y (ix2 r k) + z (ix2 r k) * Row.branch (fun i => o (ix2 r i)) (fun i j => b (ix3 (0 : Fin 1) i j)) k) * wo (ix2 k d) := by
  unfold k0_pay1
  pointwise
  rfl

/-- One branch's matrix, as the body loads it. -/
def mat (b : Vec Ideal S3x512x1024 .bf16) (p : ℕ) (h : ∀ a, (![p, 0, 0] : Fin 3 → ℕ) a + S1x512x1024.size a ≤ S3x512x1024.size a) : Vec Ideal S1x512x1024 .bf16 :=
  View.ld b (Rect.unit (s := S3x512x1024) ![p, 0, 0] S1x512x1024.size h)

theorem mat_apply (b : Vec Ideal S3x512x1024 .bf16) (p : ℕ) (hp : p < 3) (h : ∀ a, (![p, 0, 0] : Fin 3 → ℕ) a + S1x512x1024.size a ≤ S3x512x1024.size a)
    (i : Fin 512) (j : Fin 1024) : mat b p h (ix3 (0 : Fin 1) i j) = b (ix3 (⟨p, hp⟩ : Fin 3) i j) := by
  show b _ = b _
  congr 1
  funext a; apply Fin.ext
  match a with
  | ⟨0, _⟩ => show p + 1 * 0 = p; omega
  | ⟨1, _⟩ => show 0 + 1 * i.val = i.val; omega
  | ⟨2, _⟩ => show 0 + 1 * j.val = j.val; omega

/-- What one point leaves in the result's staging buffer. -/
theorem out_eq (x0 : Vec Ideal S256x1024 .f32) (x1 : Vec Ideal S1x1024 .f32) (x2 : Vec Ideal S1024x3072 .bf16) (x3 x4 x5 : Vec Ideal S256x512 .bf16)
    (x6 : Vec Ideal S3x512x1024 .bf16) (x7 : Vec Ideal S1024x1024 .bf16) :
    out0_8 (F := Ideal) x0 x1 x2 x3 x4 x5 x6 x7
      = k0_pay1 x0 (k0_pay3 x0 x1 x2 x3 (mat x6 0 inb_S3x512x1024_S1x512x1024_0_0_0) x4 (mat x6 1 inb_S3x512x1024_S1x512x1024_1_0_0)) (k0_pay4 x0 x1 x2)
          x5 (mat x6 2 inb_S3x512x1024_S1x512x1024_2_0_0) x7 := by
  frame_out
  rfl

/-- What one point leaves in the result's staging buffer, at an index: the merge of the index's row. -/
theorem out_apply (x0 : Vec Ideal S256x1024 .f32) (x1 : Vec Ideal S1x1024 .f32) (x2 : Vec Ideal S1024x3072 .bf16) (x3 x4 x5 : Vec Ideal S256x512 .bf16)
    (x6 : Vec Ideal S3x512x1024 .bf16) (x7 : Vec Ideal S1024x1024 .bf16) (r : Fin 256) (d : Fin 1024) :
    out0_8 (F := Ideal) x0 x1 x2 x3 x4 x5 x6 x7 (ix2 r d)
      = Row.merge (fun i => x0 (ix2 r i)) (fun i => x1 (ix2 (0 : Fin 1) i))
          (fun i j => x2 (ix2 i (⟨j.val, by omega⟩ : Fin 3072))) (fun i j => x2 (ix2 i (⟨1024 + j.val, by omega⟩ : Fin 3072)))
          (fun i j => x2 (ix2 i (⟨2048 + j.val, by omega⟩ : Fin 3072)))
          (fun i => x3 (ix2 r i)) (fun i => x4 (ix2 r i)) (fun i => x5 (ix2 r i))
          (fun i j => x6 (ix3 (0 : Fin 3) i j)) (fun i j => x6 (ix3 (1 : Fin 3) i j)) (fun i j => x6 (ix3 (2 : Fin 3) i j)) (fun i j => x7 (ix2 i j)) d := by
  rw [out_eq, pay1_apply]
  simp only [pay3_apply, pay4_apply, pay2_apply, mat_apply _ 0 (by decide), mat_apply _ 1 (by decide), mat_apply _ 2 (by decide)]
  rfl

/-! ## The arrays the region finds -/

variable (m : (ℓ : Loc nD τ sig) → Buf (Elt Ideal) ℓ)

/-- Device `c`'s rows. -/
abbrev xs (c : Dev nD) : FVec Ideal S32768x1024 .f32 := m ((c : Thread nD τ).loc main_arg0)
/-- Device `c`'s gains of the normalisation. -/
abbrev gs (c : Dev nD) : FVec Ideal S1024 .f32 := m ((c : Thread nD τ).loc main_arg1)
/-- Device `c`'s input projection, whose last 3072 columns are the gates'. -/
abbrev ws (c : Dev nD) : FVec Ideal S1024x5632 .f32 := m ((c : Thread nD τ).loc main_arg2)
/-- Device `c`'s first branch. -/
abbrev o0s (c : Dev nD) : FVec Ideal S32768x512 .bf16 := m ((c : Thread nD τ).loc main_arg3)
/-- Device `c`'s second branch. -/
abbrev o1s (c : Dev nD) : FVec Ideal S32768x512 .bf16 := m ((c : Thread nD τ).loc main_arg4)
/-- Device `c`'s third branch. -/
abbrev o2s (c : Dev nD) : FVec Ideal S32768x512 .bf16 := m ((c : Thread nD τ).loc main_arg5)
/-- Device `c`'s first branch's matrix. -/
abbrev b0s (c : Dev nD) : FVec Ideal S512x1024 .f32 := m ((c : Thread nD τ).loc main_arg6)
/-- Device `c`'s second branch's matrix. -/
abbrev b1s (c : Dev nD) : FVec Ideal S512x1024 .f32 := m ((c : Thread nD τ).loc main_arg7)
/-- Device `c`'s third branch's matrix. -/
abbrev b2s (c : Dev nD) : FVec Ideal S512x1024 .f32 := m ((c : Thread nD τ).loc main_arg8)
/-- Device `c`'s output matrix. -/
abbrev wos (c : Dev nD) : FVec Ideal S1024x1024 .f32 := m ((c : Thread nD τ).loc main_arg9)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host2 (c : Dev nD) (i : Fin 1024) (k : Fin 3072) : V m c main_v2 (ix2 i k) = ws m c (ix2 i (⟨2560 + k.val, by omega⟩ : Fin 5632)) := by
  have e : V m c main_v2 = truncf .bf16 (extractStridedSlice S1024x3072 ![0, 2560] (ws m c) slices_S1024x5632_S1024x3072_0_2560) bitsLt_bf16_f32 := by
    unfold_abbrev_sides
    after_results_simp
  rw [e]
  pointwise

/-- The three branch matrices stacked, as the region finds them. -/
def stacked (b0 b1 b2 : FVec Ideal S512x1024 .f32) : FVec Ideal S3x512x1024 .f32 :=
  concatenate S3x512x1024 0 [⟨S1x512x1024, broadcastInDim S1x512x1024 ![1, 2] bcast_S512x1024_S1x512x1024_1_2 b0⟩,
    ⟨S1x512x1024, broadcastInDim S1x512x1024 ![1, 2] bcast_S512x1024_S1x512x1024_1_2 b1⟩,
    ⟨S1x512x1024, broadcastInDim S1x512x1024 ![1, 2] bcast_S512x1024_S1x512x1024_1_2 b2⟩] concatenates_S1x512x1024_S1x512x1024_S1x512x1024_S3x512x1024_d0

theorem stacked0 (b0 b1 b2 : FVec Ideal S512x1024 .f32) (i : Fin 512) (j : Fin 1024) : stacked b0 b1 b2 (ix3 (0 : Fin 3) i j) = b0 (ix2 i j) := by
  unfold stacked
  pointwise
theorem stacked1 (b0 b1 b2 : FVec Ideal S512x1024 .f32) (i : Fin 512) (j : Fin 1024) : stacked b0 b1 b2 (ix3 (1 : Fin 3) i j) = b1 (ix2 i j) := by
  unfold stacked
  pointwise
theorem stacked2 (b0 b1 b2 : FVec Ideal S512x1024 .f32) (i : Fin 512) (j : Fin 1024) : stacked b0 b1 b2 (ix3 (2 : Fin 3) i j) = b2 (ix2 i j) := by
  unfold stacked
  pointwise

theorem host7 (c : Dev nD) : V m c main_v7 = stacked (b0s m c) (b1s m c) (b2s m c) := by
  unfold_abbrev_sides
  after_results_simp
  rfl

theorem host8 (c : Dev nD) : V m c main_v8 = wos m c := by
  unfold_abbrev_sides
  after_results_simp
  rfl

theorem N_eq : cfg0.N = 128 := by decide

/-- Where each point's blocks lie. -/
theorem idx_facts : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0, 0] ∧ win0_7.index t = ![0, 0]
    ∧ win0_8.index t = ![t.val, 0] :=
  (by decide +kernel : ∀ t : Fin grid0.N, _)

/-- The row of the whole array at place `r` of point `t`'s block. -/
abbrev rowAt (t : Fin cfg0.N) (r : Fin 256) : Fin 32768 := ⟨t.val * 256 + r.val, by have := t.isLt; have := N_eq; omega⟩

theorem x_blk (c : Dev nD) (t : Fin cfg0.N) (r : Fin 256) (i : Fin 1024) : iblk m c 0 t (ix2 r i) = xs m c (ix2 (rowAt t r) i) := by
  obtain ⟨e0, e1, e2, e3, e4, e5, e6, e7, e8⟩ := idx_facts t
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  obtain ⟨e0, e1, e2, e3, e4, e5, e6, e7, e8⟩ := idx_facts t
  refine Eq.trans (b := V m c main_v0 (ix2 (0 : Fin 1) i)) ?_ (host0 m c i)
  blk_ext [iblk, e1]

theorem w_blk (c : Dev nD) (t : Fin cfg0.N) (i : Fin 1024) (k : Fin 3072) : iblk m c 2 t (ix2 i k) = ws m c (ix2 i (⟨2560 + k.val, by omega⟩ : Fin 5632)) := by
  obtain ⟨e0, e1, e2, e3, e4, e5, e6, e7, e8⟩ := idx_facts t
  refine Eq.trans (b := V m c main_v2 (ix2 i k)) ?_ (host2 m c i k)
  blk_ext [iblk, e2]

theorem o0_blk (c : Dev nD) (t : Fin cfg0.N) (r : Fin 256) (i : Fin 512) : iblk m c 3 t (ix2 r i) = o0s m c (ix2 (rowAt t r) i) := by
  obtain ⟨e0, e1, e2, e3, e4, e5, e6, e7, e8⟩ := idx_facts t
  refine Eq.trans (b := V m c main_arg3 (ix2 (rowAt t r) i)) ?_ (congrFun (V_main_arg3 m c) _)
  blk_ext [iblk, e3]

theorem o1_blk (c : Dev nD) (t : Fin cfg0.N) (r : Fin 256) (i : Fin 512) : iblk m c 4 t (ix2 r i) = o1s m c (ix2 (rowAt t r) i) := by
  obtain ⟨e0, e1, e2, e3, e4, e5, e6, e7, e8⟩ := idx_facts t
  refine Eq.trans (b := V m c main_arg4 (ix2 (rowAt t r) i)) ?_ (congrFun (V_main_arg4 m c) _)
  blk_ext [iblk, e4]

theorem o2_blk (c : Dev nD) (t : Fin cfg0.N) (r : Fin 256) (i : Fin 512) : iblk m c 5 t (ix2 r i) = o2s m c (ix2 (rowAt t r) i) := by
  obtain ⟨e0, e1, e2, e3, e4, e5, e6, e7, e8⟩ := idx_facts t
  refine Eq.trans (b := V m c main_arg5 (ix2 (rowAt t r) i)) ?_ (congrFun (V_main_arg5 m c) _)
  blk_ext [iblk, e5]

theorem b_blk (c : Dev nD) (t : Fin cfg0.N) (p : Fin 3) (i : Fin 512) (j : Fin 1024) : iblk m c 6 t (ix3 p i j) = stacked (b0s m c) (b1s m c) (b2s m c) (ix3 p i j) := by
  obtain ⟨e0, e1, e2, e3, e4, e5, e6, e7, e8⟩ := idx_facts t
  refine Eq.trans (b := V m c main_v7 (ix3 p i j)) ?_ (congrFun (host7 m c) _)
  blk_ext [iblk, e6]

theorem wo_blk (c : Dev nD) (t : Fin cfg0.N) (i j : Fin 1024) : iblk m c 7 t (ix2 i j) = wos m c (ix2 i j) := by
  obtain ⟨e0, e1, e2, e3, e4, e5, e6, e7, e8⟩ := idx_facts t
  refine Eq.trans (b := V m c main_v8 (ix2 i j)) ?_ (congrFun (host8 m c) _)
  blk_ext [iblk, e7]

theorem emb8 (t : Fin cfg0.N) (r : Fin 256) (d : Fin 1024) :
    ((cfg0.win 8).blk t).view.emb (ix2 r d) = (ix2 (rowAt t r) d : S32768x1024.Idx) := by
  obtain ⟨e0, e1, e2, e3, e4, e5, e6, e7, e8⟩ := idx_facts t
  funext a; apply Fin.ext
  match a with
  | ⟨0, _⟩ => show win0_8.index t (0 : Fin 2) * 256 + 1 * r.val = t.val * 256 + r.val; rw [e8]; simp
  | ⟨1, _⟩ => show win0_8.index t (1 : Fin 2) * 1024 + 1 * d.val = d.val; rw [e8]; simp

/-! ## The whole array -/

/-- THE MERGE, at an index of the whole array: columns 2560, 3584 and 4608 on of the input projection gate the three branches. -/
def merged (x : FVec Ideal S32768x1024 .f32) (g : FVec Ideal S1024 .f32) (w : FVec Ideal S1024x5632 .f32) (o0 o1 o2 : FVec Ideal S32768x512 .bf16)
    (b0 b1 b2 : FVec Ideal S512x1024 .f32) (wo : FVec Ideal S1024x1024 .f32) (y : S32768x1024.Idx) : EReal :=
  Row.merge (fun i => x (ix2 (y 0) i)) (fun i => g (ix1 i))
    (fun i j => w (ix2 i (⟨2560 + j.val, by omega⟩ : Fin 5632))) (fun i j => w (ix2 i (⟨2560 + (1024 + j.val), by omega⟩ : Fin 5632)))
    (fun i j => w (ix2 i (⟨2560 + (2048 + j.val), by omega⟩ : Fin 5632)))
    (fun i => o0 (ix2 (y 0) i)) (fun i => o1 (ix2 (y 0) i)) (fun i => o2 (ix2 (y 0) i))
    (fun i j => b0 (ix2 i j)) (fun i j => b1 (ix2 i j)) (fun i j => b2 (ix2 i j)) (fun i j => wo (ix2 i j)) (y 1)

/-- What one point writes, at an index. -/
theorem out_blk (c : Dev nD) (t : Fin cfg0.N) (r : Fin 256) (d : Fin 1024) :
    out0_8 (F := Ideal) (iblk m c 0 t) (iblk m c 1 t) (iblk m c 2 t) (iblk m c 3 t) (iblk m c 4 t) (iblk m c 5 t) (iblk m c 6 t) (iblk m c 7 t) (ix2 r d)
      = merged (xs m c) (gs m c) (ws m c) (o0s m c) (o1s m c) (o2s m c) (b0s m c) (b1s m c) (b2s m c) (wos m c) (((cfg0.win 8).blk t).view.emb (ix2 r d)) := by
  rw [emb8, out_apply]
  simp only [x_blk, g_blk, w_blk, o0_blk, o1_blk, o2_blk, b_blk, wo_blk, stacked0, stacked1, stacked2]
  rfl

/-- THE RESULT ARRAY is the merge of the arguments. -/
theorem final (c : Dev nD) : (dats m 0 c).arrAt 8 cfg0.N
    = merged (xs m c) (gs m c) (ws m c) (o0s m c) (o1s m c) (o2s m c) (b0s m c) (b1s m c) (b2s m c) (wos m c) := by
  refine (dats m 0 c).arrAt_eq_of_covers 8 _ (by decide +kernel) fun t hf y => ?_
  refine (congrFun (Cert.Kernel3Ideal.Value.flushed8 m c t) y).trans ?_
  have hy : y = ix2 (y 0) (y 1) := by funext a; match a with | ⟨0, _⟩ => rfl | ⟨1, _⟩ => rfl
  rw [hy]
  exact out_blk m c t (y 0) (y 1)

end Cert.Merge
-- ==== Proof.MergeRef.lean ====
module

public import proofs.«01_k».proof.Proof.Gen.Reference3Ideal.Run
public import proofs.«01_k».proof.Proof.Merge

@[expose] public section

set_option maxRecDepth 16384

noncomputable section

/-! # The merge reference's result array, at an index -/

namespace Cert.Merge

open Cert.Reference3Ideal Cert.Reference3Ideal.Gen Idealize.ShloMosaic Idealize.ShloMosaic.TcCoe Idealize.SL.Sem

/-- The reference's normalisation. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
      (Host.divf (broadcastInDim S32768x1 ![0] bcast_S32768_S32768x1_0 (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's input projection. -/
def projR (h : FVec Ideal S32768x1024 .f32) (w : FVec Ideal S1024x5632 .f32) : FVec Ideal S32768x5632 .f32 :=
  Host.dotGeneral dot_S32768x1024_S1024x5632_S32768x5632_1_0_0_1_n_n none h w

/-- The gates' columns of the projection, one row of 1024 for each of three branches. -/
def colsR (p : FVec Ideal S32768x5632 .f32) : FVec Ideal S32768x3x1024 .f32 :=
  shapeCast _ (extractStridedSlice S32768x3072 ![0, 2560] p slices_S32768x5632_S32768x3072_0_2560) shapeCasts_S32768x3072_S32768x3x1024

/-- The reference's `1 / (1 + exp (−p))`. -/
def sigmoidR (p : FVec Ideal S32768x3x1024 .f32) : FVec Ideal S32768x3x1024 .f32 :=
  Host.divf (broadcastInDim S32768x3x1024 ![] bcast_S_S32768x3x1024 (constant S_ .f32 0x3F800000#32))
    (addf (broadcastInDim S32768x3x1024 ![] bcast_S_S32768x3x1024 (constant S_ .f32 0x3F800000#32)) (Host.exp (Host.negf p)))

/-- The first branch's gate, the second's and the third's. -/
def part0 (z : FVec Ideal S32768x3x1024 .f32) : FVec Ideal S32768x1024 .f32 :=
  shapeCast _ (extractStridedSlice S32768x1x1024 ![0, 0, 0] z slices_S32768x3x1024_S32768x1x1024_0_0_0) shapeCasts_S32768x1x1024_S32768x1024
@[inherit_doc part0] def part1 (z : FVec Ideal S32768x3x1024 .f32) : FVec Ideal S32768x1024 .f32 :=
  shapeCast _ (extractStridedSlice S32768x1x1024 ![0, 1, 0] z slices_S32768x3x1024_S32768x1x1024_0_1_0) shapeCasts_S32768x1x1024_S32768x1024
@[inherit_doc part0] def part2 (z : FVec Ideal S32768x3x1024 .f32) : FVec Ideal S32768x1024 .f32 :=
  shapeCast _ (extractStridedSlice S32768x1x1024 ![0, 2, 0] z slices_S32768x3x1024_S32768x1x1024_0_2_0) shapeCasts_S32768x1x1024_S32768x1024

/-- A branch times its matrix. -/
def branchR (o : FVec Ideal S32768x512 .bf16) (b : FVec Ideal S512x1024 .f32) : FVec Ideal S32768x1024 .f32 :=
  Host.dotGeneral dot_S32768x512_S512x1024_S32768x1024_1_0_0_1_n_n none (extf .f32 o bitsLt_bf16_f32) b

/-- The mix of the three branches, sent through the output matrix and added to the rows. -/
def outR (x g0 g1 g2 p0 p1 p2 : FVec Ideal S32768x1024 .f32) (wo : FVec Ideal S1024x1024 .f32) : FVec Ideal S32768x1024 .f32 :=
  addf x (Host.dotGeneral dot_S32768x1024_S1024x1024_S32768x1024_1_0_0_1_n_n none (addf (addf (mulf g0 p0) (mulf g1 p1)) (mulf g2 p2)) wo)

/-- The three gates. -/
def gatesR (x : FVec Ideal S32768x1024 .f32) (g : FVec Ideal S1024 .f32) (w : FVec Ideal S1024x5632 .f32) : FVec Ideal S32768x3x1024 .f32 :=
  sigmoidR (colsR (projR (normR x g) w))

/-- The reference's result. -/
def resR (x : FVec Ideal S32768x1024 .f32) (g : FVec Ideal S1024 .f32) (w : FVec Ideal S1024x5632 .f32) (o0 o1 o2 : FVec Ideal S32768x512 .bf16)
    (b0 b1 b2 : FVec Ideal S512x1024 .f32) (wo : FVec Ideal S1024x1024 .f32) : FVec Ideal S32768x1024 .f32 :=
  outR x (part0 (gatesR x g w)) (part1 (gatesR x g w)) (part2 (gatesR x g w)) (branchR o0 b0) (branchR o1 b1) (branchR o2 b2) wo

/-- The run's result is these steps in turn. -/
theorem res_eq (m : (ℓ : Loc nD τ sig) → Buf (Elt Ideal) ℓ) (c : Dev nD) :
    Cert.Reference3Ideal.Value.res_main_v40 (F := Ideal) m c
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := rfl

theorem normR_apply (x : FVec Ideal S32768x1024 .f32) (g : FVec Ideal S1024 .f32) (r : Fin 32768) (d : Fin 1024) :
    normR x g (ix2 r d) = Row.norm (fun i => x (ix2 r i)) (fun i => g (ix1 i)) d := by
  unfold normR
  pointwise
  rfl

theorem projR_apply (h : FVec Ideal S32768x1024 .f32) (w : FVec Ideal S1024x5632 .f32) (r : Fin 32768) (d : Fin 5632) :
    projR h w (ix2 r d) = ∑ i : Fin 1024, h (ix2 r i) * w (ix2 i d) := by
  unfold projR
  pointwise

theorem colsR_apply (p : FVec Ideal S32768x5632 .f32) (r : Fin 32768) (b : Fin 3) (d : Fin 1024) :
    colsR p (ix3 r b d) = p (ix2 r (⟨2560 + (b.val * 1024 + d.val), by omega⟩ : Fin 5632)) := by
  unfold colsR
  pointwise

theorem sigmoidR_apply (p : FVec Ideal S32768x3x1024 .f32) (r : Fin 32768) (b : Fin 3) (d : Fin 1024) : sigmoidR p (ix3 r b d) = Ideal.logistic (p (ix3 r b d)) := by
  unfold sigmoidR
  pointwise
  rfl

theorem part0_apply (z : FVec Ideal S32768x3x1024 .f32) (r : Fin 32768) (d : Fin 1024) : part0 z (ix2 r d) = z (ix3 r (0 : Fin 3) d) := by
  unfold part0
  pointwise

theorem part1_apply (z : FVec Ideal S32768x3x1024 .f32) (r : Fin 32768) (d : Fin 1024) : part1 z (ix2 r d) = z (ix3 r (1 : Fin 3) d) := by
  unfold part1
  pointwise

theorem part2_apply (z : FVec Ideal S32768x3x1024 .f32) (r : Fin 32768) (d : Fin 1024) : part2 z (ix2 r d) = z (ix3 r (2 : Fin 3) d) := by
  unfold part2
  pointwise

theorem branchR_apply (o : FVec Ideal S32768x512 .bf16) (b : FVec Ideal S512x1024 .f32) (r : Fin 32768) (d : Fin 1024) :
    branchR o b (ix2 r d) = Row.branch (fun i => o (ix2 r i)) (fun i j => b (ix2 i j)) d := by
  unfold branchR
  pointwise
  rfl

theorem outR_apply (x g0 g1 g2 p0 p1 p2 : FVec Ideal S32768x1024 .f32) (wo : FVec Ideal S1024x1024 .f32) (r : Fin 32768) (d : Fin 1024) :
    outR x g0 g1 g2 p0 p1 p2 wo (ix2 r d)
      = x (ix2 r d) + ∑ k : Fin 1024, (g0 (ix2 r k) * p0 (ix2 r k) + g1 (ix2 r k) * p1 (ix2 r k) + g2 (ix2 r k) * p2 (ix2 r k)) * wo (ix2 k d) := by
  unfold outR
  pointwise

/-- The gate of branch `b` at column `d`. -/
theorem gatesR_apply (x : FVec Ideal S32768x1024 .f32) (g : FVec Ideal S1024 .f32) (w : FVec Ideal S1024x5632 .f32) (r : Fin 32768) (b : Fin 3) (d : Fin 1024) :
    gatesR x g w (ix3 r b d)
      = Row.gate (fun i => x (ix2 r i)) (fun i => g (ix1 i)) (fun i j => w (ix2 i (⟨2560 + (b.val * 1024 + j.val), by omega⟩ : Fin 5632))) d := by
  unfold gatesR
  simp only [sigmoidR_apply, colsR_apply, projR_apply, normR_apply]
  rfl

/-- The reference's result is the merge. -/
theorem resR_eq (x : FVec Ideal S32768x1024 .f32) (g : FVec Ideal S1024 .f32) (w : FVec Ideal S1024x5632 .f32) (o0 o1 o2 : FVec Ideal S32768x512 .bf16)
    (b0 b1 b2 : FVec Ideal S512x1024 .f32) (wo : FVec Ideal S1024x1024 .f32) :
    resR x g w o0 o1 o2 b0 b1 b2 wo = merged x g w o0 o1 o2 b0 b1 b2 wo := by
  funext y
  have key : ∀ (r : Fin 32768) (d : Fin 1024), resR x g w o0 o1 o2 b0 b1 b2 wo (ix2 r d) = merged x g w o0 o1 o2 b0 b1 b2 wo (ix2 r d) := fun r d => by
    unfold resR merged Row.merge
    simp only [outR_apply, part0_apply, part1_apply, part2_apply, gatesR_apply, branchR_apply]
    have f0 : ∀ j : Fin 1024, (⟨2560 + ((0 : Fin 3).val * 1024 + j.val), by omega⟩ : Fin 5632) = ⟨2560 + j.val, by omega⟩ := fun j => Fin.ext (by show _ = _; simp)
    have f1 : ∀ j : Fin 1024, (⟨2560 + ((1 : Fin 3).val * 1024 + j.val), by omega⟩ : Fin 5632) = ⟨2560 + (1024 + j.val), by omega⟩ := fun j => Fin.ext (by show _ = _; simp)
    have f2 : ∀ j : Fin 1024, (⟨2560 + ((2 : Fin 3).val * 1024 + j.val), by omega⟩ : Fin 5632) = ⟨2560 + (2048 + j.val), by omega⟩ := fun j => Fin.ext (by show _ = _; simp)
    simp only [f0, f1, f2]
    rfl
  have hy : y = ix2 (y 0) (y 1) := by funext a; match a with | ⟨0, _⟩ => rfl | ⟨1, _⟩ => rfl
  rw [hy]
  exact key (y 0) (y 1)

end Cert.Merge
-- ==== Proof.ProjRow.lean ====
module

public import proofs.«01_k».proof.Proof.Row

@[expose] public section

noncomputable section

/-! # One row of the layer's input projection, as extended reals

The row's projection is `p`, its 5632 columns; a position's cosines and sines are `cs` and `sn`. -/

namespace Cert.Proj

open Idealize.ShloMosaic

/-- Root-mean-square normalisation of a row of `n` entries, with `d` for the number of entries, times the gains. -/
def nrm {n : ℕ} (d : EReal) (x g : Fin n → EReal) (j : Fin n) : EReal :=
  x j * Ideal.rsqrt (Ideal.div (∑ k, x k * x k) d + Ideal.ofBits .f32 0x358637BD#32) * g j

/-- The rotation of 64 entries by 32 angles: entry `j` of the first half is paired with entry `j + 32`. -/
def rot64 (v : Fin 64 → EReal) (cs sn : Fin 32 → EReal) (j : Fin 64) : EReal :=
  if h : j.val < 32 then v j * cs ⟨j.val, h⟩ - v ⟨j.val + 32, by omega⟩ * sn ⟨j.val, h⟩
  else v j * cs ⟨j.val - 32, by omega⟩ + v ⟨j.val - 32, by omega⟩ * sn ⟨j.val - 32, by omega⟩

/-- The rotation of 32 entries by 16 angles. -/
def rot32 (v : Fin 32 → EReal) (cs sn : Fin 16 → EReal) (j : Fin 32) : EReal :=
  if h : j.val < 16 then v j * cs ⟨j.val, h⟩ - v ⟨j.val + 16, by omega⟩ * sn ⟨j.val, h⟩
  else v j * cs ⟨j.val - 16, by omega⟩ + v ⟨j.val - 16, by omega⟩ * sn ⟨j.val - 16, by omega⟩

/-- `n` columns of the projection, from column `o` on. -/
def cols (n o : ℕ) (h : o + n ≤ 5632) (p : Fin 5632 → EReal) (j : Fin n) : EReal := p ⟨o + j.val, by omega⟩

/-- A rotated key followed by its value. -/
def kv (k v : Fin 64 → EReal) (cs sn : Fin 32 → EReal) (d : Fin 128) : EReal :=
  if h : d.val < 64 then rot64 k cs sn ⟨d.val, h⟩ else v ⟨d.val - 64, by omega⟩

/-- Head `h` of query group `b`: rotated, and for the groups 0 and 2 scaled by an eighth. -/
def q3Row (p : Fin 5632 → EReal) (cs sn : Fin 32 → EReal) (b : Fin 3) (h : Fin 8) (j : Fin 64) : EReal :=
  if b.val = 0 then rot64 (cols 64 (0 + h.val * 64) (by omega) p) cs sn j * Ideal.ofBits .f32 0x3E000000#32
  else if b.val = 1 then rot64 (cols 64 (640 + h.val * 64) (by omega) p) cs sn j
  else rot64 (cols 64 (1224 + h.val * 64) (by omega) p) cs sn j * Ideal.ofBits .f32 0x3E000000#32

/-- The latent query's projection to the heads, at column `c`. -/
def qRow (p : Fin 5632 → EReal) (gq : Fin 256 → EReal) (wuq : Fin 256 → Fin 768 → EReal) (c : Fin 768) : EReal :=
  ∑ i, nrm (Ideal.ofBits .f32 0x43800000#32) (cols 256 2144 (by omega) p) gq i * wuq i c

/-- Head `h` of the latent attention's query: its 64 plain entries through the head's key matrix, then its 32 rotated ones. -/
def qcatRow (q : Fin 768 → EReal) (cs sn : Fin 16 → EReal) (wuk : Fin 128 → Fin 8 → Fin 64 → EReal) (h : Fin 8) (d : Fin 160) : EReal :=
  if hd : d.val < 128 then ∑ e : Fin 64, q ⟨h.val * 96 + e.val, by omega⟩ * wuk ⟨d.val, hd⟩ h e
  else rot32 (fun e => q ⟨h.val * 96 + 64 + e.val, by omega⟩) cs sn ⟨d.val - 128, by omega⟩

/-- The index heads' weights. -/
def idxwRow (p : Fin 5632 → EReal) (d : Fin 8) : EReal := cols 8 1216 (by omega) p d * Ideal.ofBits .f32 0x3EB504F3#32

/-- The gates of the sparse attention's branches. -/
def gateRow (p : Fin 5632 → EReal) (d : Fin 24) : EReal := Ideal.logistic (cols 24 2120 (by omega) p d)

/-- The first cache row: a key and its value, then the index key. -/
def dsaRow (p : Fin 5632 → EReal) (cs sn : Fin 32 → EReal) (d : Fin 192) : EReal :=
  if h : d.val < 128 then kv (cols 64 512 (by omega) p) (cols 64 576 (by omega) p) cs sn ⟨d.val, h⟩
  else rot64 (cols 64 1152 (by omega) p) cs sn ⟨d.val - 128, by omega⟩

/-- The second cache row: the compression's key and value, then the selection's. -/
def nsaRow (p : Fin 5632 → EReal) (cs sn : Fin 32 → EReal) (d : Fin 256) : EReal :=
  if h : d.val < 128 then kv (cols 64 1736 (by omega) p) (cols 64 1800 (by omega) p) cs sn ⟨d.val, h⟩
  else kv (cols 64 1864 (by omega) p) (cols 64 1928 (by omega) p) cs sn ⟨d.val - 128, by omega⟩

/-- The third cache row: the normalised latent, then the rotated shared key. -/
def mlaRow (p : Fin 5632 → EReal) (gkv : Fin 128 → EReal) (cs sn : Fin 16 → EReal) (d : Fin 160) : EReal :=
  if h : d.val < 128 then nrm (Ideal.ofBits .f32 0x43000000#32) (cols 128 2400 (by omega) p) gkv ⟨d.val, h⟩
  else rot32 (cols 32 2528 (by omega) p) cs sn ⟨d.val - 128, by omega⟩

/-- The window's row: its key and value. -/
def winRow (p : Fin 5632 → EReal) (cs sn : Fin 32 → EReal) (d : Fin 128) : EReal :=
  kv (cols 64 1992 (by omega) p) (cols 64 2056 (by omega) p) cs sn d

/-- The seven keys and values that the attentions read. -/
def kv7Row (p : Fin 5632 → EReal) (cs sn : Fin 32 → EReal) (b : Fin 7) (d : Fin 64) : EReal :=
  if b.val = 0 then rot64 (cols 64 512 (by omega) p) cs sn d
  else if b.val = 1 then cols 64 576 (by omega) p d
  else if b.val = 2 then rot64 (cols 64 1152 (by omega) p) cs sn d
  else if b.val = 3 then rot64 (cols 64 1864 (by omega) p) cs sn d
  else if b.val = 4 then cols 64 1928 (by omega) p d
  else if b.val = 5 then rot64 (cols 64 1992 (by omega) p) cs sn d
  else cols 64 2056 (by omega) p d

/-- A rotation on lanes: with a table of cosines, one of negated sines on the lower half of each 64 lanes and one of sines
    on the upper half, the sum of the lanes' own, the upper and the lower neighbour's products is the rotation. -/
theorem lane64 (f c s t : Fin 128 → EReal) (cs sn : Fin 32 → EReal) (o : ℕ) (ho : o = 0 ∨ o = 64)
    (hc : ∀ l : Fin 128, c l = cs ⟨l.val % 32, by omega⟩)
    (hs : ∀ l : Fin 128, s l = if l.val % 64 < 32 then -(sn ⟨l.val % 32, by omega⟩) else 0)
    (ht : ∀ l : Fin 128, t l = if l.val % 64 < 32 then 0 else sn ⟨l.val % 32, by omega⟩) (j : Fin 64) (l a b : Fin 128)
    (hl : l.val = o + j.val) (ha : a.val = (o + j.val + 32) % 128) (hb : b.val = (o + j.val + 96) % 128) :
    f l * c l + f a * s l + f b * t l = rot64 (fun j => f ⟨o + j.val, by omega⟩) cs sn j := by
  unfold rot64
  rw [hc, hs, ht]
  have e : f l = f ⟨o + j.val, by omega⟩ := congrArg f (Fin.ext hl)
  by_cases h : j.val < 32
  · have h' : l.val % 64 < 32 := by omega
    have e1 : (⟨l.val % 32, by omega⟩ : Fin 32) = ⟨j.val, h⟩ := Fin.ext (by show l.val % 32 = j.val; omega)
    have e2 : f a = f ⟨o + (j.val + 32), by omega⟩ := congrArg f (Fin.ext (by show a.val = o + (j.val + 32); omega))
    simp only [h, h', if_true, dif_pos, e1]
    rw [mul_zero, add_zero, mul_neg, ← sub_eq_add_neg, e2, e]
  · have h' : ¬ l.val % 64 < 32 := by omega
    have e1 : (⟨l.val % 32, by omega⟩ : Fin 32) = ⟨j.val - 32, by omega⟩ := Fin.ext (by show l.val % 32 = j.val - 32; omega)
    have e2 : f b = f ⟨o + (j.val - 32), by omega⟩ := congrArg f (Fin.ext (by show b.val = o + (j.val - 32); omega))
    simp only [h, h', if_false, dif_neg, not_false_eq_true, e1]
    rw [mul_zero, add_zero, e2, e]

/-- The same on groups of 32 lanes. -/
theorem lane32 (f c s t : Fin 128 → EReal) (cs sn : Fin 16 → EReal) (o : ℕ) (ho : o = 0 ∨ o = 32 ∨ o = 64 ∨ o = 96)
    (hc : ∀ l : Fin 128, c l = cs ⟨l.val % 16, by omega⟩)
    (hs : ∀ l : Fin 128, s l = if l.val % 32 < 16 then -(sn ⟨l.val % 16, by omega⟩) else 0)
    (ht : ∀ l : Fin 128, t l = if l.val % 32 < 16 then 0 else sn ⟨l.val % 16, by omega⟩) (j : Fin 32) (l a b : Fin 128)
    (hl : l.val = o + j.val) (ha : a.val = (o + j.val + 16) % 128) (hb : b.val = (o + j.val + 112) % 128) :
    f l * c l + f a * s l + f b * t l = rot32 (fun j => f ⟨o + j.val, by omega⟩) cs sn j := by
  unfold rot32
  rw [hc, hs, ht]
  have e : f l = f ⟨o + j.val, by omega⟩ := congrArg f (Fin.ext hl)
  by_cases h : j.val < 16
  · have h' : l.val % 32 < 16 := by omega
    have e1 : (⟨l.val % 16, by omega⟩ : Fin 16) = ⟨j.val, h⟩ := Fin.ext (by show l.val % 16 = j.val; omega)
    have e2 : f a = f ⟨o + (j.val + 16), by omega⟩ := congrArg f (Fin.ext (by show a.val = o + (j.val + 16); omega))
    simp only [h, h', if_true, dif_pos, e1]
    rw [mul_zero, add_zero, mul_neg, ← sub_eq_add_neg, e2, e]
  · have h' : ¬ l.val % 32 < 16 := by omega
    have e1 : (⟨l.val % 16, by omega⟩ : Fin 16) = ⟨j.val - 16, by omega⟩ := Fin.ext (by show l.val % 16 = j.val - 16; omega)
    have e2 : f b = f ⟨o + (j.val - 16), by omega⟩ := congrArg f (Fin.ext (by show b.val = o + (j.val - 16); omega))
    simp only [h, h', if_false, dif_neg, not_false_eq_true, e1]
    rw [mul_zero, add_zero, e2, e]

end Cert.Proj
-- ==== Proof.ProjPay.lean ====
module

public import proofs.«01_k».proof.Proof.Gen.Kernel4Ideal.Skeleton
public import Idealize.ShloMosaic.Lib.Pointwise
public import proofs.«01_k».proof.Proof.ProjRow

@[expose] public section

set_option maxRecDepth 16384

noncomputable section

/-! # What the projection kernel computes from one block of rows, entry by entry -/

namespace Cert.Proj

open Cert.Kernel4Ideal Cert.Kernel4Ideal.Gen Idealize.ShloMosaic Idealize.ShloMosaic.TcCoe Idealize.SL.Sem

/-- Column `k` of the reordered rotated columns is column `c` of the projection. -/
def permR (k c : ℕ) : Prop :=
  (k < 512 ∧ c = k) ∨ (512 ≤ k ∧ k < 1024 ∧ c = k + 128) ∨ (1024 ≤ k ∧ k < 1536 ∧ c = k + 200) ∨ (1536 ≤ k ∧ k < 1600 ∧ c + 1024 = k)
    ∨ (1600 ≤ k ∧ k < 1664 ∧ c + 448 = k) ∨ (1664 ≤ k ∧ k < 1728 ∧ c = k + 72) ∨ (1728 ≤ k ∧ k < 1792 ∧ c = k + 136)
    ∨ (1792 ≤ k ∧ k < 1856 ∧ c = k + 200)

/-- Column `k` of the reordered plain columns is column `c` of the projection. -/
def permP (k c : ℕ) : Prop :=
  (k < 64 ∧ c = k + 576) ∨ (64 ≤ k ∧ k < 128 ∧ c = k + 1736) ∨ (128 ≤ k ∧ k < 192 ∧ c = k + 1800) ∨ (192 ≤ k ∧ k < 256 ∧ c = k + 1864)
    ∨ (256 ≤ k ∧ k < 384 ∧ c = k + 2144) ∨ (384 ≤ k ∧ k < 640 ∧ c = k + 1760) ∨ (640 ≤ k ∧ k < 672 ∧ c = k + 1888)
    ∨ (672 ≤ k ∧ k < 680 ∧ c = k + 544) ∨ (680 ≤ k ∧ k < 704 ∧ c = k + 1440)

/-- Column `k` of the reordered query projection is column `c` of the query projection. -/
def permQ (k c : ℕ) : Prop :=
  (k < 512 ∧ c = k / 64 * 96 + k % 64) ∨ (512 ≤ k ∧ k < 768 ∧ c = (k - 512) / 32 * 96 + 64 + (k - 512) % 32)

theorem pay6_apply (x : Vec Ideal S256x1024 .f32) (g : Vec Ideal S1x1024 .f32) (r : Fin 256) (d : Fin 1024) :
    k0_pay6 (F := Ideal) x g (ix2 r d) = Row.norm (fun i => x (ix2 r i)) (fun i => g (ix2 (0 : Fin 1) i)) d := by
  unfold k0_pay6
  pointwise
  rfl

/-- The rotated columns' product. -/
theorem pay7_apply (x : Vec Ideal S256x1024 .f32) (g : Vec Ideal S1x1024 .f32) (w : Vec Ideal S1024x1920 .bf16) (r : Fin 256) (d : Fin 1920) :
    k0_pay7 (F := Ideal) x g w (ix2 r d) = ∑ i, Row.norm (fun i => x (ix2 r i)) (fun i => g (ix2 (0 : Fin 1) i)) i * w (ix2 i d) := by
  have h := fun i => pay6_apply x g r i
  unfold k0_pay7
  generalize k0_pay6 (F := Ideal) x g = z at h ⊢
  pointwise
  simp only [h]

/-- The plain columns' product. -/
theorem pay8_apply (x : Vec Ideal S256x1024 .f32) (g : Vec Ideal S1x1024 .f32) (w : Vec Ideal S1024x768 .bf16) (r : Fin 256) (d : Fin 768) :
    k0_pay8 (F := Ideal) x g w (ix2 r d) = ∑ i, Row.norm (fun i => x (ix2 r i)) (fun i => g (ix2 (0 : Fin 1) i)) i * w (ix2 i d) := by
  have h := fun i => pay6_apply x g r i
  unfold k0_pay8
  generalize k0_pay6 (F := Ideal) x g = z at h ⊢
  pointwise
  simp only [h]

/-- The tables pass unchanged. -/
theorem pay9_eq (v : Vec Ideal S256x128 .f32) : k0_pay9 (F := Ideal) v = v := by unfold k0_pay9; exact shapeCast_self _ _
@[inherit_doc pay9_eq] theorem pay10_eq (v : Vec Ideal S256x128 .f32) : k0_pay10 (F := Ideal) v = v := by unfold k0_pay10; exact shapeCast_self _ _
@[inherit_doc pay9_eq] theorem pay11_eq (v : Vec Ideal S256x128 .f32) : k0_pay11 (F := Ideal) v = v := by unfold k0_pay11; exact shapeCast_self _ _
@[inherit_doc pay9_eq] theorem pay12_eq (v : Vec Ideal S256x128 .f32) : k0_pay12 (F := Ideal) v = v := by unfold k0_pay12; exact shapeCast_self _ _
@[inherit_doc pay9_eq] theorem pay13_eq (v : Vec Ideal S256x128 .f32) : k0_pay13 (F := Ideal) v = v := by unfold k0_pay13; exact shapeCast_self _ _
@[inherit_doc pay9_eq] theorem pay14_eq (v : Vec Ideal S256x128 .f32) : k0_pay14 (F := Ideal) v = v := by unfold k0_pay14; exact shapeCast_self _ _

/-- The three tables of a block of positions, for rotations of 64 lanes: cosines, sines that the upper neighbour takes, sines that
    the lower neighbour takes. -/
structure Tab64 (c s t : FVec Ideal S256x128 .f32) (cs sn : Fin 256 → Fin 32 → EReal) : Prop where
  hc : ∀ r (l : Fin 128), c (ix2 r l) = cs r ⟨l.val % 32, by omega⟩
  hs : ∀ r (l : Fin 128), s (ix2 r l) = if l.val % 64 < 32 then -(sn r ⟨l.val % 32, by omega⟩) else 0
  ht : ∀ r (l : Fin 128), t (ix2 r l) = if l.val % 64 < 32 then 0 else sn r ⟨l.val % 32, by omega⟩

/-- The same for rotations of 32 lanes. -/
structure Tab32 (c s t : FVec Ideal S256x128 .f32) (cs sn : Fin 256 → Fin 16 → EReal) : Prop where
  hc : ∀ r (l : Fin 128), c (ix2 r l) = cs r ⟨l.val % 16, by omega⟩
  hs : ∀ r (l : Fin 128), s (ix2 r l) = if l.val % 32 < 16 then -(sn r ⟨l.val % 16, by omega⟩) else 0
  ht : ∀ r (l : Fin 128), t (ix2 r l) = if l.val % 32 < 16 then 0 else sn r ⟨l.val % 16, by omega⟩

section
variable {a : FVec Ideal S256x1920 .f32} {b : FVec Ideal S256x768 .f32} {P : Fin 256 → Fin 5632 → EReal} {c s t : FVec Ideal S256x128 .f32}
  {cs sn : Fin 256 → Fin 32 → EReal} {ct st : Fin 256 → Fin 16 → EReal}
  (hA : ∀ r k c, permR k.val c.val → a (ix2 r k) = P r c) (hB : ∀ r k c, permP k.val c.val → b (ix2 r k) = P r c)
  (T : Tab64 c s t cs sn) (T' : Tab32 c s t ct st)

include hA T

/-! Each group of 128 lanes holds two rotated heads. -/

theorem pay15_0 (r : Fin 256) (l : Fin 128) (j : Fin 64) (hl : l.val = 0 + j.val) :
    k0_pay15 (F := Ideal) a c s t (ix2 r l) = rot64 (cols 64 0 (by omega) (P r)) (cs r) (sn r) j := by
  unfold k0_pay15
  pointwise
  refine (lane64 (fun l => a (ix2 r ⟨l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (0 + i.val) (0 + i.val); unfold permR; omega)

theorem pay15_1 (r : Fin 256) (l : Fin 128) (j : Fin 64) (hl : l.val = 64 + j.val) :
    k0_pay15 (F := Ideal) a c s t (ix2 r l) = rot64 (cols 64 64 (by omega) (P r)) (cs r) (sn r) j := by
  unfold k0_pay15
  pointwise
  refine (lane64 (fun l => a (ix2 r ⟨l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (64 + i.val) (64 + i.val); unfold permR; omega)

theorem pay16_0 (r : Fin 256) (l : Fin 128) (j : Fin 64) (hl : l.val = 0 + j.val) :
    k0_pay16 (F := Ideal) a c s t (ix2 r l) = rot64 (cols 64 128 (by omega) (P r)) (cs r) (sn r) j := by
  unfold k0_pay16
  pointwise
  refine (lane64 (fun l => a (ix2 r ⟨128 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (128 + (0 + i.val)) (128 + i.val); unfold permR; omega)

theorem pay16_1 (r : Fin 256) (l : Fin 128) (j : Fin 64) (hl : l.val = 64 + j.val) :
    k0_pay16 (F := Ideal) a c s t (ix2 r l) = rot64 (cols 64 192 (by omega) (P r)) (cs r) (sn r) j := by
  unfold k0_pay16
  pointwise
  refine (lane64 (fun l => a (ix2 r ⟨128 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (128 + (64 + i.val)) (192 + i.val); unfold permR; omega)

theorem pay17_0 (r : Fin 256) (l : Fin 128) (j : Fin 64) (hl : l.val = 0 + j.val) :
    k0_pay17 (F := Ideal) a c s t (ix2 r l) = rot64 (cols 64 256 (by omega) (P r)) (cs r) (sn r) j := by
  unfold k0_pay17
  pointwise
  refine (lane64 (fun l => a (ix2 r ⟨256 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (256 + (0 + i.val)) (256 + i.val); unfold permR; omega)

theorem pay17_1 (r : Fin 256) (l : Fin 128) (j : Fin 64) (hl : l.val = 64 + j.val) :
    k0_pay17 (F := Ideal) a c s t (ix2 r l) = rot64 (cols 64 320 (by omega) (P r)) (cs r) (sn r) j := by
  unfold k0_pay17
  pointwise
  refine (lane64 (fun l => a (ix2 r ⟨256 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (256 + (64 + i.val)) (320 + i.val); unfold permR; omega)

theorem pay18_0 (r : Fin 256) (l : Fin 128) (j : Fin 64) (hl : l.val = 0 + j.val) :
    k0_pay18 (F := Ideal) a c s t (ix2 r l) = rot64 (cols 64 384 (by omega) (P r)) (cs r) (sn r) j := by
  unfold k0_pay18
  pointwise
  refine (lane64 (fun l => a (ix2 r ⟨384 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (384 + (0 + i.val)) (384 + i.val); unfold permR; omega)

theorem pay18_1 (r : Fin 256) (l : Fin 128) (j : Fin 64) (hl : l.val = 64 + j.val) :
    k0_pay18 (F := Ideal) a c s t (ix2 r l) = rot64 (cols 64 448 (by omega) (P r)) (cs r) (sn r) j := by
  unfold k0_pay18
  pointwise
  refine (lane64 (fun l => a (ix2 r ⟨384 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (384 + (64 + i.val)) (448 + i.val); unfold permR; omega)

theorem pay19_0 (r : Fin 256) (l : Fin 128) (j : Fin 64) (hl : l.val = 0 + j.val) :
    k0_pay19 (F := Ideal) a c s t (ix2 r l) = rot64 (cols 64 640 (by omega) (P r)) (cs r) (sn r) j := by
  unfold k0_pay19
  pointwise
  refine (lane64 (fun l => a (ix2 r ⟨512 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (512 + (0 + i.val)) (640 + i.val); unfold permR; omega)

theorem pay19_1 (r : Fin 256) (l : Fin 128) (j : Fin 64) (hl : l.val = 64 + j.val) :
    k0_pay19 (F := Ideal) a c s t (ix2 r l) = rot64 (cols 64 704 (by omega) (P r)) (cs r) (sn r) j := by
  unfold k0_pay19
  pointwise
  refine (lane64 (fun l => a (ix2 r ⟨512 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (512 + (64 + i.val)) (704 + i.val); unfold permR; omega)

theorem pay20_0 (r : Fin 256) (l : Fin 128) (j : Fin 64) (hl : l.val = 0 + j.val) :
    k0_pay20 (F := Ideal) a c s t (ix2 r l) = rot64 (cols 64 768 (by omega) (P r)) (cs r) (sn r) j := by
  unfold k0_pay20
  pointwise
  refine (lane64 (fun l => a (ix2 r ⟨640 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (640 + (0 + i.val)) (768 + i.val); unfold permR; omega)

theorem pay20_1 (r : Fin 256) (l : Fin 128) (j : Fin 64) (hl : l.val = 64 + j.val) :
    k0_pay20 (F := Ideal) a c s t (ix2 r l) = rot64 (cols 64 832 (by omega) (P r)) (cs r) (sn r) j := by
  unfold k0_pay20
  pointwise
  refine (lane64 (fun l => a (ix2 r ⟨640 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (640 + (64 + i.val)) (832 + i.val); unfold permR; omega)

theorem pay21_0 (r : Fin 256) (l : Fin 128) (j : Fin 64) (hl : l.val = 0 + j.val) :
    k0_pay21 (F := Ideal) a c s t (ix2 r l) = rot64 (cols 64 896 (by omega) (P r)) (cs r) (sn r) j := by
  unfold k0_pay21
  pointwise
  refine (lane64 (fun l => a (ix2 r ⟨768 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (768 + (0 + i.val)) (896 + i.val); unfold permR; omega)

theorem pay21_1 (r : Fin 256) (l : Fin 128) (j : Fin 64) (hl : l.val = 64 + j.val) :
    k0_pay21 (F := Ideal) a c s t (ix2 r l) = rot64 (cols 64 960 (by omega) (P r)) (cs r) (sn r) j := by
  unfold k0_pay21
  pointwise
  refine (lane64 (fun l => a (ix2 r ⟨768 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (768 + (64 + i.val)) (960 + i.val); unfold permR; omega)

theorem pay22_0 (r : Fin 256) (l : Fin 128) (j : Fin 64) (hl : l.val = 0 + j.val) :
    k0_pay22 (F := Ideal) a c s t (ix2 r l) = rot64 (cols 64 1024 (by omega) (P r)) (cs r) (sn r) j := by
  unfold k0_pay22
  pointwise
  refine (lane64 (fun l => a (ix2 r ⟨896 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (896 + (0 + i.val)) (1024 + i.val); unfold permR; omega)

theorem pay22_1 (r : Fin 256) (l : Fin 128) (j : Fin 64) (hl : l.val = 64 + j.val) :
    k0_pay22 (F := Ideal) a c s t (ix2 r l) = rot64 (cols 64 1088 (by omega) (P r)) (cs r) (sn r) j := by
  unfold k0_pay22
  pointwise
  refine (lane64 (fun l => a (ix2 r ⟨896 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (896 + (64 + i.val)) (1088 + i.val); unfold permR; omega)

theorem pay23_0 (r : Fin 256) (l : Fin 128) (j : Fin 64) (hl : l.val = 0 + j.val) :
    k0_pay23 (F := Ideal) a c s t (ix2 r l) = rot64 (cols 64 1224 (by omega) (P r)) (cs r) (sn r) j := by
  unfold k0_pay23
  pointwise
  refine (lane64 (fun l => a (ix2 r ⟨1024 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1024 + (0 + i.val)) (1224 + i.val); unfold permR; omega)

theorem pay23_1 (r : Fin 256) (l : Fin 128) (j : Fin 64) (hl : l.val = 64 + j.val) :
    k0_pay23 (F := Ideal) a c s t (ix2 r l) = rot64 (cols 64 1288 (by omega) (P r)) (cs r) (sn r) j := by
  unfold k0_pay23
  pointwise
  refine (lane64 (fun l => a (ix2 r ⟨1024 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1024 + (64 + i.val)) (1288 + i.val); unfold permR; omega)

theorem pay24_0 (r : Fin 256) (l : Fin 128) (j : Fin 64) (hl : l.val = 0 + j.val) :
    k0_pay24 (F := Ideal) a c s t (ix2 r l) = rot64 (cols 64 1352 (by omega) (P r)) (cs r) (sn r) j := by
  unfold k0_pay24
  pointwise
  refine (lane64 (fun l => a (ix2 r ⟨1152 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1152 + (0 + i.val)) (1352 + i.val); unfold permR; omega)

theorem pay24_1 (r : Fin 256) (l : Fin 128) (j : Fin 64) (hl : l.val = 64 + j.val) :
    k0_pay24 (F := Ideal) a c s t (ix2 r l) = rot64 (cols 64 1416 (by omega) (P r)) (cs r) (sn r) j := by
  unfold k0_pay24
  pointwise
  refine (lane64 (fun l => a (ix2 r ⟨1152 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1152 + (64 + i.val)) (1416 + i.val); unfold permR; omega)

theorem pay25_0 (r : Fin 256) (l : Fin 128) (j : Fin 64) (hl : l.val = 0 + j.val) :
    k0_pay25 (F := Ideal) a c s t (ix2 r l) = rot64 (cols 64 1480 (by omega) (P r)) (cs r) (sn r) j := by
  unfold k0_pay25
  pointwise
  refine (lane64 (fun l => a (ix2 r ⟨1280 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1280 + (0 + i.val)) (1480 + i.val); unfold permR; omega)

theorem pay25_1 (r : Fin 256) (l : Fin 128) (j : Fin 64) (hl : l.val = 64 + j.val) :
    k0_pay25 (F := Ideal) a c s t (ix2 r l) = rot64 (cols 64 1544 (by omega) (P r)) (cs r) (sn r) j := by
  unfold k0_pay25
  pointwise
  refine (lane64 (fun l => a (ix2 r ⟨1280 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1280 + (64 + i.val)) (1544 + i.val); unfold permR; omega)

theorem pay26_0 (r : Fin 256) (l : Fin 128) (j : Fin 64) (hl : l.val = 0 + j.val) :
    k0_pay26 (F := Ideal) a c s t (ix2 r l) = rot64 (cols 64 1608 (by omega) (P r)) (cs r) (sn r) j := by
  unfold k0_pay26
  pointwise
  refine (lane64 (fun l => a (ix2 r ⟨1408 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1408 + (0 + i.val)) (1608 + i.val); unfold permR; omega)

theorem pay26_1 (r : Fin 256) (l : Fin 128) (j : Fin 64) (hl : l.val = 64 + j.val) :
    k0_pay26 (F := Ideal) a c s t (ix2 r l) = rot64 (cols 64 1672 (by omega) (P r)) (cs r) (sn r) j := by
  unfold k0_pay26
  pointwise
  refine (lane64 (fun l => a (ix2 r ⟨1408 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1408 + (64 + i.val)) (1672 + i.val); unfold permR; omega)

theorem pay27_0 (r : Fin 256) (l : Fin 128) (j : Fin 64) (hl : l.val = 0 + j.val) :
    k0_pay27 (F := Ideal) a c s t (ix2 r l) = rot64 (cols 64 512 (by omega) (P r)) (cs r) (sn r) j := by
  unfold k0_pay27
  pointwise
  refine (lane64 (fun l => a (ix2 r ⟨1536 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1536 + (0 + i.val)) (512 + i.val); unfold permR; omega)

theorem pay27_1 (r : Fin 256) (l : Fin 128) (j : Fin 64) (hl : l.val = 64 + j.val) :
    k0_pay27 (F := Ideal) a c s t (ix2 r l) = rot64 (cols 64 1152 (by omega) (P r)) (cs r) (sn r) j := by
  unfold k0_pay27
  pointwise
  refine (lane64 (fun l => a (ix2 r ⟨1536 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1536 + (64 + i.val)) (1152 + i.val); unfold permR; omega)

theorem pay28_0 (r : Fin 256) (l : Fin 128) (j : Fin 64) (hl : l.val = 0 + j.val) :
    k0_pay28 (F := Ideal) a c s t (ix2 r l) = rot64 (cols 64 1736 (by omega) (P r)) (cs r) (sn r) j := by
  unfold k0_pay28
  pointwise
  refine (lane64 (fun l => a (ix2 r ⟨1664 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1664 + (0 + i.val)) (1736 + i.val); unfold permR; omega)

theorem pay28_1 (r : Fin 256) (l : Fin 128) (j : Fin 64) (hl : l.val = 64 + j.val) :
    k0_pay28 (F := Ideal) a c s t (ix2 r l) = rot64 (cols 64 1864 (by omega) (P r)) (cs r) (sn r) j := by
  unfold k0_pay28
  pointwise
  refine (lane64 (fun l => a (ix2 r ⟨1664 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1664 + (64 + i.val)) (1864 + i.val); unfold permR; omega)

theorem pay29_0 (r : Fin 256) (l : Fin 128) (j : Fin 64) (hl : l.val = 0 + j.val) :
    k0_pay29 (F := Ideal) a c s t (ix2 r l) = rot64 (cols 64 1992 (by omega) (P r)) (cs r) (sn r) j := by
  unfold k0_pay29
  pointwise
  refine (lane64 (fun l => a (ix2 r ⟨1792 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1792 + (0 + i.val)) (1992 + i.val); unfold permR; omega)

omit hA T
include hB

/-- The normalised latent. -/
theorem pay75_apply (g : Vec Ideal S1x128 .f32) (r : Fin 256) (d : Fin 128) :
    k0_pay75 (F := Ideal) b g (ix2 r d) = nrm (Ideal.ofBits .f32 0x43000000#32) (cols 128 2400 (by omega) (P r)) (fun i => g (ix2 (0 : Fin 1) i)) d := by
  have h : ∀ j : Fin 128, b (ix2 r ⟨256 + j.val, by omega⟩) = cols 128 2400 (by omega) (P r) j := fun j =>
    hB r _ _ (by unfold permP; simp only []; omega)
  unfold k0_pay75
  pointwise
  simp only [h]
  rfl

/-- The index heads' weights. -/
theorem pay80_apply (r : Fin 256) (d : Fin 8) : k0_pay80 (F := Ideal) (k0_pay76 b) (ix2 r d) = idxwRow (P r) d := by
  pointwise [k0_pay80, k0_pay76]
  refine congrArg (fun z => z * _) (hB r _ _ ?_)
  unfold permP; simp only []; omega

/-- The gates. -/
theorem pay81_apply (r : Fin 256) (d : Fin 24) : k0_pay81 (F := Ideal) (k0_pay76 b) (ix2 r d) = gateRow (P r) d := by
  pointwise [k0_pay81, k0_pay76]
  refine congrArg Ideal.logistic (hB r _ _ ?_)
  unfold permP; simp only []; omega

/-- The queries' latent through its matrix. -/
theorem pay82_apply (g : Vec Ideal S1x256 .f32) (w : Vec Ideal S256x768 .bf16) (W : Fin 256 → Fin 768 → EReal)
    (hw : ∀ i k c, permQ k.val c.val → w (ix2 i k) = W i c) (r : Fin 256) (k c : Fin 768) (hk : permQ k.val c.val) :
    k0_pay82 (F := Ideal) b g w (ix2 r k) = qRow (P r) (fun i => g (ix2 (0 : Fin 1) i)) W c := by
  have h : ∀ j : Fin 256, b (ix2 r ⟨384 + j.val, by omega⟩) = cols 256 2144 (by omega) (P r) j := fun j =>
    hB r _ _ (by unfold permP; simp only []; omega)
  have h' := fun i => hw i k c hk
  unfold k0_pay82
  pointwise
  simp only [h, h']
  rfl

include T'

/-- The rotated shared key. -/
theorem pay77_apply (r : Fin 256) (j : Fin 32) :
    k0_pay77 (F := Ideal) b c s t (ix2 r j) = rot32 (cols 32 2528 (by omega) (P r)) (ct r) (st r) j := by
  pointwise [k0_pay77, k0_pay76]
  refine (lane32 (fun l => b (ix2 r ⟨640 + l.val, by omega⟩)) (fun l => c (ix2 r l)) (fun l => s (ix2 r l)) (fun l => t (ix2 r l)) (ct r) (st r)
    0 (by omega) (T'.hc r) (T'.hs r) (T'.ht r) j ⟨j.val, by omega⟩ ⟨(j.val + 128 - 112) % 128, by omega⟩ ⟨(j.val + 128 - 16) % 128, by omega⟩
    (by show j.val = _; omega)
    (by show (j.val + 128 - 112) % 128 = _; omega) (by show (j.val + 128 - 16) % 128 = _; omega)).trans ?_
  congr 1
  funext i
  exact hB r _ _ (by unfold permP; simp only []; omega)

omit hB
variable {q : FVec Ideal S256x768 .f32} {Q : Fin 256 → Fin 768 → EReal} (hQ : ∀ r k c, permQ k.val c.val → q (ix2 r k) = Q r c)
include hQ

theorem pay86_0 (r : Fin 256) (l : Fin 128) (j : Fin 32) (hl : l.val = 0 + j.val) :
    k0_pay86 (F := Ideal) c s t q (ix2 r l) = rot32 (fun e => Q r ⟨0 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    0 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_1 (r : Fin 256) (l : Fin 128) (j : Fin 32) (hl : l.val = 32 + j.val) :
    k0_pay86 (F := Ideal) c s t q (ix2 r l) = rot32 (fun e => Q r ⟨1 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    32 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_2 (r : Fin 256) (l : Fin 128) (j : Fin 32) (hl : l.val = 64 + j.val) :
    k0_pay86 (F := Ideal) c s t q (ix2 r l) = rot32 (fun e => Q r ⟨2 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    64 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_3 (r : Fin 256) (l : Fin 128) (j : Fin 32) (hl : l.val = 96 + j.val) :
    k0_pay86 (F := Ideal) c s t q (ix2 r l) = rot32 (fun e => Q r ⟨3 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    96 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_0 (r : Fin 256) (l : Fin 128) (j : Fin 32) (hl : l.val = 0 + j.val) :
    k0_pay87 (F := Ideal) c s t q (ix2 r l) = rot32 (fun e => Q r ⟨4 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    0 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_1 (r : Fin 256) (l : Fin 128) (j : Fin 32) (hl : l.val = 32 + j.val) :
    k0_pay87 (F := Ideal) c s t q (ix2 r l) = rot32 (fun e => Q r ⟨5 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    32 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_2 (r : Fin 256) (l : Fin 128) (j : Fin 32) (hl : l.val = 64 + j.val) :
    k0_pay87 (F := Ideal) c s t q (ix2 r l) = rot32 (fun e => Q r ⟨6 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    64 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_3 (r : Fin 256) (l : Fin 128) (j : Fin 32) (hl : l.val = 96 + j.val) :
    k0_pay87 (F := Ideal) c s t q (ix2 r l) = rot32 (fun e => Q r ⟨7 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    96 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

omit T'

/-- The block-diagonal product picks one head's matrix. -/
theorem pay85_apply (z : FVec Ideal S256x512 .bf16) (w : FVec Ideal S512x1024 .bf16) (W : Fin 128 → Fin 8 → Fin 64 → EReal)
    (hz : ∀ r (k : Fin 512), z (ix2 r k) = q (ix2 r ⟨k.val, by omega⟩))
    (hw : ∀ (k : Fin 512) (l : Fin 1024), w (ix2 k l)
      = (if k.val / 64 = l.val / 128 then 1 else 0) * W ⟨l.val % 128, by omega⟩ ⟨l.val / 128, by omega⟩ ⟨k.val % 64, by omega⟩)
    (r : Fin 256) (h : Fin 8) (d : Fin 128) (l : Fin 1024) (hl : l.val = h.val * 128 + d.val) :
    k0_pay85 (F := Ideal) z w (constant S256x1024 .f32 0x00000000#32) (ix2 r l) = ∑ e : Fin 64, Q r ⟨h.val * 96 + e.val, by omega⟩ * W d h e := by
  unfold k0_pay85
  pointwise
  simp only [hz, hw]
  have e1 : l.val / 128 = h.val := by omega
  have e2 : (⟨l.val % 128, by omega⟩ : Fin 128) = d := Fin.ext (by show l.val % 128 = _; omega)
  have e3 : (⟨l.val / 128, by omega⟩ : Fin 8) = h := Fin.ext (by show l.val / 128 = _; omega)
  simp only [e1, e2, e3]
  rw [← (finProdFinEquiv (m := 8) (n := 64)).sum_comp (fun k : Fin 512 => _)]
  rw [Fintype.sum_prod_type]
  rw [Finset.sum_eq_single h]
  · refine Finset.sum_congr rfl fun e _ => ?_
    have v : ((finProdFinEquiv (m := 8) (n := 64)) (h, e)).val = e.val + 64 * h.val := rfl
    have f1 : ((finProdFinEquiv (m := 8) (n := 64)) (h, e)).val / 64 = h.val := by rw [v]; omega
    have f2 : (⟨((finProdFinEquiv (m := 8) (n := 64)) (h, e)).val % 64, by omega⟩ : Fin 64) = e := Fin.ext (by show _ % 64 = _; rw [v]; omega)
    rw [if_pos f1, one_mul, f2]
    refine congrArg (fun z => z * _) (hQ r _ _ ?_)
    unfold permQ
    simp only [v]
    omega
  · intro h' _ hne
    refine Finset.sum_eq_zero fun e _ => ?_
    have v : ((finProdFinEquiv (m := 8) (n := 64)) (h', e)).val = e.val + 64 * h'.val := rfl
    have f1 : ¬ ((finProdFinEquiv (m := 8) (n := 64)) (h', e)).val / 64 = h.val := by
      rw [v]; intro hh; exact hne (Fin.ext (by omega))
    rw [if_neg f1, zero_mul, mul_zero]
  · intro hh; exact absurd (Finset.mem_univ _) hh

end

end Cert.Proj
-- ==== Proof.ProjOut.lean ====
module

public import proofs.«01_k».proof.Proof.Gen.Kernel4Ideal.Value
public import Idealize.ShloMosaic.Lib.Pipeline.ValueKit
public import proofs.«01_k».proof.Proof.ProjPay

@[expose] public section

set_option maxRecDepth 16384

noncomputable section

/-! # What one point of the projection kernel leaves in its ten staging buffers -/

namespace Cert.Proj

open Cert.Kernel4Ideal Cert.Kernel4Ideal.Gen Idealize.ShloMosaic Idealize.ShloMosaic.TcCoe Idealize.SL.Sem

theorem idx2 {n m : ℕ} (x : (⟨2, ![n, m]⟩ : Shape).Idx) (r : Fin n) (h : r.val = (x 0).val) : ∃ j : Fin m, x = ix2 r j := by
  refine ⟨x 1, ?_⟩
  funext a
  match a with
  | ⟨0, _⟩ => exact (Fin.ext h).symm
  | ⟨1, _⟩ => rfl

theorem idx3 {n m : ℕ} (x : (⟨3, ![1, n, m]⟩ : Shape).Idx) (r : Fin n) (h : r.val = (x 1).val) : ∃ j : Fin m, x = ix3 (0 : Fin 1) r j := by
  refine ⟨x 2, ?_⟩
  funext a
  match a with
  | ⟨0, _⟩ => exact Fin.ext (by have := (x 0).isLt; change (x 0).val < 1 at this; show (x 0).val = 0; omega)
  | ⟨1, _⟩ => exact (Fin.ext h).symm
  | ⟨2, _⟩ => rfl

theorem idx4 {n m : ℕ} (x : (⟨4, ![1, 1, n, m]⟩ : Shape).Idx) (r : Fin n) (h : r.val = (x 2).val) :
    ∃ j : Fin m, x = ix4 (0 : Fin 1) (0 : Fin 1) r j := by
  refine ⟨x 3, ?_⟩
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => exact (Fin.ext h).symm
  | ⟨3, _⟩ => rfl

/-! The rows at the columns where their parts begin. -/

section rows
variable (p : Fin 5632 → EReal) (cs sn : Fin 32 → EReal) (ct st : Fin 16 → EReal)

theorem kv_k (k v : Fin 64 → EReal) (j : Fin 64) (d : Fin 128) (h : d.val = j.val) : kv k v cs sn d = rot64 k cs sn j := by
  unfold kv
  rw [dif_pos (by omega)]
  exact congrArg _ (Fin.ext h)

theorem kv_v (k v : Fin 64 → EReal) (j : Fin 64) (d : Fin 128) (h : d.val = 64 + j.val) : kv k v cs sn d = v j := by
  unfold kv
  rw [dif_neg (by omega)]
  exact congrArg _ (Fin.ext (by show d.val - 64 = j.val; omega))

theorem q3Row_0 (b : Fin 3) (h : Fin 8) (j : Fin 64) (o : ℕ) (ho : o + 64 ≤ 5632) (hb : b.val = 0) (hh : o = h.val * 64) :
    q3Row p cs sn b h j = rot64 (cols 64 o ho p) cs sn j * Ideal.ofBits .f32 0x3E000000#32 := by
  unfold q3Row
  rw [if_pos hb]
  obtain rfl : o = 0 + h.val * 64 := by omega
  rfl

theorem q3Row_1 (b : Fin 3) (h : Fin 8) (j : Fin 64) (o : ℕ) (ho : o + 64 ≤ 5632) (hb : b.val = 1) (hh : o = 640 + h.val * 64) :
    q3Row p cs sn b h j = rot64 (cols 64 o ho p) cs sn j := by
  unfold q3Row
  rw [if_neg (by omega), if_pos hb]
  subst hh
  rfl

theorem q3Row_2 (b : Fin 3) (h : Fin 8) (j : Fin 64) (o : ℕ) (ho : o + 64 ≤ 5632) (hb : b.val = 2) (hh : o = 1224 + h.val * 64) :
    q3Row p cs sn b h j = rot64 (cols 64 o ho p) cs sn j * Ideal.ofBits .f32 0x3E000000#32 := by
  unfold q3Row
  rw [if_neg (by omega), if_neg (by omega)]
  subst hh
  rfl

theorem qcatRow_c (q : Fin 768 → EReal) (U : Fin 128 → Fin 8 → Fin 64 → EReal) (h : Fin 8) (j : Fin 128) (d : Fin 160) (hd : d.val = j.val) :
    qcatRow q ct st U h d = ∑ e : Fin 64, q ⟨h.val * 96 + e.val, by omega⟩ * U j h e := by
  unfold qcatRow
  rw [dif_pos (by omega)]
  have e : (⟨d.val, by omega⟩ : Fin 128) = j := Fin.ext hd
  rw [e]

theorem qcatRow_r (q : Fin 768 → EReal) (U : Fin 128 → Fin 8 → Fin 64 → EReal) (h : Fin 8) (j : Fin 32) (d : Fin 160) (hd : d.val = 128 + j.val)
    (k : Fin 8) (hk : h.val = k.val) :
    qcatRow q ct st U h d = rot32 (fun e => q ⟨k.val * 96 + 64 + e.val, by omega⟩) ct st j := by
  obtain rfl : h = k := Fin.ext hk
  unfold qcatRow
  rw [dif_neg (by omega)]
  exact congrArg _ (Fin.ext (by show d.val - 128 = j.val; omega))

theorem mlaRow_c (g : Fin 128 → EReal) (j : Fin 128) (d : Fin 160) (h : d.val = j.val) :
    mlaRow p g ct st d = nrm (Ideal.ofBits .f32 0x43000000#32) (cols 128 2400 (by omega) p) g j := by
  unfold mlaRow
  rw [dif_pos (by omega)]
  exact congrArg _ (Fin.ext h)

theorem mlaRow_r (g : Fin 128 → EReal) (j : Fin 32) (d : Fin 160) (h : d.val = 128 + j.val) :
    mlaRow p g ct st d = rot32 (cols 32 2528 (by omega) p) ct st j := by
  unfold mlaRow
  rw [dif_neg (by omega)]
  exact congrArg _ (Fin.ext (by show d.val - 128 = j.val; omega))

theorem dsaRow_i (j : Fin 64) (d : Fin 192) (h : d.val = 128 + j.val) : dsaRow p cs sn d = rot64 (cols 64 1152 (by omega) p) cs sn j := by
  unfold dsaRow
  rw [dif_neg (by omega)]
  exact congrArg _ (Fin.ext (by show d.val - 128 = j.val; omega))

theorem dsaRow_kv (d : Fin 192) (h : d.val < 128) :
    dsaRow p cs sn d = kv (cols 64 512 (by omega) p) (cols 64 576 (by omega) p) cs sn ⟨d.val, h⟩ := by
  unfold dsaRow
  rw [dif_pos h]

theorem nsaRow_lo (d : Fin 256) (h : d.val < 128) :
    nsaRow p cs sn d = kv (cols 64 1736 (by omega) p) (cols 64 1800 (by omega) p) cs sn ⟨d.val, h⟩ := by
  unfold nsaRow
  rw [dif_pos h]

theorem nsaRow_hi (d : Fin 256) (h : ¬ d.val < 128) :
    nsaRow p cs sn d = kv (cols 64 1864 (by omega) p) (cols 64 1928 (by omega) p) cs sn ⟨d.val - 128, by omega⟩ := by
  unfold nsaRow
  rw [dif_neg h]

end rows

/-- The matrix holds the heads' key matrices `U` on its diagonal, and zeros off it. -/
def Diag (w : FVec Ideal S512x1024 .bf16) (U : Fin 128 → Fin 8 → Fin 64 → EReal) : Prop :=
  ∀ (k : Fin 512) (l : Fin 1024), w (ix2 k l)
    = (if k.val / 64 = l.val / 128 then 1 else 0) * U ⟨l.val % 128, by omega⟩ ⟨l.val / 128, by omega⟩ ⟨k.val % 64, by omega⟩

/-! The stored pieces, each a group of columns of what was computed. -/

section pieces
variable {a : FVec Ideal S256x1920 .f32} {b : FVec Ideal S256x768 .f32} {P : Fin 256 → Fin 5632 → EReal} {c s t : FVec Ideal S256x128 .f32}
  {cs sn : Fin 256 → Fin 32 → EReal} {ct st : Fin 256 → Fin 16 → EReal}
  (hA : ∀ r k c, permR k.val c.val → a (ix2 r k) = P r c) (hB : ∀ r k c, permP k.val c.val → b (ix2 r k) = P r c)
  (T : Tab64 c s t cs sn) (T' : Tab32 c s t ct st)

section
include hA T

theorem st30 (r : Fin 256) (j : Fin 64) :
    k0_pay30 (F := Ideal) (k0_pay15 a c s t) (ix4 (0 : Fin 1) (0 : Fin 1) r j) = rot64 (cols 64 0 (by omega) (P r)) (cs r) (sn r) j * Ideal.ofBits .f32 0x3E000000#32 := by
  rw [← pay15_0 hA T r ⟨j.val, by omega⟩ j (by show j.val = _; omega)]
  unfold k0_pay30
  pointwise
  try rfl

theorem st31 (r : Fin 256) (j : Fin 64) :
    k0_pay31 (F := Ideal) (k0_pay15 a c s t) (ix4 (0 : Fin 1) (0 : Fin 1) r j) = rot64 (cols 64 64 (by omega) (P r)) (cs r) (sn r) j * Ideal.ofBits .f32 0x3E000000#32 := by
  rw [← pay15_1 hA T r ⟨64 + j.val, by omega⟩ j (by show 64 + j.val = _; omega)]
  unfold k0_pay31
  pointwise
  try rfl

theorem st33 (r : Fin 256) (j : Fin 64) :
    k0_pay33 (F := Ideal) (k0_pay32 (k0_pay16 a c s t)) (ix4 (0 : Fin 1) (0 : Fin 1) r j) = rot64 (cols 64 128 (by omega) (P r)) (cs r) (sn r) j * Ideal.ofBits .f32 0x3E000000#32 := by
  rw [← pay16_0 hA T r ⟨j.val, by omega⟩ j (by show j.val = _; omega)]
  unfold k0_pay32 k0_pay33
  pointwise
  try rfl

theorem st34 (r : Fin 256) (j : Fin 64) :
    k0_pay34 (F := Ideal) (k0_pay16 a c s t) (ix4 (0 : Fin 1) (0 : Fin 1) r j) = rot64 (cols 64 192 (by omega) (P r)) (cs r) (sn r) j * Ideal.ofBits .f32 0x3E000000#32 := by
  rw [← pay16_1 hA T r ⟨64 + j.val, by omega⟩ j (by show 64 + j.val = _; omega)]
  unfold k0_pay34
  pointwise
  try rfl

theorem st35 (r : Fin 256) (j : Fin 64) :
    k0_pay35 (F := Ideal) (k0_pay17 a c s t) (ix4 (0 : Fin 1) (0 : Fin 1) r j) = rot64 (cols 64 256 (by omega) (P r)) (cs r) (sn r) j * Ideal.ofBits .f32 0x3E000000#32 := by
  rw [← pay17_0 hA T r ⟨j.val, by omega⟩ j (by show j.val = _; omega)]
  unfold k0_pay35
  pointwise
  try rfl

theorem st36 (r : Fin 256) (j : Fin 64) :
    k0_pay36 (F := Ideal) (k0_pay17 a c s t) (ix4 (0 : Fin 1) (0 : Fin 1) r j) = rot64 (cols 64 320 (by omega) (P r)) (cs r) (sn r) j * Ideal.ofBits .f32 0x3E000000#32 := by
  rw [← pay17_1 hA T r ⟨64 + j.val, by omega⟩ j (by show 64 + j.val = _; omega)]
  unfold k0_pay36
  pointwise
  try rfl

theorem st37 (r : Fin 256) (j : Fin 64) :
    k0_pay37 (F := Ideal) (k0_pay18 a c s t) (ix4 (0 : Fin 1) (0 : Fin 1) r j) = rot64 (cols 64 384 (by omega) (P r)) (cs r) (sn r) j * Ideal.ofBits .f32 0x3E000000#32 := by
  rw [← pay18_0 hA T r ⟨j.val, by omega⟩ j (by show j.val = _; omega)]
  unfold k0_pay37
  pointwise
  try rfl

theorem st38 (r : Fin 256) (j : Fin 64) :
    k0_pay38 (F := Ideal) (k0_pay18 a c s t) (ix4 (0 : Fin 1) (0 : Fin 1) r j) = rot64 (cols 64 448 (by omega) (P r)) (cs r) (sn r) j * Ideal.ofBits .f32 0x3E000000#32 := by
  rw [← pay18_1 hA T r ⟨64 + j.val, by omega⟩ j (by show 64 + j.val = _; omega)]
  unfold k0_pay38
  pointwise
  try rfl

theorem st39 (r : Fin 256) (j : Fin 64) :
    k0_pay39 (F := Ideal) (k0_pay19 a c s t) (ix4 (0 : Fin 1) (0 : Fin 1) r j) = rot64 (cols 64 640 (by omega) (P r)) (cs r) (sn r) j := by
  rw [← pay19_0 hA T r ⟨j.val, by omega⟩ j (by show j.val = _; omega)]
  unfold k0_pay39
  pointwise
  try exact mul_one _

theorem st40 (r : Fin 256) (j : Fin 64) :
    k0_pay40 (F := Ideal) (k0_pay19 a c s t) (ix4 (0 : Fin 1) (0 : Fin 1) r j) = rot64 (cols 64 704 (by omega) (P r)) (cs r) (sn r) j := by
  rw [← pay19_1 hA T r ⟨64 + j.val, by omega⟩ j (by show 64 + j.val = _; omega)]
  unfold k0_pay40
  pointwise
  try exact mul_one _

theorem st41 (r : Fin 256) (j : Fin 64) :
    k0_pay41 (F := Ideal) (k0_pay20 a c s t) (ix4 (0 : Fin 1) (0 : Fin 1) r j) = rot64 (cols 64 768 (by omega) (P r)) (cs r) (sn r) j := by
  rw [← pay20_0 hA T r ⟨j.val, by omega⟩ j (by show j.val = _; omega)]
  unfold k0_pay41
  pointwise
  try exact mul_one _

theorem st43 (r : Fin 256) (j : Fin 64) :
    k0_pay43 (F := Ideal) (k0_pay42 (k0_pay20 a c s t)) (ix4 (0 : Fin 1) (0 : Fin 1) r j) = rot64 (cols 64 832 (by omega) (P r)) (cs r) (sn r) j := by
  rw [← pay20_1 hA T r ⟨64 + j.val, by omega⟩ j (by show 64 + j.val = _; omega)]
  unfold k0_pay42 k0_pay43
  pointwise
  try exact mul_one _

theorem st44 (r : Fin 256) (j : Fin 64) :
    k0_pay44 (F := Ideal) (k0_pay21 a c s t) (ix4 (0 : Fin 1) (0 : Fin 1) r j) = rot64 (cols 64 896 (by omega) (P r)) (cs r) (sn r) j := by
  rw [← pay21_0 hA T r ⟨j.val, by omega⟩ j (by show j.val = _; omega)]
  unfold k0_pay44
  pointwise
  try exact mul_one _

theorem st45 (r : Fin 256) (j : Fin 64) :
    k0_pay45 (F := Ideal) (k0_pay21 a c s t) (ix4 (0 : Fin 1) (0 : Fin 1) r j) = rot64 (cols 64 960 (by omega) (P r)) (cs r) (sn r) j := by
  rw [← pay21_1 hA T r ⟨64 + j.val, by omega⟩ j (by show 64 + j.val = _; omega)]
  unfold k0_pay45
  pointwise
  try exact mul_one _

theorem st46 (r : Fin 256) (j : Fin 64) :
    k0_pay46 (F := Ideal) (k0_pay22 a c s t) (ix4 (0 : Fin 1) (0 : Fin 1) r j) = rot64 (cols 64 1024 (by omega) (P r)) (cs r) (sn r) j := by
  rw [← pay22_0 hA T r ⟨j.val, by omega⟩ j (by show j.val = _; omega)]
  unfold k0_pay46
  pointwise
  try exact mul_one _

theorem st47 (r : Fin 256) (j : Fin 64) :
    k0_pay47 (F := Ideal) (k0_pay22 a c s t) (ix4 (0 : Fin 1) (0 : Fin 1) r j) = rot64 (cols 64 1088 (by omega) (P r)) (cs r) (sn r) j := by
  rw [← pay22_1 hA T r ⟨64 + j.val, by omega⟩ j (by show 64 + j.val = _; omega)]
  unfold k0_pay47
  pointwise
  try exact mul_one _

theorem st49 (r : Fin 256) (j : Fin 64) :
    k0_pay49 (F := Ideal) (k0_pay48 (k0_pay23 a c s t)) (FloatOps.ofBits FTy.f32 0x3E000000#32) (ix4 (0 : Fin 1) (0 : Fin 1) r j) = rot64 (cols 64 1224 (by omega) (P r)) (cs r) (sn r) j * Ideal.ofBits .f32 0x3E000000#32 := by
  rw [← pay23_0 hA T r ⟨j.val, by omega⟩ j (by show j.val = _; omega)]
  unfold k0_pay48 k0_pay49
  pointwise
  try rfl

theorem st50 (r : Fin 256) (j : Fin 64) :
    k0_pay50 (F := Ideal) (k0_pay23 a c s t) (ix4 (0 : Fin 1) (0 : Fin 1) r j) = rot64 (cols 64 1288 (by omega) (P r)) (cs r) (sn r) j * Ideal.ofBits .f32 0x3E000000#32 := by
  rw [← pay23_1 hA T r ⟨64 + j.val, by omega⟩ j (by show 64 + j.val = _; omega)]
  unfold k0_pay50
  pointwise
  try rfl

theorem st51 (r : Fin 256) (j : Fin 64) :
    k0_pay51 (F := Ideal) (k0_pay24 a c s t) (ix4 (0 : Fin 1) (0 : Fin 1) r j) = rot64 (cols 64 1352 (by omega) (P r)) (cs r) (sn r) j * Ideal.ofBits .f32 0x3E000000#32 := by
  rw [← pay24_0 hA T r ⟨j.val, by omega⟩ j (by show j.val = _; omega)]
  unfold k0_pay51
  pointwise
  try rfl

theorem st52 (r : Fin 256) (j : Fin 64) :
    k0_pay52 (F := Ideal) (k0_pay24 a c s t) (ix4 (0 : Fin 1) (0 : Fin 1) r j) = rot64 (cols 64 1416 (by omega) (P r)) (cs r) (sn r) j * Ideal.ofBits .f32 0x3E000000#32 := by
  rw [← pay24_1 hA T r ⟨64 + j.val, by omega⟩ j (by show 64 + j.val = _; omega)]
  unfold k0_pay52
  pointwise
  try rfl

theorem st54 (r : Fin 256) (j : Fin 64) :
    k0_pay54 (F := Ideal) (k0_pay53 (k0_pay25 a c s t)) (ix4 (0 : Fin 1) (0 : Fin 1) r j) = rot64 (cols 64 1480 (by omega) (P r)) (cs r) (sn r) j * Ideal.ofBits .f32 0x3E000000#32 := by
  rw [← pay25_0 hA T r ⟨j.val, by omega⟩ j (by show j.val = _; omega)]
  unfold k0_pay53 k0_pay54
  pointwise
  try rfl

theorem st55 (r : Fin 256) (j : Fin 64) :
    k0_pay55 (F := Ideal) (k0_pay25 a c s t) (ix4 (0 : Fin 1) (0 : Fin 1) r j) = rot64 (cols 64 1544 (by omega) (P r)) (cs r) (sn r) j * Ideal.ofBits .f32 0x3E000000#32 := by
  rw [← pay25_1 hA T r ⟨64 + j.val, by omega⟩ j (by show 64 + j.val = _; omega)]
  unfold k0_pay55
  pointwise
  try rfl

theorem st56 (r : Fin 256) (j : Fin 64) :
    k0_pay56 (F := Ideal) (k0_pay26 a c s t) (ix4 (0 : Fin 1) (0 : Fin 1) r j) = rot64 (cols 64 1608 (by omega) (P r)) (cs r) (sn r) j * Ideal.ofBits .f32 0x3E000000#32 := by
  rw [← pay26_0 hA T r ⟨j.val, by omega⟩ j (by show j.val = _; omega)]
  unfold k0_pay56
  pointwise
  try rfl

theorem st57 (r : Fin 256) (j : Fin 64) :
    k0_pay57 (F := Ideal) (k0_pay26 a c s t) (ix4 (0 : Fin 1) (0 : Fin 1) r j) = rot64 (cols 64 1672 (by omega) (P r)) (cs r) (sn r) j * Ideal.ofBits .f32 0x3E000000#32 := by
  rw [← pay26_1 hA T r ⟨64 + j.val, by omega⟩ j (by show 64 + j.val = _; omega)]
  unfold k0_pay57
  pointwise
  try rfl

theorem st58 (r : Fin 256) (j : Fin 64) : k0_pay58 (F := Ideal) (k0_pay27 a c s t) (ix2 r j) = rot64 (cols 64 512 (by omega) (P r)) (cs r) (sn r) j := by
  rw [← pay27_0 hA T r ⟨j.val, by omega⟩ j (by show j.val = _; omega)]
  unfold k0_pay58
  pointwise
  try rfl

theorem st59 (r : Fin 256) (j : Fin 64) : k0_pay59 (F := Ideal) (k0_pay27 a c s t) (ix2 r j) = rot64 (cols 64 1152 (by omega) (P r)) (cs r) (sn r) j := by
  rw [← pay27_1 hA T r ⟨64 + j.val, by omega⟩ j (by show 64 + j.val = _; omega)]
  unfold k0_pay59
  pointwise
  try rfl

theorem st60 (r : Fin 256) (j : Fin 64) : k0_pay60 (F := Ideal) (k0_pay28 a c s t) (ix2 r j) = rot64 (cols 64 1736 (by omega) (P r)) (cs r) (sn r) j := by
  rw [← pay28_0 hA T r ⟨j.val, by omega⟩ j (by show j.val = _; omega)]
  unfold k0_pay60
  pointwise
  try rfl

theorem st61 (r : Fin 256) (j : Fin 64) : k0_pay61 (F := Ideal) (k0_pay28 a c s t) (ix2 r j) = rot64 (cols 64 1864 (by omega) (P r)) (cs r) (sn r) j := by
  rw [← pay28_1 hA T r ⟨64 + j.val, by omega⟩ j (by show 64 + j.val = _; omega)]
  unfold k0_pay61
  pointwise
  try rfl

theorem st62 (r : Fin 256) (j : Fin 64) : k0_pay62 (F := Ideal) (k0_pay29 a c s t) (ix2 r j) = rot64 (cols 64 1992 (by omega) (P r)) (cs r) (sn r) j := by
  rw [← pay29_0 hA T r ⟨j.val, by omega⟩ j (by show j.val = _; omega)]
  unfold k0_pay62
  pointwise
  try rfl

end

section
include hB

theorem st63 (r : Fin 256) (j : Fin 64) : k0_pay63 (F := Ideal) b (ix2 r j) = cols 64 576 (by omega) (P r) j := by
  unfold k0_pay63
  pointwise
  exact hB r _ _ (by unfold permP; simp only []; omega)

theorem st64 (r : Fin 256) (j : Fin 64) : k0_pay64 (F := Ideal) b (ix2 r j) = cols 64 1800 (by omega) (P r) j := by
  unfold k0_pay64
  pointwise
  exact hB r _ _ (by unfold permP; simp only []; omega)

theorem st65 (r : Fin 256) (j : Fin 64) : k0_pay65 (F := Ideal) b (ix2 r j) = cols 64 1928 (by omega) (P r) j := by
  unfold k0_pay65
  pointwise
  exact hB r _ _ (by unfold permP; simp only []; omega)

theorem st66 (r : Fin 256) (j : Fin 64) : k0_pay66 (F := Ideal) b (ix2 r j) = cols 64 2056 (by omega) (P r) j := by
  unfold k0_pay66
  pointwise
  exact hB r _ _ (by unfold permP; simp only []; omega)

end

theorem st67 (v : FVec Ideal S256x64 .f32) (r : Fin 256) (j : Fin 64) : k0_pay67 (F := Ideal) v (ix3 (0 : Fin 1) r j) = v (ix2 r j) := by
  unfold k0_pay67
  pointwise
  try rfl

theorem st68 (v : FVec Ideal S256x64 .f32) (r : Fin 256) (j : Fin 64) : k0_pay68 (F := Ideal) v (ix3 (0 : Fin 1) r j) = v (ix2 r j) := by
  unfold k0_pay68
  pointwise
  try rfl

theorem st69 (v : FVec Ideal S256x64 .f32) (r : Fin 256) (j : Fin 64) : k0_pay69 (F := Ideal) v (ix3 (0 : Fin 1) r j) = v (ix2 r j) := by
  unfold k0_pay69
  pointwise
  try rfl

theorem st70 (v : FVec Ideal S256x64 .f32) (r : Fin 256) (j : Fin 64) : k0_pay70 (F := Ideal) v (ix3 (0 : Fin 1) r j) = v (ix2 r j) := by
  unfold k0_pay70
  pointwise
  try rfl

theorem st72 (v : FVec Ideal S256x64 .f32) (r : Fin 256) (j : Fin 64) : k0_pay72 (F := Ideal) (k0_pay71 v) (ix3 (0 : Fin 1) r j) = v (ix2 r j) := by
  unfold k0_pay71 k0_pay72
  pointwise
  try rfl

theorem st73 (v : FVec Ideal S256x64 .f32) (r : Fin 256) (j : Fin 64) : k0_pay73 (F := Ideal) v (ix3 (0 : Fin 1) r j) = v (ix2 r j) := by
  unfold k0_pay73
  pointwise
  try rfl

theorem st74 (v : FVec Ideal S256x64 .f32) (r : Fin 256) (j : Fin 64) : k0_pay74 (F := Ideal) v (ix3 (0 : Fin 1) r j) = v (ix2 r j) := by
  unfold k0_pay74
  pointwise
  try rfl

section
variable {q : FVec Ideal S256x768 .f32} {Q : Fin 256 → Fin 768 → EReal} (hQ : ∀ r k c, permQ k.val c.val → q (ix2 r k) = Q r c)

section
include hQ T'

theorem st89 (r : Fin 256) (j : Fin 32) :
    k0_pay89 (F := Ideal) c s t q (ix3 (0 : Fin 1) r j) = rot32 (fun e => Q r ⟨0 * 96 + 64 + e.val, by omega⟩) (ct r) (st r) j := by
  rw [← pay86_0 T' hQ r ⟨j.val, by omega⟩ j (by show j.val = _; omega)]
  unfold k0_pay89
  pointwise
  try rfl

theorem st91 (r : Fin 256) (j : Fin 32) :
    k0_pay91 (F := Ideal) c s t q (ix3 (0 : Fin 1) r j) = rot32 (fun e => Q r ⟨1 * 96 + 64 + e.val, by omega⟩) (ct r) (st r) j := by
  rw [← pay86_1 T' hQ r ⟨32 + j.val, by omega⟩ j (by show 32 + j.val = _; omega)]
  unfold k0_pay91
  pointwise
  try rfl

theorem st94 (r : Fin 256) (j : Fin 32) :
    k0_pay94 (F := Ideal) (k0_pay86 c s t q) (ix3 (0 : Fin 1) r j) = rot32 (fun e => Q r ⟨2 * 96 + 64 + e.val, by omega⟩) (ct r) (st r) j := by
  rw [← pay86_2 T' hQ r ⟨64 + j.val, by omega⟩ j (by show 64 + j.val = _; omega)]
  unfold k0_pay94
  pointwise
  try rfl

theorem st96 (r : Fin 256) (j : Fin 32) :
    k0_pay96 (F := Ideal) (k0_pay86 c s t q) (ix3 (0 : Fin 1) r j) = rot32 (fun e => Q r ⟨3 * 96 + 64 + e.val, by omega⟩) (ct r) (st r) j := by
  rw [← pay86_3 T' hQ r ⟨96 + j.val, by omega⟩ j (by show 96 + j.val = _; omega)]
  unfold k0_pay96
  pointwise
  try rfl

theorem st98 (r : Fin 256) (j : Fin 32) :
    k0_pay98 (F := Ideal) (k0_pay87 c s t q) (ix3 (0 : Fin 1) r j) = rot32 (fun e => Q r ⟨4 * 96 + 64 + e.val, by omega⟩) (ct r) (st r) j := by
  rw [← pay87_0 T' hQ r ⟨j.val, by omega⟩ j (by show j.val = _; omega)]
  unfold k0_pay98
  pointwise
  try rfl

theorem st1 (r : Fin 256) (j : Fin 32) :
    k0_pay1 (F := Ideal) (k0_pay87 c s t q) (ix3 (0 : Fin 1) r j) = rot32 (fun e => Q r ⟨5 * 96 + 64 + e.val, by omega⟩) (ct r) (st r) j := by
  rw [← pay87_1 T' hQ r ⟨32 + j.val, by omega⟩ j (by show 32 + j.val = _; omega)]
  unfold k0_pay1
  pointwise
  try rfl

theorem st3 (r : Fin 256) (j : Fin 32) :
    k0_pay3 (F := Ideal) (k0_pay87 c s t q) (ix3 (0 : Fin 1) r j) = rot32 (fun e => Q r ⟨6 * 96 + 64 + e.val, by omega⟩) (ct r) (st r) j := by
  rw [← pay87_2 T' hQ r ⟨64 + j.val, by omega⟩ j (by show 64 + j.val = _; omega)]
  unfold k0_pay3
  pointwise
  try rfl

theorem st5 (r : Fin 256) (j : Fin 32) :
    k0_pay5 (F := Ideal) (k0_pay87 c s t q) (ix3 (0 : Fin 1) r j) = rot32 (fun e => Q r ⟨7 * 96 + 64 + e.val, by omega⟩) (ct r) (st r) j := by
  rw [← pay87_3 T' hQ r ⟨96 + j.val, by omega⟩ j (by show 96 + j.val = _; omega)]
  unfold k0_pay5
  pointwise
  try rfl

end

theorem st88 (z : FVec Ideal S256x512 .bf16) (w : FVec Ideal S512x1024 .bf16) (z0 : FVec Ideal S256x1024 .f32) (r : Fin 256) (j : Fin 128) :
    k0_pay88 (F := Ideal) z w z0 (ix3 (0 : Fin 1) r j) = k0_pay85 (F := Ideal) z w z0 (ix2 r ⟨j.val, by omega⟩) := by
  unfold k0_pay88
  pointwise
  try rfl

theorem st90 (z : FVec Ideal S256x512 .bf16) (w : FVec Ideal S512x1024 .bf16) (z0 : FVec Ideal S256x1024 .f32) (r : Fin 256) (j : Fin 128) :
    k0_pay90 (F := Ideal) z w z0 (ix3 (0 : Fin 1) r j) = k0_pay85 (F := Ideal) z w z0 (ix2 r ⟨128 + j.val, by omega⟩) := by
  unfold k0_pay90
  pointwise
  try rfl

theorem st93 (z : FVec Ideal S256x512 .bf16) (w : FVec Ideal S512x1024 .bf16) (z0 : FVec Ideal S256x1024 .f32) (r : Fin 256) (j : Fin 128) :
    k0_pay93 (F := Ideal) (k0_pay92 z w z0) (ix3 (0 : Fin 1) r j) = k0_pay85 (F := Ideal) z w z0 (ix2 r ⟨256 + j.val, by omega⟩) := by
  unfold k0_pay92 k0_pay93
  pointwise
  try rfl

theorem st95 (z : FVec Ideal S256x512 .bf16) (w : FVec Ideal S512x1024 .bf16) (z0 : FVec Ideal S256x1024 .f32) (r : Fin 256) (j : Fin 128) :
    k0_pay95 (F := Ideal) (k0_pay85 z w z0) (ix3 (0 : Fin 1) r j) = k0_pay85 (F := Ideal) z w z0 (ix2 r ⟨384 + j.val, by omega⟩) := by
  unfold k0_pay95
  pointwise
  try rfl

theorem st97 (z : FVec Ideal S256x512 .bf16) (w : FVec Ideal S512x1024 .bf16) (z0 : FVec Ideal S256x1024 .f32) (r : Fin 256) (j : Fin 128) :
    k0_pay97 (F := Ideal) (k0_pay85 z w z0) (ix3 (0 : Fin 1) r j) = k0_pay85 (F := Ideal) z w z0 (ix2 r ⟨512 + j.val, by omega⟩) := by
  unfold k0_pay97
  pointwise
  try rfl

theorem st99 (z : FVec Ideal S256x512 .bf16) (w : FVec Ideal S512x1024 .bf16) (z0 : FVec Ideal S256x1024 .f32) (r : Fin 256) (j : Fin 128) :
    k0_pay99 (F := Ideal) (k0_pay85 z w z0) (ix3 (0 : Fin 1) r j) = k0_pay85 (F := Ideal) z w z0 (ix2 r ⟨640 + j.val, by omega⟩) := by
  unfold k0_pay99
  pointwise
  try rfl

theorem st2 (z : FVec Ideal S256x512 .bf16) (w : FVec Ideal S512x1024 .bf16) (z0 : FVec Ideal S256x1024 .f32) (r : Fin 256) (j : Fin 128) :
    k0_pay2 (F := Ideal) (k0_pay85 z w z0) (ix3 (0 : Fin 1) r j) = k0_pay85 (F := Ideal) z w z0 (ix2 r ⟨768 + j.val, by omega⟩) := by
  unfold k0_pay2
  pointwise
  try rfl

theorem st4 (z : FVec Ideal S256x512 .bf16) (w : FVec Ideal S512x1024 .bf16) (z0 : FVec Ideal S256x1024 .f32) (r : Fin 256) (j : Fin 128) :
    k0_pay4 (F := Ideal) (k0_pay85 z w z0) (ix3 (0 : Fin 1) r j) = k0_pay85 (F := Ideal) z w z0 (ix2 r ⟨896 + j.val, by omega⟩) := by
  unfold k0_pay4
  pointwise
  try rfl

end

end pieces

theorem pay84_eq (w : FVec Ideal S512x1024 .bf16) : k0_pay84 (F := Ideal) w = w := by
  funext i
  obtain ⟨j, hj⟩ := idx2 (n := 512) (m := 1024) i ⟨(i 0).val, (i 0).isLt⟩ rfl
  rw [hj]
  unfold k0_pay84
  pointwise
  try rfl

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S1024x768 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x256 .f32) (harg11 : arg11.IsWhole) (arg12 : Memref sig .tc .vmem S256x768 .bf16) (harg12 : arg12.IsWhole) (arg13 : Memref sig .tc .vmem S512x1024 .bf16) (harg13 : arg13.IsWhole) (arg14 : Memref sig .tc .vmem S1x128 .f32) (harg14 : arg14.IsWhole) (arg15 : Memref sig .tc .vmem S3x8x256x64 .bf16) (harg15 : arg15.IsWhole) (arg16 : Memref sig .tc .vmem S8x256x160 .bf16) (harg16 : arg16.IsWhole) (arg17 : Memref sig .tc .vmem S256x8 .f32) (harg17 : arg17.IsWhole) (arg18 : Memref sig .tc .vmem S256x24 .f32) (harg18 : arg18.IsWhole) (arg19 : Memref sig .tc .vmem S256x192 .f32) (harg19 : arg19.IsWhole) (arg20 : Memref sig .tc .vmem S256x256 .f32) (harg20 : arg20.IsWhole) (arg21 : Memref sig .tc .vmem S256x160 .f32) (harg21 : arg21.IsWhole) (arg22 : Memref sig .tc .vmem S256x128 .f32) (harg22 : arg22.IsWhole) (arg23 : Memref sig .tc .vmem S7x256x64 .bf16) (harg23 : arg23.IsWhole) (arg24 : Memref sig .tc .vmem S256x160 .bf16) (harg24 : arg24.IsWhole)
  {x0 : Vec Ideal S256x1024 .f32} {x1 : Vec Ideal S1x1024 .f32} {x2 : Vec Ideal S1024x1920 .bf16} {x3 : Vec Ideal S1024x768 .bf16} {x4 : Vec Ideal S256x128 .f32} {x5 : Vec Ideal S256x128 .f32} {x6 : Vec Ideal S256x128 .f32} {x7 : Vec Ideal S256x128 .f32} {x8 : Vec Ideal S256x128 .f32} {x9 : Vec Ideal S256x128 .f32} {x10 : Vec Ideal S1x256 .f32} {x11 : Vec Ideal S256x768 .bf16} {x12 : Vec Ideal S512x1024 .bf16} {x13 : Vec Ideal S1x128 .f32}
  {P : Fin 256 → Fin 5632 → EReal} {cs sn : Fin 256 → Fin 32 → EReal} {ct st : Fin 256 → Fin 16 → EReal}
  {W : Fin 256 → Fin 768 → EReal} {U : Fin 128 → Fin 8 → Fin 64 → EReal}
  (hA : ∀ r k c, permR k.val c.val → k0_pay7 (F := Ideal) x0 x1 x2 (ix2 r k) = P r c)
  (hB : ∀ r k c, permP k.val c.val → k0_pay8 (F := Ideal) x0 x1 x3 (ix2 r k) = P r c)
  (T : Tab64 x4 x5 x6 cs sn) (T' : Tab32 x7 x8 x9 ct st)
  (hW : ∀ i k c, permQ k.val c.val → x11 (ix2 i k) = W i c)
  (hU : Diag x12 U)

include hB in
/-- The index heads' weights. -/
theorem out16_apply (r : Fin 256) (d : Fin 8) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = idxwRow (P r) d := by
  have e : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay80 (k0_pay76 (k0_pay8 x0 x1 x3)) := by frame_out
  rw [e]
  exact pay80_apply hB r d

include hB in
/-- The sparse attention's gates. -/
theorem out17_apply (r : Fin 256) (d : Fin 24) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = gateRow (P r) d := by
  have e : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay81 (k0_pay76 (k0_pay8 x0 x1 x3)) := by frame_out
  rw [e]
  exact pay81_apply hB r d

include hB T' in
/-- The latent cache's row. -/
theorem out20_apply (r : Fin 256) (d : Fin 160) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = mlaRow (P r) (fun i => x13 (ix2 (0 : Fin 1) i)) (ct r) (st r) d := by
  frame_out
  canon_tiles x h using (View.cover_of_tiledBy _ ![256, 32] (by sl_kernel_rfl) _)
  · obtain ⟨j, rfl⟩ := idx2 (n := 256) (m := 32) x r h0
    have h1 : d.val = 128 + j.val := h1
    rw [mlaRow_r (P r) (ct r) (st r) _ j d h1, pay12_eq, pay13_eq, pay14_eq]
    skip
    exact pay77_apply hB T' r j
  · obtain ⟨j, rfl⟩ := idx2 (n := 256) (m := 128) x r h0
    have h1 : d.val = j.val := h1
    rw [mlaRow_c (P r) (ct r) (st r) _ j d h1]
    skip
    exact pay75_apply hB x13 r j

include hB T' in
/-- The latent cache's row, as the attention reads it. -/
theorem out23_apply (r : Fin 256) (d : Fin 160) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = mlaRow (P r) (fun i => x13 (ix2 (0 : Fin 1) i)) (ct r) (st r) d := by
  frame_out
  canon_tiles x h using (View.cover_of_tiledBy _ ![256, 32] (by sl_kernel_rfl) _)
  · obtain ⟨j, rfl⟩ := idx2 (n := 256) (m := 32) x r h0
    have h1 : d.val = 128 + j.val := h1
    rw [mlaRow_r (P r) (ct r) (st r) _ j d h1, pay12_eq, pay13_eq, pay14_eq]
    unfold k0_pay79; pointwise
    exact pay77_apply hB T' r j
  · obtain ⟨j, rfl⟩ := idx2 (n := 256) (m := 128) x r h0
    have h1 : d.val = j.val := h1
    rw [mlaRow_c (P r) (ct r) (st r) _ j d h1]
    unfold k0_pay78; pointwise
    exact pay75_apply hB x13 r j

include hA hB T in
/-- The first cache's row. -/
theorem out18_apply (r : Fin 256) (d : Fin 192) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = dsaRow (P r) (cs r) (sn r) d := by
  frame_out
  canon_tiles x h
  · obtain ⟨j, rfl⟩ := idx2 (n := 256) (m := 64) x r h0
    have h1 : d.val = 128 + j.val := h1
    rw [dsaRow_i _ _ _ j d h1, pay9_eq, pay10_eq, pay11_eq]
    exact st59 hA T r j
  · obtain ⟨j, rfl⟩ := idx2 (n := 256) (m := 64) x r h0
    have h1 : d.val = 64 + j.val := h1
    have hl : d.val < 128 := by omega
    rw [dsaRow_kv _ _ _ d hl, kv_v _ _ _ _ j ⟨d.val, hl⟩ h1]
    exact st63 hB r j
  · obtain ⟨j, rfl⟩ := idx2 (n := 256) (m := 64) x r h0
    have h1 : d.val = j.val := h1
    have hl : d.val < 128 := by omega
    rw [dsaRow_kv _ _ _ d hl, kv_k _ _ _ _ j ⟨d.val, hl⟩ h1, pay9_eq, pay10_eq, pay11_eq]
    exact st58 hA T r j

include hA hB T in
/-- The second cache's row. -/
theorem out19_apply (r : Fin 256) (d : Fin 256) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = nsaRow (P r) (cs r) (sn r) d := by
  frame_out
  canon_tiles x h
  · obtain ⟨j, rfl⟩ := idx2 (n := 256) (m := 64) x r h0
    have h1 : d.val = 192 + j.val := h1
    have hl : ¬ d.val < 128 := by omega
    rw [nsaRow_hi _ _ _ d hl, kv_v _ _ _ _ j ⟨d.val - 128, by omega⟩ (by show d.val - 128 = _; omega)]
    exact st65 hB r j
  · obtain ⟨j, rfl⟩ := idx2 (n := 256) (m := 64) x r h0
    have h1 : d.val = 128 + j.val := h1
    have hl : ¬ d.val < 128 := by omega
    rw [nsaRow_hi _ _ _ d hl, kv_k _ _ _ _ j ⟨d.val - 128, by omega⟩ (by show d.val - 128 = _; omega), pay9_eq, pay10_eq, pay11_eq]
    exact st61 hA T r j
  · obtain ⟨j, rfl⟩ := idx2 (n := 256) (m := 64) x r h0
    have h1 : d.val = 64 + j.val := h1
    have hl : d.val < 128 := by omega
    rw [nsaRow_lo _ _ _ d hl, kv_v _ _ _ _ j ⟨d.val, by omega⟩ h1]
    exact st64 hB r j
  · obtain ⟨j, rfl⟩ := idx2 (n := 256) (m := 64) x r h0
    have h1 : d.val = j.val := h1
    have hl : d.val < 128 := by omega
    rw [nsaRow_lo _ _ _ d hl, kv_k _ _ _ _ j ⟨d.val, by omega⟩ h1, pay9_eq, pay10_eq, pay11_eq]
    exact st60 hA T r j

include hA hB T in
/-- The window's row. -/
theorem out21_apply (r : Fin 256) (d : Fin 128) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = winRow (P r) (cs r) (sn r) d := by
  unfold winRow
  frame_out
  canon_tiles x h
  · obtain ⟨j, rfl⟩ := idx2 (n := 256) (m := 64) x r h0
    have h1 : d.val = 64 + j.val := h1
    rw [kv_v _ _ _ _ j d h1]
    exact st66 hB r j
  · obtain ⟨j, rfl⟩ := idx2 (n := 256) (m := 64) x r h0
    have h1 : d.val = j.val := h1
    rw [kv_k _ _ _ _ j d h1, pay9_eq, pay10_eq, pay11_eq]
    exact st62 hA T r j

include hA hB T in
/-- The seven keys and values. -/
theorem out22_apply (b : Fin 7) (r : Fin 256) (d : Fin 64) : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 b r d) = kv7Row (P r) (cs r) (sn r) b d := by
  frame_out
  canon_tiles x h
  · obtain ⟨j, rfl⟩ := idx3 (n := 256) (m := 64) x r h1
    have h0 : b.val = 6 + 0 := h0
    have h2 : d.val = j.val := h2
    have hb : b.val = 6 := by omega
    have hd : d = j := Fin.ext h2
    unfold kv7Row
    rw [if_neg (by omega), if_neg (by omega), if_neg (by omega), if_neg (by omega), if_neg (by omega), if_neg (by omega), st74, hd]
    exact st66 hB r j
  · obtain ⟨j, rfl⟩ := idx3 (n := 256) (m := 64) x r h1
    have h0 : b.val = 5 + 0 := h0
    have h2 : d.val = j.val := h2
    have hb : b.val = 5 := by omega
    have hd : d = j := Fin.ext h2
    unfold kv7Row
    rw [if_neg (by omega), if_neg (by omega), if_neg (by omega), if_neg (by omega), if_neg (by omega), if_pos hb, st73, pay9_eq, pay10_eq, pay11_eq, hd]
    exact st62 hA T r j
  · obtain ⟨j, rfl⟩ := idx3 (n := 256) (m := 64) x r h1
    have h0 : b.val = 4 + 0 := h0
    have h2 : d.val = j.val := h2
    have hb : b.val = 4 := by omega
    have hd : d = j := Fin.ext h2
    unfold kv7Row
    rw [if_neg (by omega), if_neg (by omega), if_neg (by omega), if_neg (by omega), if_pos hb, st72, hd]
    exact st65 hB r j
  · obtain ⟨j, rfl⟩ := idx3 (n := 256) (m := 64) x r h1
    have h0 : b.val = 3 + 0 := h0
    have h2 : d.val = j.val := h2
    have hb : b.val = 3 := by omega
    have hd : d = j := Fin.ext h2
    unfold kv7Row
    rw [if_neg (by omega), if_neg (by omega), if_neg (by omega), if_pos hb, st70, pay9_eq, pay10_eq, pay11_eq, hd]
    exact st61 hA T r j
  · obtain ⟨j, rfl⟩ := idx3 (n := 256) (m := 64) x r h1
    have h0 : b.val = 2 + 0 := h0
    have h2 : d.val = j.val := h2
    have hb : b.val = 2 := by omega
    have hd : d = j := Fin.ext h2
    unfold kv7Row
    rw [if_neg (by omega), if_neg (by omega), if_pos hb, st69, pay9_eq, pay10_eq, pay11_eq, hd]
    exact st59 hA T r j
  · obtain ⟨j, rfl⟩ := idx3 (n := 256) (m := 64) x r h1
    have h0 : b.val = 1 + 0 := h0
    have h2 : d.val = j.val := h2
    have hb : b.val = 1 := by omega
    have hd : d = j := Fin.ext h2
    unfold kv7Row
    rw [if_neg (by omega), if_pos hb, st68, hd]
    exact st63 hB r j
  · obtain ⟨j, rfl⟩ := idx3 (n := 256) (m := 64) x r h1
    have h0 : b.val = 0 := h0
    have h2 : d.val = j.val := h2
    have hb : b.val = 0 := by omega
    have hd : d = j := Fin.ext h2
    unfold kv7Row
    rw [if_pos hb, st67, pay9_eq, pay10_eq, pay11_eq, hd]
    exact st58 hA T r j

include hA T in
/-- The three groups of queries. -/
theorem out14_apply (b : Fin 3) (h : Fin 8) (r : Fin 256) (d : Fin 64) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix4 b h r d) = q3Row (P r) (cs r) (sn r) b h d := by
  frame_out
  canon_tiles x h
  · obtain ⟨j, rfl⟩ := idx4 (n := 256) (m := 64) x r h2
    have h0 : b.val = 2 + 0 := h0
    have h1 : h.val = 7 + 0 := h1
    have h3 : d.val = j.val := h3
    have hb : b.val = 2 := by omega
    have hh : h.val = 7 := by omega
    have hd : d = j := Fin.ext h3
    rw [q3Row_2 _ _ _ b h d 1672 (by omega) hb (by omega), pay9_eq, pay10_eq, pay11_eq, hd]
    exact st57 hA T r j
  · obtain ⟨j, rfl⟩ := idx4 (n := 256) (m := 64) x r h2
    have h0 : b.val = 2 + 0 := h0
    have h1 : h.val = 6 + 0 := h1
    have h3 : d.val = j.val := h3
    have hb : b.val = 2 := by omega
    have hh : h.val = 6 := by omega
    have hd : d = j := Fin.ext h3
    rw [q3Row_2 _ _ _ b h d 1608 (by omega) hb (by omega), pay9_eq, pay10_eq, pay11_eq, hd]
    exact st56 hA T r j
  · obtain ⟨j, rfl⟩ := idx4 (n := 256) (m := 64) x r h2
    have h0 : b.val = 2 + 0 := h0
    have h1 : h.val = 5 + 0 := h1
    have h3 : d.val = j.val := h3
    have hb : b.val = 2 := by omega
    have hh : h.val = 5 := by omega
    have hd : d = j := Fin.ext h3
    rw [q3Row_2 _ _ _ b h d 1544 (by omega) hb (by omega), pay9_eq, pay10_eq, pay11_eq, hd]
    exact st55 hA T r j
  · obtain ⟨j, rfl⟩ := idx4 (n := 256) (m := 64) x r h2
    have h0 : b.val = 2 + 0 := h0
    have h1 : h.val = 4 + 0 := h1
    have h3 : d.val = j.val := h3
    have hb : b.val = 2 := by omega
    have hh : h.val = 4 := by omega
    have hd : d = j := Fin.ext h3
    rw [q3Row_2 _ _ _ b h d 1480 (by omega) hb (by omega), pay9_eq, pay10_eq, pay11_eq, hd]
    exact st54 hA T r j
  · obtain ⟨j, rfl⟩ := idx4 (n := 256) (m := 64) x r h2
    have h0 : b.val = 2 + 0 := h0
    have h1 : h.val = 3 + 0 := h1
    have h3 : d.val = j.val := h3
    have hb : b.val = 2 := by omega
    have hh : h.val = 3 := by omega
    have hd : d = j := Fin.ext h3
    rw [q3Row_2 _ _ _ b h d 1416 (by omega) hb (by omega), pay9_eq, pay10_eq, pay11_eq, hd]
    exact st52 hA T r j
  · obtain ⟨j, rfl⟩ := idx4 (n := 256) (m := 64) x r h2
    have h0 : b.val = 2 + 0 := h0
    have h1 : h.val = 2 + 0 := h1
    have h3 : d.val = j.val := h3
    have hb : b.val = 2 := by omega
    have hh : h.val = 2 := by omega
    have hd : d = j := Fin.ext h3
    rw [q3Row_2 _ _ _ b h d 1352 (by omega) hb (by omega), pay9_eq, pay10_eq, pay11_eq, hd]
    exact st51 hA T r j
  · obtain ⟨j, rfl⟩ := idx4 (n := 256) (m := 64) x r h2
    have h0 : b.val = 2 + 0 := h0
    have h1 : h.val = 1 + 0 := h1
    have h3 : d.val = j.val := h3
    have hb : b.val = 2 := by omega
    have hh : h.val = 1 := by omega
    have hd : d = j := Fin.ext h3
    rw [q3Row_2 _ _ _ b h d 1288 (by omega) hb (by omega), pay9_eq, pay10_eq, pay11_eq, hd]
    exact st50 hA T r j
  · obtain ⟨j, rfl⟩ := idx4 (n := 256) (m := 64) x r h2
    have h0 : b.val = 2 + 0 := h0
    have h1 : h.val = 0 := h1
    have h3 : d.val = j.val := h3
    have hb : b.val = 2 := by omega
    have hh : h.val = 0 := by omega
    have hd : d = j := Fin.ext h3
    rw [q3Row_2 _ _ _ b h d 1224 (by omega) hb (by omega), pay9_eq, pay10_eq, pay11_eq, hd]
    exact st49 hA T r j
  · obtain ⟨j, rfl⟩ := idx4 (n := 256) (m := 64) x r h2
    have h0 : b.val = 1 + 0 := h0
    have h1 : h.val = 7 + 0 := h1
    have h3 : d.val = j.val := h3
    have hb : b.val = 1 := by omega
    have hh : h.val = 7 := by omega
    have hd : d = j := Fin.ext h3
    rw [q3Row_1 _ _ _ b h d 1088 (by omega) hb (by omega), pay9_eq, pay10_eq, pay11_eq, hd]
    exact st47 hA T r j
  · obtain ⟨j, rfl⟩ := idx4 (n := 256) (m := 64) x r h2
    have h0 : b.val = 1 + 0 := h0
    have h1 : h.val = 6 + 0 := h1
    have h3 : d.val = j.val := h3
    have hb : b.val = 1 := by omega
    have hh : h.val = 6 := by omega
    have hd : d = j := Fin.ext h3
    rw [q3Row_1 _ _ _ b h d 1024 (by omega) hb (by omega), pay9_eq, pay10_eq, pay11_eq, hd]
    exact st46 hA T r j
  · obtain ⟨j, rfl⟩ := idx4 (n := 256) (m := 64) x r h2
    have h0 : b.val = 1 + 0 := h0
    have h1 : h.val = 5 + 0 := h1
    have h3 : d.val = j.val := h3
    have hb : b.val = 1 := by omega
    have hh : h.val = 5 := by omega
    have hd : d = j := Fin.ext h3
    rw [q3Row_1 _ _ _ b h d 960 (by omega) hb (by omega), pay9_eq, pay10_eq, pay11_eq, hd]
    exact st45 hA T r j
  · obtain ⟨j, rfl⟩ := idx4 (n := 256) (m := 64) x r h2
    have h0 : b.val = 1 + 0 := h0
    have h1 : h.val = 4 + 0 := h1
    have h3 : d.val = j.val := h3
    have hb : b.val = 1 := by omega
    have hh : h.val = 4 := by omega
    have hd : d = j := Fin.ext h3
    rw [q3Row_1 _ _ _ b h d 896 (by omega) hb (by omega), pay9_eq, pay10_eq, pay11_eq, hd]
    exact st44 hA T r j
  · obtain ⟨j, rfl⟩ := idx4 (n := 256) (m := 64) x r h2
    have h0 : b.val = 1 + 0 := h0
    have h1 : h.val = 3 + 0 := h1
    have h3 : d.val = j.val := h3
    have hb : b.val = 1 := by omega
    have hh : h.val = 3 := by omega
    have hd : d = j := Fin.ext h3
    rw [q3Row_1 _ _ _ b h d 832 (by omega) hb (by omega), pay9_eq, pay10_eq, pay11_eq, hd]
    exact st43 hA T r j
  · obtain ⟨j, rfl⟩ := idx4 (n := 256) (m := 64) x r h2
    have h0 : b.val = 1 + 0 := h0
    have h1 : h.val = 2 + 0 := h1
    have h3 : d.val = j.val := h3
    have hb : b.val = 1 := by omega
    have hh : h.val = 2 := by omega
    have hd : d = j := Fin.ext h3
    rw [q3Row_1 _ _ _ b h d 768 (by omega) hb (by omega), pay9_eq, pay10_eq, pay11_eq, hd]
    exact st41 hA T r j
  · obtain ⟨j, rfl⟩ := idx4 (n := 256) (m := 64) x r h2
    have h0 : b.val = 1 + 0 := h0
    have h1 : h.val = 1 + 0 := h1
    have h3 : d.val = j.val := h3
    have hb : b.val = 1 := by omega
    have hh : h.val = 1 := by omega
    have hd : d = j := Fin.ext h3
    rw [q3Row_1 _ _ _ b h d 704 (by omega) hb (by omega), pay9_eq, pay10_eq, pay11_eq, hd]
    exact st40 hA T r j
  · obtain ⟨j, rfl⟩ := idx4 (n := 256) (m := 64) x r h2
    have h0 : b.val = 1 + 0 := h0
    have h1 : h.val = 0 := h1
    have h3 : d.val = j.val := h3
    have hb : b.val = 1 := by omega
    have hh : h.val = 0 := by omega
    have hd : d = j := Fin.ext h3
    rw [q3Row_1 _ _ _ b h d 640 (by omega) hb (by omega), pay9_eq, pay10_eq, pay11_eq, hd]
    exact st39 hA T r j
  · obtain ⟨j, rfl⟩ := idx4 (n := 256) (m := 64) x r h2
    have h0 : b.val = 0 := h0
    have h1 : h.val = 7 + 0 := h1
    have h3 : d.val = j.val := h3
    have hb : b.val = 0 := by omega
    have hh : h.val = 7 := by omega
    have hd : d = j := Fin.ext h3
    rw [q3Row_0 _ _ _ b h d 448 (by omega) hb (by omega), pay9_eq, pay10_eq, pay11_eq, hd]
    exact st38 hA T r j
  · obtain ⟨j, rfl⟩ := idx4 (n := 256) (m := 64) x r h2
    have h0 : b.val = 0 := h0
    have h1 : h.val = 6 + 0 := h1
    have h3 : d.val = j.val := h3
    have hb : b.val = 0 := by omega
    have hh : h.val = 6 := by omega
    have hd : d = j := Fin.ext h3
    rw [q3Row_0 _ _ _ b h d 384 (by omega) hb (by omega), pay9_eq, pay10_eq, pay11_eq, hd]
    exact st37 hA T r j
  · obtain ⟨j, rfl⟩ := idx4 (n := 256) (m := 64) x r h2
    have h0 : b.val = 0 := h0
    have h1 : h.val = 5 + 0 := h1
    have h3 : d.val = j.val := h3
    have hb : b.val = 0 := by omega
    have hh : h.val = 5 := by omega
    have hd : d = j := Fin.ext h3
    rw [q3Row_0 _ _ _ b h d 320 (by omega) hb (by omega), pay9_eq, pay10_eq, pay11_eq, hd]
    exact st36 hA T r j
  · obtain ⟨j, rfl⟩ := idx4 (n := 256) (m := 64) x r h2
    have h0 : b.val = 0 := h0
    have h1 : h.val = 4 + 0 := h1
    have h3 : d.val = j.val := h3
    have hb : b.val = 0 := by omega
    have hh : h.val = 4 := by omega
    have hd : d = j := Fin.ext h3
    rw [q3Row_0 _ _ _ b h d 256 (by omega) hb (by omega), pay9_eq, pay10_eq, pay11_eq, hd]
    exact st35 hA T r j
  · obtain ⟨j, rfl⟩ := idx4 (n := 256) (m := 64) x r h2
    have h0 : b.val = 0 := h0
    have h1 : h.val = 3 + 0 := h1
    have h3 : d.val = j.val := h3
    have hb : b.val = 0 := by omega
    have hh : h.val = 3 := by omega
    have hd : d = j := Fin.ext h3
    rw [q3Row_0 _ _ _ b h d 192 (by omega) hb (by omega), pay9_eq, pay10_eq, pay11_eq, hd]
    exact st34 hA T r j
  · obtain ⟨j, rfl⟩ := idx4 (n := 256) (m := 64) x r h2
    have h0 : b.val = 0 := h0
    have h1 : h.val = 2 + 0 := h1
    have h3 : d.val = j.val := h3
    have hb : b.val = 0 := by omega
    have hh : h.val = 2 := by omega
    have hd : d = j := Fin.ext h3
    rw [q3Row_0 _ _ _ b h d 128 (by omega) hb (by omega), pay9_eq, pay10_eq, pay11_eq, hd]
    exact st33 hA T r j
  · obtain ⟨j, rfl⟩ := idx4 (n := 256) (m := 64) x r h2
    have h0 : b.val = 0 := h0
    have h1 : h.val = 1 + 0 := h1
    have h3 : d.val = j.val := h3
    have hb : b.val = 0 := by omega
    have hh : h.val = 1 := by omega
    have hd : d = j := Fin.ext h3
    rw [q3Row_0 _ _ _ b h d 64 (by omega) hb (by omega), pay9_eq, pay10_eq, pay11_eq, hd]
    exact st31 hA T r j
  · obtain ⟨j, rfl⟩ := idx4 (n := 256) (m := 64) x r h2
    have h0 : b.val = 0 := h0
    have h1 : h.val = 0 := h1
    have h3 : d.val = j.val := h3
    have hb : b.val = 0 := by omega
    have hh : h.val = 0 := by omega
    have hd : d = j := Fin.ext h3
    rw [q3Row_0 _ _ _ b h d 0 (by omega) hb (by omega), pay9_eq, pay10_eq, pay11_eq, hd]
    exact st30 hA T r j

include hB T' hW hU in
/-- The latent attention's queries. -/
theorem out15_apply (h : Fin 8) (r : Fin 256) (d : Fin 160) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 h r d) = qcatRow (fun c => qRow (P r) (fun i => x10 (ix2 (0 : Fin 1) i)) W c) (ct r) (st r) U h d := by
  have hQ : ∀ r k c, permQ k.val c.val → k0_pay82 (F := Ideal) (k0_pay8 x0 x1 x3) x10 x11 (ix2 r k) = qRow (P r) (fun i => x10 (ix2 (0 : Fin 1) i)) W c :=
    fun r k c hk => pay82_apply hB x10 x11 W hW r k c hk
  have hz : ∀ r (k : Fin 512), k0_pay83 (F := Ideal) (k0_pay8 x0 x1 x3) x10 x11 (ix2 r k)
      = k0_pay82 (F := Ideal) (k0_pay8 x0 x1 x3) x10 x11 (ix2 r ⟨k.val, by omega⟩) := fun r k => by
    unfold k0_pay83
    generalize k0_pay82 (F := Ideal) (k0_pay8 x0 x1 x3) x10 x11 = v
    pointwise
  have e84 : k0_pay84 (F := Ideal) x12 = x12 := pay84_eq x12
  frame_out
  canon_tiles x h using (View.cover_of_tiledBy _ ![1, 256, 32] (by sl_kernel_rfl) _)
  · obtain ⟨j, rfl⟩ := idx3 (n := 256) (m := 32) x r h1
    have h0 : h.val = 7 + 0 := h0
    have h2 : d.val = 128 + j.val := h2
    have hh : h.val = 7 := by omega
    rw [qcatRow_r _ _ _ U h j d h2 ⟨7, by omega⟩ hh, pay12_eq, pay13_eq, pay14_eq]
    exact st5 T' hQ r j
  · obtain ⟨j, rfl⟩ := idx3 (n := 256) (m := 128) x r h1
    have h0 : h.val = 7 + 0 := h0
    have h2 : d.val = j.val := h2
    have hh : h.val = 7 := by omega
    rw [qcatRow_c _ _ _ U h j d h2, st4, e84]
    exact pay85_apply hQ _ x12 U hz hU r h j _ (by show 896 + j.val = _; omega)
  · obtain ⟨j, rfl⟩ := idx3 (n := 256) (m := 32) x r h1
    have h0 : h.val = 6 + 0 := h0
    have h2 : d.val = 128 + j.val := h2
    have hh : h.val = 6 := by omega
    rw [qcatRow_r _ _ _ U h j d h2 ⟨6, by omega⟩ hh, pay12_eq, pay13_eq, pay14_eq]
    exact st3 T' hQ r j
  · obtain ⟨j, rfl⟩ := idx3 (n := 256) (m := 128) x r h1
    have h0 : h.val = 6 + 0 := h0
    have h2 : d.val = j.val := h2
    have hh : h.val = 6 := by omega
    rw [qcatRow_c _ _ _ U h j d h2, st2, e84]
    exact pay85_apply hQ _ x12 U hz hU r h j _ (by show 768 + j.val = _; omega)
  · obtain ⟨j, rfl⟩ := idx3 (n := 256) (m := 32) x r h1
    have h0 : h.val = 5 + 0 := h0
    have h2 : d.val = 128 + j.val := h2
    have hh : h.val = 5 := by omega
    rw [qcatRow_r _ _ _ U h j d h2 ⟨5, by omega⟩ hh, pay12_eq, pay13_eq, pay14_eq]
    exact st1 T' hQ r j
  · obtain ⟨j, rfl⟩ := idx3 (n := 256) (m := 128) x r h1
    have h0 : h.val = 5 + 0 := h0
    have h2 : d.val = j.val := h2
    have hh : h.val = 5 := by omega
    rw [qcatRow_c _ _ _ U h j d h2, st99, e84]
    exact pay85_apply hQ _ x12 U hz hU r h j _ (by show 640 + j.val = _; omega)
  · obtain ⟨j, rfl⟩ := idx3 (n := 256) (m := 32) x r h1
    have h0 : h.val = 4 + 0 := h0
    have h2 : d.val = 128 + j.val := h2
    have hh : h.val = 4 := by omega
    rw [qcatRow_r _ _ _ U h j d h2 ⟨4, by omega⟩ hh, pay12_eq, pay13_eq, pay14_eq]
    exact st98 T' hQ r j
  · obtain ⟨j, rfl⟩ := idx3 (n := 256) (m := 128) x r h1
    have h0 : h.val = 4 + 0 := h0
    have h2 : d.val = j.val := h2
    have hh : h.val = 4 := by omega
    rw [qcatRow_c _ _ _ U h j d h2, st97, e84]
    exact pay85_apply hQ _ x12 U hz hU r h j _ (by show 512 + j.val = _; omega)
  · obtain ⟨j, rfl⟩ := idx3 (n := 256) (m := 32) x r h1
    have h0 : h.val = 3 + 0 := h0
    have h2 : d.val = 128 + j.val := h2
    have hh : h.val = 3 := by omega
    rw [qcatRow_r _ _ _ U h j d h2 ⟨3, by omega⟩ hh, pay12_eq, pay13_eq, pay14_eq]
    exact st96 T' hQ r j
  · obtain ⟨j, rfl⟩ := idx3 (n := 256) (m := 128) x r h1
    have h0 : h.val = 3 + 0 := h0
    have h2 : d.val = j.val := h2
    have hh : h.val = 3 := by omega
    rw [qcatRow_c _ _ _ U h j d h2, st95, e84]
    exact pay85_apply hQ _ x12 U hz hU r h j _ (by show 384 + j.val = _; omega)
  · obtain ⟨j, rfl⟩ := idx3 (n := 256) (m := 32) x r h1
    have h0 : h.val = 2 + 0 := h0
    have h2 : d.val = 128 + j.val := h2
    have hh : h.val = 2 := by omega
    rw [qcatRow_r _ _ _ U h j d h2 ⟨2, by omega⟩ hh, pay12_eq, pay13_eq, pay14_eq]
    exact st94 T' hQ r j
  · obtain ⟨j, rfl⟩ := idx3 (n := 256) (m := 128) x r h1
    have h0 : h.val = 2 + 0 := h0
    have h2 : d.val = j.val := h2
    have hh : h.val = 2 := by omega
    rw [qcatRow_c _ _ _ U h j d h2, st93, e84]
    exact pay85_apply hQ _ x12 U hz hU r h j _ (by show 256 + j.val = _; omega)
  · obtain ⟨j, rfl⟩ := idx3 (n := 256) (m := 32) x r h1
    have h0 : h.val = 1 + 0 := h0
    have h2 : d.val = 128 + j.val := h2
    have hh : h.val = 1 := by omega
    rw [qcatRow_r _ _ _ U h j d h2 ⟨1, by omega⟩ hh, pay12_eq, pay13_eq, pay14_eq]
    exact st91 T' hQ r j
  · obtain ⟨j, rfl⟩ := idx3 (n := 256) (m := 128) x r h1
    have h0 : h.val = 1 + 0 := h0
    have h2 : d.val = j.val := h2
    have hh : h.val = 1 := by omega
    rw [qcatRow_c _ _ _ U h j d h2, st90, e84]
    exact pay85_apply hQ _ x12 U hz hU r h j _ (by show 128 + j.val = _; omega)
  · obtain ⟨j, rfl⟩ := idx3 (n := 256) (m := 32) x r h1
    have h0 : h.val = 0 := h0
    have h2 : d.val = 128 + j.val := h2
    have hh : h.val = 0 := by omega
    rw [qcatRow_r _ _ _ U h j d h2 ⟨0, by omega⟩ hh, pay12_eq, pay13_eq, pay14_eq]
    exact st89 T' hQ r j
  · obtain ⟨j, rfl⟩ := idx3 (n := 256) (m := 128) x r h1
    have h0 : h.val = 0 := h0
    have h2 : d.val = j.val := h2
    have hh : h.val = 0 := by omega
    rw [qcatRow_c _ _ _ U h j d h2, st88, e84]
    exact pay85_apply hQ _ x12 U hz hU r h j _ (by show j.val = _; omega)
end

end Cert.Proj
-- ==== Proof.ProjHost.lean ====
module

public import proofs.«01_k».proof.Proof.Gen.Kernel4Ideal.Value
public import Idealize.ShloMosaic.Lib.Pipeline.ValueKit
public import proofs.«01_k».proof.Proof.ProjOut

@[expose] public section

set_option maxRecDepth 16384

noncomputable section

/-! # What the projection kernel's host code prepares -/

namespace Cert.Proj

open Cert.Kernel4Ideal Cert.Kernel4Ideal.Gen Idealize.ShloMosaic Idealize.ShloMosaic.TcCoe Idealize.SL.Sem

/-- The angle of frequency `j` of 32 at position `n`. -/
def ang64 (n j : ℕ) : EReal :=
  FloatOps.sitofp (F := Ideal) .f32 (BitVec.ofNat 32 n) * Ideal.pow (Ideal.ofBits .f32 0x461C4000#32)
    (Ideal.div (-FloatOps.sitofp (F := Ideal) .f32 (BitVec.ofNat 32 j) * Ideal.ofBits .f32 0x40000000#32) (Ideal.ofBits .f32 0x42800000#32))

/-- The angle of frequency `j` of 16 at position `n`. -/
def ang32 (n j : ℕ) : EReal :=
  FloatOps.sitofp (F := Ideal) .f32 (BitVec.ofNat 32 n) * Ideal.pow (Ideal.ofBits .f32 0x461C4000#32)
    (Ideal.div (-FloatOps.sitofp (F := Ideal) .f32 (BitVec.ofNat 32 j) * Ideal.ofBits .f32 0x40000000#32) (Ideal.ofBits .f32 0x42000000#32))

/-- The angles of 32 frequencies at the 2048 positions. -/
def angT64 : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem angT64_apply (p : Fin 2048) (j : Fin 32) : angT64 (ix2 p j) = ang64 p.val j.val := by
  unfold angT64
  pointwise
  rfl

def cosT64 : FVec Ideal S2048x32 .f32 := Host.cos angT64
def sinT64 : FVec Ideal S2048x32 .f32 := Host.sin angT64

theorem cosT64_apply (p : Fin 2048) (j : Fin 32) : cosT64 (ix2 p j) = Ideal.cos (ang64 p.val j.val) := by
  unfold cosT64
  pointwise
  rw [angT64_apply]

theorem sinT64_apply (p : Fin 2048) (j : Fin 32) : sinT64 (ix2 p j) = Ideal.sin (ang64 p.val j.val) := by
  unfold sinT64
  pointwise
  rw [angT64_apply]

def zeroT64 : FVec Ideal S2048x32 .f32 := broadcastInDim S2048x32 ![] bcast_S_S2048x32 (constant S_ .f32 0x00000000#32)

theorem zeroT64_apply (p : Fin 2048) (j : Fin 32) : zeroT64 (ix2 p j) = 0 := by
  unfold zeroT64
  pointwise
  try exact Ideal.ofBits_zero_f32

/-- Two tables side by side, repeated over the 128 lanes. -/
def lanes64 (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

theorem lanes64_apply (a b : FVec Ideal S2048x32 .f32) (p : Fin 2048) (l : Fin 128) :
    lanes64 a b (ix2 p l) = if l.val % 64 < 32 then a (ix2 p ⟨l.val % 32, by omega⟩) else b (ix2 p ⟨l.val % 32, by omega⟩) := by
  unfold lanes64
  pointwise
  by_cases h : l.val % 64 < 32
  · rw [dif_pos h, if_pos h]
    exact congrArg a (congrArg (ix2 p) (Fin.ext (by show l.val % 64 = l.val % 32; omega)))
  · rw [dif_neg h, if_neg h]
    exact congrArg b (congrArg (ix2 p) (Fin.ext (by show l.val % 64 - 32 = l.val % 32; omega)))

/-- The angles of 16 frequencies at the 2048 positions. -/
def angT32 : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

theorem angT32_apply (p : Fin 2048) (j : Fin 16) : angT32 (ix2 p j) = ang32 p.val j.val := by
  unfold angT32
  pointwise
  rfl

def cosT32 : FVec Ideal S2048x16 .f32 := Host.cos angT32
def sinT32 : FVec Ideal S2048x16 .f32 := Host.sin angT32

theorem cosT32_apply (p : Fin 2048) (j : Fin 16) : cosT32 (ix2 p j) = Ideal.cos (ang32 p.val j.val) := by
  unfold cosT32
  pointwise
  rw [angT32_apply]

theorem sinT32_apply (p : Fin 2048) (j : Fin 16) : sinT32 (ix2 p j) = Ideal.sin (ang32 p.val j.val) := by
  unfold sinT32
  pointwise
  rw [angT32_apply]

def zeroT32 : FVec Ideal S2048x16 .f32 := broadcastInDim S2048x16 ![] bcast_S_S2048x16 (constant S_ .f32 0x00000000#32)

theorem zeroT32_apply (p : Fin 2048) (j : Fin 16) : zeroT32 (ix2 p j) = 0 := by
  unfold zeroT32
  pointwise
  try exact Ideal.ofBits_zero_f32

/-- Two tables side by side, repeated over the 128 lanes. -/
def lanes32 (a b : FVec Ideal S2048x16 .f32) : FVec Ideal S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x16, a⟩, ⟨S2048x16, b⟩] concatenates_S2048x16_S2048x16_S2048x32_d1)
      shapeCasts_S2048x32_S1x2048x1x32)) shapeCasts_S1x2048x4x32_S2048x128

theorem lanes32_apply (a b : FVec Ideal S2048x16 .f32) (p : Fin 2048) (l : Fin 128) :
    lanes32 a b (ix2 p l) = if l.val % 32 < 16 then a (ix2 p ⟨l.val % 16, by omega⟩) else b (ix2 p ⟨l.val % 16, by omega⟩) := by
  unfold lanes32
  pointwise
  by_cases h : l.val % 32 < 16
  · rw [dif_pos h, if_pos h]
    exact congrArg a (congrArg (ix2 p) (Fin.ext (by show l.val % 32 = l.val % 16; omega)))
  · rw [dif_neg h, if_neg h]
    exact congrArg b (congrArg (ix2 p) (Fin.ext (by show l.val % 32 - 16 = l.val % 16; omega)))

/-- The columns whose heads are rotated, gathered. -/
def wrT (w : FVec Ideal S1024x5632 .f32) : FVec Ideal S1024x1920 .bf16 :=
  truncf .bf16 (concatenate S1024x1920 1 [⟨S1024x512, extractStridedSlice S1024x512 ![0, 0] w slices_S1024x5632_S1024x512_0_0⟩,
    ⟨S1024x512, extractStridedSlice S1024x512 ![0, 640] w slices_S1024x5632_S1024x512_0_640⟩,
    ⟨S1024x512, extractStridedSlice S1024x512 ![0, 1224] w slices_S1024x5632_S1024x512_0_1224⟩,
    ⟨S1024x64, extractStridedSlice S1024x64 ![0, 512] w slices_S1024x5632_S1024x64_0_512⟩,
    ⟨S1024x64, extractStridedSlice S1024x64 ![0, 1152] w slices_S1024x5632_S1024x64_0_1152⟩,
    ⟨S1024x64, extractStridedSlice S1024x64 ![0, 1736] w slices_S1024x5632_S1024x64_0_1736⟩,
    ⟨S1024x64, extractStridedSlice S1024x64 ![0, 1864] w slices_S1024x5632_S1024x64_0_1864⟩,
    ⟨S1024x64, extractStridedSlice S1024x64 ![0, 1992] w slices_S1024x5632_S1024x64_0_1992⟩,
    ⟨S1024x64, broadcastInDim S1024x64 ![] bcast_S_S1024x64 (constant S_ .f32 0x00000000#32)⟩] concatenates_S1024x512_S1024x512_S1024x512_S1024x64_S1024x64_S1024x64_S1024x64_S1024x64_S1024x64_S1024x1920_d1) bitsLt_bf16_f32

/-- The other columns, gathered. -/
def wpT (w : FVec Ideal S1024x5632 .f32) : FVec Ideal S1024x768 .bf16 :=
  truncf .bf16 (concatenate S1024x768 1 [⟨S1024x64, extractStridedSlice S1024x64 ![0, 576] w slices_S1024x5632_S1024x64_0_576⟩,
    ⟨S1024x64, extractStridedSlice S1024x64 ![0, 1800] w slices_S1024x5632_S1024x64_0_1800⟩,
    ⟨S1024x64, extractStridedSlice S1024x64 ![0, 1928] w slices_S1024x5632_S1024x64_0_1928⟩,
    ⟨S1024x64, extractStridedSlice S1024x64 ![0, 2056] w slices_S1024x5632_S1024x64_0_2056⟩,
    ⟨S1024x128, extractStridedSlice S1024x128 ![0, 2400] w slices_S1024x5632_S1024x128_0_2400⟩,
    ⟨S1024x256, extractStridedSlice S1024x256 ![0, 2144] w slices_S1024x5632_S1024x256_0_2144⟩,
    ⟨S1024x32, extractStridedSlice S1024x32 ![0, 2528] w slices_S1024x5632_S1024x32_0_2528⟩,
    ⟨S1024x8, extractStridedSlice S1024x8 ![0, 1216] w slices_S1024x5632_S1024x8_0_1216⟩,
    ⟨S1024x24, extractStridedSlice S1024x24 ![0, 2120] w slices_S1024x5632_S1024x24_0_2120⟩,
    ⟨S1024x64, broadcastInDim S1024x64 ![] bcast_S_S1024x64 (constant S_ .f32 0x00000000#32)⟩] concatenates_S1024x64_S1024x64_S1024x64_S1024x64_S1024x128_S1024x256_S1024x32_S1024x8_S1024x24_S1024x64_S1024x768_d1) bitsLt_bf16_f32

theorem wrT_apply (w : FVec Ideal S1024x5632 .f32) (i : Fin 1024) (k : Fin 1920) (c : Fin 5632) (h : permR k.val c.val) :
    wrT w (ix2 i k) = w (ix2 i c) := by
  unfold wrT
  pointwise
  unfold permR at h
  split_ifs <;> first
    | exact congrArg w (congrArg (ix2 i) (Fin.ext (by simp only []; omega)))
    | (exfalso; omega)

theorem wpT_apply (w : FVec Ideal S1024x5632 .f32) (i : Fin 1024) (k : Fin 768) (c : Fin 5632) (h : permP k.val c.val) :
    wpT w (ix2 i k) = w (ix2 i c) := by
  unfold wpT
  pointwise
  unfold permP at h
  split_ifs <;> first
    | exact congrArg w (congrArg (ix2 i) (Fin.ext (by simp only []; omega)))
    | (exfalso; omega)

/-- The query projection's matrix, all heads' plain columns before all heads' rotated ones. -/
def wuqT (w : FVec Ideal S256x768 .f32) : FVec Ideal S256x768 .bf16 :=
  truncf .bf16 (concatenate S256x768 1 [
    ⟨S256x512, shapeCast S256x512 (extractStridedSlice S256x8x64 ![0, 0, 0] (shapeCast S256x8x96 w shapeCasts_S256x768_S256x8x96) slices_S256x8x96_S256x8x64_0_0_0) shapeCasts_S256x8x64_S256x512⟩,
    ⟨S256x256, shapeCast S256x256 (extractStridedSlice S256x8x32 ![0, 0, 64] (shapeCast S256x8x96 w shapeCasts_S256x768_S256x8x96) slices_S256x8x96_S256x8x32_0_0_64) shapeCasts_S256x8x32_S256x256⟩]
    concatenates_S256x512_S256x256_S256x768_d1) bitsLt_bf16_f32

theorem wuqT_apply (w : FVec Ideal S256x768 .f32) (i : Fin 256) (k c : Fin 768) (h : permQ k.val c.val) : wuqT w (ix2 i k) = w (ix2 i c) := by
  unfold wuqT
  pointwise
  unfold permQ at h
  split_ifs <;> first
    | exact congrArg w (congrArg (ix2 i) (Fin.ext (by simp only []; omega)))
    | (exfalso; omega)

/-- The unit matrix's entries. -/
theorem eye_apply (a b : Fin 8) :
    FloatOps.uitofp (F := Ideal) .f32 (IntOp.cmpi .eq (IntOp.addi (BitVec.ofNat 32 a.val) 0#32) (BitVec.ofNat 32 b.val))
      = if a.val = b.val then (1 : EReal) else 0 := by
  have h : ∀ a b : Fin 8, IntOp.cmpi .eq (IntOp.addi (BitVec.ofNat 32 a.val) 0#32) (BitVec.ofNat 32 b.val) = if a.val = b.val then 1#1 else 0#1 := by
    decide +kernel
  rw [h]
  by_cases e : a.val = b.val
  · rw [if_pos e, if_pos e]
    show (((1#1 : BitVec 1).toNat : ℝ) : EReal) = 1
    simp
  · rw [if_neg e, if_neg e]
    show (((0#1 : BitVec 1).toNat : ℝ) : EReal) = 0
    simp

/-- The heads' key matrices on the diagonal of one matrix. -/
def wukT (w : FVec Ideal S128x8x64 .f32) : FVec Ideal S512x1024 .bf16 :=
  truncf .bf16 (shapeCast S512x1024 (mulf
    (broadcastInDim S8x64x8x128 ![0, 1, 2, 3] bcast_S8x1x8x1_S8x64x8x128_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x128 ![0, 1, 2, 3] bcast_S8x64x1x128_S8x64x8x128_0_1_2_3 (broadcastInDim S8x64x1x128 ![0, 1, 3] bcast_S8x64x128_S8x64x1x128_0_1_3
      (transpose S8x64x128 [1, 2, 0] w transposes_S128x8x64_S8x64x128_1_2_0)))) shapeCasts_S8x64x8x128_S512x1024) bitsLt_bf16_f32

theorem wukT_apply (w : FVec Ideal S128x8x64 .f32) (k : Fin 512) (l : Fin 1024) :
    wukT w (ix2 k l) = (if k.val / 64 = l.val / 128 then 1 else 0)
      * w (ix3 (⟨l.val % 128, by omega⟩ : Fin 128) (⟨l.val / 128, by omega⟩ : Fin 8) (⟨k.val % 64, by omega⟩ : Fin 64)) := by
  unfold wukT
  pointwise
  have hk : k.val / 64 < 8 := by omega
  have hl : l.val / 128 < 8 := by omega
  have key := eye_apply ⟨k.val / 64, hk⟩ ⟨l.val / 128, hl⟩
  simp only [] at key
  rw [key]
  by_cases h : k.val / 64 = l.val / 128
  · refine congrArg (HMul.hMul _) (congrArg w ?_)
    have e : (⟨k.val / 64, hk⟩ : Fin 8) = ⟨l.val / 128, hl⟩ := Fin.ext h
    exact congrArg (fun z => ix3 _ z _) e
  · simp only [if_neg h, zero_mul]

variable (m : (ℓ : Loc nD τ sig) → Buf (Elt Ideal) ℓ)

/-- Device `c`'s rows. -/
abbrev xs (c : Dev nD) : FVec Ideal S32768x1024 .f32 := m ((c : Thread nD τ).loc main_arg0)
/-- Device `c`'s gains of the layer's first normalisation. -/
abbrev gs (c : Dev nD) : FVec Ideal S1024 .f32 := m ((c : Thread nD τ).loc main_arg1)
/-- Device `c`'s input projection. -/
abbrev ws (c : Dev nD) : FVec Ideal S1024x5632 .f32 := m ((c : Thread nD τ).loc main_arg2)
/-- Device `c`'s gains of the latent query's normalisation. -/
abbrev gqs (c : Dev nD) : FVec Ideal S256 .f32 := m ((c : Thread nD τ).loc main_arg3)
/-- Device `c`'s projection of the latent query to the heads. -/
abbrev wuqs (c : Dev nD) : FVec Ideal S256x768 .f32 := m ((c : Thread nD τ).loc main_arg4)
/-- Device `c`'s gains of the latent cache's normalisation. -/
abbrev gkvs (c : Dev nD) : FVec Ideal S128 .f32 := m ((c : Thread nD τ).loc main_arg5)
/-- Device `c`'s heads' key matrices. -/
abbrev wuks (c : Dev nD) : FVec Ideal S128x8x64 .f32 := m ((c : Thread nD τ).loc main_arg6)

theorem host_v40 (c : Dev nD) : V m c main_v40 = broadcastInDim S1x1024 ![1] bcast_S1024_S1x1024_1 (gs m c) := by
  unfold_abbrev_sides
  after_results_simp
  skip

theorem host_v43 (c : Dev nD) : V m c main_v43 = broadcastInDim S1x256 ![1] bcast_S256_S1x256_1 (gqs m c) := by
  unfold_abbrev_sides
  after_results_simp
  skip

theorem host_v46 (c : Dev nD) : V m c main_v46 = broadcastInDim S1x128 ![1] bcast_S128_S1x128_1 (gkvs m c) := by
  unfold_abbrev_sides
  after_results_simp
  skip

theorem host_v41 (c : Dev nD) : V m c main_v41 = wrT (ws m c) := by
  unfold_abbrev_sides
  after_results_simp
  rfl

theorem host_v42 (c : Dev nD) : V m c main_v42 = wpT (ws m c) := by
  unfold_abbrev_sides
  after_results_simp
  rfl

theorem host_v44 (c : Dev nD) : V m c main_v44 = wuqT (wuqs m c) := by
  unfold_abbrev_sides
  after_results_simp
  rfl

theorem host_v45 (c : Dev nD) : V m c main_v45 = wukT (wuks m c) := by
  unfold_abbrev_sides
  after_results_simp
  rfl

theorem host_v68 (c : Dev nD) : V m c main_v68 = lanes64 cosT64 cosT64 := by
  unfold_abbrev_sides
  after_results_simp
  rfl

theorem host_v73 (c : Dev nD) : V m c main_v73 = lanes64 (Host.negf sinT64) zeroT64 := by
  unfold_abbrev_sides
  after_results_simp
  rfl

theorem host_v77 (c : Dev nD) : V m c main_v77 = lanes64 zeroT64 sinT64 := by
  unfold_abbrev_sides
  after_results_simp
  rfl

theorem host_v98 (c : Dev nD) : V m c main_v98 = lanes32 cosT32 cosT32 := by
  unfold_abbrev_sides
  after_results_simp
  rfl

theorem host_v103 (c : Dev nD) : V m c main_v103 = lanes32 (Host.negf sinT32) zeroT32 := by
  unfold_abbrev_sides
  after_results_simp
  rfl

theorem host_v107 (c : Dev nD) : V m c main_v107 = lanes32 zeroT32 sinT32 := by
  unfold_abbrev_sides
  after_results_simp
  rfl

end Cert.Proj
-- ==== Proof.ProjArr.lean ====
module

public import proofs.«01_k».proof.Proof.ProjHost

@[expose] public section

set_option maxRecDepth 16384

noncomputable section

/-! # The projection kernel's ten arrays, as functions of its arguments -/

namespace Cert.Proj

open Cert.Kernel4Ideal Cert.Kernel4Ideal.Gen Idealize.ShloMosaic Idealize.ShloMosaic.TcCoe Idealize.SL.Sem

/-- Row `R`'s projection: the row, normalised, through the matrix. -/
def projRow (x : FVec Ideal S32768x1024 .f32) (g : FVec Ideal S1024 .f32) (w : FVec Ideal S1024x5632 .f32) (R : Fin 32768) (c : Fin 5632) : EReal :=
  ∑ i, Row.norm (fun i => x (ix2 R i)) (fun i => g (ix1 i)) i * w (ix2 i c)

/-! The cosines and sines of row `R`, whose position in its sequence is `R` modulo 2048. -/

def cs64 (R : Fin 32768) (j : Fin 32) : EReal := Ideal.cos (ang64 (R.val % 2048) j.val)
def sn64 (R : Fin 32768) (j : Fin 32) : EReal := Ideal.sin (ang64 (R.val % 2048) j.val)
def cs32 (R : Fin 32768) (j : Fin 16) : EReal := Ideal.cos (ang32 (R.val % 2048) j.val)
def sn32 (R : Fin 32768) (j : Fin 16) : EReal := Ideal.sin (ang32 (R.val % 2048) j.val)

section specs
variable (x : FVec Ideal S32768x1024 .f32) (g : FVec Ideal S1024 .f32) (w : FVec Ideal S1024x5632 .f32) (gq : FVec Ideal S256 .f32)
  (wuq : FVec Ideal S256x768 .f32) (gkv : FVec Ideal S128 .f32) (wuk : FVec Ideal S128x8x64 .f32)

/-- The three groups of queries. -/
def arr14 (y : S3x8x32768x64.Idx) : EReal :=
  q3Row (projRow x g w (y 2)) (cs64 (y 2)) (sn64 (y 2)) (y 0) (y 1) (y 3)

/-- The latent attention's queries. -/
def arr15 (y : S8x32768x160.Idx) : EReal :=
  qcatRow (fun c => qRow (projRow x g w (y 1)) (fun i => gq (ix1 i)) (fun i c => wuq (ix2 i c)) c) (cs32 (y 1)) (sn32 (y 1)) (fun d h e => wuk (ix3 d h e)) (y 0) (y 2)

/-- The index heads' weights. -/
def arr16 (y : S32768x8.Idx) : EReal :=
  idxwRow (projRow x g w (y 0)) (y 1)

/-- The gates. -/
def arr17 (y : S32768x24.Idx) : EReal :=
  gateRow (projRow x g w (y 0)) (y 1)

/-- The first cache's rows. -/
def arr18 (y : S32768x192.Idx) : EReal :=
  dsaRow (projRow x g w (y 0)) (cs64 (y 0)) (sn64 (y 0)) (y 1)

/-- The second cache's rows. -/
def arr19 (y : S32768x256.Idx) : EReal :=
  nsaRow (projRow x g w (y 0)) (cs64 (y 0)) (sn64 (y 0)) (y 1)

/-- The latent cache's rows. -/
def arr20 (y : S32768x160.Idx) : EReal :=
  mlaRow (projRow x g w (y 0)) (fun i => gkv (ix1 i)) (cs32 (y 0)) (sn32 (y 0)) (y 1)

/-- The window's rows. -/
def arr21 (y : S32768x128.Idx) : EReal :=
  winRow (projRow x g w (y 0)) (cs64 (y 0)) (sn64 (y 0)) (y 1)

/-- The seven keys and values. -/
def arr22 (y : S7x32768x64.Idx) : EReal :=
  kv7Row (projRow x g w (y 1)) (cs64 (y 1)) (sn64 (y 1)) (y 0) (y 2)

end specs

variable (m : (ℓ : Loc nD τ sig) → Buf (Elt Ideal) ℓ)

theorem N_eq : cfg0.N = 128 := by decide

/-! Where each point's blocks lie. -/

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val % 8, 0] := (by decide +kernel : ∀ t : Fin grid0.N, _)
theorem ix_5 : ∀ t : Fin cfg0.N, win0_5.index t = ![t.val % 8, 0] := (by decide +kernel : ∀ t : Fin grid0.N, _)
theorem ix_6 : ∀ t : Fin cfg0.N, win0_6.index t = ![t.val % 8, 0] := (by decide +kernel : ∀ t : Fin grid0.N, _)
theorem ix_7 : ∀ t : Fin cfg0.N, win0_7.index t = ![t.val % 8, 0] := (by decide +kernel : ∀ t : Fin grid0.N, _)
theorem ix_8 : ∀ t : Fin cfg0.N, win0_8.index t = ![t.val % 8, 0] := (by decide +kernel : ∀ t : Fin grid0.N, _)
theorem ix_9 : ∀ t : Fin cfg0.N, win0_9.index t = ![t.val % 8, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0, t.val, 0] := (by decide +kernel : ∀ t : Fin grid0.N, _)
theorem ix_15 : ∀ t : Fin cfg0.N, win0_15.index t = ![0, t.val, 0] := (by decide +kernel : ∀ t : Fin grid0.N, _)
theorem ix_16 : ∀ t : Fin cfg0.N, win0_16.index t = ![t.val, 0] := (by decide +kernel : ∀ t : Fin grid0.N, _)
theorem ix_17 : ∀ t : Fin cfg0.N, win0_17.index t = ![t.val, 0] := (by decide +kernel : ∀ t : Fin grid0.N, _)
theorem ix_18 : ∀ t : Fin cfg0.N, win0_18.index t = ![t.val, 0] := (by decide +kernel : ∀ t : Fin grid0.N, _)
theorem ix_19 : ∀ t : Fin cfg0.N, win0_19.index t = ![t.val, 0] := (by decide +kernel : ∀ t : Fin grid0.N, _)
theorem ix_20 : ∀ t : Fin cfg0.N, win0_20.index t = ![t.val, 0] := (by decide +kernel : ∀ t : Fin grid0.N, _)
theorem ix_21 : ∀ t : Fin cfg0.N, win0_21.index t = ![t.val, 0] := (by decide +kernel : ∀ t : Fin grid0.N, _)
theorem ix_22 : ∀ t : Fin cfg0.N, win0_22.index t = ![0, t.val, 0] := (by decide +kernel : ∀ t : Fin grid0.N, _)
theorem ix_23 : ∀ t : Fin cfg0.N, win0_23.index t = ![t.val, 0] := (by decide +kernel : ∀ t : Fin grid0.N, _)

/-- The row of the whole array at place `r` of point `t`'s block. -/
abbrev rowAt (t : Fin cfg0.N) (r : Fin 256) : Fin 32768 := ⟨t.val * 256 + r.val, by have := t.isLt; have := N_eq; omega⟩

/-- The row of the tables at place `r` of point `t`'s block: the position of that row in its sequence. -/
abbrev posAt (t : Fin cfg0.N) (r : Fin 256) : Fin 2048 := ⟨t.val % 8 * 256 + r.val, by omega⟩

theorem pos_eq (t : Fin cfg0.N) (r : Fin 256) : (posAt t r).val = (rowAt t r).val % 2048 := by
  show t.val % 8 * 256 + r.val = (t.val * 256 + r.val) % 2048
  omega

theorem x_blk (c : Dev nD) (t : Fin cfg0.N) (r : Fin 256) (i : Fin 1024) : iblk m c 0 t (ix2 r i) = xs m c (ix2 (rowAt t r) i) := by
  have e0 := ix_0 t
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := ix_1 t
  refine Eq.trans (b := V m c main_v40 (ix2 (0 : Fin 1) i)) ?_ ((congrFun (host_v40 m c) _).trans (by pointwise))
  blk_ext [iblk, e0]

theorem gq_blk (c : Dev nD) (t : Fin cfg0.N) (i : Fin 256) : iblk m c 10 t (ix2 (0 : Fin 1) i) = gqs m c (ix1 i) := by
  have e0 := ix_10 t
  refine Eq.trans (b := V m c main_v43 (ix2 (0 : Fin 1) i)) ?_ ((congrFun (host_v43 m c) _).trans (by pointwise))
  blk_ext [iblk, e0]

theorem gkv_blk (c : Dev nD) (t : Fin cfg0.N) (i : Fin 128) : iblk m c 13 t (ix2 (0 : Fin 1) i) = gkvs m c (ix1 i) := by
  have e0 := ix_13 t
  refine Eq.trans (b := V m c main_v46 (ix2 (0 : Fin 1) i)) ?_ ((congrFun (host_v46 m c) _).trans (by pointwise))
  blk_ext [iblk, e0]

theorem wr_blk (c : Dev nD) (t : Fin cfg0.N) (i : Fin 1024) (k : Fin 1920) : iblk m c 2 t (ix2 i k) = wrT (ws m c) (ix2 i k) := by
  have e0 := ix_2 t
  refine Eq.trans (b := V m c main_v41 (ix2 i k)) ?_ (congrFun (host_v41 m c) _)
  blk_ext [iblk, e0]

theorem wp_blk (c : Dev nD) (t : Fin cfg0.N) (i : Fin 1024) (k : Fin 768) : iblk m c 3 t (ix2 i k) = wpT (ws m c) (ix2 i k) := by
  have e0 := ix_3 t
  refine Eq.trans (b := V m c main_v42 (ix2 i k)) ?_ (congrFun (host_v42 m c) _)
  blk_ext [iblk, e0]

theorem wuq_blk (c : Dev nD) (t : Fin cfg0.N) (i : Fin 256) (k : Fin 768) : iblk m c 11 t (ix2 i k) = wuqT (wuqs m c) (ix2 i k) := by
  have e0 := ix_11 t
  refine Eq.trans (b := V m c main_v44 (ix2 i k)) ?_ (congrFun (host_v44 m c) _)
  blk_ext [iblk, e0]

theorem wuk_blk (c : Dev nD) (t : Fin cfg0.N) (k : Fin 512) (l : Fin 1024) : iblk m c 12 t (ix2 k l) = wukT (wuks m c) (ix2 k l) := by
  have e0 := ix_12 t
  refine Eq.trans (b := V m c main_v45 (ix2 k l)) ?_ (congrFun (host_v45 m c) _)
  blk_ext [iblk, e0]

theorem tab4_blk (c : Dev nD) (t : Fin cfg0.N) (r : Fin 256) (l : Fin 128) : iblk m c 4 t (ix2 r l) = lanes64 cosT64 cosT64 (ix2 (posAt t r) l) := by
  have e0 := ix_4 t
  refine Eq.trans (b := V m c main_v68 (ix2 (posAt t r) l)) ?_ (congrFun (host_v68 m c) _)
  blk_ext [iblk, e0]

theorem tab5_blk (c : Dev nD) (t : Fin cfg0.N) (r : Fin 256) (l : Fin 128) : iblk m c 5 t (ix2 r l) = lanes64 (Host.negf sinT64) zeroT64 (ix2 (posAt t r) l) := by
  have e0 := ix_5 t
  refine Eq.trans (b := V m c main_v73 (ix2 (posAt t r) l)) ?_ (congrFun (host_v73 m c) _)
  blk_ext [iblk, e0]

theorem tab6_blk (c : Dev nD) (t : Fin cfg0.N) (r : Fin 256) (l : Fin 128) : iblk m c 6 t (ix2 r l) = lanes64 zeroT64 sinT64 (ix2 (posAt t r) l) := by
  have e0 := ix_6 t
  refine Eq.trans (b := V m c main_v77 (ix2 (posAt t r) l)) ?_ (congrFun (host_v77 m c) _)
  blk_ext [iblk, e0]

theorem tab64 (c : Dev nD) (t : Fin cfg0.N) :
    Tab64 (iblk m c 4 t) (iblk m c 5 t) (iblk m c 6 t) (fun r => cs64 (rowAt t r)) (fun r => sn64 (rowAt t r)) where
  hc r l := by
    rw [tab4_blk, lanes64_apply, cosT64_apply, pos_eq, ite_self]
    rfl
  hs r l := by
    have e : (Host.negf sinT64 : FVec Ideal S2048x32 .f32) (ix2 (posAt t r) ⟨l.val % 32, by omega⟩) = -sinT64 (ix2 (posAt t r) ⟨l.val % 32, by omega⟩) := by pointwise
    rw [tab5_blk, lanes64_apply, e, sinT64_apply, zeroT64_apply, pos_eq]
    rfl
  ht r l := by
    rw [tab6_blk, lanes64_apply, sinT64_apply, zeroT64_apply, pos_eq]
    rfl

theorem tab7_blk (c : Dev nD) (t : Fin cfg0.N) (r : Fin 256) (l : Fin 128) : iblk m c 7 t (ix2 r l) = lanes32 cosT32 cosT32 (ix2 (posAt t r) l) := by
  have e0 := ix_7 t
  refine Eq.trans (b := V m c main_v98 (ix2 (posAt t r) l)) ?_ (congrFun (host_v98 m c) _)
  blk_ext [iblk, e0]

theorem tab8_blk (c : Dev nD) (t : Fin cfg0.N) (r : Fin 256) (l : Fin 128) : iblk m c 8 t (ix2 r l) = lanes32 (Host.negf sinT32) zeroT32 (ix2 (posAt t r) l) := by
  have e0 := ix_8 t
  refine Eq.trans (b := V m c main_v103 (ix2 (posAt t r) l)) ?_ (congrFun (host_v103 m c) _)
  blk_ext [iblk, e0]

theorem tab9_blk (c : Dev nD) (t : Fin cfg0.N) (r : Fin 256) (l : Fin 128) : iblk m c 9 t (ix2 r l) = lanes32 zeroT32 sinT32 (ix2 (posAt t r) l) := by
  have e0 := ix_9 t
  refine Eq.trans (b := V m c main_v107 (ix2 (posAt t r) l)) ?_ (congrFun (host_v107 m c) _)
  blk_ext [iblk, e0]

theorem tab32 (c : Dev nD) (t : Fin cfg0.N) :
    Tab32 (iblk m c 7 t) (iblk m c 8 t) (iblk m c 9 t) (fun r => cs32 (rowAt t r)) (fun r => sn32 (rowAt t r)) where
  hc r l := by
    rw [tab7_blk, lanes32_apply, cosT32_apply, pos_eq, ite_self]
    rfl
  hs r l := by
    have e : (Host.negf sinT32 : FVec Ideal S2048x16 .f32) (ix2 (posAt t r) ⟨l.val % 16, by omega⟩) = -sinT32 (ix2 (posAt t r) ⟨l.val % 16, by omega⟩) := by pointwise
    rw [tab8_blk, lanes32_apply, e, sinT32_apply, zeroT32_apply, pos_eq]
    rfl
  ht r l := by
    rw [tab9_blk, lanes32_apply, sinT32_apply, zeroT32_apply, pos_eq]
    rfl

/-- A point's rotated columns are the projection's. -/
theorem hA (c : Dev nD) (t : Fin cfg0.N) (r : Fin 256) (k : Fin 1920) (d : Fin 5632) (h : permR k.val d.val) :
    k0_pay7 (F := Ideal) (iblk m c 0 t) (iblk m c 1 t) (iblk m c 2 t) (ix2 r k) = projRow (xs m c) (gs m c) (ws m c) (rowAt t r) d := by
  rw [pay7_apply]
  simp only [x_blk, g_blk, wr_blk, wrT_apply (ws m c) _ k d h]
  rfl

/-- A point's other columns are the projection's. -/
theorem hB (c : Dev nD) (t : Fin cfg0.N) (r : Fin 256) (k : Fin 768) (d : Fin 5632) (h : permP k.val d.val) :
    k0_pay8 (F := Ideal) (iblk m c 0 t) (iblk m c 1 t) (iblk m c 3 t) (ix2 r k) = projRow (xs m c) (gs m c) (ws m c) (rowAt t r) d := by
  rw [pay8_apply]
  simp only [x_blk, g_blk, wp_blk, wpT_apply (ws m c) _ k d h]
  rfl

theorem hW (c : Dev nD) (t : Fin cfg0.N) (i : Fin 256) (k d : Fin 768) (h : permQ k.val d.val) :
    iblk m c 11 t (ix2 i k) = wuqs m c (ix2 i d) := by
  rw [wuq_blk, wuqT_apply _ i k d h]

theorem hU (c : Dev nD) (t : Fin cfg0.N) : Diag (iblk m c 12 t) (fun d h e => wuks m c (ix3 d h e)) := fun k l => by
  rw [wuk_blk, wukT_apply]

end Cert.Proj
-- ==== Proof.ProjFin.lean ====
module

public import proofs.«01_k».proof.Proof.ProjArr

@[expose] public section

set_option maxRecDepth 16384

noncomputable section

/-! # The projection kernel's ten arrays -/

namespace Cert.Proj

open Cert.Kernel4Ideal Cert.Kernel4Ideal.Gen Idealize.ShloMosaic Idealize.ShloMosaic.TcCoe Idealize.SL.Sem

variable (m : (ℓ : Loc nD τ sig) → Buf (Elt Ideal) ℓ)

theorem emb16 (t : Fin cfg0.N) (r : Fin 256) (d : Fin 8) :
    ((cfg0.win 16).blk t).view.emb (ix2 r d) = (ix2 (rowAt t r) d : S32768x8.Idx) := by
  have e := ix_16 t
  funext a; apply Fin.ext
  match a with
  | ⟨0, _⟩ => show win0_16.index t (0 : Fin 2) * 256 + 1 * r.val = t.val * 256 + r.val; rw [e]; simp
  | ⟨1, _⟩ => show win0_16.index t (1 : Fin 2) * 8 + 1 * d.val = d.val; rw [e]; simp

theorem blk16 (c : Dev nD) (t : Fin cfg0.N) (r : Fin 256) (d : Fin 8) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr16 (xs m c) (gs m c) (ws m c) (((cfg0.win 16).blk t).view.emb (ix2 r d)) := by
  rw [emb16]
  exact (out16_apply _ _ _ _ _ _ _ _ _ _ _ _ _ _ _ _ _ _ _ _ _ _ _ _ _ _ _ _ _ _ _ _ _ _ _ _ _ _ _ _ _ _ _ _ _ _ _ _ _ _ (hB m c t) r d)

theorem final16 (c : Dev nD) : (dats m 0 c).arrAt 16 cfg0.N = arr16 (xs m c) (gs m c) (ws m c) := by
  refine (dats m 0 c).arrAt_eq_of_covers 16 _ (by decide +kernel) fun t hf y => ?_
  refine (congrFun (Cert.Kernel4Ideal.Value.flushed16_A m c t) y).trans ?_
  have hy : y = ix2 (y 0) (y 1) := by funext a; match a with | ⟨0, _⟩ => rfl | ⟨1, _⟩ => rfl
  rw [hy]
  exact blk16 m c t (y 0) (y 1)

theorem emb17 (t : Fin cfg0.N) (r : Fin 256) (d : Fin 24) :
    ((cfg0.win 17).blk t).view.emb (ix2 r d) = (ix2 (rowAt t r) d : S32768x24.Idx) := by
  have e := ix_17 t
  funext a; apply Fin.ext
  match a with
  | ⟨0, _⟩ => show win0_17.index t (0 : Fin 2) * 256 + 1 * r.val = t.val * 256 + r.val; rw [e]; simp
  | ⟨1, _⟩ => show win0_17.index t (1 : Fin 2) * 24 + 1 * d.val = d.val; rw [e]; simp

theorem blk17 (c : Dev nD) (t : Fin cfg0.N) (r : Fin 256) (d : Fin 24) :
    out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr17 (xs m c) (gs m c) (ws m c) (((cfg0.win 17).blk t).view.emb (ix2 r d)) := by
  rw [emb17]
  exact (out17_apply _ _ _ _ _ _ _ _ _ _ _ _ _ _ _ _ _ _ _ _ _ _ _ _ _ _ _ _ _ _ _ _ _ _ _ _ _ _ _ _ _ _ _ _ _ _ _ _ _ _ (hB m c t) r d)

theorem final17 (c : Dev nD) : (dats m 0 c).arrAt 17 cfg0.N = arr17 (xs m c) (gs m c) (ws m c) := by
  refine (dats m 0 c).arrAt_eq_of_covers 17 _ (by decide +kernel) fun t hf y => ?_
  refine (congrFun (Cert.Kernel4Ideal.Value.flushed17_A m c t) y).trans ?_
  have hy : y = ix2 (y 0) (y 1) := by funext a; match a with | ⟨0, _⟩ => rfl | ⟨1, _⟩ => rfl
  rw [hy]
  exact blk17 m c t (y 0) (y 1)

theorem emb18 (t : Fin cfg0.N) (r : Fin 256) (d : Fin 192) :
    ((cfg0.win 18).blk t).view.emb (ix2 r d) = (ix2 (rowAt t r) d : S32768x192.Idx) := by
  have e := ix_18 t
  funext a; apply Fin.ext
  match a with
  | ⟨0, _⟩ => show win0_18.index t (0 : Fin 2) * 256 + 1 * r.val = t.val * 256 + r.val; rw [e]; simp
  | ⟨1, _⟩ => show win0_18.index t (1 : Fin 2) * 192 + 1 * d.val = d.val; rw [e]; simp

theorem blk18 (c : Dev nD) (t : Fin cfg0.N) (r : Fin 256) (d : Fin 192) :
    out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr18 (xs m c) (gs m c) (ws m c) (((cfg0.win 18).blk t).view.emb (ix2 r d)) := by
  rw [emb18]
  exact (out18_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final18 (c : Dev nD) : (dats m 0 c).arrAt 18 cfg0.N = arr18 (xs m c) (gs m c) (ws m c) := by
  refine (dats m 0 c).arrAt_eq_of_covers 18 _ (by decide +kernel) fun t hf y => ?_
  refine (congrFun (Cert.Kernel4Ideal.Value.flushed18_A m c t) y).trans ?_
  have hy : y = ix2 (y 0) (y 1) := by funext a; match a with | ⟨0, _⟩ => rfl | ⟨1, _⟩ => rfl
  rw [hy]
  exact blk18 m c t (y 0) (y 1)

theorem emb19 (t : Fin cfg0.N) (r : Fin 256) (d : Fin 256) :
    ((cfg0.win 19).blk t).view.emb (ix2 r d) = (ix2 (rowAt t r) d : S32768x256.Idx) := by
  have e := ix_19 t
  funext a; apply Fin.ext
  match a with
  | ⟨0, _⟩ => show win0_19.index t (0 : Fin 2) * 256 + 1 * r.val = t.val * 256 + r.val; rw [e]; simp
  | ⟨1, _⟩ => show win0_19.index t (1 : Fin 2) * 256 + 1 * d.val = d.val; rw [e]; simp

theorem blk19 (c : Dev nD) (t : Fin cfg0.N) (r : Fin 256) (d : Fin 256) :
    out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr19 (xs m c) (gs m c) (ws m c) (((cfg0.win 19).blk t).view.emb (ix2 r d)) := by
  rw [emb19]
  exact (out19_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final19 (c : Dev nD) : (dats m 0 c).arrAt 19 cfg0.N = arr19 (xs m c) (gs m c) (ws m c) := by
  refine (dats m 0 c).arrAt_eq_of_covers 19 _ (by decide +kernel) fun t hf y => ?_
  refine (congrFun (Cert.Kernel4Ideal.Value.flushed19_A m c t) y).trans ?_
  have hy : y = ix2 (y 0) (y 1) := by funext a; match a with | ⟨0, _⟩ => rfl | ⟨1, _⟩ => rfl
  rw [hy]
  exact blk19 m c t (y 0) (y 1)

theorem emb21 (t : Fin cfg0.N) (r : Fin 256) (d : Fin 128) :
    ((cfg0.win 21).blk t).view.emb (ix2 r d) = (ix2 (rowAt t r) d : S32768x128.Idx) := by
  have e := ix_21 t
  funext a; apply Fin.ext
  match a with
  | ⟨0, _⟩ => show win0_21.index t (0 : Fin 2) * 256 + 1 * r.val = t.val * 256 + r.val; rw [e]; simp
  | ⟨1, _⟩ => show win0_21.index t (1 : Fin 2) * 128 + 1 * d.val = d.val; rw [e]; simp

theorem blk21 (c : Dev nD) (t : Fin cfg0.N) (r : Fin 256) (d : Fin 128) :
    out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr21 (xs m c) (gs m c) (ws m c) (((cfg0.win 21).blk t).view.emb (ix2 r d)) := by
  rw [emb21]
  exact (out21_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final21 (c : Dev nD) : (dats m 0 c).arrAt 21 cfg0.N = arr21 (xs m c) (gs m c) (ws m c) := by
  refine (dats m 0 c).arrAt_eq_of_covers 21 _ (by decide +kernel) fun t hf y => ?_
  refine (congrFun (Cert.Kernel4Ideal.Value.flushed21_A m c t) y).trans ?_
  have hy : y = ix2 (y 0) (y 1) := by funext a; match a with | ⟨0, _⟩ => rfl | ⟨1, _⟩ => rfl
  rw [hy]
  exact blk21 m c t (y 0) (y 1)

theorem emb20 (t : Fin cfg0.N) (r : Fin 256) (d : Fin 160) :
    ((cfg0.win 20).blk t).view.emb (ix2 r d) = (ix2 (rowAt t r) d : S32768x160.Idx) := by
  have e := ix_20 t
  funext a; apply Fin.ext
  match a with
  | ⟨0, _⟩ => show win0_20.index t (0 : Fin 2) * 256 + 1 * r.val = t.val * 256 + r.val; rw [e]; simp
  | ⟨1, _⟩ => show win0_20.index t (1 : Fin 2) * 160 + 1 * d.val = d.val; rw [e]; simp

theorem blk20 (c : Dev nD) (t : Fin cfg0.N) (r : Fin 256) (d : Fin 160) :
    out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr20 (xs m c) (gs m c) (ws m c) (gkvs m c) (((cfg0.win 20).blk t).view.emb (ix2 r d)) := by
  rw [emb20]
  have eg : (fun i => iblk m c 13 t (ix2 (0 : Fin 1) i)) = fun i => gkvs m c (ix1 i) := funext fun i => gkv_blk m c t i
  refine (out20_apply _ _ _ _ _ _ _ _ _ _ _ _ _ _ _ _ _ _ _ _ _ _ _ _ _ _ _ _ _ _ _ _ _ _ _ _ _ _ _ _ _ _ _ _ _ _ _ _ _ _ (hB m c t) (tab32 m c t) r d).trans ?_
  rw [eg]
  rfl

theorem final20 (c : Dev nD) : (dats m 0 c).arrAt 20 cfg0.N = arr20 (xs m c) (gs m c) (ws m c) (gkvs m c) := by
  refine (dats m 0 c).arrAt_eq_of_covers 20 _ (by decide +kernel) fun t hf y => ?_
  refine (congrFun (Cert.Kernel4Ideal.Value.flushed20_A m c t) y).trans ?_
  have hy : y = ix2 (y 0) (y 1) := by funext a; match a with | ⟨0, _⟩ => rfl | ⟨1, _⟩ => rfl
  rw [hy]
  exact blk20 m c t (y 0) (y 1)

theorem emb23 (t : Fin cfg0.N) (r : Fin 256) (d : Fin 160) :
    ((cfg0.win 23).blk t).view.emb (ix2 r d) = (ix2 (rowAt t r) d : S32768x160.Idx) := by
  have e := ix_23 t
  funext a; apply Fin.ext
  match a with
  | ⟨0, _⟩ => show win0_23.index t (0 : Fin 2) * 256 + 1 * r.val = t.val * 256 + r.val; rw [e]; simp
  | ⟨1, _⟩ => show win0_23.index t (1 : Fin 2) * 160 + 1 * d.val = d.val; rw [e]; simp

theorem blk23 (c : Dev nD) (t : Fin cfg0.N) (r : Fin 256) (d : Fin 160) :
    out0_A_23 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr20 (xs m c) (gs m c) (ws m c) (gkvs m c) (((cfg0.win 23).blk t).view.emb (ix2 r d)) := by
  rw [emb23]
  have eg : (fun i => iblk m c 13 t (ix2 (0 : Fin 1) i)) = fun i => gkvs m c (ix1 i) := funext fun i => gkv_blk m c t i
  refine (out23_apply _ _ _ _ _ _ _ _ _ _ _ _ _ _ _ _ _ _ _ _ _ _ _ _ _ _ _ _ _ _ _ _ _ _ _ _ _ _ _ _ _ _ _ _ _ _ _ _ _ _ (hB m c t) (tab32 m c t) r d).trans ?_
  rw [eg]
  rfl

theorem final23 (c : Dev nD) : (dats m 0 c).arrAt 23 cfg0.N = arr20 (xs m c) (gs m c) (ws m c) (gkvs m c) := by
  refine (dats m 0 c).arrAt_eq_of_covers 23 _ (by decide +kernel) fun t hf y => ?_
  refine (congrFun (Cert.Kernel4Ideal.Value.flushed23_A m c t) y).trans ?_
  have hy : y = ix2 (y 0) (y 1) := by funext a; match a with | ⟨0, _⟩ => rfl | ⟨1, _⟩ => rfl
  rw [hy]
  exact blk23 m c t (y 0) (y 1)

theorem emb22 (t : Fin cfg0.N) (b : Fin 7) (r : Fin 256) (d : Fin 64) :
    ((cfg0.win 22).blk t).view.emb (ix3 b r d) = (ix3 b (rowAt t r) d : S7x32768x64.Idx) := by
  have e := ix_22 t
  funext a; apply Fin.ext
  match a with
  | ⟨0, _⟩ => show win0_22.index t (0 : Fin 3) * 7 + 1 * b.val = b.val; rw [e]; simp
  | ⟨1, _⟩ => show win0_22.index t (1 : Fin 3) * 256 + 1 * r.val = t.val * 256 + r.val; rw [e]; simp
  | ⟨2, _⟩ => show win0_22.index t (2 : Fin 3) * 64 + 1 * d.val = d.val; rw [e]; simp

theorem blk22 (c : Dev nD) (t : Fin cfg0.N) (b : Fin 7) (r : Fin 256) (d : Fin 64) :
    out0_A_22 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 b r d)
      = arr22 (xs m c) (gs m c) (ws m c) (((cfg0.win 22).blk t).view.emb (ix3 b r d)) := by
  rw [emb22]
  exact (out22_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) b r d)

theorem final22 (c : Dev nD) : (dats m 0 c).arrAt 22 cfg0.N = arr22 (xs m c) (gs m c) (ws m c) := by
  refine (dats m 0 c).arrAt_eq_of_covers 22 _ (by decide +kernel) fun t hf y => ?_
  refine (congrFun (Cert.Kernel4Ideal.Value.flushed22_A m c t) y).trans ?_
  have hy : y = ix3 (y 0) (y 1) (y 2) := by funext a; match a with | ⟨0, _⟩ => rfl | ⟨1, _⟩ => rfl | ⟨2, _⟩ => rfl
  rw [hy]
  exact blk22 m c t (y 0) (y 1) (y 2)

theorem emb14 (t : Fin cfg0.N) (b : Fin 3) (h : Fin 8) (r : Fin 256) (d : Fin 64) :
    ((cfg0.win 14).blk t).view.emb (ix4 b h r d) = (ix4 b h (rowAt t r) d : S3x8x32768x64.Idx) := by
  have e := ix_14 t
  funext a; apply Fin.ext
  match a with
  | ⟨0, _⟩ => show win0_14.index t (0 : Fin 4) * 3 + 1 * b.val = b.val; rw [e]; simp
  | ⟨1, _⟩ => show win0_14.index t (1 : Fin 4) * 8 + 1 * h.val = h.val; rw [e]; simp
  | ⟨2, _⟩ => show win0_14.index t (2 : Fin 4) * 256 + 1 * r.val = t.val * 256 + r.val; rw [e]; simp
  | ⟨3, _⟩ => show win0_14.index t (3 : Fin 4) * 64 + 1 * d.val = d.val; rw [e]; simp

theorem blk14 (c : Dev nD) (t : Fin cfg0.N) (b : Fin 3) (h : Fin 8) (r : Fin 256) (d : Fin 64) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 b h r d)
      = arr14 (xs m c) (gs m c) (ws m c) (((cfg0.win 14).blk t).view.emb (ix4 b h r d)) := by
  rw [emb14]
  exact (out14_apply _ _ _ _ _ _ _ _ _ _ _ _ _ _ _ _ _ _ _ _ _ _ _ _ _ _ _ _ _ _ _ _ _ _ _ _ _ _ _ _ _ _ _ _ _ _ _ _ _ _ (hA m c t) (tab64 m c t) b h r d)

theorem final14 (c : Dev nD) : (dats m 0 c).arrAt 14 cfg0.N = arr14 (xs m c) (gs m c) (ws m c) := by
  refine (dats m 0 c).arrAt_eq_of_covers 14 _ (by decide +kernel) fun t hf y => ?_
  refine (congrFun (Cert.Kernel4Ideal.Value.flushed14_A m c t) y).trans ?_
  have hy : y = ix4 (y 0) (y 1) (y 2) (y 3) := by funext a; match a with | ⟨0, _⟩ => rfl | ⟨1, _⟩ => rfl | ⟨2, _⟩ => rfl | ⟨3, _⟩ => rfl
  rw [hy]
  exact blk14 m c t (y 0) (y 1) (y 2) (y 3)

theorem emb15 (t : Fin cfg0.N) (h : Fin 8) (r : Fin 256) (d : Fin 160) :
    ((cfg0.win 15).blk t).view.emb (ix3 h r d) = (ix3 h (rowAt t r) d : S8x32768x160.Idx) := by
  have e := ix_15 t
  funext a; apply Fin.ext
  match a with
  | ⟨0, _⟩ => show win0_15.index t (0 : Fin 3) * 8 + 1 * h.val = h.val; rw [e]; simp
  | ⟨1, _⟩ => show win0_15.index t (1 : Fin 3) * 256 + 1 * r.val = t.val * 256 + r.val; rw [e]; simp
  | ⟨2, _⟩ => show win0_15.index t (2 : Fin 3) * 160 + 1 * d.val = d.val; rw [e]; simp

theorem blk15 (c : Dev nD) (t : Fin cfg0.N) (h : Fin 8) (r : Fin 256) (d : Fin 160) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 h r d)
      = arr15 (xs m c) (gs m c) (ws m c) (gqs m c) (wuqs m c) (wuks m c) (((cfg0.win 15).blk t).view.emb (ix3 h r d)) := by
  rw [emb15]
  have eg : (fun i => iblk m c 10 t (ix2 (0 : Fin 1) i)) = fun i => gqs m c (ix1 i) := funext fun i => gq_blk m c t i
  refine (out15_apply _ _ _ _ _ _ _ _ _ _ _ _ _ _ _ _ _ _ _ _ _ _ _ _ _ _ _ _ _ _ _ _ _ _ _ _ _ _ _ _ _ _ _ _ _ _ _ _ _ _ (hB m c t) (tab32 m c t) (hW m c t) (U := fun d h e => wuks m c (ix3 d h e)) (hU m c t) h r d).trans ?_
  rw [eg]
  rfl

theorem final15 (c : Dev nD) : (dats m 0 c).arrAt 15 cfg0.N = arr15 (xs m c) (gs m c) (ws m c) (gqs m c) (wuqs m c) (wuks m c) := by
  refine (dats m 0 c).arrAt_eq_of_covers 15 _ (by decide +kernel) fun t hf y => ?_
  refine (congrFun (Cert.Kernel4Ideal.Value.flushed15_A m c t) y).trans ?_
  have hy : y = ix3 (y 0) (y 1) (y 2) := by funext a; match a with | ⟨0, _⟩ => rfl | ⟨1, _⟩ => rfl | ⟨2, _⟩ => rfl
  rw [hy]
  exact blk15 m c t (y 0) (y 1) (y 2)

end Cert.Proj
-- ==== Proof.ProjStep.lean ====
module

public import proofs.«01_k».proof.Proof.Gen.Reference4Ideal.Run
public import proofs.«01_k».proof.Proof.ProjArr

@[expose] public section

set_option maxRecDepth 16384

noncomputable section

/-! # The steps of the projection's reference, at an index -/

namespace Cert.Proj

open Cert.Reference4Ideal Cert.Reference4Ideal.Gen Idealize.ShloMosaic Idealize.ShloMosaic.TcCoe Idealize.SL.Sem

/-- Every row's position in its sequence. -/
def posR : FVec Ideal S32768 .f32 :=
  sitofp .f32 (shapeCast S32768 (broadcastInDim S16x2048 ![0, 1] bcast_S1x2048_S16x2048_0_1 (shapeCast S1x2048 (iotaInDim S2048 32 0) shapeCasts_S2048_S1x2048))
    shapeCasts_S16x2048_S32768)

theorem posR_apply (R : Fin 32768) : posR (ix1 R) = FloatOps.sitofp (F := Ideal) .f32 (BitVec.ofNat 32 (R.val % 2048)) := by
  unfold posR
  pointwise

/-- The angles of 32 frequencies at every row's position. -/
def angR64 : FVec Ideal S32768x32 .f32 :=
  mulf (broadcastInDim S32768x32 ![0, 1] bcast_S32768x1_S32768x32_0_1 (broadcastInDim S32768x1 ![0] bcast_S32768_S32768x1_0 posR))
    (broadcastInDim S32768x32 ![0, 1] bcast_S1x32_S32768x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem angR64_apply (R : Fin 32768) (j : Fin 32) : angR64 (ix2 R j) = ang64 (R.val % 2048) j.val := by
  unfold angR64
  pointwise
  rw [posR_apply]
  rfl

def cosR64 : FVec Ideal S32768x1x32 .f32 := broadcastInDim S32768x1x32 ![0, 2] bcast_S32768x32_S32768x1x32_0_2 (Host.cos angR64)
def sinR64 : FVec Ideal S32768x1x32 .f32 := broadcastInDim S32768x1x32 ![0, 2] bcast_S32768x32_S32768x1x32_0_2 (Host.sin angR64)

theorem cosR64_apply (R : Fin 32768) (j : Fin 32) : cosR64 (ix3 R (0 : Fin 1) j) = cs64 R j := by
  unfold cosR64 cs64
  pointwise
  rw [angR64_apply]

theorem sinR64_apply (R : Fin 32768) (j : Fin 32) : sinR64 (ix3 R (0 : Fin 1) j) = sn64 R j := by
  unfold sinR64 sn64
  pointwise
  rw [angR64_apply]

/-- The rotation of eight heads. -/
def rotH64 (v : FVec Ideal S32768x8x64 .f32) (a b : FVec Ideal S32768x1x32 .f32) : FVec Ideal S32768x8x64 .f32 :=
  concatenate S32768x8x64 2
    [⟨S32768x8x32, subf (mulf (extractStridedSlice S32768x8x32 ![0, 0, 0] v slices_S32768x8x64_S32768x8x32_0_0_0) (broadcastInDim S32768x8x32 ![0, 1, 2] bcast_S32768x1x32_S32768x8x32_0_1_2 a))
        (mulf (extractStridedSlice S32768x8x32 ![0, 0, 32] v slices_S32768x8x64_S32768x8x32_0_0_32) (broadcastInDim S32768x8x32 ![0, 1, 2] bcast_S32768x1x32_S32768x8x32_0_1_2 b))⟩,
      ⟨S32768x8x32, addf (mulf (extractStridedSlice S32768x8x32 ![0, 0, 32] v slices_S32768x8x64_S32768x8x32_0_0_32) (broadcastInDim S32768x8x32 ![0, 1, 2] bcast_S32768x1x32_S32768x8x32_0_1_2 a))
        (mulf (extractStridedSlice S32768x8x32 ![0, 0, 0] v slices_S32768x8x64_S32768x8x32_0_0_0) (broadcastInDim S32768x8x32 ![0, 1, 2] bcast_S32768x1x32_S32768x8x32_0_1_2 b))⟩]
    concatenates_S32768x8x32_S32768x8x32_S32768x8x64_d2

theorem rotH64_apply (v : FVec Ideal S32768x8x64 .f32) (a b : FVec Ideal S32768x1x32 .f32) (R : Fin 32768) (h : Fin 8) (j : Fin 64) :
    rotH64 v a b (ix3 R h j) = rot64 (fun j => v (ix3 R h j)) (fun i => a (ix3 R (0 : Fin 1) i)) (fun i => b (ix3 R (0 : Fin 1) i)) j := by
  unfold rotH64 rot64
  pointwise
  split_ifs with hj
  · have e : (⟨32 + j.val, by omega⟩ : Fin 64) = ⟨j.val + 32, by omega⟩ := Fin.ext (by simp only []; omega)
    rw [← e]
  · have e : (⟨32 + (j.val - 32), by omega⟩ : Fin 64) = j := Fin.ext (by simp only []; omega)
    rw [e]
  · exact absurd rfl (by assumption)

/-- The rotation of one key. -/
def keyR64 (s : FVec Ideal S32768x64 .f32) (a b : FVec Ideal S32768x1x32 .f32) : FVec Ideal S32768x64 .f32 :=
  shapeCast S32768x64 (concatenate S32768x1x64 2
    [⟨S32768x1x32, subf (mulf (extractStridedSlice S32768x1x32 ![0, 0, 0] (broadcastInDim S32768x1x64 ![0, 2] bcast_S32768x64_S32768x1x64_0_2 s) slices_S32768x1x64_S32768x1x32_0_0_0) a)
        (mulf (extractStridedSlice S32768x1x32 ![0, 0, 32] (broadcastInDim S32768x1x64 ![0, 2] bcast_S32768x64_S32768x1x64_0_2 s) slices_S32768x1x64_S32768x1x32_0_0_32) b)⟩,
      ⟨S32768x1x32, addf (mulf (extractStridedSlice S32768x1x32 ![0, 0, 32] (broadcastInDim S32768x1x64 ![0, 2] bcast_S32768x64_S32768x1x64_0_2 s) slices_S32768x1x64_S32768x1x32_0_0_32) a)
        (mulf (extractStridedSlice S32768x1x32 ![0, 0, 0] (broadcastInDim S32768x1x64 ![0, 2] bcast_S32768x64_S32768x1x64_0_2 s) slices_S32768x1x64_S32768x1x32_0_0_0) b)⟩]
    concatenates_S32768x1x32_S32768x1x32_S32768x1x64_d2) shapeCasts_S32768x1x64_S32768x64

theorem keyR64_apply (s : FVec Ideal S32768x64 .f32) (a b : FVec Ideal S32768x1x32 .f32) (R : Fin 32768) (j : Fin 64) :
    keyR64 s a b (ix2 R j) = rot64 (fun j => s (ix2 R j)) (fun i => a (ix3 R (0 : Fin 1) i)) (fun i => b (ix3 R (0 : Fin 1) i)) j := by
  unfold keyR64 rot64
  pointwise
  split_ifs with hj
  · have e : (⟨32 + j.val, by omega⟩ : Fin 64) = ⟨j.val + 32, by omega⟩ := Fin.ext (by simp only []; omega)
    rw [← e]
  · have e : (⟨32 + (j.val - 32), by omega⟩ : Fin 64) = j := Fin.ext (by simp only []; omega)
    rw [e]
  · exact absurd rfl (by assumption)

/-- The angles of 16 frequencies at every row's position. -/
def angR32 : FVec Ideal S32768x16 .f32 :=
  mulf (broadcastInDim S32768x16 ![0, 1] bcast_S32768x1_S32768x16_0_1 (broadcastInDim S32768x1 ![0] bcast_S32768_S32768x1_0 posR))
    (broadcastInDim S32768x16 ![0, 1] bcast_S1x16_S32768x16_0_1 (broadcastInDim S1x16 ![1] bcast_S16_S1x16_1
      (Host.powf (broadcastInDim S16 ![] bcast_S_S16 (constant S_ .f32 0x461C4000#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

theorem angR32_apply (R : Fin 32768) (j : Fin 16) : angR32 (ix2 R j) = ang32 (R.val % 2048) j.val := by
  unfold angR32
  pointwise
  rw [posR_apply]
  rfl

def cosR32 : FVec Ideal S32768x1x16 .f32 := broadcastInDim S32768x1x16 ![0, 2] bcast_S32768x16_S32768x1x16_0_2 (Host.cos angR32)
def sinR32 : FVec Ideal S32768x1x16 .f32 := broadcastInDim S32768x1x16 ![0, 2] bcast_S32768x16_S32768x1x16_0_2 (Host.sin angR32)

theorem cosR32_apply (R : Fin 32768) (j : Fin 16) : cosR32 (ix3 R (0 : Fin 1) j) = cs32 R j := by
  unfold cosR32 cs32
  pointwise
  rw [angR32_apply]

theorem sinR32_apply (R : Fin 32768) (j : Fin 16) : sinR32 (ix3 R (0 : Fin 1) j) = sn32 R j := by
  unfold sinR32 sn32
  pointwise
  rw [angR32_apply]

/-- The rotation of eight heads. -/
def rotH32 (v : FVec Ideal S32768x8x32 .f32) (a b : FVec Ideal S32768x1x16 .f32) : FVec Ideal S32768x8x32 .f32 :=
  concatenate S32768x8x32 2
    [⟨S32768x8x16, subf (mulf (extractStridedSlice S32768x8x16 ![0, 0, 0] v slices_S32768x8x32_S32768x8x16_0_0_0) (broadcastInDim S32768x8x16 ![0, 1, 2] bcast_S32768x1x16_S32768x8x16_0_1_2 a))
        (mulf (extractStridedSlice S32768x8x16 ![0, 0, 16] v slices_S32768x8x32_S32768x8x16_0_0_16) (broadcastInDim S32768x8x16 ![0, 1, 2] bcast_S32768x1x16_S32768x8x16_0_1_2 b))⟩,
      ⟨S32768x8x16, addf (mulf (extractStridedSlice S32768x8x16 ![0, 0, 16] v slices_S32768x8x32_S32768x8x16_0_0_16) (broadcastInDim S32768x8x16 ![0, 1, 2] bcast_S32768x1x16_S32768x8x16_0_1_2 a))
        (mulf (extractStridedSlice S32768x8x16 ![0, 0, 0] v slices_S32768x8x32_S32768x8x16_0_0_0) (broadcastInDim S32768x8x16 ![0, 1, 2] bcast_S32768x1x16_S32768x8x16_0_1_2 b))⟩]
    concatenates_S32768x8x16_S32768x8x16_S32768x8x32_d2

theorem rotH32_apply (v : FVec Ideal S32768x8x32 .f32) (a b : FVec Ideal S32768x1x16 .f32) (R : Fin 32768) (h : Fin 8) (j : Fin 32) :
    rotH32 v a b (ix3 R h j) = rot32 (fun j => v (ix3 R h j)) (fun i => a (ix3 R (0 : Fin 1) i)) (fun i => b (ix3 R (0 : Fin 1) i)) j := by
  unfold rotH32 rot32
  pointwise
  split_ifs with hj
  · have e : (⟨16 + j.val, by omega⟩ : Fin 32) = ⟨j.val + 16, by omega⟩ := Fin.ext (by simp only []; omega)
    rw [← e]
  · have e : (⟨16 + (j.val - 16), by omega⟩ : Fin 32) = j := Fin.ext (by simp only []; omega)
    rw [e]
  · exact absurd rfl (by assumption)

/-- The rotation of one key. -/
def keyR32 (s : FVec Ideal S32768x32 .f32) (a b : FVec Ideal S32768x1x16 .f32) : FVec Ideal S32768x32 .f32 :=
  shapeCast S32768x32 (concatenate S32768x1x32 2
    [⟨S32768x1x16, subf (mulf (extractStridedSlice S32768x1x16 ![0, 0, 0] (broadcastInDim S32768x1x32 ![0, 2] bcast_S32768x32_S32768x1x32_0_2 s) slices_S32768x1x32_S32768x1x16_0_0_0) a)
        (mulf (extractStridedSlice S32768x1x16 ![0, 0, 16] (broadcastInDim S32768x1x32 ![0, 2] bcast_S32768x32_S32768x1x32_0_2 s) slices_S32768x1x32_S32768x1x16_0_0_16) b)⟩,
      ⟨S32768x1x16, addf (mulf (extractStridedSlice S32768x1x16 ![0, 0, 16] (broadcastInDim S32768x1x32 ![0, 2] bcast_S32768x32_S32768x1x32_0_2 s) slices_S32768x1x32_S32768x1x16_0_0_16) a)
        (mulf (extractStridedSlice S32768x1x16 ![0, 0, 0] (broadcastInDim S32768x1x32 ![0, 2] bcast_S32768x32_S32768x1x32_0_2 s) slices_S32768x1x32_S32768x1x16_0_0_0) b)⟩]
    concatenates_S32768x1x16_S32768x1x16_S32768x1x32_d2) shapeCasts_S32768x1x32_S32768x32

theorem keyR32_apply (s : FVec Ideal S32768x32 .f32) (a b : FVec Ideal S32768x1x16 .f32) (R : Fin 32768) (j : Fin 32) :
    keyR32 s a b (ix2 R j) = rot32 (fun j => s (ix2 R j)) (fun i => a (ix3 R (0 : Fin 1) i)) (fun i => b (ix3 R (0 : Fin 1) i)) j := by
  unfold keyR32 rot32
  pointwise
  split_ifs with hj
  · have e : (⟨16 + j.val, by omega⟩ : Fin 32) = ⟨j.val + 16, by omega⟩ := Fin.ext (by simp only []; omega)
    rw [← e]
  · have e : (⟨16 + (j.val - 16), by omega⟩ : Fin 32) = j := Fin.ext (by simp only []; omega)
    rw [e]
  · exact absurd rfl (by assumption)

/-- The normalisation of the latent query. -/
def nrmQ (s : FVec Ideal S32768x256 .f32) (g : FVec Ideal S256 .f32) : FVec Ideal S32768x256 .f32 :=
  mulf (mulf s (broadcastInDim S32768x256 ![0, 1] bcast_S32768x1_S32768x256_0_1 (Host.rsqrt (addf
      (Host.divf (broadcastInDim S32768x1 ![0] bcast_S32768_S32768x1_0 (Host.reduceAdd (mulf s s) (constant S_ .f32 0x00000000#32) reducesTo_S32768x256_S32768_d1 h_S_))
        (broadcastInDim S32768x1 ![] bcast_S_S32768x1 (constant S_ .f32 0x43800000#32)))
      (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))

theorem nrmQ_apply (s : FVec Ideal S32768x256 .f32) (g : FVec Ideal S256 .f32) (R : Fin 32768) (j : Fin 256) :
    nrmQ s g (ix2 R j) = nrm (Ideal.ofBits .f32 0x43800000#32) (fun i => s (ix2 R i)) (fun i => g (ix1 i)) j := by
  unfold nrmQ
  pointwise
  rfl

/-- The normalisation of the latent key and value. -/
def nrmK (s : FVec Ideal S32768x128 .f32) (g : FVec Ideal S128 .f32) : FVec Ideal S32768x128 .f32 :=
  mulf (mulf s (broadcastInDim S32768x128 ![0, 1] bcast_S32768x1_S32768x128_0_1 (Host.rsqrt (addf
      (Host.divf (broadcastInDim S32768x1 ![0] bcast_S32768_S32768x1_0 (Host.reduceAdd (mulf s s) (constant S_ .f32 0x00000000#32) reducesTo_S32768x128_S32768_d1 h_S_))
        (broadcastInDim S32768x1 ![] bcast_S_S32768x1 (constant S_ .f32 0x43000000#32)))
      (broadcastInDim S32768x1 ![] bcast_S_S32768x1 (constant S_ .f32 0x358637BD#32))))))
    (broadcastInDim S32768x128 ![0, 1] bcast_S1x128_S32768x128_0_1 (broadcastInDim S1x128 ![1] bcast_S128_S1x128_1 g))

theorem nrmK_apply (s : FVec Ideal S32768x128 .f32) (g : FVec Ideal S128 .f32) (R : Fin 32768) (j : Fin 128) :
    nrmK s g (ix2 R j) = nrm (Ideal.ofBits .f32 0x43000000#32) (fun i => s (ix2 R i)) (fun i => g (ix1 i)) j := by
  unfold nrmK
  pointwise
  rfl

/-- The normalisation of the rows. -/
def nrmX (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
      (Host.divf (broadcastInDim S32768x1 ![0] bcast_S32768_S32768x1_0 (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem nrmX_apply (x : FVec Ideal S32768x1024 .f32) (g : FVec Ideal S1024 .f32) (R : Fin 32768) (j : Fin 1024) :
    nrmX x g (ix2 R j) = Row.norm (fun i => x (ix2 R i)) (fun i => g (ix1 i)) j := by
  unfold nrmX
  pointwise
  rfl

/-- The rows' projection. -/
def prjX (h : FVec Ideal S32768x1024 .f32) (w : FVec Ideal S1024x5632 .f32) : FVec Ideal S32768x5632 .f32 :=
  Host.dotGeneral dot_S32768x1024_S1024x5632_S32768x5632_1_0_0_1_n_n none h w

theorem prjX_apply (x : FVec Ideal S32768x1024 .f32) (g : FVec Ideal S1024 .f32) (w : FVec Ideal S1024x5632 .f32) (R : Fin 32768) (j : Fin 5632) :
    prjX (nrmX x g) w (ix2 R j) = projRow x g w R j := by
  unfold prjX projRow
  pointwise
  simp only [nrmX_apply]

/-- The latent query's projection to eight heads of 96. -/
def latR (s : FVec Ideal S32768x256 .f32) (wuq : FVec Ideal S256x768 .f32) : FVec Ideal S32768x8x96 .f32 :=
  shapeCast S32768x8x96 (Host.dotGeneral dot_S32768x256_S256x768_S32768x768_1_0_0_1_n_n none s wuq) shapeCasts_S32768x768_S32768x8x96

theorem latR_apply (s : FVec Ideal S32768x256 .f32) (wuq : FVec Ideal S256x768 .f32) (R : Fin 32768) (h : Fin 8) (e : Fin 96) :
    latR s wuq (ix3 R h e) = ∑ i : Fin 256, s (ix2 R i) * wuq (ix2 i (⟨h.val * 96 + e.val, by omega⟩ : Fin 768)) := by
  unfold latR
  pointwise

/-- The latent attention's queries: the plain entries through the keys' matrix, then the rotated entries. -/
def qcatR (q : FVec Ideal S32768x8x96 .f32) (r : FVec Ideal S32768x8x32 .f32) (wuk : FVec Ideal S128x8x64 .f32) : FVec Ideal S8x32768x160 .bf16 :=
  truncf .bf16 (transpose S8x32768x160 [1, 0, 2] (concatenate S32768x8x160 2 [⟨S32768x8x128, transpose S32768x8x128 [2, 0, 1]
      (Host.dotGeneral dot_S128x8x64_S32768x8x64_S8x128x32768_2_2_0_0_1_1 none wuk (extractStridedSlice S32768x8x64 ![0, 0, 0] q slices_S32768x8x96_S32768x8x64_0_0_0))
      transposes_S8x128x32768_S32768x8x128_2_0_1⟩, ⟨S32768x8x32, r⟩] concatenates_S32768x8x128_S32768x8x32_S32768x8x160_d2)
    transposes_S32768x8x160_S8x32768x160_1_0_2) bitsLt_bf16_f32

theorem qcatR_apply (q : FVec Ideal S32768x8x96 .f32) (r : FVec Ideal S32768x8x32 .f32) (wuk : FVec Ideal S128x8x64 .f32) (h : Fin 8) (R : Fin 32768) (d : Fin 160) :
    qcatR q r wuk (ix3 h R d) = if hd : d.val < 128 then ∑ e : Fin 64, wuk (ix3 ⟨d.val, hd⟩ h e) * q (ix3 R h (⟨e.val, by omega⟩ : Fin 96))
      else r (ix3 R h (⟨d.val - 128, by omega⟩ : Fin 32)) := by
  unfold qcatR
  pointwise

/-- The rotated part of the latent query. -/
def tailR (q : FVec Ideal S32768x8x96 .f32) : FVec Ideal S32768x8x32 .f32 := extractStridedSlice S32768x8x32 ![0, 0, 64] q slices_S32768x8x96_S32768x8x32_0_0_64

theorem tailR_apply (q : FVec Ideal S32768x8x96 .f32) (R : Fin 32768) (h : Fin 8) (e : Fin 32) :
    tailR q (ix3 R h e) = q (ix3 R h (⟨64 + e.val, by omega⟩ : Fin 96)) := by
  unfold tailR
  pointwise

/-- Three groups of queries, head by head. -/
def stackR (a b d : FVec Ideal S32768x8x64 .f32) : FVec Ideal S3x8x32768x64 .bf16 :=
  truncf .bf16 (transpose S3x8x32768x64 [0, 2, 1, 3] (concatenate S3x32768x8x64 0
    [⟨S1x32768x8x64, broadcastInDim S1x32768x8x64 ![1, 2, 3] bcast_S32768x8x64_S1x32768x8x64_1_2_3 a⟩,
      ⟨S1x32768x8x64, broadcastInDim S1x32768x8x64 ![1, 2, 3] bcast_S32768x8x64_S1x32768x8x64_1_2_3 b⟩,
      ⟨S1x32768x8x64, broadcastInDim S1x32768x8x64 ![1, 2, 3] bcast_S32768x8x64_S1x32768x8x64_1_2_3 d⟩]
    concatenates_S1x32768x8x64_S1x32768x8x64_S1x32768x8x64_S3x32768x8x64_d0) transposes_S3x32768x8x64_S3x8x32768x64_0_2_1_3) bitsLt_bf16_f32

theorem stackR_apply (a b d : FVec Ideal S32768x8x64 .f32) (k : Fin 3) (h : Fin 8) (R : Fin 32768) (j : Fin 64) :
    stackR a b d (ix4 k h R j) = if k.val = 0 then a (ix3 R h j) else if k.val = 1 then b (ix3 R h j) else d (ix3 R h j) := by
  unfold stackR
  fin_cases k <;> pointwise <;> rfl

/-- An eighth of the queries. -/
def eighthR (a : FVec Ideal S32768x8x64 .f32) : FVec Ideal S32768x8x64 .f32 := mulf a (broadcastInDim S32768x8x64 ![] bcast_S_S32768x8x64 (constant S_ .f32 0x3E000000#32))

theorem eighthR_apply (a : FVec Ideal S32768x8x64 .f32) (y : S32768x8x64.Idx) : eighthR a y = a y * Ideal.ofBits .f32 0x3E000000#32 := rfl

/-- A key and its value side by side. -/
def kvR (k v : FVec Ideal S32768x64 .f32) : FVec Ideal S32768x128 .f32 := concatenate S32768x128 1 [⟨S32768x64, k⟩, ⟨S32768x64, v⟩] concatenates_S32768x64_S32768x64_S32768x128_d1

theorem kvR_apply (k v : FVec Ideal S32768x64 .f32) (R : Fin 32768) (d : Fin 128) :
    kvR k v (ix2 R d) = if h : d.val < 64 then k (ix2 R ⟨d.val, h⟩) else v (ix2 R (⟨d.val - 64, by omega⟩ : Fin 64)) := by
  unfold kvR
  pointwise

/-- Seven arrays, one above the other. -/
def sevenR (a0 a1 a2 a3 a4 a5 a6 : FVec Ideal S32768x64 .f32) : FVec Ideal S7x32768x64 .bf16 :=
  truncf .bf16 (concatenate S7x32768x64 0
    [⟨S1x32768x64, broadcastInDim S1x32768x64 ![1, 2] bcast_S32768x64_S1x32768x64_1_2 a0⟩,
      ⟨S1x32768x64, broadcastInDim S1x32768x64 ![1, 2] bcast_S32768x64_S1x32768x64_1_2 a1⟩,
      ⟨S1x32768x64, broadcastInDim S1x32768x64 ![1, 2] bcast_S32768x64_S1x32768x64_1_2 a2⟩,
      ⟨S1x32768x64, broadcastInDim S1x32768x64 ![1, 2] bcast_S32768x64_S1x32768x64_1_2 a3⟩,
      ⟨S1x32768x64, broadcastInDim S1x32768x64 ![1, 2] bcast_S32768x64_S1x32768x64_1_2 a4⟩,
      ⟨S1x32768x64, broadcastInDim S1x32768x64 ![1, 2] bcast_S32768x64_S1x32768x64_1_2 a5⟩,
      ⟨S1x32768x64, broadcastInDim S1x32768x64 ![1, 2] bcast_S32768x64_S1x32768x64_1_2 a6⟩]
    concatenates_S1x32768x64_S1x32768x64_S1x32768x64_S1x32768x64_S1x32768x64_S1x32768x64_S1x32768x64_S7x32768x64_d0) bitsLt_bf16_f32

theorem sevenR_apply (a0 a1 a2 a3 a4 a5 a6 : FVec Ideal S32768x64 .f32) (k : Fin 7) (R : Fin 32768) (j : Fin 64) :
    sevenR a0 a1 a2 a3 a4 a5 a6 (ix3 k R j) = if k.val = 0 then a0 (ix2 R j) else if k.val = 1 then a1 (ix2 R j) else if k.val = 2 then a2 (ix2 R j)
      else if k.val = 3 then a3 (ix2 R j) else if k.val = 4 then a4 (ix2 R j) else if k.val = 5 then a5 (ix2 R j) else a6 (ix2 R j) := by
  unfold sevenR
  fin_cases k <;> pointwise <;> rfl

/-! The halves of a key and its value. -/

def loR (a : FVec Ideal S32768x128 .f32) : FVec Ideal S32768x64 .f32 := extractStridedSlice S32768x64 ![0, 0] a slices_S32768x128_S32768x64_0_0
def hiR (a : FVec Ideal S32768x128 .f32) : FVec Ideal S32768x64 .f32 := extractStridedSlice S32768x64 ![0, 64] a slices_S32768x128_S32768x64_0_64

theorem loR_apply (k v : FVec Ideal S32768x64 .f32) (R : Fin 32768) (j : Fin 64) : loR (kvR k v) (ix2 R j) = k (ix2 R j) := by
  unfold loR kvR
  pointwise

theorem hiR_apply (k v : FVec Ideal S32768x64 .f32) (R : Fin 32768) (j : Fin 64) : hiR (kvR k v) (ix2 R j) = v (ix2 R j) := by
  unfold hiR kvR
  pointwise
  try exact congrArg v (congrArg (ix2 R) (Fin.ext (by simp only []; omega)))

/-! The columns of the projection. -/

def col512 (p : FVec Ideal S32768x5632 .f32) : FVec Ideal S32768x64 .f32 := extractStridedSlice S32768x64 ![0, 512] p slices_S32768x5632_S32768x64_0_512

theorem col512_apply (p : FVec Ideal S32768x5632 .f32) (R : Fin 32768) (j : Fin 64) : col512 p (ix2 R j) = cols 64 512 (by omega) (fun i => p (ix2 R i)) j := by
  unfold col512
  pointwise
  rfl

def col576 (p : FVec Ideal S32768x5632 .f32) : FVec Ideal S32768x64 .f32 := extractStridedSlice S32768x64 ![0, 576] p slices_S32768x5632_S32768x64_0_576

theorem col576_apply (p : FVec Ideal S32768x5632 .f32) (R : Fin 32768) (j : Fin 64) : col576 p (ix2 R j) = cols 64 576 (by omega) (fun i => p (ix2 R i)) j := by
  unfold col576
  pointwise
  rfl

def col1152 (p : FVec Ideal S32768x5632 .f32) : FVec Ideal S32768x64 .f32 := extractStridedSlice S32768x64 ![0, 1152] p slices_S32768x5632_S32768x64_0_1152

theorem col1152_apply (p : FVec Ideal S32768x5632 .f32) (R : Fin 32768) (j : Fin 64) : col1152 p (ix2 R j) = cols 64 1152 (by omega) (fun i => p (ix2 R i)) j := by
  unfold col1152
  pointwise
  rfl

def col1736 (p : FVec Ideal S32768x5632 .f32) : FVec Ideal S32768x64 .f32 := extractStridedSlice S32768x64 ![0, 1736] p slices_S32768x5632_S32768x64_0_1736

theorem col1736_apply (p : FVec Ideal S32768x5632 .f32) (R : Fin 32768) (j : Fin 64) : col1736 p (ix2 R j) = cols 64 1736 (by omega) (fun i => p (ix2 R i)) j := by
  unfold col1736
  pointwise
  rfl

def col1800 (p : FVec Ideal S32768x5632 .f32) : FVec Ideal S32768x64 .f32 := extractStridedSlice S32768x64 ![0, 1800] p slices_S32768x5632_S32768x64_0_1800

theorem col1800_apply (p : FVec Ideal S32768x5632 .f32) (R : Fin 32768) (j : Fin 64) : col1800 p (ix2 R j) = cols 64 1800 (by omega) (fun i => p (ix2 R i)) j := by
  unfold col1800
  pointwise
  rfl

def col1864 (p : FVec Ideal S32768x5632 .f32) : FVec Ideal S32768x64 .f32 := extractStridedSlice S32768x64 ![0, 1864] p slices_S32768x5632_S32768x64_0_1864

theorem col1864_apply (p : FVec Ideal S32768x5632 .f32) (R : Fin 32768) (j : Fin 64) : col1864 p (ix2 R j) = cols 64 1864 (by omega) (fun i => p (ix2 R i)) j := by
  unfold col1864
  pointwise
  rfl

def col1928 (p : FVec Ideal S32768x5632 .f32) : FVec Ideal S32768x64 .f32 := extractStridedSlice S32768x64 ![0, 1928] p slices_S32768x5632_S32768x64_0_1928

theorem col1928_apply (p : FVec Ideal S32768x5632 .f32) (R : Fin 32768) (j : Fin 64) : col1928 p (ix2 R j) = cols 64 1928 (by omega) (fun i => p (ix2 R i)) j := by
  unfold col1928
  pointwise
  rfl

def col1992 (p : FVec Ideal S32768x5632 .f32) : FVec Ideal S32768x64 .f32 := extractStridedSlice S32768x64 ![0, 1992] p slices_S32768x5632_S32768x64_0_1992

theorem col1992_apply (p : FVec Ideal S32768x5632 .f32) (R : Fin 32768) (j : Fin 64) : col1992 p (ix2 R j) = cols 64 1992 (by omega) (fun i => p (ix2 R i)) j := by
  unfold col1992
  pointwise
  rfl

def col2056 (p : FVec Ideal S32768x5632 .f32) : FVec Ideal S32768x64 .f32 := extractStridedSlice S32768x64 ![0, 2056] p slices_S32768x5632_S32768x64_0_2056

theorem col2056_apply (p : FVec Ideal S32768x5632 .f32) (R : Fin 32768) (j : Fin 64) : col2056 p (ix2 R j) = cols 64 2056 (by omega) (fun i => p (ix2 R i)) j := by
  unfold col2056
  pointwise
  rfl

def col1216 (p : FVec Ideal S32768x5632 .f32) : FVec Ideal S32768x8 .f32 := extractStridedSlice S32768x8 ![0, 1216] p slices_S32768x5632_S32768x8_0_1216

theorem col1216_apply (p : FVec Ideal S32768x5632 .f32) (R : Fin 32768) (j : Fin 8) : col1216 p (ix2 R j) = cols 8 1216 (by omega) (fun i => p (ix2 R i)) j := by
  unfold col1216
  pointwise
  rfl

def col2120 (p : FVec Ideal S32768x5632 .f32) : FVec Ideal S32768x24 .f32 := extractStridedSlice S32768x24 ![0, 2120] p slices_S32768x5632_S32768x24_0_2120

theorem col2120_apply (p : FVec Ideal S32768x5632 .f32) (R : Fin 32768) (j : Fin 24) : col2120 p (ix2 R j) = cols 24 2120 (by omega) (fun i => p (ix2 R i)) j := by
  unfold col2120
  pointwise
  rfl

def col2144 (p : FVec Ideal S32768x5632 .f32) : FVec Ideal S32768x256 .f32 := extractStridedSlice S32768x256 ![0, 2144] p slices_S32768x5632_S32768x256_0_2144

theorem col2144_apply (p : FVec Ideal S32768x5632 .f32) (R : Fin 32768) (j : Fin 256) : col2144 p (ix2 R j) = cols 256 2144 (by omega) (fun i => p (ix2 R i)) j := by
  unfold col2144
  pointwise
  rfl

def col2400 (p : FVec Ideal S32768x5632 .f32) : FVec Ideal S32768x128 .f32 := extractStridedSlice S32768x128 ![0, 2400] p slices_S32768x5632_S32768x128_0_2400

theorem col2400_apply (p : FVec Ideal S32768x5632 .f32) (R : Fin 32768) (j : Fin 128) : col2400 p (ix2 R j) = cols 128 2400 (by omega) (fun i => p (ix2 R i)) j := by
  unfold col2400
  pointwise
  rfl

def col2528 (p : FVec Ideal S32768x5632 .f32) : FVec Ideal S32768x32 .f32 := extractStridedSlice S32768x32 ![0, 2528] p slices_S32768x5632_S32768x32_0_2528

theorem col2528_apply (p : FVec Ideal S32768x5632 .f32) (R : Fin 32768) (j : Fin 32) : col2528 p (ix2 R j) = cols 32 2528 (by omega) (fun i => p (ix2 R i)) j := by
  unfold col2528
  pointwise
  rfl

def head0 (p : FVec Ideal S32768x5632 .f32) : FVec Ideal S32768x8x64 .f32 :=
  shapeCast S32768x8x64 (extractStridedSlice S32768x512 ![0, 0] p slices_S32768x5632_S32768x512_0_0) shapeCasts_S32768x512_S32768x8x64

theorem head0_apply (p : FVec Ideal S32768x5632 .f32) (R : Fin 32768) (h : Fin 8) (j : Fin 64) :
    head0 p (ix3 R h j) = cols 64 (0 + h.val * 64) (by omega) (fun i => p (ix2 R i)) j := by
  unfold head0
  pointwise
  exact congrArg p (congrArg (ix2 R) (Fin.ext (by simp only [add_assoc, zero_add])))

def head640 (p : FVec Ideal S32768x5632 .f32) : FVec Ideal S32768x8x64 .f32 :=
  shapeCast S32768x8x64 (extractStridedSlice S32768x512 ![0, 640] p slices_S32768x5632_S32768x512_0_640) shapeCasts_S32768x512_S32768x8x64

theorem head640_apply (p : FVec Ideal S32768x5632 .f32) (R : Fin 32768) (h : Fin 8) (j : Fin 64) :
    head640 p (ix3 R h j) = cols 64 (640 + h.val * 64) (by omega) (fun i => p (ix2 R i)) j := by
  unfold head640
  pointwise
  exact congrArg p (congrArg (ix2 R) (Fin.ext (by simp only [add_assoc, zero_add])))

def head1224 (p : FVec Ideal S32768x5632 .f32) : FVec Ideal S32768x8x64 .f32 :=
  shapeCast S32768x8x64 (extractStridedSlice S32768x512 ![0, 1224] p slices_S32768x5632_S32768x512_0_1224) shapeCasts_S32768x512_S32768x8x64

theorem head1224_apply (p : FVec Ideal S32768x5632 .f32) (R : Fin 32768) (h : Fin 8) (j : Fin 64) :
    head1224 p (ix3 R h j) = cols 64 (1224 + h.val * 64) (by omega) (fun i => p (ix2 R i)) j := by
  unfold head1224
  pointwise
  exact congrArg p (congrArg (ix2 R) (Fin.ext (by simp only [add_assoc, zero_add])))

/-! The two small results. -/

def idxwR (s : FVec Ideal S32768x8 .f32) : FVec Ideal S32768x8 .f32 := mulf s (broadcastInDim S32768x8 ![] bcast_S_S32768x8 (constant S_ .f32 0x3EB504F3#32))

theorem idxwR_apply (s : FVec Ideal S32768x8 .f32) (y : S32768x8.Idx) : idxwR s y = s y * Ideal.ofBits .f32 0x3EB504F3#32 := rfl

def gateR (s : FVec Ideal S32768x24 .f32) : FVec Ideal S32768x24 .f32 :=
  Host.divf (broadcastInDim S32768x24 ![] bcast_S_S32768x24 (constant S_ .f32 0x3F800000#32))
    (addf (broadcastInDim S32768x24 ![] bcast_S_S32768x24 (constant S_ .f32 0x3F800000#32)) (Host.exp (Host.negf s)))

theorem gateR_apply (s : FVec Ideal S32768x24 .f32) (R : Fin 32768) (j : Fin 24) : gateR s (ix2 R j) = Ideal.logistic (s (ix2 R j)) := by
  unfold gateR
  pointwise
  rfl

/-! The cache rows. -/

def dsaR (a : FVec Ideal S32768x128 .f32) (b : FVec Ideal S32768x64 .f32) : FVec Ideal S32768x192 .f32 :=
  concatenate S32768x192 1 [⟨S32768x128, a⟩, ⟨S32768x64, b⟩] concatenates_S32768x128_S32768x64_S32768x192_d1

theorem dsaR_apply (a : FVec Ideal S32768x128 .f32) (b : FVec Ideal S32768x64 .f32) (R : Fin 32768) (d : Fin 192) :
    dsaR a b (ix2 R d) = if h : d.val < 128 then a (ix2 R ⟨d.val, h⟩) else b (ix2 R (⟨d.val - 128, by omega⟩ : Fin 64)) := by
  unfold dsaR
  pointwise

def nsaR (a b : FVec Ideal S32768x128 .f32) : FVec Ideal S32768x256 .f32 :=
  concatenate S32768x256 1 [⟨S32768x128, a⟩, ⟨S32768x128, b⟩] concatenates_S32768x128_S32768x128_S32768x256_d1

theorem nsaR_apply (a b : FVec Ideal S32768x128 .f32) (R : Fin 32768) (d : Fin 256) :
    nsaR a b (ix2 R d) = if h : d.val < 128 then a (ix2 R ⟨d.val, h⟩) else b (ix2 R (⟨d.val - 128, by omega⟩ : Fin 128)) := by
  unfold nsaR
  pointwise

def mlaR (a : FVec Ideal S32768x128 .f32) (b : FVec Ideal S32768x32 .f32) : FVec Ideal S32768x160 .f32 :=
  concatenate S32768x160 1 [⟨S32768x128, a⟩, ⟨S32768x32, b⟩] concatenates_S32768x128_S32768x32_S32768x160_d1

theorem mlaR_apply (a : FVec Ideal S32768x128 .f32) (b : FVec Ideal S32768x32 .f32) (R : Fin 32768) (d : Fin 160) :
    mlaR a b (ix2 R d) = if h : d.val < 128 then a (ix2 R ⟨d.val, h⟩) else b (ix2 R (⟨d.val - 128, by omega⟩ : Fin 32)) := by
  unfold mlaR
  pointwise

end Cert.Proj
-- ==== Proof.ProjRef.lean ====
module

public import proofs.«01_k».proof.Proof.ProjStep

@[expose] public section

set_option maxRecDepth 16384

noncomputable section

/-! # The projection reference's ten results -/

namespace Cert.Proj

open Cert.Reference4Ideal Cert.Reference4Ideal.Gen Idealize.ShloMosaic Idealize.ShloMosaic.TcCoe Idealize.SL.Sem Idealize.ShloMosaic.StableHlo

/-- Eight rotated heads. -/
def turnH (v : FVec Ideal S32768x8x64 .f32) : FVec Ideal S32768x8x64 .f32 := rotH64 v cosR64 sinR64

/-- A rotated key. -/
def turnK (s : FVec Ideal S32768x64 .f32) : FVec Ideal S32768x64 .f32 := keyR64 s cosR64 sinR64

theorem turnH_apply (v : FVec Ideal S32768x8x64 .f32) (R : Fin 32768) (h : Fin 8) (j : Fin 64) :
    turnH v (ix3 R h j) = rot64 (fun j => v (ix3 R h j)) (cs64 R) (sn64 R) j := by
  unfold turnH
  simp only [rotH64_apply, cosR64_apply, sinR64_apply]

theorem turnK_apply (s : FVec Ideal S32768x64 .f32) (R : Fin 32768) (j : Fin 64) :
    turnK s (ix2 R j) = rot64 (fun j => s (ix2 R j)) (cs64 R) (sn64 R) j := by
  unfold turnK
  simp only [keyR64_apply, cosR64_apply, sinR64_apply]

/-- A rotated key and its value. -/
def pairR (k v : FVec Ideal S32768x64 .f32) : FVec Ideal S32768x128 .f32 := kvR (turnK k) v

theorem pairR_apply (k v : FVec Ideal S32768x64 .f32) (R : Fin 32768) (d : Fin 128) :
    pairR k v (ix2 R d) = kv (fun j => k (ix2 R j)) (fun j => v (ix2 R j)) (cs64 R) (sn64 R) d := by
  unfold pairR kv
  simp only [kvR_apply, turnK_apply]

section results
variable (x : FVec Ideal S32768x1024 .f32) (g : FVec Ideal S1024 .f32) (w : FVec Ideal S1024x5632 .f32) (gq : FVec Ideal S256 .f32)
  (wuq : FVec Ideal S256x768 .f32) (gkv : FVec Ideal S128 .f32) (wuk : FVec Ideal S128x8x64 .f32)

/-- The reference's projection. -/
def pR : FVec Ideal S32768x5632 .f32 := prjX (nrmX x g) w

theorem pR_apply (R : Fin 32768) (j : Fin 5632) : pR x g w (ix2 R j) = projRow x g w R j := prjX_apply x g w R j

theorem pR_row (R : Fin 32768) : (fun i => pR x g w (ix2 R i)) = projRow x g w R := funext (pR_apply x g w R)

/-- The three groups of queries. -/
def q3Of (p : FVec Ideal S32768x5632 .f32) : FVec Ideal S3x8x32768x64 .bf16 :=
  stackR (eighthR (turnH (head0 p))) (turnH (head640 p)) (eighthR (turnH (head1224 p)))

theorem ref14 : q3Of (pR x g w) = arr14 x g w := by
  funext y
  obtain ⟨a, b, c, d, rfl⟩ : ∃ (a : Fin 3) (b : Fin 8) (c : Fin 32768) (d : Fin 64), y = ix4 a b c d :=
    ⟨y 0, y 1, y 2, y 3, by funext i; match i with | ⟨0, _⟩ => rfl | ⟨1, _⟩ => rfl | ⟨2, _⟩ => rfl | ⟨3, _⟩ => rfl⟩
  refine Eq.trans ?_ (b := q3Row (projRow x g w c) (cs64 c) (sn64 c) a b d) rfl
  unfold q3Of q3Row
  simp only [stackR_apply, eighthR_apply, turnH_apply, head0_apply, head640_apply, head1224_apply, pR_row]

/-- The index heads' weights. -/
def idxwOf (p : FVec Ideal S32768x5632 .f32) : FVec Ideal S32768x8 .f32 :=
  idxwR (col1216 p)

theorem ref16 : idxwOf (pR x g w) = arr16 x g w := by
  funext y
  obtain ⟨a, b, rfl⟩ : ∃ (a : Fin 32768) (b : Fin 8), y = ix2 a b :=
    ⟨y 0, y 1, by funext i; match i with | ⟨0, _⟩ => rfl | ⟨1, _⟩ => rfl⟩
  refine Eq.trans ?_ (b := idxwRow (projRow x g w a) b) rfl
  unfold idxwOf idxwRow
  simp only [idxwR_apply, col1216_apply, pR_row]

/-- The gates. -/
def gateOf (p : FVec Ideal S32768x5632 .f32) : FVec Ideal S32768x24 .f32 :=
  gateR (col2120 p)

theorem ref17 : gateOf (pR x g w) = arr17 x g w := by
  funext y
  obtain ⟨a, b, rfl⟩ : ∃ (a : Fin 32768) (b : Fin 24), y = ix2 a b :=
    ⟨y 0, y 1, by funext i; match i with | ⟨0, _⟩ => rfl | ⟨1, _⟩ => rfl⟩
  refine Eq.trans ?_ (b := gateRow (projRow x g w a) b) rfl
  unfold gateOf gateRow
  simp only [gateR_apply, col2120_apply, pR_row]

/-- The first cache's rows. -/
def dsaOf (p : FVec Ideal S32768x5632 .f32) : FVec Ideal S32768x192 .f32 :=
  dsaR (pairR (col512 p) (col576 p)) (turnK (col1152 p))

theorem ref18 : dsaOf (pR x g w) = arr18 x g w := by
  funext y
  obtain ⟨a, b, rfl⟩ : ∃ (a : Fin 32768) (b : Fin 192), y = ix2 a b :=
    ⟨y 0, y 1, by funext i; match i with | ⟨0, _⟩ => rfl | ⟨1, _⟩ => rfl⟩
  refine Eq.trans ?_ (b := dsaRow (projRow x g w a) (cs64 a) (sn64 a) b) rfl
  unfold dsaOf dsaRow
  simp only [dsaR_apply, pairR_apply, turnK_apply, col512_apply, col576_apply, col1152_apply, pR_row]

/-- The second cache's rows. -/
def nsaOf (p : FVec Ideal S32768x5632 .f32) : FVec Ideal S32768x256 .f32 :=
  nsaR (pairR (col1736 p) (col1800 p)) (pairR (col1864 p) (col1928 p))

theorem ref19 : nsaOf (pR x g w) = arr19 x g w := by
  funext y
  obtain ⟨a, b, rfl⟩ : ∃ (a : Fin 32768) (b : Fin 256), y = ix2 a b :=
    ⟨y 0, y 1, by funext i; match i with | ⟨0, _⟩ => rfl | ⟨1, _⟩ => rfl⟩
  refine Eq.trans ?_ (b := nsaRow (projRow x g w a) (cs64 a) (sn64 a) b) rfl
  unfold nsaOf nsaRow
  simp only [nsaR_apply, pairR_apply, col1736_apply, col1800_apply, col1864_apply, col1928_apply, pR_row]

/-- The window's rows. -/
def winOf (p : FVec Ideal S32768x5632 .f32) : FVec Ideal S32768x128 .f32 :=
  pairR (col1992 p) (col2056 p)

theorem ref21 : winOf (pR x g w) = arr21 x g w := by
  funext y
  obtain ⟨a, b, rfl⟩ : ∃ (a : Fin 32768) (b : Fin 128), y = ix2 a b :=
    ⟨y 0, y 1, by funext i; match i with | ⟨0, _⟩ => rfl | ⟨1, _⟩ => rfl⟩
  refine Eq.trans ?_ (b := winRow (projRow x g w a) (cs64 a) (sn64 a) b) rfl
  unfold winOf winRow
  simp only [pairR_apply, col1992_apply, col2056_apply, pR_row]

/-- The seven keys and values. -/
def kv7Of (p : FVec Ideal S32768x5632 .f32) : FVec Ideal S7x32768x64 .bf16 :=
  sevenR (loR (pairR (col512 p) (col576 p))) (hiR (pairR (col512 p) (col576 p))) (turnK (col1152 p)) (loR (pairR (col1864 p) (col1928 p)))
    (hiR (pairR (col1864 p) (col1928 p))) (loR (pairR (col1992 p) (col2056 p))) (hiR (pairR (col1992 p) (col2056 p)))

theorem ref22 : kv7Of (pR x g w) = arr22 x g w := by
  funext y
  obtain ⟨a, b, c, rfl⟩ : ∃ (a : Fin 7) (b : Fin 32768) (c : Fin 64), y = ix3 a b c :=
    ⟨y 0, y 1, y 2, by funext i; match i with | ⟨0, _⟩ => rfl | ⟨1, _⟩ => rfl | ⟨2, _⟩ => rfl⟩
  refine Eq.trans ?_ (b := kv7Row (projRow x g w b) (cs64 b) (sn64 b) a c) rfl
  unfold kv7Of kv7Row
  simp only [sevenR_apply, pairR, loR_apply, hiR_apply, turnK_apply, col512_apply, col576_apply, col1152_apply, col1864_apply, col1928_apply, col1992_apply, col2056_apply, pR_row]

/-- The latent attention's queries. -/
def qcatOf (p : FVec Ideal S32768x5632 .f32) (gq : FVec Ideal S256 .f32) (wuq : FVec Ideal S256x768 .f32) (wuk : FVec Ideal S128x8x64 .f32) : FVec Ideal S8x32768x160 .bf16 :=
  qcatR (latR (nrmQ (col2144 p) gq) wuq) (rotH32 (tailR (latR (nrmQ (col2144 p) gq) wuq)) cosR32 sinR32) wuk

theorem ref15 : qcatOf (pR x g w) gq wuq wuk = arr15 x g w gq wuq wuk := by
  funext y
  obtain ⟨a, b, d, rfl⟩ : ∃ (a : Fin 8) (b : Fin 32768) (d : Fin 160), y = ix3 a b d :=
    ⟨y 0, y 1, y 2, by funext i; match i with | ⟨0, _⟩ => rfl | ⟨1, _⟩ => rfl | ⟨2, _⟩ => rfl⟩
  refine Eq.trans ?_ (b := qcatRow (fun c => qRow (projRow x g w b) (fun i => gq (ix1 i)) (fun i c => wuq (ix2 i c)) c) (cs32 b) (sn32 b)
    (fun d h e => wuk (ix3 d h e)) a d) rfl
  unfold qcatOf qcatRow qRow
  simp only [qcatR_apply, rotH32_apply, tailR_apply, latR_apply, nrmQ_apply, col2144_apply, cosR32_apply, sinR32_apply, pR_row]
  split_ifs with h
  · exact Finset.sum_congr rfl fun e _ => mul_comm _ _
  · simp only [add_assoc]

/-- The latent cache's rows. -/
def mlaOf (p : FVec Ideal S32768x5632 .f32) (gkv : FVec Ideal S128 .f32) : FVec Ideal S32768x160 .f32 :=
  mlaR (nrmK (col2400 p) gkv) (keyR32 (col2528 p) cosR32 sinR32)

theorem ref20 : mlaOf (pR x g w) gkv = arr20 x g w gkv := by
  funext y
  obtain ⟨a, b, rfl⟩ : ∃ (a : Fin 32768) (b : Fin 160), y = ix2 a b := ⟨y 0, y 1, by funext i; match i with | ⟨0, _⟩ => rfl | ⟨1, _⟩ => rfl⟩
  refine Eq.trans ?_ (b := mlaRow (projRow x g w a) (fun i => gkv (ix1 i)) (cs32 a) (sn32 a) b) rfl
  unfold mlaOf mlaRow
  simp only [mlaR_apply, nrmK_apply, keyR32_apply, col2400_apply, col2528_apply, cosR32_apply, sinR32_apply, pR_row]

end results

section run
variable (m : (ℓ : Loc nD τ sig) → Buf (Elt Ideal) ℓ) (c : Dev nD)

/-- The run's projection is the reference's. -/
theorem run_pR : Cert.Reference4Ideal.Value.res_main_v17 (F := Ideal) (launchContents m c)
    = pR (m ((c.tc : Thread nD τ).loc main_arg0)) (m ((c.tc : Thread nD τ).loc main_arg1)) (m ((c.tc : Thread nD τ).loc main_arg2)) := rfl

end run

end Cert.Proj
-- ==== Proof.Ffn1.lean ====
module

public import proofs.«01_k».proof.Proof.Gen.Kernel5Ideal.Value
public import Idealize.ShloMosaic.Lib.Pointwise
public import Idealize.ShloMosaic.Lib.Pipeline.ValueKit
public import proofs.«01_k».proof.Proof.Ffn

@[expose] public section

set_option maxRecDepth 16384

noncomputable section

/-! # The first layer's feed-forward kernel's result array, at an index -/

namespace Cert.Ffn1

open Cert.Kernel5Ideal Cert.Kernel5Ideal.Gen Idealize.ShloMosaic Idealize.ShloMosaic.TcCoe Idealize.SL.Sem
open Idealize.ShloMosaic.Pipeline (Dat)

/-! ## One block -/

/-- The result's block at an index is the feed-forward block on the index's row. -/
theorem pay1_apply (x : Vec Ideal S256x1024 .f32) (g : Vec Ideal S1x1024 .f32) (wg wu : Vec Ideal S1024x2816 .bf16) (wd : Vec Ideal S2816x1024 .bf16)
    (r : Fin 256) (d : Fin 1024) :
    k0_pay1 (F := Ideal) x g wg wu wd (ix2 r d)
      = Row.ffn (fun i => x (ix2 r i)) (fun i => g (ix2 (0 : Fin 1) i)) (fun i k => wg (ix2 i k)) (fun i k => wu (ix2 i k)) (fun k j => wd (ix2 k j)) d := by
  unfold k0_pay1
  pointwise
  rfl

/-- What one point leaves in the result's staging buffer. -/
theorem out6_eq (x : Vec Ideal S256x1024 .f32) (g : Vec Ideal S1x1024 .f32) (wg wu : Vec Ideal S1024x2816 .bf16) (wd : Vec Ideal S2816x1024 .bf16)
    (gf : Vec Ideal S1x1024 .f32) : out0_6 (F := Ideal) x g wg wu wd gf = k0_pay1 x g wg wu wd := by
  frame_out

/-! ## The arrays the region finds -/

variable (m : (ℓ : Loc nD τ sig) → Buf (Elt Ideal) ℓ)

/-- Device `c`'s rows. -/
abbrev xs (c : Dev nD) : FVec Ideal S32768x1024 .f32 := m ((c : Thread nD τ).loc main_arg0)
/-- Device `c`'s gains of the first normalisation. -/
abbrev gs (c : Dev nD) : FVec Ideal S1024 .f32 := m ((c : Thread nD τ).loc main_arg1)
/-- Device `c`'s gate matrix. -/
abbrev wgs (c : Dev nD) : FVec Ideal S1024x2816 .f32 := m ((c : Thread nD τ).loc main_arg2)
/-- Device `c`'s up matrix. -/
abbrev wus (c : Dev nD) : FVec Ideal S1024x2816 .f32 := m ((c : Thread nD τ).loc main_arg3)
/-- Device `c`'s down matrix. -/
abbrev wds (c : Dev nD) : FVec Ideal S2816x1024 .f32 := m ((c : Thread nD τ).loc main_arg4)
/-- Device `c`'s gains of the last normalisation. -/
abbrev gfs (c : Dev nD) : FVec Ideal S1024 .f32 := m ((c : Thread nD τ).loc main_arg5)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host4 (c : Dev nD) (j : Fin 1024) : V m c main_v4 (ix2 (0 : Fin 1) j) = gfs m c (ix1 j) := by
  have e : V m c main_v4 = broadcastInDim S1x1024 ![1] bcast_S1024_S1x1024_1 (gfs m c) := by
    unfold_abbrev_sides
    after_results_simp
  rw [e]
  pointwise

theorem host1 (c : Dev nD) : V m c main_v1 = wgs m c := by
  unfold_abbrev_sides
  after_results_simp
  rfl

theorem host2 (c : Dev nD) : V m c main_v2 = wus m c := by
  unfold_abbrev_sides
  after_results_simp
  rfl

theorem host3 (c : Dev nD) : V m c main_v3 = wds m c := by
  unfold_abbrev_sides
  after_results_simp
  rfl

theorem N_eq : cfg0.N = 128 := by decide

/-- Where each point's blocks lie. -/
theorem idx_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The row of the whole array at place `r` of point `t`'s block. -/
abbrev rowAt (t : Fin cfg0.N) (r : Fin 256) : Fin 32768 := ⟨t.val * 256 + r.val, by have := t.isLt; have := N_eq; omega⟩

theorem x_blk (c : Dev nD) (t : Fin cfg0.N) (r : Fin 256) (i : Fin 1024) : iblk m c 0 t (ix2 r i) = xs m c (ix2 (rowAt t r) i) := by
  have e0 := (idx_facts t).1
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := (idx_facts t).2.1
  refine Eq.trans (b := V m c main_v0 (ix2 (0 : Fin 1) i)) ?_ (host0 m c i)
  blk_ext [iblk, e0]

theorem wg_blk (c : Dev nD) (t : Fin cfg0.N) (i : Fin 1024) (k : Fin 2816) : iblk m c 2 t (ix2 i k) = wgs m c (ix2 i k) := by
  have e0 := (idx_facts t).2.2.1
  refine Eq.trans (b := V m c main_v1 (ix2 i k)) ?_ (congrFun (host1 m c) _)
  blk_ext [iblk, e0]

theorem wu_blk (c : Dev nD) (t : Fin cfg0.N) (i : Fin 1024) (k : Fin 2816) : iblk m c 3 t (ix2 i k) = wus m c (ix2 i k) := by
  have e0 := (idx_facts t).2.2.2.1
  refine Eq.trans (b := V m c main_v2 (ix2 i k)) ?_ (congrFun (host2 m c) _)
  blk_ext [iblk, e0]

theorem wd_blk (c : Dev nD) (t : Fin cfg0.N) (k : Fin 2816) (i : Fin 1024) : iblk m c 4 t (ix2 k i) = wds m c (ix2 k i) := by
  have e0 := (idx_facts t).2.2.2.2.1
  refine Eq.trans (b := V m c main_v3 (ix2 k i)) ?_ (congrFun (host3 m c) _)
  blk_ext [iblk, e0]

theorem gf_blk (c : Dev nD) (t : Fin cfg0.N) (i : Fin 1024) : iblk m c 5 t (ix2 (0 : Fin 1) i) = gfs m c (ix1 i) := by
  have e0 := (idx_facts t).2.2.2.2.2.1
  refine Eq.trans (b := V m c main_v4 (ix2 (0 : Fin 1) i)) ?_ (host4 m c i)
  blk_ext [iblk, e0]

/-! ## The whole arrays -/

theorem emb6 (t : Fin cfg0.N) (r : Fin 256) (d : Fin 1024) :
    ((cfg0.win 6).blk t).view.emb (ix2 r d) = (ix2 (rowAt t r) d : S32768x1024.Idx) := by
  have e := (idx_facts t).2.2.2.2.2.2
  funext a; apply Fin.ext
  match a with
  | ⟨0, _⟩ => show win0_6.index t (0 : Fin 2) * 256 + 1 * r.val = t.val * 256 + r.val; rw [e]; simp
  | ⟨1, _⟩ => show win0_6.index t (1 : Fin 2) * 1024 + 1 * d.val = d.val; rw [e]; simp

/-- The first payload, from a point's blocks, is the feed-forward block at the whole array's row. -/
theorem pay1_blk (c : Dev nD) (t : Fin cfg0.N) (r : Fin 256) (d : Fin 1024) :
    k0_pay1 (F := Ideal) (iblk m c 0 t) (iblk m c 1 t) (iblk m c 2 t) (iblk m c 3 t) (iblk m c 4 t) (ix2 r d)
      = Ffn.mid (xs m c) (gs m c) (wgs m c) (wus m c) (wds m c) (ix2 (rowAt t r) d) := by
  rw [pay1_apply]
  simp only [x_blk, g_blk, wg_blk, wu_blk, wd_blk]
  rfl

/-- What one point writes to the result, at an index. -/
theorem out6_blk (c : Dev nD) (t : Fin cfg0.N) (r : Fin 256) (d : Fin 1024) :
    out0_6 (F := Ideal) (iblk m c 0 t) (iblk m c 1 t) (iblk m c 2 t) (iblk m c 3 t) (iblk m c 4 t) (iblk m c 5 t) (ix2 r d)
      = Ffn.mid (xs m c) (gs m c) (wgs m c) (wus m c) (wds m c) (((cfg0.win 6).blk t).view.emb (ix2 r d)) := by
  rw [emb6, out6_eq, pay1_blk]

/-- THE RESULT ARRAY is the feed-forward block of the arguments. -/
theorem final6 (c : Dev nD) : (dats m 0 c).arrAt 6 cfg0.N = Ffn.mid (xs m c) (gs m c) (wgs m c) (wus m c) (wds m c) := by
  refine (dats m 0 c).arrAt_eq_of_covers 6 _ (by decide +kernel) fun t hf y => ?_
  refine (congrFun (Cert.Kernel5Ideal.Value.flushed6 m c t) y).trans ?_
  have hy : y = ix2 (y 0) (y 1) := by funext a; match a with | ⟨0, _⟩ => rfl | ⟨1, _⟩ => rfl
  rw [hy]
  exact out6_blk m c t (y 0) (y 1)

end Cert.Ffn1
-- ==== Proof.FfnS.lean ====
module

public import proofs.«01_k».proof.Proof.Gen.Kernel8Ideal.Value
public import Idealize.ShloMosaic.Lib.Pointwise
public import Idealize.ShloMosaic.Lib.Pipeline.ValueKit
public import proofs.«01_k».proof.Proof.Row

@[expose] public section

set_option maxRecDepth 16384

noncomputable section

/-! # The sample group's feed-forward kernel's two result arrays, at an index -/

namespace Cert.FfnS

open Cert.Kernel8Ideal Cert.Kernel8Ideal.Gen Idealize.ShloMosaic Idealize.ShloMosaic.TcCoe Idealize.SL.Sem
open Idealize.ShloMosaic.Pipeline (Dat)

/-! ## One block -/

/-- The first result's block at an index is the feed-forward block on the index's row. -/
theorem pay2_apply (x : Vec Ideal S128x1024 .f32) (g : Vec Ideal S1x1024 .f32) (wg wu : Vec Ideal S1024x2816 .bf16) (wd : Vec Ideal S2816x1024 .bf16)
    (r : Fin 128) (d : Fin 1024) :
    k0_pay2 (F := Ideal) x g wg wu wd (ix2 r d)
      = Row.ffn (fun i => x (ix2 r i)) (fun i => g (ix2 (0 : Fin 1) i)) (fun i k => wg (ix2 i k)) (fun i k => wu (ix2 i k)) (fun k j => wd (ix2 k j)) d := by
  unfold k0_pay2
  pointwise
  rfl

/-- The mean of the squares of the first result's row. -/
theorem pay3_apply (x : Vec Ideal S128x1024 .f32) (g : Vec Ideal S1x1024 .f32) (wg wu : Vec Ideal S1024x2816 .bf16) (wd : Vec Ideal S2816x1024 .bf16)
    (r : Fin 128) :
    k0_pay3 (F := Ideal) x g wg wu wd (ix2 r (0 : Fin 1))
      = Ideal.div (∑ k : Fin 1024, k0_pay2 (F := Ideal) x g wg wu wd (ix2 r k) * k0_pay2 (F := Ideal) x g wg wu wd (ix2 r k)) (Ideal.ofBits .f32 0x44800000#32) := by
  unfold k0_pay3
  generalize k0_pay2 (F := Ideal) x g wg wu wd = z
  pointwise

/-- The second result's block at an index is the normalisation of the first result's row. -/
theorem pay1_apply (x : Vec Ideal S128x1024 .f32) (g : Vec Ideal S1x1024 .f32) (wg wu : Vec Ideal S1024x2816 .bf16) (wd : Vec Ideal S2816x1024 .bf16)
    (gf : Vec Ideal S1x1024 .f32) (r : Fin 128) (d : Fin 1024) :
    k0_pay1 (F := Ideal) (k0_pay2 x g wg wu wd) (k0_pay3 x g wg wu wd) k0_pay4 gf (ix2 r d)
      = Row.norm (fun i => k0_pay2 (F := Ideal) x g wg wu wd (ix2 r i)) (fun i => gf (ix2 (0 : Fin 1) i)) d := by
  have h3 := pay3_apply x g wg wu wd r
  unfold Row.norm
  beta_reduce
  rw [← h3]
  generalize k0_pay3 (F := Ideal) x g wg wu wd = y
  generalize k0_pay2 (F := Ideal) x g wg wu wd = z
  unfold k0_pay1 k0_pay4
  pointwise

/-- What one point leaves in the first result's staging buffer. -/
theorem out6_eq (x : Vec Ideal S128x1024 .f32) (g : Vec Ideal S1x1024 .f32) (wg wu : Vec Ideal S1024x2816 .bf16) (wd : Vec Ideal S2816x1024 .bf16)
    (gf : Vec Ideal S1x1024 .f32) : out0_6 (F := Ideal) x g wg wu wd gf = k0_pay2 x g wg wu wd := by
  frame_out

/-- What one point leaves in the second result's staging buffer. -/
theorem out7_eq (x : Vec Ideal S128x1024 .f32) (g : Vec Ideal S1x1024 .f32) (wg wu : Vec Ideal S1024x2816 .bf16) (wd : Vec Ideal S2816x1024 .bf16)
    (gf : Vec Ideal S1x1024 .f32) :
    out0_7 (F := Ideal) x g wg wu wd gf = k0_pay1 (k0_pay2 x g wg wu wd) (k0_pay3 x g wg wu wd) k0_pay4 gf := by
  frame_out

/-! ## The arrays the region finds -/

variable (m : (ℓ : Loc nD τ sig) → Buf (Elt Ideal) ℓ)

/-- Device `c`'s rows. -/
abbrev xs (c : Dev nD) : FVec Ideal S128x1024 .f32 := m ((c : Thread nD τ).loc main_arg0)
/-- Device `c`'s gains of the first normalisation. -/
abbrev gs (c : Dev nD) : FVec Ideal S1024 .f32 := m ((c : Thread nD τ).loc main_arg1)
/-- Device `c`'s gate matrix. -/
abbrev wgs (c : Dev nD) : FVec Ideal S1024x2816 .f32 := m ((c : Thread nD τ).loc main_arg2)
/-- Device `c`'s up matrix. -/
abbrev wus (c : Dev nD) : FVec Ideal S1024x2816 .f32 := m ((c : Thread nD τ).loc main_arg3)
/-- Device `c`'s down matrix. -/
abbrev wds (c : Dev nD) : FVec Ideal S2816x1024 .f32 := m ((c : Thread nD τ).loc main_arg4)
/-- Device `c`'s gains of the last normalisation. -/
abbrev gfs (c : Dev nD) : FVec Ideal S1024 .f32 := m ((c : Thread nD τ).loc main_arg5)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host4 (c : Dev nD) (j : Fin 1024) : V m c main_v4 (ix2 (0 : Fin 1) j) = gfs m c (ix1 j) := by
  have e : V m c main_v4 = broadcastInDim S1x1024 ![1] bcast_S1024_S1x1024_1 (gfs m c) := by
    unfold_abbrev_sides
    after_results_simp
  rw [e]
  pointwise

theorem host1 (c : Dev nD) : V m c main_v1 = wgs m c := by
  unfold_abbrev_sides
  after_results_simp
  rfl

theorem host2 (c : Dev nD) : V m c main_v2 = wus m c := by
  unfold_abbrev_sides
  after_results_simp
  rfl

theorem host3 (c : Dev nD) : V m c main_v3 = wds m c := by
  unfold_abbrev_sides
  after_results_simp
  rfl

theorem N_eq : cfg0.N = 1 := by decide

/-- Where each point's blocks lie. -/
theorem idx_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The row of the whole array at place `r` of point `t`'s block. -/
abbrev rowAt (t : Fin cfg0.N) (r : Fin 128) : Fin 128 := ⟨t.val * 128 + r.val, by have := t.isLt; have := N_eq; omega⟩

theorem x_blk (c : Dev nD) (t : Fin cfg0.N) (r : Fin 128) (i : Fin 1024) : iblk m c 0 t (ix2 r i) = xs m c (ix2 (rowAt t r) i) := by
  have e0 := (idx_facts t).1
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := (idx_facts t).2.1
  refine Eq.trans (b := V m c main_v0 (ix2 (0 : Fin 1) i)) ?_ (host0 m c i)
  blk_ext [iblk, e0]

theorem wg_blk (c : Dev nD) (t : Fin cfg0.N) (i : Fin 1024) (k : Fin 2816) : iblk m c 2 t (ix2 i k) = wgs m c (ix2 i k) := by
  have e0 := (idx_facts t).2.2.1
  refine Eq.trans (b := V m c main_v1 (ix2 i k)) ?_ (congrFun (host1 m c) _)
  blk_ext [iblk, e0]

theorem wu_blk (c : Dev nD) (t : Fin cfg0.N) (i : Fin 1024) (k : Fin 2816) : iblk m c 3 t (ix2 i k) = wus m c (ix2 i k) := by
  have e0 := (idx_facts t).2.2.2.1
  refine Eq.trans (b := V m c main_v2 (ix2 i k)) ?_ (congrFun (host2 m c) _)
  blk_ext [iblk, e0]

theorem wd_blk (c : Dev nD) (t : Fin cfg0.N) (k : Fin 2816) (i : Fin 1024) : iblk m c 4 t (ix2 k i) = wds m c (ix2 k i) := by
  have e0 := (idx_facts t).2.2.2.2.1
  refine Eq.trans (b := V m c main_v3 (ix2 k i)) ?_ (congrFun (host3 m c) _)
  blk_ext [iblk, e0]

theorem gf_blk (c : Dev nD) (t : Fin cfg0.N) (i : Fin 1024) : iblk m c 5 t (ix2 (0 : Fin 1) i) = gfs m c (ix1 i) := by
  have e0 := (idx_facts t).2.2.2.2.2.1
  refine Eq.trans (b := V m c main_v4 (ix2 (0 : Fin 1) i)) ?_ (host4 m c i)
  blk_ext [iblk, e0]

/-! ## The whole arrays -/

/-- THE FEED-FORWARD BLOCK, at an index of the whole array. -/
def mid (x : FVec Ideal S128x1024 .f32) (g : FVec Ideal S1024 .f32) (wg wu : FVec Ideal S1024x2816 .f32) (wd : FVec Ideal S2816x1024 .f32)
    (y : S128x1024.Idx) : EReal :=
  Row.ffn (fun i => x (ix2 (y 0) i)) (fun i => g (ix1 i)) (fun i k => wg (ix2 i k)) (fun i k => wu (ix2 i k)) (fun k j => wd (ix2 k j)) (y 1)

/-- An array's rows normalised, at an index. -/
def normed (x : S128x1024.Idx → EReal) (g : FVec Ideal S1024 .f32) (y : S128x1024.Idx) : EReal :=
  Row.norm (fun i => x (ix2 (y 0) i)) (fun i => g (ix1 i)) (y 1)

theorem emb6 (t : Fin cfg0.N) (r : Fin 128) (d : Fin 1024) :
    ((cfg0.win 6).blk t).view.emb (ix2 r d) = (ix2 (rowAt t r) d : S128x1024.Idx) := by
  have e := (idx_facts t).2.2.2.2.2.2.1
  funext a; apply Fin.ext
  match a with
  | ⟨0, _⟩ => show win0_6.index t (0 : Fin 2) * 128 + 1 * r.val = t.val * 128 + r.val; rw [e]; simp
  | ⟨1, _⟩ => show win0_6.index t (1 : Fin 2) * 1024 + 1 * d.val = d.val; rw [e]; simp

theorem emb7 (t : Fin cfg0.N) (r : Fin 128) (d : Fin 1024) :
    ((cfg0.win 7).blk t).view.emb (ix2 r d) = (ix2 (rowAt t r) d : S128x1024.Idx) := by
  have e := (idx_facts t).2.2.2.2.2.2.2
  funext a; apply Fin.ext
  match a with
  | ⟨0, _⟩ => show win0_7.index t (0 : Fin 2) * 128 + 1 * r.val = t.val * 128 + r.val; rw [e]; simp
  | ⟨1, _⟩ => show win0_7.index t (1 : Fin 2) * 1024 + 1 * d.val = d.val; rw [e]; simp

/-- The first payload, from a point's blocks, is the feed-forward block at the whole array's row. -/
theorem pay2_blk (c : Dev nD) (t : Fin cfg0.N) (r : Fin 128) (d : Fin 1024) :
    k0_pay2 (F := Ideal) (iblk m c 0 t) (iblk m c 1 t) (iblk m c 2 t) (iblk m c 3 t) (iblk m c 4 t) (ix2 r d)
      = mid (xs m c) (gs m c) (wgs m c) (wus m c) (wds m c) (ix2 (rowAt t r) d) := by
  rw [pay2_apply]
  simp only [x_blk, g_blk, wg_blk, wu_blk, wd_blk]
  rfl

/-- What one point writes to the first result, at an index. -/
theorem out6_blk (c : Dev nD) (t : Fin cfg0.N) (r : Fin 128) (d : Fin 1024) :
    out0_6 (F := Ideal) (iblk m c 0 t) (iblk m c 1 t) (iblk m c 2 t) (iblk m c 3 t) (iblk m c 4 t) (iblk m c 5 t) (ix2 r d)
      = mid (xs m c) (gs m c) (wgs m c) (wus m c) (wds m c) (((cfg0.win 6).blk t).view.emb (ix2 r d)) := by
  rw [emb6, out6_eq, pay2_blk]

/-- What one point writes to the second result, at an index. -/
theorem out7_blk (c : Dev nD) (t : Fin cfg0.N) (r : Fin 128) (d : Fin 1024) :
    out0_7 (F := Ideal) (iblk m c 0 t) (iblk m c 1 t) (iblk m c 2 t) (iblk m c 3 t) (iblk m c 4 t) (iblk m c 5 t) (ix2 r d)
      = normed (mid (xs m c) (gs m c) (wgs m c) (wus m c) (wds m c)) (gfs m c) (((cfg0.win 7).blk t).view.emb (ix2 r d)) := by
  rw [emb7, out7_eq, pay1_apply]
  simp only [pay2_blk, gf_blk]
  rfl

/-- THE FIRST RESULT ARRAY is the feed-forward block of the arguments. -/
theorem final6 (c : Dev nD) : (dats m 0 c).arrAt 6 cfg0.N = mid (xs m c) (gs m c) (wgs m c) (wus m c) (wds m c) := by
  refine (dats m 0 c).arrAt_eq_of_covers 6 _ (by decide +kernel) fun t hf y => ?_
  refine (congrFun (Cert.Kernel8Ideal.Value.flushed6 m c t) y).trans ?_
  have hy : y = ix2 (y 0) (y 1) := by funext a; match a with | ⟨0, _⟩ => rfl | ⟨1, _⟩ => rfl
  rw [hy]
  exact out6_blk m c t (y 0) (y 1)

/-- THE SECOND RESULT ARRAY is the normalisation of the first. -/
theorem final7 (c : Dev nD) : (dats m 0 c).arrAt 7 cfg0.N = normed (mid (xs m c) (gs m c) (wgs m c) (wus m c) (wds m c)) (gfs m c) := by
  refine (dats m 0 c).arrAt_eq_of_covers 7 _ (by decide +kernel) fun t hf y => ?_
  refine (congrFun (Cert.Kernel8Ideal.Value.flushed7 m c t) y).trans ?_
  have hy : y = ix2 (y 0) (y 1) := by funext a; match a with | ⟨0, _⟩ => rfl | ⟨1, _⟩ => rfl
  rw [hy]
  exact out7_blk m c t (y 0) (y 1)

end Cert.FfnS
-- ==== Proof.Ffn1S.lean ====
module

public import proofs.«01_k».proof.Proof.Gen.Kernel9Ideal.Value
public import Idealize.ShloMosaic.Lib.Pointwise
public import Idealize.ShloMosaic.Lib.Pipeline.ValueKit
public import proofs.«01_k».proof.Proof.FfnS

@[expose] public section

set_option maxRecDepth 16384

noncomputable section

/-! # The first layer's feed-forward kernel on the sample group: its result array, at an index -/

namespace Cert.Ffn1S

open Cert.Kernel9Ideal Cert.Kernel9Ideal.Gen Idealize.ShloMosaic Idealize.ShloMosaic.TcCoe Idealize.SL.Sem
open Idealize.ShloMosaic.Pipeline (Dat)

/-! ## One block -/

/-- The result's block at an index is the feed-forward block on the index's row. -/
theorem pay1_apply (x : Vec Ideal S128x1024 .f32) (g : Vec Ideal S1x1024 .f32) (wg wu : Vec Ideal S1024x2816 .bf16) (wd : Vec Ideal S2816x1024 .bf16)
    (r : Fin 128) (d : Fin 1024) :
    k0_pay1 (F := Ideal) x g wg wu wd (ix2 r d)
      = Row.ffn (fun i => x (ix2 r i)) (fun i => g (ix2 (0 : Fin 1) i)) (fun i k => wg (ix2 i k)) (fun i k => wu (ix2 i k)) (fun k j => wd (ix2 k j)) d := by
  unfold k0_pay1
  pointwise
  rfl

/-- What one point leaves in the result's staging buffer. -/
theorem out6_eq (x : Vec Ideal S128x1024 .f32) (g : Vec Ideal S1x1024 .f32) (wg wu : Vec Ideal S1024x2816 .bf16) (wd : Vec Ideal S2816x1024 .bf16)
    (gf : Vec Ideal S1x1024 .f32) : out0_6 (F := Ideal) x g wg wu wd gf = k0_pay1 x g wg wu wd := by
  frame_out

/-! ## The arrays the region finds -/

variable (m : (ℓ : Loc nD τ sig) → Buf (Elt Ideal) ℓ)

/-- Device `c`'s rows. -/
abbrev xs (c : Dev nD) : FVec Ideal S128x1024 .f32 := m ((c : Thread nD τ).loc main_arg0)
/-- Device `c`'s gains of the first normalisation. -/
abbrev gs (c : Dev nD) : FVec Ideal S1024 .f32 := m ((c : Thread nD τ).loc main_arg1)
/-- Device `c`'s gate matrix. -/
abbrev wgs (c : Dev nD) : FVec Ideal S1024x2816 .f32 := m ((c : Thread nD τ).loc main_arg2)
/-- Device `c`'s up matrix. -/
abbrev wus (c : Dev nD) : FVec Ideal S1024x2816 .f32 := m ((c : Thread nD τ).loc main_arg3)
/-- Device `c`'s down matrix. -/
abbrev wds (c : Dev nD) : FVec Ideal S2816x1024 .f32 := m ((c : Thread nD τ).loc main_arg4)
/-- Device `c`'s gains of the last normalisation. -/
abbrev gfs (c : Dev nD) : FVec Ideal S1024 .f32 := m ((c : Thread nD τ).loc main_arg5)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host4 (c : Dev nD) (j : Fin 1024) : V m c main_v4 (ix2 (0 : Fin 1) j) = gfs m c (ix1 j) := by
  have e : V m c main_v4 = broadcastInDim S1x1024 ![1] bcast_S1024_S1x1024_1 (gfs m c) := by
    unfold_abbrev_sides
    after_results_simp
  rw [e]
  pointwise

theorem host1 (c : Dev nD) : V m c main_v1 = wgs m c := by
  unfold_abbrev_sides
  after_results_simp
  rfl

theorem host2 (c : Dev nD) : V m c main_v2 = wus m c := by
  unfold_abbrev_sides
  after_results_simp
  rfl

theorem host3 (c : Dev nD) : V m c main_v3 = wds m c := by
  unfold_abbrev_sides
  after_results_simp
  rfl

theorem N_eq : cfg0.N = 1 := by decide

/-- Where each point's blocks lie. -/
theorem idx_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The row of the whole array at place `r` of point `t`'s block. -/
abbrev rowAt (t : Fin cfg0.N) (r : Fin 128) : Fin 128 := ⟨t.val * 128 + r.val, by have := t.isLt; have := N_eq; omega⟩

theorem x_blk (c : Dev nD) (t : Fin cfg0.N) (r : Fin 128) (i : Fin 1024) : iblk m c 0 t (ix2 r i) = xs m c (ix2 (rowAt t r) i) := by
  have e0 := (idx_facts t).1
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := (idx_facts t).2.1
  refine Eq.trans (b := V m c main_v0 (ix2 (0 : Fin 1) i)) ?_ (host0 m c i)
  blk_ext [iblk, e0]

theorem wg_blk (c : Dev nD) (t : Fin cfg0.N) (i : Fin 1024) (k : Fin 2816) : iblk m c 2 t (ix2 i k) = wgs m c (ix2 i k) := by
  have e0 := (idx_facts t).2.2.1
  refine Eq.trans (b := V m c main_v1 (ix2 i k)) ?_ (congrFun (host1 m c) _)
  blk_ext [iblk, e0]

theorem wu_blk (c : Dev nD) (t : Fin cfg0.N) (i : Fin 1024) (k : Fin 2816) : iblk m c 3 t (ix2 i k) = wus m c (ix2 i k) := by
  have e0 := (idx_facts t).2.2.2.1
  refine Eq.trans (b := V m c main_v2 (ix2 i k)) ?_ (congrFun (host2 m c) _)
  blk_ext [iblk, e0]

theorem wd_blk (c : Dev nD) (t : Fin cfg0.N) (k : Fin 2816) (i : Fin 1024) : iblk m c 4 t (ix2 k i) = wds m c (ix2 k i) := by
  have e0 := (idx_facts t).2.2.2.2.1
  refine Eq.trans (b := V m c main_v3 (ix2 k i)) ?_ (congrFun (host3 m c) _)
  blk_ext [iblk, e0]

theorem gf_blk (c : Dev nD) (t : Fin cfg0.N) (i : Fin 1024) : iblk m c 5 t (ix2 (0 : Fin 1) i) = gfs m c (ix1 i) := by
  have e0 := (idx_facts t).2.2.2.2.2.1
  refine Eq.trans (b := V m c main_v4 (ix2 (0 : Fin 1) i)) ?_ (host4 m c i)
  blk_ext [iblk, e0]

/-! ## The whole arrays -/

theorem emb6 (t : Fin cfg0.N) (r : Fin 128) (d : Fin 1024) :
    ((cfg0.win 6).blk t).view.emb (ix2 r d) = (ix2 (rowAt t r) d : S128x1024.Idx) := by
  have e := (idx_facts t).2.2.2.2.2.2
  funext a; apply Fin.ext
  match a with
  | ⟨0, _⟩ => show win0_6.index t (0 : Fin 2) * 128 + 1 * r.val = t.val * 128 + r.val; rw [e]; simp
  | ⟨1, _⟩ => show win0_6.index t (1 : Fin 2) * 1024 + 1 * d.val = d.val; rw [e]; simp

/-- The first payload, from a point's blocks, is the feed-forward block at the whole array's row. -/
theorem pay1_blk (c : Dev nD) (t : Fin cfg0.N) (r : Fin 128) (d : Fin 1024) :
    k0_pay1 (F := Ideal) (iblk m c 0 t) (iblk m c 1 t) (iblk m c 2 t) (iblk m c 3 t) (iblk m c 4 t) (ix2 r d)
      = FfnS.mid (xs m c) (gs m c) (wgs m c) (wus m c) (wds m c) (ix2 (rowAt t r) d) := by
  rw [pay1_apply]
  simp only [x_blk, g_blk, wg_blk, wu_blk, wd_blk]
  rfl

/-- What one point writes to the result, at an index. -/
theorem out6_blk (c : Dev nD) (t : Fin cfg0.N) (r : Fin 128) (d : Fin 1024) :
    out0_6 (F := Ideal) (iblk m c 0 t) (iblk m c 1 t) (iblk m c 2 t) (iblk m c 3 t) (iblk m c 4 t) (iblk m c 5 t) (ix2 r d)
      = FfnS.mid (xs m c) (gs m c) (wgs m c) (wus m c) (wds m c) (((cfg0.win 6).blk t).view.emb (ix2 r d)) := by
  rw [emb6, out6_eq, pay1_blk]

/-- THE RESULT ARRAY is the feed-forward block of the arguments. -/
theorem final6 (c : Dev nD) : (dats m 0 c).arrAt 6 cfg0.N = FfnS.mid (xs m c) (gs m c) (wgs m c) (wus m c) (wds m c) := by
  refine (dats m 0 c).arrAt_eq_of_covers 6 _ (by decide +kernel) fun t hf y => ?_
  refine (congrFun (Cert.Kernel9Ideal.Value.flushed6 m c t) y).trans ?_
  have hy : y = ix2 (y 0) (y 1) := by funext a; match a with | ⟨0, _⟩ => rfl | ⟨1, _⟩ => rfl
  rw [hy]
  exact out6_blk m c t (y 0) (y 1)

end Cert.Ffn1S
-- ==== Proof.FfnSRef.lean ====
module

public import proofs.«01_k».proof.Proof.Gen.Reference8Ideal.Run
public import proofs.«01_k».proof.Proof.FfnS

@[expose] public section

set_option maxRecDepth 16384

noncomputable section

/-! # The sample group's feed-forward reference's two result arrays, at an index -/

namespace Cert.FfnS

open Cert.Reference8Ideal Cert.Reference8Ideal.Gen Idealize.ShloMosaic Idealize.ShloMosaic.TcCoe Idealize.SL.Sem

/-- The reference's normalisation. -/
def normR (x : FVec Ideal S128x1024 .f32) (g : FVec Ideal S1024 .f32) : FVec Ideal S128x1024 .f32 :=
  mulf (mulf x (broadcastInDim S128x1024 ![0, 1] bcast_S128x1_S128x1024_0_1 (Host.rsqrt (addf
      (Host.divf (broadcastInDim S128x1 ![0] bcast_S128_S128x1_0 (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The reference's `p · 1 / (1 + exp (−p))`. -/
def siluR (p : FVec Ideal S128x2816 .f32) : FVec Ideal S128x2816 .f32 :=
  mulf p (Host.divf (broadcastInDim S128x2816 ![] bcast_S_S128x2816 (constant S_ .f32 0x3F800000#32))
    (addf (broadcastInDim S128x2816 ![] bcast_S_S128x2816 (constant S_ .f32 0x3F800000#32)) (Host.exp (Host.negf p))))

/-- The reference's gate and up products. -/
def prodR (h : FVec Ideal S128x1024 .f32) (w : FVec Ideal S1024x2816 .f32) : FVec Ideal S128x2816 .f32 :=
  Host.dotGeneral dot_S128x1024_S1024x2816_S128x2816_1_0_0_1_n_n none h w

/-- The reference's last product, added to the rows. -/
def downR (x : FVec Ideal S128x1024 .f32) (s u : FVec Ideal S128x2816 .f32) (w : FVec Ideal S2816x1024 .f32) : FVec Ideal S128x1024 .f32 :=
  addf x (Host.dotGeneral dot_S128x2816_S2816x1024_S128x1024_1_0_0_1_n_n none (mulf s u) w)

/-- The reference's first result. -/
def midR (x : FVec Ideal S128x1024 .f32) (g : FVec Ideal S1024 .f32) (wg wu : FVec Ideal S1024x2816 .f32) (w : FVec Ideal S2816x1024 .f32) : FVec Ideal S128x1024 .f32 :=
  downR x (siluR (prodR (normR x g) wg)) (prodR (normR x g) wu) w

/-- The run's second result is the normalisation of the first. -/
theorem res_eq (m : (ℓ : Loc nD τ sig) → Buf (Elt Ideal) ℓ) (c : Dev nD) :
    Cert.Reference8Ideal.Value.res_main_v31 (F := Ideal) m c
      = normR (midR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg5)) := rfl

theorem normR_apply (x : FVec Ideal S128x1024 .f32) (g : FVec Ideal S1024 .f32) (r : Fin 128) (d : Fin 1024) :
    normR x g (ix2 r d) = Row.norm (fun i => x (ix2 r i)) (fun i => g (ix1 i)) d := by
  unfold normR
  pointwise
  rfl

theorem siluR_apply (p : FVec Ideal S128x2816 .f32) (r : Fin 128) (d : Fin 2816) : siluR p (ix2 r d) = p (ix2 r d) * Ideal.logistic (p (ix2 r d)) := by
  unfold siluR
  pointwise
  rfl

theorem prodR_apply (h : FVec Ideal S128x1024 .f32) (w : FVec Ideal S1024x2816 .f32) (r : Fin 128) (d : Fin 2816) :
    prodR h w (ix2 r d) = ∑ i : Fin 1024, h (ix2 r i) * w (ix2 i d) := by
  unfold prodR
  pointwise

theorem downR_apply (x : FVec Ideal S128x1024 .f32) (s u : FVec Ideal S128x2816 .f32) (w : FVec Ideal S2816x1024 .f32) (r : Fin 128) (d : Fin 1024) :
    downR x s u w (ix2 r d) = x (ix2 r d) + ∑ k : Fin 2816, s (ix2 r k) * u (ix2 r k) * w (ix2 k d) := by
  unfold downR
  pointwise

/-- The reference's first result is the feed-forward block. -/
theorem midR_eq (x : FVec Ideal S128x1024 .f32) (g : FVec Ideal S1024 .f32) (wg wu : FVec Ideal S1024x2816 .f32) (w : FVec Ideal S2816x1024 .f32) :
    midR x g wg wu w = mid x g wg wu w := by
  funext y
  have key : ∀ (r : Fin 128) (d : Fin 1024), midR x g wg wu w (ix2 r d) = mid x g wg wu w (ix2 r d) := fun r d => by
    unfold midR
    simp only [downR_apply, siluR_apply, prodR_apply, normR_apply]
    rfl
  have hy : y = ix2 (y 0) (y 1) := by funext a; match a with | ⟨0, _⟩ => rfl | ⟨1, _⟩ => rfl
  rw [hy]
  exact key (y 0) (y 1)

/-- The reference's normalisation is a row's. -/
theorem normR_eq (x : FVec Ideal S128x1024 .f32) (g : FVec Ideal S1024 .f32) : normR x g = normed x g := by
  funext y
  have hy : y = ix2 (y 0) (y 1) := by funext a; match a with | ⟨0, _⟩ => rfl | ⟨1, _⟩ => rfl
  rw [hy]
  exact normR_apply x g (y 0) (y 1)

end Cert.FfnS
-- ==== Proof.MergeS.lean ====
module

public import proofs.«01_k».proof.Proof.Gen.Kernel7Ideal.Value
public import Idealize.ShloMosaic.Lib.Pointwise
public import Idealize.ShloMosaic.Lib.Pipeline.ValueKit
public import proofs.«01_k».proof.Proof.Row

@[expose] public section

set_option maxRecDepth 16384

noncomputable section

/-! # The sample group's merge kernel's result array, at an index -/

namespace Cert.MergeS

open Cert.Kernel7Ideal Cert.Kernel7Ideal.Gen Idealize.ShloMosaic Idealize.ShloMosaic.TcCoe Idealize.SL.Sem
open Idealize.ShloMosaic.Pipeline (Dat)

/-! ## One block -/

/-- The gates of all three branches, at an index. -/
theorem pay2_apply (x : Vec Ideal S128x1024 .f32) (g : Vec Ideal S1x1024 .f32) (w : Vec Ideal S1024x3072 .bf16) (r : Fin 128) (k : Fin 3072) :
    k0_pay2 (F := Ideal) x g w (ix2 r k)
      = Ideal.logistic (∑ i : Fin 1024, Row.norm (fun i => x (ix2 r i)) (fun i => g (ix2 (0 : Fin 1) i)) i * w (ix2 i k)) := by
  unfold k0_pay2
  pointwise
  rfl

/-- The first two branches' share of the mix, from the gates `z`. -/
theorem pay3_apply (x : Vec Ideal S128x1024 .f32) (g : Vec Ideal S1x1024 .f32) (w : Vec Ideal S1024x3072 .bf16)
    (o0 : Vec Ideal S128x512 .bf16) (b0 : Vec Ideal S1x512x1024 .bf16) (o1 : Vec Ideal S128x512 .bf16) (b1 : Vec Ideal S1x512x1024 .bf16)
    (r : Fin 128) (d : Fin 1024) :
    k0_pay3 (F := Ideal) x g w o0 b0 o1 b1 (ix2 r d)
      = k0_pay2 (F := Ideal) x g w (ix2 r (⟨d.val, by omega⟩ : Fin 3072)) * Row.branch (fun i => o0 (ix2 r i)) (fun i j => b0 (ix3 (0 : Fin 1) i j)) d
        + k0_pay2 (F := Ideal) x g w (ix2 r (⟨1024 + d.val, by omega⟩ : Fin 3072)) * Row.branch (fun i => o1 (ix2 r i)) (fun i j => b1 (ix3 (0 : Fin 1) i j)) d := by
  unfold k0_pay3
  generalize k0_pay2 (F := Ideal) x g w = z
  pointwise
  rfl

/-- The last branch's gate. -/
theorem pay4_apply (x : Vec Ideal S128x1024 .f32) (g : Vec Ideal S1x1024 .f32) (w : Vec Ideal S1024x3072 .bf16) (r : Fin 128) (d : Fin 1024) :
    k0_pay4 (F := Ideal) x g w (ix2 r d) = k0_pay2 (F := Ideal) x g w (ix2 r (⟨2048 + d.val, by omega⟩ : Fin 3072)) := by
  unfold k0_pay4
  generalize k0_pay2 (F := Ideal) x g w = z
  pointwise

/-- The block, from the first two branches' share `y` and the last branch's gate `z`. -/
theorem pay1_apply (x : Vec Ideal S128x1024 .f32) (y z : FVec Ideal S128x1024 .f32) (o : Vec Ideal S128x512 .bf16) (b : Vec Ideal S1x512x1024 .bf16)
    (wo : Vec Ideal S1024x1024 .bf16) (r : Fin 128) (d : Fin 1024) :
    k0_pay1 (F := Ideal) x y z o b wo (ix2 r d)
      = x (ix2 r d) + ∑ k : Fin 1024, (y (ix2 r k) + z (ix2 r k) * Row.branch (fun i => o (ix2 r i)) (fun i j => b (ix3 (0 : Fin 1) i j)) k) * wo (ix2 k d) := by
  unfold k0_pay1
  pointwise
  rfl

/-- One branch's matrix, as the body loads it. -/
def mat (b : Vec Ideal S3x512x1024 .bf16) (p : ℕ) (h : ∀ a, (![p, 0, 0] : Fin 3 → ℕ) a + S1x512x1024.size a ≤ S3x512x1024.size a) : Vec Ideal S1x512x1024 .bf16 :=
  View.ld b (Rect.unit (s := S3x512x1024) ![p, 0, 0] S1x512x1024.size h)

theorem mat_apply (b : Vec Ideal S3x512x1024 .bf16) (p : ℕ) (hp : p < 3) (h : ∀ a, (![p, 0, 0] : Fin 3 → ℕ) a + S1x512x1024.size a ≤ S3x512x1024.size a)
    (i : Fin 512) (j : Fin 1024) : mat b p h (ix3 (0 : Fin 1) i j) = b (ix3 (⟨p, hp⟩ : Fin 3) i j) := by
  show b _ = b _
  congr 1
  funext a; apply Fin.ext
  match a with
  | ⟨0, _⟩ => show p + 1 * 0 = p; omega
  | ⟨1, _⟩ => show 0 + 1 * i.val = i.val; omega
  | ⟨2, _⟩ => show 0 + 1 * j.val = j.val; omega

/-- What one point leaves in the result's staging buffer. -/
theorem out_eq (x0 : Vec Ideal S128x1024 .f32) (x1 : Vec Ideal S1x1024 .f32) (x2 : Vec Ideal S1024x3072 .bf16) (x3 x4 x5 : Vec Ideal S128x512 .bf16)
    (x6 : Vec Ideal S3x512x1024 .bf16) (x7 : Vec Ideal S1024x1024 .bf16) :
    out0_8 (F := Ideal) x0 x1 x2 x3 x4 x5 x6 x7
      = k0_pay1 x0 (k0_pay3 x0 x1 x2 x3 (mat x6 0 inb_S3x512x1024_S1x512x1024_0_0_0) x4 (mat x6 1 inb_S3x512x1024_S1x512x1024_1_0_0)) (k0_pay4 x0 x1 x2)
          x5 (mat x6 2 inb_S3x512x1024_S1x512x1024_2_0_0) x7 := by
  frame_out
  rfl

/-- What one point leaves in the result's staging buffer, at an index: the merge of the index's row. -/
theorem out_apply (x0 : Vec Ideal S128x1024 .f32) (x1 : Vec Ideal S1x1024 .f32) (x2 : Vec Ideal S1024x3072 .bf16) (x3 x4 x5 : Vec Ideal S128x512 .bf16)
    (x6 : Vec Ideal S3x512x1024 .bf16) (x7 : Vec Ideal S1024x1024 .bf16) (r : Fin 128) (d : Fin 1024) :
    out0_8 (F := Ideal) x0 x1 x2 x3 x4 x5 x6 x7 (ix2 r d)
      = Row.merge (fun i => x0 (ix2 r i)) (fun i => x1 (ix2 (0 : Fin 1) i))
          (fun i j => x2 (ix2 i (⟨j.val, by omega⟩ : Fin 3072))) (fun i j => x2 (ix2 i (⟨1024 + j.val, by omega⟩ : Fin 3072)))
          (fun i j => x2 (ix2 i (⟨2048 + j.val, by omega⟩ : Fin 3072)))
          (fun i => x3 (ix2 r i)) (fun i => x4 (ix2 r i)) (fun i => x5 (ix2 r i))
          (fun i j => x6 (ix3 (0 : Fin 3) i j)) (fun i j => x6 (ix3 (1 : Fin 3) i j)) (fun i j => x6 (ix3 (2 : Fin 3) i j)) (fun i j => x7 (ix2 i j)) d := by
  rw [out_eq, pay1_apply]
  simp only [pay3_apply, pay4_apply, pay2_apply, mat_apply _ 0 (by decide), mat_apply _ 1 (by decide), mat_apply _ 2 (by decide)]
  rfl

/-! ## The arrays the region finds -/

variable (m : (ℓ : Loc nD τ sig) → Buf (Elt Ideal) ℓ)

/-- Device `c`'s rows. -/
abbrev xs (c : Dev nD) : FVec Ideal S128x1024 .f32 := m ((c : Thread nD τ).loc main_arg0)
/-- Device `c`'s gains of the normalisation. -/
abbrev gs (c : Dev nD) : FVec Ideal S1024 .f32 := m ((c : Thread nD τ).loc main_arg1)
/-- Device `c`'s input projection, whose last 3072 columns are the gates'. -/
abbrev ws (c : Dev nD) : FVec Ideal S1024x5632 .f32 := m ((c : Thread nD τ).loc main_arg2)
/-- Device `c`'s first branch. -/
abbrev o0s (c : Dev nD) : FVec Ideal S128x512 .bf16 := m ((c : Thread nD τ).loc main_arg3)
/-- Device `c`'s second branch. -/
abbrev o1s (c : Dev nD) : FVec Ideal S128x512 .bf16 := m ((c : Thread nD τ).loc main_arg4)
/-- Device `c`'s third branch. -/
abbrev o2s (c : Dev nD) : FVec Ideal S128x512 .bf16 := m ((c : Thread nD τ).loc main_arg5)
/-- Device `c`'s first branch's matrix. -/
abbrev b0s (c : Dev nD) : FVec Ideal S512x1024 .f32 := m ((c : Thread nD τ).loc main_arg6)
/-- Device `c`'s second branch's matrix. -/
abbrev b1s (c : Dev nD) : FVec Ideal S512x1024 .f32 := m ((c : Thread nD τ).loc main_arg7)
/-- Device `c`'s third branch's matrix. -/
abbrev b2s (c : Dev nD) : FVec Ideal S512x1024 .f32 := m ((c : Thread nD τ).loc main_arg8)
/-- Device `c`'s output matrix. -/
abbrev wos (c : Dev nD) : FVec Ideal S1024x1024 .f32 := m ((c : Thread nD τ).loc main_arg9)

theorem host0 (c : Dev nD) (j : Fin 1024) : V m c main_v0 (ix2 (0 : Fin 1) j) = gs m c (ix1 j) := by
  have e : V m c main_v0 = broadcastInDim S1x1024 ![1] bcast_S1024_S1x1024_1 (gs m c) := by
    unfold_abbrev_sides
    after_results_simp
  rw [e]
  pointwise

theorem host2 (c : Dev nD) (i : Fin 1024) (k : Fin 3072) : V m c main_v2 (ix2 i k) = ws m c (ix2 i (⟨2560 + k.val, by omega⟩ : Fin 5632)) := by
  have e : V m c main_v2 = truncf .bf16 (extractStridedSlice S1024x3072 ![0, 2560] (ws m c) slices_S1024x5632_S1024x3072_0_2560) bitsLt_bf16_f32 := by
    unfold_abbrev_sides
    after_results_simp
  rw [e]
  pointwise

/-- The three branch matrices stacked, as the region finds them. -/
def stacked (b0 b1 b2 : FVec Ideal S512x1024 .f32) : FVec Ideal S3x512x1024 .f32 :=
  concatenate S3x512x1024 0 [⟨S1x512x1024, broadcastInDim S1x512x1024 ![1, 2] bcast_S512x1024_S1x512x1024_1_2 b0⟩,
    ⟨S1x512x1024, broadcastInDim S1x512x1024 ![1, 2] bcast_S512x1024_S1x512x1024_1_2 b1⟩,
    ⟨S1x512x1024, broadcastInDim S1x512x1024 ![1, 2] bcast_S512x1024_S1x512x1024_1_2 b2⟩] concatenates_S1x512x1024_S1x512x1024_S1x512x1024_S3x512x1024_d0

theorem stacked0 (b0 b1 b2 : FVec Ideal S512x1024 .f32) (i : Fin 512) (j : Fin 1024) : stacked b0 b1 b2 (ix3 (0 : Fin 3) i j) = b0 (ix2 i j) := by
  unfold stacked
  pointwise
theorem stacked1 (b0 b1 b2 : FVec Ideal S512x1024 .f32) (i : Fin 512) (j : Fin 1024) : stacked b0 b1 b2 (ix3 (1 : Fin 3) i j) = b1 (ix2 i j) := by
  unfold stacked
  pointwise
theorem stacked2 (b0 b1 b2 : FVec Ideal S512x1024 .f32) (i : Fin 512) (j : Fin 1024) : stacked b0 b1 b2 (ix3 (2 : Fin 3) i j) = b2 (ix2 i j) := by
  unfold stacked
  pointwise

theorem host7 (c : Dev nD) : V m c main_v7 = stacked (b0s m c) (b1s m c) (b2s m c) := by
  unfold_abbrev_sides
  after_results_simp
  rfl

theorem host8 (c : Dev nD) : V m c main_v8 = wos m c := by
  unfold_abbrev_sides
  after_results_simp
  rfl

theorem N_eq : cfg0.N = 1 := by decide

/-- Where each point's blocks lie. -/
theorem idx_facts : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0, 0] ∧ win0_7.index t = ![0, 0]
    ∧ win0_8.index t = ![t.val, 0] :=
  (by decide +kernel : ∀ t : Fin grid0.N, _)

/-- The row of the whole array at place `r` of point `t`'s block. -/
abbrev rowAt (t : Fin cfg0.N) (r : Fin 128) : Fin 128 := ⟨t.val * 128 + r.val, by have := t.isLt; have := N_eq; omega⟩

theorem x_blk (c : Dev nD) (t : Fin cfg0.N) (r : Fin 128) (i : Fin 1024) : iblk m c 0 t (ix2 r i) = xs m c (ix2 (rowAt t r) i) := by
  obtain ⟨e0, e1, e2, e3, e4, e5, e6, e7, e8⟩ := idx_facts t
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  obtain ⟨e0, e1, e2, e3, e4, e5, e6, e7, e8⟩ := idx_facts t
  refine Eq.trans (b := V m c main_v0 (ix2 (0 : Fin 1) i)) ?_ (host0 m c i)
  blk_ext [iblk, e1]

theorem w_blk (c : Dev nD) (t : Fin cfg0.N) (i : Fin 1024) (k : Fin 3072) : iblk m c 2 t (ix2 i k) = ws m c (ix2 i (⟨2560 + k.val, by omega⟩ : Fin 5632)) := by
  obtain ⟨e0, e1, e2, e3, e4, e5, e6, e7, e8⟩ := idx_facts t
  refine Eq.trans (b := V m c main_v2 (ix2 i k)) ?_ (host2 m c i k)
  blk_ext [iblk, e2]

theorem o0_blk (c : Dev nD) (t : Fin cfg0.N) (r : Fin 128) (i : Fin 512) : iblk m c 3 t (ix2 r i) = o0s m c (ix2 (rowAt t r) i) := by
  obtain ⟨e0, e1, e2, e3, e4, e5, e6, e7, e8⟩ := idx_facts t
  refine Eq.trans (b := V m c main_arg3 (ix2 (rowAt t r) i)) ?_ (congrFun (V_main_arg3 m c) _)
  blk_ext [iblk, e3]

theorem o1_blk (c : Dev nD) (t : Fin cfg0.N) (r : Fin 128) (i : Fin 512) : iblk m c 4 t (ix2 r i) = o1s m c (ix2 (rowAt t r) i) := by
  obtain ⟨e0, e1, e2, e3, e4, e5, e6, e7, e8⟩ := idx_facts t
  refine Eq.trans (b := V m c main_arg4 (ix2 (rowAt t r) i)) ?_ (congrFun (V_main_arg4 m c) _)
  blk_ext [iblk, e4]

theorem o2_blk (c : Dev nD) (t : Fin cfg0.N) (r : Fin 128) (i : Fin 512) : iblk m c 5 t (ix2 r i) = o2s m c (ix2 (rowAt t r) i) := by
  obtain ⟨e0, e1, e2, e3, e4, e5, e6, e7, e8⟩ := idx_facts t
  refine Eq.trans (b := V m c main_arg5 (ix2 (rowAt t r) i)) ?_ (congrFun (V_main_arg5 m c) _)
  blk_ext [iblk, e5]

theorem b_blk (c : Dev nD) (t : Fin cfg0.N) (p : Fin 3) (i : Fin 512) (j : Fin 1024) : iblk m c 6 t (ix3 p i j) = stacked (b0s m c) (b1s m c) (b2s m c) (ix3 p i j) := by
  obtain ⟨e0, e1, e2, e3, e4, e5, e6, e7, e8⟩ := idx_facts t
  refine Eq.trans (b := V m c main_v7 (ix3 p i j)) ?_ (congrFun (host7 m c) _)
  blk_ext [iblk, e6]

theorem wo_blk (c : Dev nD) (t : Fin cfg0.N) (i j : Fin 1024) : iblk m c 7 t (ix2 i j) = wos m c (ix2 i j) := by
  obtain ⟨e0, e1, e2, e3, e4, e5, e6, e7, e8⟩ := idx_facts t
  refine Eq.trans (b := V m c main_v8 (ix2 i j)) ?_ (congrFun (host8 m c) _)
  blk_ext [iblk, e7]

theorem emb8 (t : Fin cfg0.N) (r : Fin 128) (d : Fin 1024) :
    ((cfg0.win 8).blk t).view.emb (ix2 r d) = (ix2 (rowAt t r) d : S128x1024.Idx) := by
  obtain ⟨e0, e1, e2, e3, e4, e5, e6, e7, e8⟩ := idx_facts t
  funext a; apply Fin.ext
  match a with
  | ⟨0, _⟩ => show win0_8.index t (0 : Fin 2) * 128 + 1 * r.val = t.val * 128 + r.val; rw [e8]; simp
  | ⟨1, _⟩ => show win0_8.index t (1 : Fin 2) * 1024 + 1 * d.val = d.val; rw [e8]; simp

/-! ## The whole array -/

/-- THE MERGE, at an index of the whole array: columns 2560, 3584 and 4608 on of the input projection gate the three branches. -/
def merged (x : FVec Ideal S128x1024 .f32) (g : FVec Ideal S1024 .f32) (w : FVec Ideal S1024x5632 .f32) (o0 o1 o2 : FVec Ideal S128x512 .bf16)
    (b0 b1 b2 : FVec Ideal S512x1024 .f32) (wo : FVec Ideal S1024x1024 .f32) (y : S128x1024.Idx) : EReal :=
  Row.merge (fun i => x (ix2 (y 0) i)) (fun i => g (ix1 i))
    (fun i j => w (ix2 i (⟨2560 + j.val, by omega⟩ : Fin 5632))) (fun i j => w (ix2 i (⟨2560 + (1024 + j.val), by omega⟩ : Fin 5632)))
    (fun i j => w (ix2 i (⟨2560 + (2048 + j.val), by omega⟩ : Fin 5632)))
    (fun i => o0 (ix2 (y 0) i)) (fun i => o1 (ix2 (y 0) i)) (fun i => o2 (ix2 (y 0) i))
    (fun i j => b0 (ix2 i j)) (fun i j => b1 (ix2 i j)) (fun i j => b2 (ix2 i j)) (fun i j => wo (ix2 i j)) (y 1)

/-- What one point writes, at an index. -/
theorem out_blk (c : Dev nD) (t : Fin cfg0.N) (r : Fin 128) (d : Fin 1024) :
    out0_8 (F := Ideal) (iblk m c 0 t) (iblk m c 1 t) (iblk m c 2 t) (iblk m c 3 t) (iblk m c 4 t) (iblk m c 5 t) (iblk m c 6 t) (iblk m c 7 t) (ix2 r d)
      = merged (xs m c) (gs m c) (ws m c) (o0s m c) (o1s m c) (o2s m c) (b0s m c) (b1s m c) (b2s m c) (wos m c) (((cfg0.win 8).blk t).view.emb (ix2 r d)) := by
  rw [emb8, out_apply]
  simp only [x_blk, g_blk, w_blk, o0_blk, o1_blk, o2_blk, b_blk, wo_blk, stacked0, stacked1, stacked2]
  rfl

/-- THE RESULT ARRAY is the merge of the arguments. -/
theorem final (c : Dev nD) : (dats m 0 c).arrAt 8 cfg0.N
    = merged (xs m c) (gs m c) (ws m c) (o0s m c) (o1s m c) (o2s m c) (b0s m c) (b1s m c) (b2s m c) (wos m c) := by
  refine (dats m 0 c).arrAt_eq_of_covers 8 _ (by decide +kernel) fun t hf y => ?_
  refine (congrFun (Cert.Kernel7Ideal.Value.flushed8 m c t) y).trans ?_
  have hy : y = ix2 (y 0) (y 1) := by funext a; match a with | ⟨0, _⟩ => rfl | ⟨1, _⟩ => rfl
  rw [hy]
  exact out_blk m c t (y 0) (y 1)

end Cert.MergeS
-- ==== Proof.MergeSRef.lean ====
module

public import proofs.«01_k».proof.Proof.Gen.Reference7Ideal.Run
public import proofs.«01_k».proof.Proof.MergeS

@[expose] public section

set_option maxRecDepth 16384

noncomputable section

/-! # The sample group's merge reference's result array, at an index -/

namespace Cert.MergeS

open Cert.Reference7Ideal Cert.Reference7Ideal.Gen Idealize.ShloMosaic Idealize.ShloMosaic.TcCoe Idealize.SL.Sem

/-- The reference's normalisation. -/
def normR (x : FVec Ideal S128x1024 .f32) (g : FVec Ideal S1024 .f32) : FVec Ideal S128x1024 .f32 :=
  mulf (mulf x (broadcastInDim S128x1024 ![0, 1] bcast_S128x1_S128x1024_0_1 (Host.rsqrt (addf
      (Host.divf (broadcastInDim S128x1 ![0] bcast_S128_S128x1_0 (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The reference's input projection. -/
def projR (h : FVec Ideal S128x1024 .f32) (w : FVec Ideal S1024x5632 .f32) : FVec Ideal S128x5632 .f32 :=
  Host.dotGeneral dot_S128x1024_S1024x5632_S128x5632_1_0_0_1_n_n none h w

/-- The gates' columns of the projection, one row of 1024 for each of three branches. -/
def colsR (p : FVec Ideal S128x5632 .f32) : FVec Ideal S128x3x1024 .f32 :=
  shapeCast _ (extractStridedSlice S128x3072 ![0, 2560] p slices_S128x5632_S128x3072_0_2560) shapeCasts_S128x3072_S128x3x1024

/-- The reference's `1 / (1 + exp (−p))`. -/
def sigmoidR (p : FVec Ideal S128x3x1024 .f32) : FVec Ideal S128x3x1024 .f32 :=
  Host.divf (broadcastInDim S128x3x1024 ![] bcast_S_S128x3x1024 (constant S_ .f32 0x3F800000#32))
    (addf (broadcastInDim S128x3x1024 ![] bcast_S_S128x3x1024 (constant S_ .f32 0x3F800000#32)) (Host.exp (Host.negf p)))

/-- The first branch's gate, the second's and the third's. -/
def part0 (z : FVec Ideal S128x3x1024 .f32) : FVec Ideal S128x1024 .f32 :=
  shapeCast _ (extractStridedSlice S128x1x1024 ![0, 0, 0] z slices_S128x3x1024_S128x1x1024_0_0_0) shapeCasts_S128x1x1024_S128x1024
@[inherit_doc part0] def part1 (z : FVec Ideal S128x3x1024 .f32) : FVec Ideal S128x1024 .f32 :=
  shapeCast _ (extractStridedSlice S128x1x1024 ![0, 1, 0] z slices_S128x3x1024_S128x1x1024_0_1_0) shapeCasts_S128x1x1024_S128x1024
@[inherit_doc part0] def part2 (z : FVec Ideal S128x3x1024 .f32) : FVec Ideal S128x1024 .f32 :=
  shapeCast _ (extractStridedSlice S128x1x1024 ![0, 2, 0] z slices_S128x3x1024_S128x1x1024_0_2_0) shapeCasts_S128x1x1024_S128x1024

/-- A branch times its matrix. -/
def branchR (o : FVec Ideal S128x512 .bf16) (b : FVec Ideal S512x1024 .f32) : FVec Ideal S128x1024 .f32 :=
  Host.dotGeneral dot_S128x512_S512x1024_S128x1024_1_0_0_1_n_n none (extf .f32 o bitsLt_bf16_f32) b

/-- The mix of the three branches, sent through the output matrix and added to the rows. -/
def outR (x g0 g1 g2 p0 p1 p2 : FVec Ideal S128x1024 .f32) (wo : FVec Ideal S1024x1024 .f32) : FVec Ideal S128x1024 .f32 :=
  addf x (Host.dotGeneral dot_S128x1024_S1024x1024_S128x1024_1_0_0_1_n_n none (addf (addf (mulf g0 p0) (mulf g1 p1)) (mulf g2 p2)) wo)

/-- The three gates. -/
def gatesR (x : FVec Ideal S128x1024 .f32) (g : FVec Ideal S1024 .f32) (w : FVec Ideal S1024x5632 .f32) : FVec Ideal S128x3x1024 .f32 :=
  sigmoidR (colsR (projR (normR x g) w))

/-- The reference's result. -/
def resR (x : FVec Ideal S128x1024 .f32) (g : FVec Ideal S1024 .f32) (w : FVec Ideal S1024x5632 .f32) (o0 o1 o2 : FVec Ideal S128x512 .bf16)
    (b0 b1 b2 : FVec Ideal S512x1024 .f32) (wo : FVec Ideal S1024x1024 .f32) : FVec Ideal S128x1024 .f32 :=
  outR x (part0 (gatesR x g w)) (part1 (gatesR x g w)) (part2 (gatesR x g w)) (branchR o0 b0) (branchR o1 b1) (branchR o2 b2) wo

/-- The run's result is these steps in turn. -/
theorem res_eq (m : (ℓ : Loc nD τ sig) → Buf (Elt Ideal) ℓ) (c : Dev nD) :
    Cert.Reference7Ideal.Value.res_main_v40 (F := Ideal) m c
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := rfl

theorem normR_apply (x : FVec Ideal S128x1024 .f32) (g : FVec Ideal S1024 .f32) (r : Fin 128) (d : Fin 1024) :
    normR x g (ix2 r d) = Row.norm (fun i => x (ix2 r i)) (fun i => g (ix1 i)) d := by
  unfold normR
  pointwise
  rfl

theorem projR_apply (h : FVec Ideal S128x1024 .f32) (w : FVec Ideal S1024x5632 .f32) (r : Fin 128) (d : Fin 5632) :
    projR h w (ix2 r d) = ∑ i : Fin 1024, h (ix2 r i) * w (ix2 i d) := by
  unfold projR
  pointwise

theorem colsR_apply (p : FVec Ideal S128x5632 .f32) (r : Fin 128) (b : Fin 3) (d : Fin 1024) :
    colsR p (ix3 r b d) = p (ix2 r (⟨2560 + (b.val * 1024 + d.val), by omega⟩ : Fin 5632)) := by
  unfold colsR
  pointwise

theorem sigmoidR_apply (p : FVec Ideal S128x3x1024 .f32) (r : Fin 128) (b : Fin 3) (d : Fin 1024) : sigmoidR p (ix3 r b d) = Ideal.logistic (p (ix3 r b d)) := by
  unfold sigmoidR
  pointwise
  rfl

theorem part0_apply (z : FVec Ideal S128x3x1024 .f32) (r : Fin 128) (d : Fin 1024) : part0 z (ix2 r d) = z (ix3 r (0 : Fin 3) d) := by
  unfold part0
  pointwise

theorem part1_apply (z : FVec Ideal S128x3x1024 .f32) (r : Fin 128) (d : Fin 1024) : part1 z (ix2 r d) = z (ix3 r (1 : Fin 3) d) := by
  unfold part1
  pointwise

theorem part2_apply (z : FVec Ideal S128x3x1024 .f32) (r : Fin 128) (d : Fin 1024) : part2 z (ix2 r d) = z (ix3 r (2 : Fin 3) d) := by
  unfold part2
  pointwise

theorem branchR_apply (o : FVec Ideal S128x512 .bf16) (b : FVec Ideal S512x1024 .f32) (r : Fin 128) (d : Fin 1024) :
    branchR o b (ix2 r d) = Row.branch (fun i => o (ix2 r i)) (fun i j => b (ix2 i j)) d := by
  unfold branchR
  pointwise
  rfl

theorem outR_apply (x g0 g1 g2 p0 p1 p2 : FVec Ideal S128x1024 .f32) (wo : FVec Ideal S1024x1024 .f32) (r : Fin 128) (d : Fin 1024) :
    outR x g0 g1 g2 p0 p1 p2 wo (ix2 r d)
      = x (ix2 r d) + ∑ k : Fin 1024, (g0 (ix2 r k) * p0 (ix2 r k) + g1 (ix2 r k) * p1 (ix2 r k) + g2 (ix2 r k) * p2 (ix2 r k)) * wo (ix2 k d) := by
  unfold outR
  pointwise

/-- The gate of branch `b` at column `d`. -/
theorem gatesR_apply (x : FVec Ideal S128x1024 .f32) (g : FVec Ideal S1024 .f32) (w : FVec Ideal S1024x5632 .f32) (r : Fin 128) (b : Fin 3) (d : Fin 1024) :
    gatesR x g w (ix3 r b d)
      = Row.gate (fun i => x (ix2 r i)) (fun i => g (ix1 i)) (fun i j => w (ix2 i (⟨2560 + (b.val * 1024 + j.val), by omega⟩ : Fin 5632))) d := by
  unfold gatesR
  simp only [sigmoidR_apply, colsR_apply, projR_apply, normR_apply]
  rfl

/-- The reference's result is the merge. -/
theorem resR_eq (x : FVec Ideal S128x1024 .f32) (g : FVec Ideal S1024 .f32) (w : FVec Ideal S1024x5632 .f32) (o0 o1 o2 : FVec Ideal S128x512 .bf16)
    (b0 b1 b2 : FVec Ideal S512x1024 .f32) (wo : FVec Ideal S1024x1024 .f32) :
    resR x g w o0 o1 o2 b0 b1 b2 wo = merged x g w o0 o1 o2 b0 b1 b2 wo := by
  funext y
  have key : ∀ (r : Fin 128) (d : Fin 1024), resR x g w o0 o1 o2 b0 b1 b2 wo (ix2 r d) = merged x g w o0 o1 o2 b0 b1 b2 wo (ix2 r d) := fun r d => by
    unfold resR merged Row.merge
    simp only [outR_apply, part0_apply, part1_apply, part2_apply, gatesR_apply, branchR_apply]
    have f0 : ∀ j : Fin 1024, (⟨2560 + ((0 : Fin 3).val * 1024 + j.val), by omega⟩ : Fin 5632) = ⟨2560 + j.val, by omega⟩ := fun j => Fin.ext (by show _ = _; simp)
    have f1 : ∀ j : Fin 1024, (⟨2560 + ((1 : Fin 3).val * 1024 + j.val), by omega⟩ : Fin 5632) = ⟨2560 + (1024 + j.val), by omega⟩ := fun j => Fin.ext (by show _ = _; simp)
    have f2 : ∀ j : Fin 1024, (⟨2560 + ((2 : Fin 3).val * 1024 + j.val), by omega⟩ : Fin 5632) = ⟨2560 + (2048 + j.val), by omega⟩ := fun j => Fin.ext (by show _ = _; simp)
    simp only [f0, f1, f2]
    rfl
  have hy : y = ix2 (y 0) (y 1) := by funext a; match a with | ⟨0, _⟩ => rfl | ⟨1, _⟩ => rfl
  rw [hy]
  exact key (y 0) (y 1)

end Cert.MergeS
-- ==== Proof.ProjSPay.lean ====
module

public import proofs.«01_k».proof.Proof.Gen.Kernel6Ideal.Skeleton
public import Idealize.ShloMosaic.Lib.Pointwise
public import proofs.«01_k».proof.Proof.ProjRow

@[expose] public section

set_option maxRecDepth 16384

noncomputable section

/-! # What the sample projection kernel computes from one block of rows, entry by entry -/

namespace Cert.ProjS

open Cert.Kernel6Ideal Cert.Kernel6Ideal.Gen Idealize.ShloMosaic Idealize.ShloMosaic.TcCoe Idealize.SL.Sem Cert.Proj

/-- Column `k` of the reordered rotated columns is column `c` of the projection. -/
def permR (k c : ℕ) : Prop :=
  (k < 512 ∧ c = k) ∨ (512 ≤ k ∧ k < 1024 ∧ c = k + 128) ∨ (1024 ≤ k ∧ k < 1536 ∧ c = k + 200) ∨ (1536 ≤ k ∧ k < 1600 ∧ c + 1024 = k)
    ∨ (1600 ≤ k ∧ k < 1664 ∧ c + 448 = k) ∨ (1664 ≤ k ∧ k < 1728 ∧ c = k + 72) ∨ (1728 ≤ k ∧ k < 1792 ∧ c = k + 136)
    ∨ (1792 ≤ k ∧ k < 1856 ∧ c = k + 200)

/-- Column `k` of the reordered plain columns is column `c` of the projection. -/
def permP (k c : ℕ) : Prop :=
  (k < 64 ∧ c = k + 576) ∨ (64 ≤ k ∧ k < 128 ∧ c = k + 1736) ∨ (128 ≤ k ∧ k < 192 ∧ c = k + 1800) ∨ (192 ≤ k ∧ k < 256 ∧ c = k + 1864)
    ∨ (256 ≤ k ∧ k < 384 ∧ c = k + 2144) ∨ (384 ≤ k ∧ k < 640 ∧ c = k + 1760) ∨ (640 ≤ k ∧ k < 672 ∧ c = k + 1888)
    ∨ (672 ≤ k ∧ k < 680 ∧ c = k + 544) ∨ (680 ≤ k ∧ k < 704 ∧ c = k + 1440)

/-- Column `k` of the reordered query projection is column `c` of the query projection. -/
def permQ (k c : ℕ) : Prop :=
  (k < 512 ∧ c = k / 64 * 96 + k % 64) ∨ (512 ≤ k ∧ k < 768 ∧ c = (k - 512) / 32 * 96 + 64 + (k - 512) % 32)

theorem pay6_apply (x : Vec Ideal S128x1024 .f32) (g : Vec Ideal S1x1024 .f32) (r : Fin 128) (d : Fin 1024) :
    k0_pay6 (F := Ideal) x g (ix2 r d) = Row.norm (fun i => x (ix2 r i)) (fun i => g (ix2 (0 : Fin 1) i)) d := by
  unfold k0_pay6
  pointwise
  rfl

/-- The rotated columns' product. -/
theorem pay7_apply (x : Vec Ideal S128x1024 .f32) (g : Vec Ideal S1x1024 .f32) (w : Vec Ideal S1024x1920 .bf16) (r : Fin 128) (d : Fin 1920) :
    k0_pay7 (F := Ideal) x g w (ix2 r d) = ∑ i, Row.norm (fun i => x (ix2 r i)) (fun i => g (ix2 (0 : Fin 1) i)) i * w (ix2 i d) := by
  have h := fun i => pay6_apply x g r i
  unfold k0_pay7
  generalize k0_pay6 (F := Ideal) x g = z at h ⊢
  pointwise
  simp only [h]

/-- The plain columns' product. -/
theorem pay8_apply (x : Vec Ideal S128x1024 .f32) (g : Vec Ideal S1x1024 .f32) (w : Vec Ideal S1024x768 .bf16) (r : Fin 128) (d : Fin 768) :
    k0_pay8 (F := Ideal) x g w (ix2 r d) = ∑ i, Row.norm (fun i => x (ix2 r i)) (fun i => g (ix2 (0 : Fin 1) i)) i * w (ix2 i d) := by
  have h := fun i => pay6_apply x g r i
  unfold k0_pay8
  generalize k0_pay6 (F := Ideal) x g = z at h ⊢
  pointwise
  simp only [h]

/-- The tables pass unchanged. -/
theorem pay9_eq (v : Vec Ideal S128x128 .f32) : k0_pay9 (F := Ideal) v = v := by unfold k0_pay9; exact shapeCast_self _ _
@[inherit_doc pay9_eq] theorem pay10_eq (v : Vec Ideal S128x128 .f32) : k0_pay10 (F := Ideal) v = v := by unfold k0_pay10; exact shapeCast_self _ _
@[inherit_doc pay9_eq] theorem pay11_eq (v : Vec Ideal S128x128 .f32) : k0_pay11 (F := Ideal) v = v := by unfold k0_pay11; exact shapeCast_self _ _
@[inherit_doc pay9_eq] theorem pay12_eq (v : Vec Ideal S128x128 .f32) : k0_pay12 (F := Ideal) v = v := by unfold k0_pay12; exact shapeCast_self _ _
@[inherit_doc pay9_eq] theorem pay13_eq (v : Vec Ideal S128x128 .f32) : k0_pay13 (F := Ideal) v = v := by unfold k0_pay13; exact shapeCast_self _ _
@[inherit_doc pay9_eq] theorem pay14_eq (v : Vec Ideal S128x128 .f32) : k0_pay14 (F := Ideal) v = v := by unfold k0_pay14; exact shapeCast_self _ _

/-- The three tables of a block of positions, for rotations of 64 lanes: cosines, sines that the upper neighbour takes, sines that
    the lower neighbour takes. -/
structure Tab64 (c s t : FVec Ideal S128x128 .f32) (cs sn : Fin 128 → Fin 32 → EReal) : Prop where
  hc : ∀ r (l : Fin 128), c (ix2 r l) = cs r ⟨l.val % 32, by omega⟩
  hs : ∀ r (l : Fin 128), s (ix2 r l) = if l.val % 64 < 32 then -(sn r ⟨l.val % 32, by omega⟩) else 0
  ht : ∀ r (l : Fin 128), t (ix2 r l) = if l.val % 64 < 32 then 0 else sn r ⟨l.val % 32, by omega⟩

/-- The same for rotations of 32 lanes. -/
structure Tab32 (c s t : FVec Ideal S128x128 .f32) (cs sn : Fin 128 → Fin 16 → EReal) : Prop where
  hc : ∀ r (l : Fin 128), c (ix2 r l) = cs r ⟨l.val % 16, by omega⟩
  hs : ∀ r (l : Fin 128), s (ix2 r l) = if l.val % 32 < 16 then -(sn r ⟨l.val % 16, by omega⟩) else 0
  ht : ∀ r (l : Fin 128), t (ix2 r l) = if l.val % 32 < 16 then 0 else sn r ⟨l.val % 16, by omega⟩

section
variable {a : FVec Ideal S128x1920 .f32} {b : FVec Ideal S128x768 .f32} {P : Fin 128 → Fin 5632 → EReal} {c s t : FVec Ideal S128x128 .f32}
  {cs sn : Fin 128 → Fin 32 → EReal} {ct st : Fin 128 → Fin 16 → EReal}
  (hA : ∀ r k c, permR k.val c.val → a (ix2 r k) = P r c) (hB : ∀ r k c, permP k.val c.val → b (ix2 r k) = P r c)
  (T : Tab64 c s t cs sn) (T' : Tab32 c s t ct st)

include hA T

/-! Each group of 128 lanes holds two rotated heads. -/

theorem pay15_0 (r : Fin 128) (l : Fin 128) (j : Fin 64) (hl : l.val = 0 + j.val) :
    k0_pay15 (F := Ideal) a c s t (ix2 r l) = rot64 (cols 64 0 (by omega) (P r)) (cs r) (sn r) j := by
  unfold k0_pay15
  pointwise
  refine (lane64 (fun l => a (ix2 r ⟨l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (0 + i.val) (0 + i.val); unfold permR; omega)

theorem pay15_1 (r : Fin 128) (l : Fin 128) (j : Fin 64) (hl : l.val = 64 + j.val) :
    k0_pay15 (F := Ideal) a c s t (ix2 r l) = rot64 (cols 64 64 (by omega) (P r)) (cs r) (sn r) j := by
  unfold k0_pay15
  pointwise
  refine (lane64 (fun l => a (ix2 r ⟨l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (64 + i.val) (64 + i.val); unfold permR; omega)

theorem pay16_0 (r : Fin 128) (l : Fin 128) (j : Fin 64) (hl : l.val = 0 + j.val) :
    k0_pay16 (F := Ideal) a c s t (ix2 r l) = rot64 (cols 64 128 (by omega) (P r)) (cs r) (sn r) j := by
  unfold k0_pay16
  pointwise
  refine (lane64 (fun l => a (ix2 r ⟨128 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (128 + (0 + i.val)) (128 + i.val); unfold permR; omega)

theorem pay16_1 (r : Fin 128) (l : Fin 128) (j : Fin 64) (hl : l.val = 64 + j.val) :
    k0_pay16 (F := Ideal) a c s t (ix2 r l) = rot64 (cols 64 192 (by omega) (P r)) (cs r) (sn r) j := by
  unfold k0_pay16
  pointwise
  refine (lane64 (fun l => a (ix2 r ⟨128 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (128 + (64 + i.val)) (192 + i.val); unfold permR; omega)

theorem pay17_0 (r : Fin 128) (l : Fin 128) (j : Fin 64) (hl : l.val = 0 + j.val) :
    k0_pay17 (F := Ideal) a c s t (ix2 r l) = rot64 (cols 64 256 (by omega) (P r)) (cs r) (sn r) j := by
  unfold k0_pay17
  pointwise
  refine (lane64 (fun l => a (ix2 r ⟨256 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (256 + (0 + i.val)) (256 + i.val); unfold permR; omega)

theorem pay17_1 (r : Fin 128) (l : Fin 128) (j : Fin 64) (hl : l.val = 64 + j.val) :
    k0_pay17 (F := Ideal) a c s t (ix2 r l) = rot64 (cols 64 320 (by omega) (P r)) (cs r) (sn r) j := by
  unfold k0_pay17
  pointwise
  refine (lane64 (fun l => a (ix2 r ⟨256 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (256 + (64 + i.val)) (320 + i.val); unfold permR; omega)

theorem pay18_0 (r : Fin 128) (l : Fin 128) (j : Fin 64) (hl : l.val = 0 + j.val) :
    k0_pay18 (F := Ideal) a c s t (ix2 r l) = rot64 (cols 64 384 (by omega) (P r)) (cs r) (sn r) j := by
  unfold k0_pay18
  pointwise
  refine (lane64 (fun l => a (ix2 r ⟨384 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (384 + (0 + i.val)) (384 + i.val); unfold permR; omega)

theorem pay18_1 (r : Fin 128) (l : Fin 128) (j : Fin 64) (hl : l.val = 64 + j.val) :
    k0_pay18 (F := Ideal) a c s t (ix2 r l) = rot64 (cols 64 448 (by omega) (P r)) (cs r) (sn r) j := by
  unfold k0_pay18
  pointwise
  refine (lane64 (fun l => a (ix2 r ⟨384 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (384 + (64 + i.val)) (448 + i.val); unfold permR; omega)

theorem pay19_0 (r : Fin 128) (l : Fin 128) (j : Fin 64) (hl : l.val = 0 + j.val) :
    k0_pay19 (F := Ideal) a c s t (ix2 r l) = rot64 (cols 64 640 (by omega) (P r)) (cs r) (sn r) j := by
  unfold k0_pay19
  pointwise
  refine (lane64 (fun l => a (ix2 r ⟨512 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (512 + (0 + i.val)) (640 + i.val); unfold permR; omega)

theorem pay19_1 (r : Fin 128) (l : Fin 128) (j : Fin 64) (hl : l.val = 64 + j.val) :
    k0_pay19 (F := Ideal) a c s t (ix2 r l) = rot64 (cols 64 704 (by omega) (P r)) (cs r) (sn r) j := by
  unfold k0_pay19
  pointwise
  refine (lane64 (fun l => a (ix2 r ⟨512 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (512 + (64 + i.val)) (704 + i.val); unfold permR; omega)

theorem pay20_0 (r : Fin 128) (l : Fin 128) (j : Fin 64) (hl : l.val = 0 + j.val) :
    k0_pay20 (F := Ideal) a c s t (ix2 r l) = rot64 (cols 64 768 (by omega) (P r)) (cs r) (sn r) j := by
  unfold k0_pay20
  pointwise
  refine (lane64 (fun l => a (ix2 r ⟨640 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (640 + (0 + i.val)) (768 + i.val); unfold permR; omega)

theorem pay20_1 (r : Fin 128) (l : Fin 128) (j : Fin 64) (hl : l.val = 64 + j.val) :
    k0_pay20 (F := Ideal) a c s t (ix2 r l) = rot64 (cols 64 832 (by omega) (P r)) (cs r) (sn r) j := by
  unfold k0_pay20
  pointwise
  refine (lane64 (fun l => a (ix2 r ⟨640 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (640 + (64 + i.val)) (832 + i.val); unfold permR; omega)

theorem pay21_0 (r : Fin 128) (l : Fin 128) (j : Fin 64) (hl : l.val = 0 + j.val) :
    k0_pay21 (F := Ideal) a c s t (ix2 r l) = rot64 (cols 64 896 (by omega) (P r)) (cs r) (sn r) j := by
  unfold k0_pay21
  pointwise
  refine (lane64 (fun l => a (ix2 r ⟨768 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (768 + (0 + i.val)) (896 + i.val); unfold permR; omega)

theorem pay21_1 (r : Fin 128) (l : Fin 128) (j : Fin 64) (hl : l.val = 64 + j.val) :
    k0_pay21 (F := Ideal) a c s t (ix2 r l) = rot64 (cols 64 960 (by omega) (P r)) (cs r) (sn r) j := by
  unfold k0_pay21
  pointwise
  refine (lane64 (fun l => a (ix2 r ⟨768 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (768 + (64 + i.val)) (960 + i.val); unfold permR; omega)

theorem pay22_0 (r : Fin 128) (l : Fin 128) (j : Fin 64) (hl : l.val = 0 + j.val) :
    k0_pay22 (F := Ideal) a c s t (ix2 r l) = rot64 (cols 64 1024 (by omega) (P r)) (cs r) (sn r) j := by
  unfold k0_pay22
  pointwise
  refine (lane64 (fun l => a (ix2 r ⟨896 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (896 + (0 + i.val)) (1024 + i.val); unfold permR; omega)

theorem pay22_1 (r : Fin 128) (l : Fin 128) (j : Fin 64) (hl : l.val = 64 + j.val) :
    k0_pay22 (F := Ideal) a c s t (ix2 r l) = rot64 (cols 64 1088 (by omega) (P r)) (cs r) (sn r) j := by
  unfold k0_pay22
  pointwise
  refine (lane64 (fun l => a (ix2 r ⟨896 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (896 + (64 + i.val)) (1088 + i.val); unfold permR; omega)

theorem pay23_0 (r : Fin 128) (l : Fin 128) (j : Fin 64) (hl : l.val = 0 + j.val) :
    k0_pay23 (F := Ideal) a c s t (ix2 r l) = rot64 (cols 64 1224 (by omega) (P r)) (cs r) (sn r) j := by
  unfold k0_pay23
  pointwise
  refine (lane64 (fun l => a (ix2 r ⟨1024 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1024 + (0 + i.val)) (1224 + i.val); unfold permR; omega)

theorem pay23_1 (r : Fin 128) (l : Fin 128) (j : Fin 64) (hl : l.val = 64 + j.val) :
    k0_pay23 (F := Ideal) a c s t (ix2 r l) = rot64 (cols 64 1288 (by omega) (P r)) (cs r) (sn r) j := by
  unfold k0_pay23
  pointwise
  refine (lane64 (fun l => a (ix2 r ⟨1024 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1024 + (64 + i.val)) (1288 + i.val); unfold permR; omega)

theorem pay24_0 (r : Fin 128) (l : Fin 128) (j : Fin 64) (hl : l.val = 0 + j.val) :
    k0_pay24 (F := Ideal) a c s t (ix2 r l) = rot64 (cols 64 1352 (by omega) (P r)) (cs r) (sn r) j := by
  unfold k0_pay24
  pointwise
  refine (lane64 (fun l => a (ix2 r ⟨1152 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1152 + (0 + i.val)) (1352 + i.val); unfold permR; omega)

theorem pay24_1 (r : Fin 128) (l : Fin 128) (j : Fin 64) (hl : l.val = 64 + j.val) :
    k0_pay24 (F := Ideal) a c s t (ix2 r l) = rot64 (cols 64 1416 (by omega) (P r)) (cs r) (sn r) j := by
  unfold k0_pay24
  pointwise
  refine (lane64 (fun l => a (ix2 r ⟨1152 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1152 + (64 + i.val)) (1416 + i.val); unfold permR; omega)

theorem pay25_0 (r : Fin 128) (l : Fin 128) (j : Fin 64) (hl : l.val = 0 + j.val) :
    k0_pay25 (F := Ideal) a c s t (ix2 r l) = rot64 (cols 64 1480 (by omega) (P r)) (cs r) (sn r) j := by
  unfold k0_pay25
  pointwise
  refine (lane64 (fun l => a (ix2 r ⟨1280 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1280 + (0 + i.val)) (1480 + i.val); unfold permR; omega)

theorem pay25_1 (r : Fin 128) (l : Fin 128) (j : Fin 64) (hl : l.val = 64 + j.val) :
    k0_pay25 (F := Ideal) a c s t (ix2 r l) = rot64 (cols 64 1544 (by omega) (P r)) (cs r) (sn r) j := by
  unfold k0_pay25
  pointwise
  refine (lane64 (fun l => a (ix2 r ⟨1280 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1280 + (64 + i.val)) (1544 + i.val); unfold permR; omega)

theorem pay26_0 (r : Fin 128) (l : Fin 128) (j : Fin 64) (hl : l.val = 0 + j.val) :
    k0_pay26 (F := Ideal) a c s t (ix2 r l) = rot64 (cols 64 1608 (by omega) (P r)) (cs r) (sn r) j := by
  unfold k0_pay26
  pointwise
  refine (lane64 (fun l => a (ix2 r ⟨1408 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1408 + (0 + i.val)) (1608 + i.val); unfold permR; omega)

theorem pay26_1 (r : Fin 128) (l : Fin 128) (j : Fin 64) (hl : l.val = 64 + j.val) :
    k0_pay26 (F := Ideal) a c s t (ix2 r l) = rot64 (cols 64 1672 (by omega) (P r)) (cs r) (sn r) j := by
  unfold k0_pay26
  pointwise
  refine (lane64 (fun l => a (ix2 r ⟨1408 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1408 + (64 + i.val)) (1672 + i.val); unfold permR; omega)

theorem pay27_0 (r : Fin 128) (l : Fin 128) (j : Fin 64) (hl : l.val = 0 + j.val) :
    k0_pay27 (F := Ideal) a c s t (ix2 r l) = rot64 (cols 64 512 (by omega) (P r)) (cs r) (sn r) j := by
  unfold k0_pay27
  pointwise
  refine (lane64 (fun l => a (ix2 r ⟨1536 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1536 + (0 + i.val)) (512 + i.val); unfold permR; omega)

theorem pay27_1 (r : Fin 128) (l : Fin 128) (j : Fin 64) (hl : l.val = 64 + j.val) :
    k0_pay27 (F := Ideal) a c s t (ix2 r l) = rot64 (cols 64 1152 (by omega) (P r)) (cs r) (sn r) j := by
  unfold k0_pay27
  pointwise
  refine (lane64 (fun l => a (ix2 r ⟨1536 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1536 + (64 + i.val)) (1152 + i.val); unfold permR; omega)

theorem pay28_0 (r : Fin 128) (l : Fin 128) (j : Fin 64) (hl : l.val = 0 + j.val) :
    k0_pay28 (F := Ideal) a c s t (ix2 r l) = rot64 (cols 64 1736 (by omega) (P r)) (cs r) (sn r) j := by
  unfold k0_pay28
  pointwise
  refine (lane64 (fun l => a (ix2 r ⟨1664 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1664 + (0 + i.val)) (1736 + i.val); unfold permR; omega)

theorem pay28_1 (r : Fin 128) (l : Fin 128) (j : Fin 64) (hl : l.val = 64 + j.val) :
    k0_pay28 (F := Ideal) a c s t (ix2 r l) = rot64 (cols 64 1864 (by omega) (P r)) (cs r) (sn r) j := by
  unfold k0_pay28
  pointwise
  refine (lane64 (fun l => a (ix2 r ⟨1664 + l.val, by omega⟩)) (fun l => c (ix2 r l)) (fun l => s (ix2 r l)) (fun l => t (ix2 r l)) (cs r) (sn r)
    64 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1664 + (64 + i.val)) (1864 + i.val); unfold permR; omega)

theorem pay29_0 (r : Fin 128) (l : Fin 128) (j : Fin 64) (hl : l.val = 0 + j.val) :
    k0_pay29 (F := Ideal) a c s t (ix2 r l) = rot64 (cols 64 1992 (by omega) (P r)) (cs r) (sn r) j := by
  unfold k0_pay29
  pointwise
  refine (lane64 (fun l => a (ix2 r ⟨1792 + l.val, by omega⟩)) (fun l => c (ix2 r l)) (fun l => s (ix2 r l)) (fun l => t (ix2 r l)) (cs r) (sn r)
    0 (by omega) (T.hc r) (T.hs r) (T.ht r) j l ⟨(l.val + 128 - 96) % 128, by omega⟩ ⟨(l.val + 128 - 32) % 128, by omega⟩ hl
    (by show (l.val + 128 - 96) % 128 = _; omega) (by show (l.val + 128 - 32) % 128 = _; omega)).trans ?_
  congr 1
  funext i
  exact hA r _ _ (by show permR (1792 + (0 + i.val)) (1992 + i.val); unfold permR; omega)

omit hA T
include hB

/-- The normalised latent. -/
theorem pay75_apply (g : Vec Ideal S1x128 .f32) (r : Fin 128) (d : Fin 128) :
    k0_pay75 (F := Ideal) b g (ix2 r d) = nrm (Ideal.ofBits .f32 0x43000000#32) (cols 128 2400 (by omega) (P r)) (fun i => g (ix2 (0 : Fin 1) i)) d := by
  have h : ∀ j : Fin 128, b (ix2 r ⟨256 + j.val, by omega⟩) = cols 128 2400 (by omega) (P r) j := fun j =>
    hB r _ _ (by unfold permP; simp only []; omega)
  unfold k0_pay75
  pointwise
  simp only [h]
  rfl

/-- The index heads' weights. -/
theorem pay80_apply (r : Fin 128) (d : Fin 8) : k0_pay80 (F := Ideal) (k0_pay76 b) (ix2 r d) = idxwRow (P r) d := by
  pointwise [k0_pay80, k0_pay76]
  refine congrArg (fun z => z * _) (hB r _ _ ?_)
  unfold permP; simp only []; omega

/-- The gates. -/
theorem pay81_apply (r : Fin 128) (d : Fin 24) : k0_pay81 (F := Ideal) (k0_pay76 b) (ix2 r d) = gateRow (P r) d := by
  pointwise [k0_pay81, k0_pay76]
  refine congrArg Ideal.logistic (hB r _ _ ?_)
  unfold permP; simp only []; omega

/-- The queries' latent through its matrix. -/
theorem pay82_apply (g : Vec Ideal S1x256 .f32) (w : Vec Ideal S256x768 .bf16) (W : Fin 256 → Fin 768 → EReal)
    (hw : ∀ i k c, permQ k.val c.val → w (ix2 i k) = W i c) (r : Fin 128) (k c : Fin 768) (hk : permQ k.val c.val) :
    k0_pay82 (F := Ideal) b g w (ix2 r k) = qRow (P r) (fun i => g (ix2 (0 : Fin 1) i)) W c := by
  have h : ∀ j : Fin 256, b (ix2 r ⟨384 + j.val, by omega⟩) = cols 256 2144 (by omega) (P r) j := fun j =>
    hB r _ _ (by unfold permP; simp only []; omega)
  have h' := fun i => hw i k c hk
  unfold k0_pay82
  pointwise
  simp only [h, h']
  rfl

include T'

/-- The rotated shared key. -/
theorem pay77_apply (r : Fin 128) (j : Fin 32) :
    k0_pay77 (F := Ideal) b c s t (ix2 r j) = rot32 (cols 32 2528 (by omega) (P r)) (ct r) (st r) j := by
  pointwise [k0_pay77, k0_pay76]
  refine (lane32 (fun l => b (ix2 r ⟨640 + l.val, by omega⟩)) (fun l => c (ix2 r l)) (fun l => s (ix2 r l)) (fun l => t (ix2 r l)) (ct r) (st r)
    0 (by omega) (T'.hc r) (T'.hs r) (T'.ht r) j ⟨j.val, by omega⟩ ⟨(j.val + 128 - 112) % 128, by omega⟩ ⟨(j.val + 128 - 16) % 128, by omega⟩
    (by show j.val = _; omega)
    (by show (j.val + 128 - 112) % 128 = _; omega) (by show (j.val + 128 - 16) % 128 = _; omega)).trans ?_
  congr 1
  funext i
  exact hB r _ _ (by unfold permP; simp only []; omega)

omit hB
variable {q : FVec Ideal S128x768 .f32} {Q : Fin 128 → Fin 768 → EReal} (hQ : ∀ r k c, permQ k.val c.val → q (ix2 r k) = Q r c)
include hQ

theorem pay86_0 (r : Fin 128) (l : Fin 128) (j : Fin 32) (hl : l.val = 0 + j.val) :
    k0_pay86 (F := Ideal) c s t q (ix2 r l) = rot32 (fun e => Q r ⟨0 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    0 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_1 (r : Fin 128) (l : Fin 128) (j : Fin 32) (hl : l.val = 32 + j.val) :
    k0_pay86 (F := Ideal) c s t q (ix2 r l) = rot32 (fun e => Q r ⟨1 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    32 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_2 (r : Fin 128) (l : Fin 128) (j : Fin 32) (hl : l.val = 64 + j.val) :
    k0_pay86 (F := Ideal) c s t q (ix2 r l) = rot32 (fun e => Q r ⟨2 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    64 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay86_3 (r : Fin 128) (l : Fin 128) (j : Fin 32) (hl : l.val = 96 + j.val) :
    k0_pay86 (F := Ideal) c s t q (ix2 r l) = rot32 (fun e => Q r ⟨3 * 96 + 64 + e.val, by omega⟩) (ct r) (st r) j := by
  unfold k0_pay86
  pointwise
  refine (lane32 (fun l => q (ix2 r ⟨512 + l.val, by omega⟩)) (fun l => c (ix2 r l)) (fun l => s (ix2 r l)) (fun l => t (ix2 r l)) (ct r) (st r)
    96 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_0 (r : Fin 128) (l : Fin 128) (j : Fin 32) (hl : l.val = 0 + j.val) :
    k0_pay87 (F := Ideal) c s t q (ix2 r l) = rot32 (fun e => Q r ⟨4 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    0 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_1 (r : Fin 128) (l : Fin 128) (j : Fin 32) (hl : l.val = 32 + j.val) :
    k0_pay87 (F := Ideal) c s t q (ix2 r l) = rot32 (fun e => Q r ⟨5 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    32 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_2 (r : Fin 128) (l : Fin 128) (j : Fin 32) (hl : l.val = 64 + j.val) :
    k0_pay87 (F := Ideal) c s t q (ix2 r l) = rot32 (fun e => Q r ⟨6 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    64 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

theorem pay87_3 (r : Fin 128) (l : Fin 128) (j : Fin 32) (hl : l.val = 96 + j.val) :
    k0_pay87 (F := Ideal) c s t q (ix2 r l) = rot32 (fun e => Q r ⟨7 * 96 + 64 + e.val, by omega⟩) (ct r) (st r) j := by
  unfold k0_pay87
  pointwise
  refine (lane32 (fun l => q (ix2 r ⟨640 + l.val, by omega⟩)) (fun l => c (ix2 r l)) (fun l => s (ix2 r l)) (fun l => t (ix2 r l)) (ct r) (st r)
    96 (by omega) (T'.hc r) (T'.hs r) (T'.ht r) j l ⟨(l.val + 128 - 112) % 128, by omega⟩ ⟨(l.val + 128 - 16) % 128, by omega⟩ hl
    (by show (l.val + 128 - 112) % 128 = _; omega) (by show (l.val + 128 - 16) % 128 = _; omega)).trans ?_
  congr 1
  funext i
  exact hQ r _ _ (by unfold permQ; simp only []; omega)

omit T'

/-- The block-diagonal product picks one head's matrix. -/
theorem pay85_apply (z : FVec Ideal S128x512 .bf16) (w : FVec Ideal S512x1024 .bf16) (W : Fin 128 → Fin 8 → Fin 64 → EReal)
    (hz : ∀ r (k : Fin 512), z (ix2 r k) = q (ix2 r ⟨k.val, by omega⟩))
    (hw : ∀ (k : Fin 512) (l : Fin 1024), w (ix2 k l)
      = (if k.val / 64 = l.val / 128 then 1 else 0) * W ⟨l.val % 128, by omega⟩ ⟨l.val / 128, by omega⟩ ⟨k.val % 64, by omega⟩)
    (r : Fin 128) (h : Fin 8) (d : Fin 128) (l : Fin 1024) (hl : l.val = h.val * 128 + d.val) :
    k0_pay85 (F := Ideal) z w (constant S128x1024 .f32 0x00000000#32) (ix2 r l) = ∑ e : Fin 64, Q r ⟨h.val * 96 + e.val, by omega⟩ * W d h e := by
  unfold k0_pay85
  pointwise
  simp only [hz, hw]
  have e1 : l.val / 128 = h.val := by omega
  have e2 : (⟨l.val % 128, by omega⟩ : Fin 128) = d := Fin.ext (by show l.val % 128 = _; omega)
  have e3 : (⟨l.val / 128, by omega⟩ : Fin 8) = h := Fin.ext (by show l.val / 128 = _; omega)
  simp only [e1, e2, e3]
  rw [← (finProdFinEquiv (m := 8) (n := 64)).sum_comp (fun k : Fin 512 => _)]
  rw [Fintype.sum_prod_type]
  rw [Finset.sum_eq_single h]
  · refine Finset.sum_congr rfl fun e _ => ?_
    have v : ((finProdFinEquiv (m := 8) (n := 64)) (h, e)).val = e.val + 64 * h.val := rfl
    have f1 : ((finProdFinEquiv (m := 8) (n := 64)) (h, e)).val / 64 = h.val := by rw [v]; omega
    have f2 : (⟨((finProdFinEquiv (m := 8) (n := 64)) (h, e)).val % 64, by omega⟩ : Fin 64) = e := Fin.ext (by show _ % 64 = _; rw [v]; omega)
    rw [if_pos f1, one_mul, f2]
    refine congrArg (fun z => z * _) (hQ r _ _ ?_)
    unfold permQ
    simp only [v]
    omega
  · intro h' _ hne
    refine Finset.sum_eq_zero fun e _ => ?_
    have v : ((finProdFinEquiv (m := 8) (n := 64)) (h', e)).val = e.val + 64 * h'.val := rfl
    have f1 : ¬ ((finProdFinEquiv (m := 8) (n := 64)) (h', e)).val / 64 = h.val := by
      rw [v]; intro hh; exact hne (Fin.ext (by omega))
    rw [if_neg f1, zero_mul, mul_zero]
  · intro hh; exact absurd (Finset.mem_univ _) hh

end

end Cert.ProjS
-- ==== Proof.ProjSOut.lean ====
module

public import proofs.«01_k».proof.Proof.Gen.Kernel6Ideal.Value
public import Idealize.ShloMosaic.Lib.Pipeline.ValueKit
public import proofs.«01_k».proof.Proof.ProjSPay

@[expose] public section

set_option maxRecDepth 16384

noncomputable section

/-! # What one point of the sample projection kernel leaves in its ten staging buffers -/

namespace Cert.ProjS

open Cert.Kernel6Ideal Cert.Kernel6Ideal.Gen Idealize.ShloMosaic Idealize.ShloMosaic.TcCoe Idealize.SL.Sem Cert.Proj

theorem idx2 {n m : ℕ} (x : (⟨2, ![n, m]⟩ : Shape).Idx) (r : Fin n) (h : r.val = (x 0).val) : ∃ j : Fin m, x = ix2 r j := by
  refine ⟨x 1, ?_⟩
  funext a
  match a with
  | ⟨0, _⟩ => exact (Fin.ext h).symm
  | ⟨1, _⟩ => rfl

theorem idx3 {n m : ℕ} (x : (⟨3, ![1, n, m]⟩ : Shape).Idx) (r : Fin n) (h : r.val = (x 1).val) : ∃ j : Fin m, x = ix3 (0 : Fin 1) r j := by
  refine ⟨x 2, ?_⟩
  funext a
  match a with
  | ⟨0, _⟩ => exact Fin.ext (by have := (x 0).isLt; change (x 0).val < 1 at this; show (x 0).val = 0; omega)
  | ⟨1, _⟩ => exact (Fin.ext h).symm
  | ⟨2, _⟩ => rfl

theorem idx4 {n m : ℕ} (x : (⟨4, ![1, 1, n, m]⟩ : Shape).Idx) (r : Fin n) (h : r.val = (x 2).val) :
    ∃ j : Fin m, x = ix4 (0 : Fin 1) (0 : Fin 1) r j := by
  refine ⟨x 3, ?_⟩
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => exact (Fin.ext h).symm
  | ⟨3, _⟩ => rfl

/-! The rows at the columns where their parts begin. -/

section rows
variable (p : Fin 5632 → EReal) (cs sn : Fin 32 → EReal) (ct st : Fin 16 → EReal)

theorem kv_k (k v : Fin 64 → EReal) (j : Fin 64) (d : Fin 128) (h : d.val = j.val) : kv k v cs sn d = rot64 k cs sn j := by
  unfold kv
  rw [dif_pos (by omega)]
  exact congrArg _ (Fin.ext h)

theorem kv_v (k v : Fin 64 → EReal) (j : Fin 64) (d : Fin 128) (h : d.val = 64 + j.val) : kv k v cs sn d = v j := by
  unfold kv
  rw [dif_neg (by omega)]
  exact congrArg _ (Fin.ext (by show d.val - 64 = j.val; omega))

theorem q3Row_0 (b : Fin 3) (h : Fin 8) (j : Fin 64) (o : ℕ) (ho : o + 64 ≤ 5632) (hb : b.val = 0) (hh : o = h.val * 64) :
    q3Row p cs sn b h j = rot64 (cols 64 o ho p) cs sn j * Ideal.ofBits .f32 0x3E000000#32 := by
  unfold q3Row
  rw [if_pos hb]
  obtain rfl : o = 0 + h.val * 64 := by omega
  rfl

theorem q3Row_1 (b : Fin 3) (h : Fin 8) (j : Fin 64) (o : ℕ) (ho : o + 64 ≤ 5632) (hb : b.val = 1) (hh : o = 640 + h.val * 64) :
    q3Row p cs sn b h j = rot64 (cols 64 o ho p) cs sn j := by
  unfold q3Row
  rw [if_neg (by omega), if_pos hb]
  subst hh
  rfl

theorem q3Row_2 (b : Fin 3) (h : Fin 8) (j : Fin 64) (o : ℕ) (ho : o + 64 ≤ 5632) (hb : b.val = 2) (hh : o = 1224 + h.val * 64) :
    q3Row p cs sn b h j = rot64 (cols 64 o ho p) cs sn j * Ideal.ofBits .f32 0x3E000000#32 := by
  unfold q3Row
  rw [if_neg (by omega), if_neg (by omega)]
  subst hh
  rfl

theorem qcatRow_c (q : Fin 768 → EReal) (U : Fin 128 → Fin 8 → Fin 64 → EReal) (h : Fin 8) (j : Fin 128) (d : Fin 160) (hd : d.val = j.val) :
    qcatRow q ct st U h d = ∑ e : Fin 64, q ⟨h.val * 96 + e.val, by omega⟩ * U j h e := by
  unfold qcatRow
  rw [dif_pos (by omega)]
  have e : (⟨d.val, by omega⟩ : Fin 128) = j := Fin.ext hd
  rw [e]

theorem qcatRow_r (q : Fin 768 → EReal) (U : Fin 128 → Fin 8 → Fin 64 → EReal) (h : Fin 8) (j : Fin 32) (d : Fin 160) (hd : d.val = 128 + j.val)
    (k : Fin 8) (hk : h.val = k.val) :
    qcatRow q ct st U h d = rot32 (fun e => q ⟨k.val * 96 + 64 + e.val, by omega⟩) ct st j := by
  obtain rfl : h = k := Fin.ext hk
  unfold qcatRow
  rw [dif_neg (by omega)]
  exact congrArg _ (Fin.ext (by show d.val - 128 = j.val; omega))

theorem mlaRow_c (g : Fin 128 → EReal) (j : Fin 128) (d : Fin 160) (h : d.val = j.val) :
    mlaRow p g ct st d = nrm (Ideal.ofBits .f32 0x43000000#32) (cols 128 2400 (by omega) p) g j := by
  unfold mlaRow
  rw [dif_pos (by omega)]
  exact congrArg _ (Fin.ext h)

theorem mlaRow_r (g : Fin 128 → EReal) (j : Fin 32) (d : Fin 160) (h : d.val = 128 + j.val) :
    mlaRow p g ct st d = rot32 (cols 32 2528 (by omega) p) ct st j := by
  unfold mlaRow
  rw [dif_neg (by omega)]
  exact congrArg _ (Fin.ext (by show d.val - 128 = j.val; omega))

theorem dsaRow_i (j : Fin 64) (d : Fin 192) (h : d.val = 128 + j.val) : dsaRow p cs sn d = rot64 (cols 64 1152 (by omega) p) cs sn j := by
  unfold dsaRow
  rw [dif_neg (by omega)]
  exact congrArg _ (Fin.ext (by show d.val - 128 = j.val; omega))

theorem dsaRow_kv (d : Fin 192) (h : d.val < 128) :
    dsaRow p cs sn d = kv (cols 64 512 (by omega) p) (cols 64 576 (by omega) p) cs sn ⟨d.val, h⟩ := by
  unfold dsaRow
  rw [dif_pos h]

theorem nsaRow_lo (d : Fin 256) (h : d.val < 128) :
    nsaRow p cs sn d = kv (cols 64 1736 (by omega) p) (cols 64 1800 (by omega) p) cs sn ⟨d.val, h⟩ := by
  unfold nsaRow
  rw [dif_pos h]

theorem nsaRow_hi (d : Fin 256) (h : ¬ d.val < 128) :
    nsaRow p cs sn d = kv (cols 64 1864 (by omega) p) (cols 64 1928 (by omega) p) cs sn ⟨d.val - 128, by omega⟩ := by
  unfold nsaRow
  rw [dif_neg h]

end rows

/-- The matrix holds the heads' key matrices `U` on its diagonal, and zeros off it. -/
def Diag (w : FVec Ideal S512x1024 .bf16) (U : Fin 128 → Fin 8 → Fin 64 → EReal) : Prop :=
  ∀ (k : Fin 512) (l : Fin 1024), w (ix2 k l)
    = (if k.val / 64 = l.val / 128 then 1 else 0) * U ⟨l.val % 128, by omega⟩ ⟨l.val / 128, by omega⟩ ⟨k.val % 64, by omega⟩

/-! The stored pieces, each a group of columns of what was computed. -/

section pieces
variable {a : FVec Ideal S128x1920 .f32} {b : FVec Ideal S128x768 .f32} {P : Fin 128 → Fin 5632 → EReal} {c s t : FVec Ideal S128x128 .f32}
  {cs sn : Fin 128 → Fin 32 → EReal} {ct st : Fin 128 → Fin 16 → EReal}
  (hA : ∀ r k c, permR k.val c.val → a (ix2 r k) = P r c) (hB : ∀ r k c, permP k.val c.val → b (ix2 r k) = P r c)
  (T : Tab64 c s t cs sn) (T' : Tab32 c s t ct st)

section
include hA T

theorem st30 (r : Fin 128) (j : Fin 64) :
    k0_pay30 (F := Ideal) (k0_pay15 a c s t) (ix4 (0 : Fin 1) (0 : Fin 1) r j) = rot64 (cols 64 0 (by omega) (P r)) (cs r) (sn r) j * Ideal.ofBits .f32 0x3E000000#32 := by
  rw [← pay15_0 hA T r ⟨j.val, by omega⟩ j (by show j.val = _; omega)]
  unfold k0_pay30
  pointwise
  try rfl

theorem st31 (r : Fin 128) (j : Fin 64) :
    k0_pay31 (F := Ideal) (k0_pay15 a c s t) (ix4 (0 : Fin 1) (0 : Fin 1) r j) = rot64 (cols 64 64 (by omega) (P r)) (cs r) (sn r) j * Ideal.ofBits .f32 0x3E000000#32 := by
  rw [← pay15_1 hA T r ⟨64 + j.val, by omega⟩ j (by show 64 + j.val = _; omega)]
  unfold k0_pay31
  pointwise
  try rfl

theorem st33 (r : Fin 128) (j : Fin 64) :
    k0_pay33 (F := Ideal) (k0_pay32 (k0_pay16 a c s t)) (ix4 (0 : Fin 1) (0 : Fin 1) r j) = rot64 (cols 64 128 (by omega) (P r)) (cs r) (sn r) j * Ideal.ofBits .f32 0x3E000000#32 := by
  rw [← pay16_0 hA T r ⟨j.val, by omega⟩ j (by show j.val = _; omega)]
  unfold k0_pay32 k0_pay33
  pointwise
  try rfl

theorem st34 (r : Fin 128) (j : Fin 64) :
    k0_pay34 (F := Ideal) (k0_pay16 a c s t) (ix4 (0 : Fin 1) (0 : Fin 1) r j) = rot64 (cols 64 192 (by omega) (P r)) (cs r) (sn r) j * Ideal.ofBits .f32 0x3E000000#32 := by
  rw [← pay16_1 hA T r ⟨64 + j.val, by omega⟩ j (by show 64 + j.val = _; omega)]
  unfold k0_pay34
  pointwise
  try rfl

theorem st35 (r : Fin 128) (j : Fin 64) :
    k0_pay35 (F := Ideal) (k0_pay17 a c s t) (ix4 (0 : Fin 1) (0 : Fin 1) r j) = rot64 (cols 64 256 (by omega) (P r)) (cs r) (sn r) j * Ideal.ofBits .f32 0x3E000000#32 := by
  rw [← pay17_0 hA T r ⟨j.val, by omega⟩ j (by show j.val = _; omega)]
  unfold k0_pay35
  pointwise
  try rfl

theorem st36 (r : Fin 128) (j : Fin 64) :
    k0_pay36 (F := Ideal) (k0_pay17 a c s t) (ix4 (0 : Fin 1) (0 : Fin 1) r j) = rot64 (cols 64 320 (by omega) (P r)) (cs r) (sn r) j * Ideal.ofBits .f32 0x3E000000#32 := by
  rw [← pay17_1 hA T r ⟨64 + j.val, by omega⟩ j (by show 64 + j.val = _; omega)]
  unfold k0_pay36
  pointwise
  try rfl

theorem st37 (r : Fin 128) (j : Fin 64) :
    k0_pay37 (F := Ideal) (k0_pay18 a c s t) (ix4 (0 : Fin 1) (0 : Fin 1) r j) = rot64 (cols 64 384 (by omega) (P r)) (cs r) (sn r) j * Ideal.ofBits .f32 0x3E000000#32 := by
  rw [← pay18_0 hA T r ⟨j.val, by omega⟩ j (by show j.val = _; omega)]
  unfold k0_pay37
  pointwise
  try rfl

theorem st38 (r : Fin 128) (j : Fin 64) :
    k0_pay38 (F := Ideal) (k0_pay18 a c s t) (ix4 (0 : Fin 1) (0 : Fin 1) r j) = rot64 (cols 64 448 (by omega) (P r)) (cs r) (sn r) j * Ideal.ofBits .f32 0x3E000000#32 := by
  rw [← pay18_1 hA T r ⟨64 + j.val, by omega⟩ j (by show 64 + j.val = _; omega)]
  unfold k0_pay38
  pointwise
  try rfl

theorem st39 (r : Fin 128) (j : Fin 64) :
    k0_pay39 (F := Ideal) (k0_pay19 a c s t) (ix4 (0 : Fin 1) (0 : Fin 1) r j) = rot64 (cols 64 640 (by omega) (P r)) (cs r) (sn r) j := by
  rw [← pay19_0 hA T r ⟨j.val, by omega⟩ j (by show j.val = _; omega)]
  unfold k0_pay39
  pointwise
  try exact mul_one _

theorem st40 (r : Fin 128) (j : Fin 64) :
    k0_pay40 (F := Ideal) (k0_pay19 a c s t) (ix4 (0 : Fin 1) (0 : Fin 1) r j) = rot64 (cols 64 704 (by omega) (P r)) (cs r) (sn r) j := by
  rw [← pay19_1 hA T r ⟨64 + j.val, by omega⟩ j (by show 64 + j.val = _; omega)]
  unfold k0_pay40
  pointwise
  try exact mul_one _

theorem st41 (r : Fin 128) (j : Fin 64) :
    k0_pay41 (F := Ideal) (k0_pay20 a c s t) (ix4 (0 : Fin 1) (0 : Fin 1) r j) = rot64 (cols 64 768 (by omega) (P r)) (cs r) (sn r) j := by
  rw [← pay20_0 hA T r ⟨j.val, by omega⟩ j (by show j.val = _; omega)]
  unfold k0_pay41
  pointwise
  try exact mul_one _

theorem st43 (r : Fin 128) (j : Fin 64) :
    k0_pay43 (F := Ideal) (k0_pay42 (k0_pay20 a c s t)) (ix4 (0 : Fin 1) (0 : Fin 1) r j) = rot64 (cols 64 832 (by omega) (P r)) (cs r) (sn r) j := by
  rw [← pay20_1 hA T r ⟨64 + j.val, by omega⟩ j (by show 64 + j.val = _; omega)]
  unfold k0_pay42 k0_pay43
  pointwise
  try exact mul_one _

theorem st44 (r : Fin 128) (j : Fin 64) :
    k0_pay44 (F := Ideal) (k0_pay21 a c s t) (ix4 (0 : Fin 1) (0 : Fin 1) r j) = rot64 (cols 64 896 (by omega) (P r)) (cs r) (sn r) j := by
  rw [← pay21_0 hA T r ⟨j.val, by omega⟩ j (by show j.val = _; omega)]
  unfold k0_pay44
  pointwise
  try exact mul_one _

theorem st45 (r : Fin 128) (j : Fin 64) :
    k0_pay45 (F := Ideal) (k0_pay21 a c s t) (ix4 (0 : Fin 1) (0 : Fin 1) r j) = rot64 (cols 64 960 (by omega) (P r)) (cs r) (sn r) j := by
  rw [← pay21_1 hA T r ⟨64 + j.val, by omega⟩ j (by show 64 + j.val = _; omega)]
  unfold k0_pay45
  pointwise
  try exact mul_one _

theorem st46 (r : Fin 128) (j : Fin 64) :
    k0_pay46 (F := Ideal) (k0_pay22 a c s t) (ix4 (0 : Fin 1) (0 : Fin 1) r j) = rot64 (cols 64 1024 (by omega) (P r)) (cs r) (sn r) j := by
  rw [← pay22_0 hA T r ⟨j.val, by omega⟩ j (by show j.val = _; omega)]
  unfold k0_pay46
  pointwise
  try exact mul_one _

theorem st47 (r : Fin 128) (j : Fin 64) :
    k0_pay47 (F := Ideal) (k0_pay22 a c s t) (ix4 (0 : Fin 1) (0 : Fin 1) r j) = rot64 (cols 64 1088 (by omega) (P r)) (cs r) (sn r) j := by
  rw [← pay22_1 hA T r ⟨64 + j.val, by omega⟩ j (by show 64 + j.val = _; omega)]
  unfold k0_pay47
  pointwise
  try exact mul_one _

theorem st49 (r : Fin 128) (j : Fin 64) :
    k0_pay49 (F := Ideal) (k0_pay48 (k0_pay23 a c s t)) (FloatOps.ofBits FTy.f32 0x3E000000#32) (ix4 (0 : Fin 1) (0 : Fin 1) r j) = rot64 (cols 64 1224 (by omega) (P r)) (cs r) (sn r) j * Ideal.ofBits .f32 0x3E000000#32 := by
  rw [← pay23_0 hA T r ⟨j.val, by omega⟩ j (by show j.val = _; omega)]
  unfold k0_pay48 k0_pay49
  pointwise
  try rfl

theorem st50 (r : Fin 128) (j : Fin 64) :
    k0_pay50 (F := Ideal) (k0_pay23 a c s t) (ix4 (0 : Fin 1) (0 : Fin 1) r j) = rot64 (cols 64 1288 (by omega) (P r)) (cs r) (sn r) j * Ideal.ofBits .f32 0x3E000000#32 := by
  rw [← pay23_1 hA T r ⟨64 + j.val, by omega⟩ j (by show 64 + j.val = _; omega)]
  unfold k0_pay50
  pointwise
  try rfl

theorem st51 (r : Fin 128) (j : Fin 64) :
    k0_pay51 (F := Ideal) (k0_pay24 a c s t) (ix4 (0 : Fin 1) (0 : Fin 1) r j) = rot64 (cols 64 1352 (by omega) (P r)) (cs r) (sn r) j * Ideal.ofBits .f32 0x3E000000#32 := by
  rw [← pay24_0 hA T r ⟨j.val, by omega⟩ j (by show j.val = _; omega)]
  unfold k0_pay51
  pointwise
  try rfl

theorem st52 (r : Fin 128) (j : Fin 64) :
    k0_pay52 (F := Ideal) (k0_pay24 a c s t) (ix4 (0 : Fin 1) (0 : Fin 1) r j) = rot64 (cols 64 1416 (by omega) (P r)) (cs r) (sn r) j * Ideal.ofBits .f32 0x3E000000#32 := by
  rw [← pay24_1 hA T r ⟨64 + j.val, by omega⟩ j (by show 64 + j.val = _; omega)]
  unfold k0_pay52
  pointwise
  try rfl

theorem st54 (r : Fin 128) (j : Fin 64) :
    k0_pay54 (F := Ideal) (k0_pay53 (k0_pay25 a c s t)) (ix4 (0 : Fin 1) (0 : Fin 1) r j) = rot64 (cols 64 1480 (by omega) (P r)) (cs r) (sn r) j * Ideal.ofBits .f32 0x3E000000#32 := by
  rw [← pay25_0 hA T r ⟨j.val, by omega⟩ j (by show j.val = _; omega)]
  unfold k0_pay53 k0_pay54
  pointwise
  try rfl

theorem st55 (r : Fin 128) (j : Fin 64) :
    k0_pay55 (F := Ideal) (k0_pay25 a c s t) (ix4 (0 : Fin 1) (0 : Fin 1) r j) = rot64 (cols 64 1544 (by omega) (P r)) (cs r) (sn r) j * Ideal.ofBits .f32 0x3E000000#32 := by
  rw [← pay25_1 hA T r ⟨64 + j.val, by omega⟩ j (by show 64 + j.val = _; omega)]
  unfold k0_pay55
  pointwise
  try rfl

theorem st56 (r : Fin 128) (j : Fin 64) :
    k0_pay56 (F := Ideal) (k0_pay26 a c s t) (ix4 (0 : Fin 1) (0 : Fin 1) r j) = rot64 (cols 64 1608 (by omega) (P r)) (cs r) (sn r) j * Ideal.ofBits .f32 0x3E000000#32 := by
  rw [← pay26_0 hA T r ⟨j.val, by omega⟩ j (by show j.val = _; omega)]
  unfold k0_pay56
  pointwise
  try rfl

theorem st57 (r : Fin 128) (j : Fin 64) :
    k0_pay57 (F := Ideal) (k0_pay26 a c s t) (ix4 (0 : Fin 1) (0 : Fin 1) r j) = rot64 (cols 64 1672 (by omega) (P r)) (cs r) (sn r) j * Ideal.ofBits .f32 0x3E000000#32 := by
  rw [← pay26_1 hA T r ⟨64 + j.val, by omega⟩ j (by show 64 + j.val = _; omega)]
  unfold k0_pay57
  pointwise
  try rfl

theorem st58 (r : Fin 128) (j : Fin 64) : k0_pay58 (F := Ideal) (k0_pay27 a c s t) (ix2 r j) = rot64 (cols 64 512 (by omega) (P r)) (cs r) (sn r) j := by
  rw [← pay27_0 hA T r ⟨j.val, by omega⟩ j (by show j.val = _; omega)]
  unfold k0_pay58
  pointwise
  try rfl

theorem st59 (r : Fin 128) (j : Fin 64) : k0_pay59 (F := Ideal) (k0_pay27 a c s t) (ix2 r j) = rot64 (cols 64 1152 (by omega) (P r)) (cs r) (sn r) j := by
  rw [← pay27_1 hA T r ⟨64 + j.val, by omega⟩ j (by show 64 + j.val = _; omega)]
  unfold k0_pay59
  pointwise
  try rfl

theorem st60 (r : Fin 128) (j : Fin 64) : k0_pay60 (F := Ideal) (k0_pay28 a c s t) (ix2 r j) = rot64 (cols 64 1736 (by omega) (P r)) (cs r) (sn r) j := by
  rw [← pay28_0 hA T r ⟨j.val, by omega⟩ j (by show j.val = _; omega)]
  unfold k0_pay60
  pointwise
  try rfl

theorem st61 (r : Fin 128) (j : Fin 64) : k0_pay61 (F := Ideal) (k0_pay28 a c s t) (ix2 r j) = rot64 (cols 64 1864 (by omega) (P r)) (cs r) (sn r) j := by
  rw [← pay28_1 hA T r ⟨64 + j.val, by omega⟩ j (by show 64 + j.val = _; omega)]
  unfold k0_pay61
  pointwise
  try rfl

theorem st62 (r : Fin 128) (j : Fin 64) : k0_pay62 (F := Ideal) (k0_pay29 a c s t) (ix2 r j) = rot64 (cols 64 1992 (by omega) (P r)) (cs r) (sn r) j := by
  rw [← pay29_0 hA T r ⟨j.val, by omega⟩ j (by show j.val = _; omega)]
  unfold k0_pay62
  pointwise
  try rfl

end

section
include hB

theorem st63 (r : Fin 128) (j : Fin 64) : k0_pay63 (F := Ideal) b (ix2 r j) = cols 64 576 (by omega) (P r) j := by
  unfold k0_pay63
  pointwise
  exact hB r _ _ (by unfold permP; simp only []; omega)

theorem st64 (r : Fin 128) (j : Fin 64) : k0_pay64 (F := Ideal) b (ix2 r j) = cols 64 1800 (by omega) (P r) j := by
  unfold k0_pay64
  pointwise
  exact hB r _ _ (by unfold permP; simp only []; omega)

theorem st65 (r : Fin 128) (j : Fin 64) : k0_pay65 (F := Ideal) b (ix2 r j) = cols 64 1928 (by omega) (P r) j := by
  unfold k0_pay65
  pointwise
  exact hB r _ _ (by unfold permP; simp only []; omega)

theorem st66 (r : Fin 128) (j : Fin 64) : k0_pay66 (F := Ideal) b (ix2 r j) = cols 64 2056 (by omega) (P r) j := by
  unfold k0_pay66
  pointwise
  exact hB r _ _ (by unfold permP; simp only []; omega)

end

theorem st67 (v : FVec Ideal S128x64 .f32) (r : Fin 128) (j : Fin 64) : k0_pay67 (F := Ideal) v (ix3 (0 : Fin 1) r j) = v (ix2 r j) := by
  unfold k0_pay67
  pointwise
  try rfl

theorem st68 (v : FVec Ideal S128x64 .f32) (r : Fin 128) (j : Fin 64) : k0_pay68 (F := Ideal) v (ix3 (0 : Fin 1) r j) = v (ix2 r j) := by
  unfold k0_pay68
  pointwise
  try rfl

theorem st69 (v : FVec Ideal S128x64 .f32) (r : Fin 128) (j : Fin 64) : k0_pay69 (F := Ideal) v (ix3 (0 : Fin 1) r j) = v (ix2 r j) := by
  unfold k0_pay69
  pointwise
  try rfl

theorem st70 (v : FVec Ideal S128x64 .f32) (r : Fin 128) (j : Fin 64) : k0_pay70 (F := Ideal) v (ix3 (0 : Fin 1) r j) = v (ix2 r j) := by
  unfold k0_pay70
  pointwise
  try rfl

theorem st72 (v : FVec Ideal S128x64 .f32) (r : Fin 128) (j : Fin 64) : k0_pay72 (F := Ideal) (k0_pay71 v) (ix3 (0 : Fin 1) r j) = v (ix2 r j) := by
  unfold k0_pay71 k0_pay72
  pointwise
  try rfl

theorem st73 (v : FVec Ideal S128x64 .f32) (r : Fin 128) (j : Fin 64) : k0_pay73 (F := Ideal) v (ix3 (0 : Fin 1) r j) = v (ix2 r j) := by
  unfold k0_pay73
  pointwise
  try rfl

theorem st74 (v : FVec Ideal S128x64 .f32) (r : Fin 128) (j : Fin 64) : k0_pay74 (F := Ideal) v (ix3 (0 : Fin 1) r j) = v (ix2 r j) := by
  unfold k0_pay74
  pointwise
  try rfl

section
variable {q : FVec Ideal S128x768 .f32} {Q : Fin 128 → Fin 768 → EReal} (hQ : ∀ r k c, permQ k.val c.val → q (ix2 r k) = Q r c)

section
include hQ T'

theorem st89 (r : Fin 128) (j : Fin 32) :
    k0_pay89 (F := Ideal) c s t q (ix3 (0 : Fin 1) r j) = rot32 (fun e => Q r ⟨0 * 96 + 64 + e.val, by omega⟩) (ct r) (st r) j := by
  rw [← pay86_0 T' hQ r ⟨j.val, by omega⟩ j (by show j.val = _; omega)]
  unfold k0_pay89
  pointwise
  try rfl

theorem st91 (r : Fin 128) (j : Fin 32) :
    k0_pay91 (F := Ideal) c s t q (ix3 (0 : Fin 1) r j) = rot32 (fun e => Q r ⟨1 * 96 + 64 + e.val, by omega⟩) (ct r) (st r) j := by
  rw [← pay86_1 T' hQ r ⟨32 + j.val, by omega⟩ j (by show 32 + j.val = _; omega)]
  unfold k0_pay91
  pointwise
  try rfl

theorem st94 (r : Fin 128) (j : Fin 32) :
    k0_pay94 (F := Ideal) (k0_pay86 c s t q) (ix3 (0 : Fin 1) r j) = rot32 (fun e => Q r ⟨2 * 96 + 64 + e.val, by omega⟩) (ct r) (st r) j := by
  rw [← pay86_2 T' hQ r ⟨64 + j.val, by omega⟩ j (by show 64 + j.val = _; omega)]
  unfold k0_pay94
  pointwise
  try rfl

theorem st96 (r : Fin 128) (j : Fin 32) :
    k0_pay96 (F := Ideal) (k0_pay86 c s t q) (ix3 (0 : Fin 1) r j) = rot32 (fun e => Q r ⟨3 * 96 + 64 + e.val, by omega⟩) (ct r) (st r) j := by
  rw [← pay86_3 T' hQ r ⟨96 + j.val, by omega⟩ j (by show 96 + j.val = _; omega)]
  unfold k0_pay96
  pointwise
  try rfl

theorem st98 (r : Fin 128) (j : Fin 32) :
    k0_pay98 (F := Ideal) (k0_pay87 c s t q) (ix3 (0 : Fin 1) r j) = rot32 (fun e => Q r ⟨4 * 96 + 64 + e.val, by omega⟩) (ct r) (st r) j := by
  rw [← pay87_0 T' hQ r ⟨j.val, by omega⟩ j (by show j.val = _; omega)]
  unfold k0_pay98
  pointwise
  try rfl

theorem st1 (r : Fin 128) (j : Fin 32) :
    k0_pay1 (F := Ideal) (k0_pay87 c s t q) (ix3 (0 : Fin 1) r j) = rot32 (fun e => Q r ⟨5 * 96 + 64 + e.val, by omega⟩) (ct r) (st r) j := by
  rw [← pay87_1 T' hQ r ⟨32 + j.val, by omega⟩ j (by show 32 + j.val = _; omega)]
  unfold k0_pay1
  pointwise
  try rfl

theorem st3 (r : Fin 128) (j : Fin 32) :
    k0_pay3 (F := Ideal) (k0_pay87 c s t q) (ix3 (0 : Fin 1) r j) = rot32 (fun e => Q r ⟨6 * 96 + 64 + e.val, by omega⟩) (ct r) (st r) j := by
  rw [← pay87_2 T' hQ r ⟨64 + j.val, by omega⟩ j (by show 64 + j.val = _; omega)]
  unfold k0_pay3
  pointwise
  try rfl

theorem st5 (r : Fin 128) (j : Fin 32) :
    k0_pay5 (F := Ideal) (k0_pay87 c s t q) (ix3 (0 : Fin 1) r j) = rot32 (fun e => Q r ⟨7 * 96 + 64 + e.val, by omega⟩) (ct r) (st r) j := by
  rw [← pay87_3 T' hQ r ⟨96 + j.val, by omega⟩ j (by show 96 + j.val = _; omega)]
  unfold k0_pay5
  pointwise
  try rfl

end

theorem st88 (z : FVec Ideal S128x512 .bf16) (w : FVec Ideal S512x1024 .bf16) (z0 : FVec Ideal S128x1024 .f32) (r : Fin 128) (j : Fin 128) :
    k0_pay88 (F := Ideal) z w z0 (ix3 (0 : Fin 1) r j) = k0_pay85 (F := Ideal) z w z0 (ix2 r ⟨j.val, by omega⟩) := by
  unfold k0_pay88
  pointwise
  try rfl

theorem st90 (z : FVec Ideal S128x512 .bf16) (w : FVec Ideal S512x1024 .bf16) (z0 : FVec Ideal S128x1024 .f32) (r : Fin 128) (j : Fin 128) :
    k0_pay90 (F := Ideal) z w z0 (ix3 (0 : Fin 1) r j) = k0_pay85 (F := Ideal) z w z0 (ix2 r ⟨128 + j.val, by omega⟩) := by
  unfold k0_pay90
  pointwise
  try rfl

theorem st93 (z : FVec Ideal S128x512 .bf16) (w : FVec Ideal S512x1024 .bf16) (z0 : FVec Ideal S128x1024 .f32) (r : Fin 128) (j : Fin 128) :
    k0_pay93 (F := Ideal) (k0_pay92 z w z0) (ix3 (0 : Fin 1) r j) = k0_pay85 (F := Ideal) z w z0 (ix2 r ⟨256 + j.val, by omega⟩) := by
  unfold k0_pay92 k0_pay93
  pointwise
  try rfl

theorem st95 (z : FVec Ideal S128x512 .bf16) (w : FVec Ideal S512x1024 .bf16) (z0 : FVec Ideal S128x1024 .f32) (r : Fin 128) (j : Fin 128) :
    k0_pay95 (F := Ideal) (k0_pay85 z w z0) (ix3 (0 : Fin 1) r j) = k0_pay85 (F := Ideal) z w z0 (ix2 r ⟨384 + j.val, by omega⟩) := by
  unfold k0_pay95
  pointwise
  try rfl

theorem st97 (z : FVec Ideal S128x512 .bf16) (w : FVec Ideal S512x1024 .bf16) (z0 : FVec Ideal S128x1024 .f32) (r : Fin 128) (j : Fin 128) :
    k0_pay97 (F := Ideal) (k0_pay85 z w z0) (ix3 (0 : Fin 1) r j) = k0_pay85 (F := Ideal) z w z0 (ix2 r ⟨512 + j.val, by omega⟩) := by
  unfold k0_pay97
  pointwise
  try rfl

theorem st99 (z : FVec Ideal S128x512 .bf16) (w : FVec Ideal S512x1024 .bf16) (z0 : FVec Ideal S128x1024 .f32) (r : Fin 128) (j : Fin 128) :
    k0_pay99 (F := Ideal) (k0_pay85 z w z0) (ix3 (0 : Fin 1) r j) = k0_pay85 (F := Ideal) z w z0 (ix2 r ⟨640 + j.val, by omega⟩) := by
  unfold k0_pay99
  pointwise
  try rfl

theorem st2 (z : FVec Ideal S128x512 .bf16) (w : FVec Ideal S512x1024 .bf16) (z0 : FVec Ideal S128x1024 .f32) (r : Fin 128) (j : Fin 128) :
    k0_pay2 (F := Ideal) (k0_pay85 z w z0) (ix3 (0 : Fin 1) r j) = k0_pay85 (F := Ideal) z w z0 (ix2 r ⟨768 + j.val, by omega⟩) := by
  unfold k0_pay2
  pointwise
  try rfl

theorem st4 (z : FVec Ideal S128x512 .bf16) (w : FVec Ideal S512x1024 .bf16) (z0 : FVec Ideal S128x1024 .f32) (r : Fin 128) (j : Fin 128) :
    k0_pay4 (F := Ideal) (k0_pay85 z w z0) (ix3 (0 : Fin 1) r j) = k0_pay85 (F := Ideal) z w z0 (ix2 r ⟨896 + j.val, by omega⟩) := by
  unfold k0_pay4
  pointwise
  try rfl

end

end pieces

theorem pay84_eq (w : FVec Ideal S512x1024 .bf16) : k0_pay84 (F := Ideal) w = w := by
  funext i
  obtain ⟨j, hj⟩ := idx2 (n := 512) (m := 1024) i ⟨(i 0).val, (i 0).isLt⟩ rfl
  rw [hj]
  unfold k0_pay84
  pointwise
  try rfl

section
variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1920 .bf16) (harg3 : arg3.IsWhole) (arg4 : Memref sig .tc .vmem S1024x768 .bf16) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x256 .f32) (harg11 : arg11.IsWhole) (arg12 : Memref sig .tc .vmem S256x768 .bf16) (harg12 : arg12.IsWhole) (arg13 : Memref sig .tc .vmem S512x1024 .bf16) (harg13 : arg13.IsWhole) (arg14 : Memref sig .tc .vmem S1x128 .f32) (harg14 : arg14.IsWhole) (arg15 : Memref sig .tc .vmem S3x8x128x64 .bf16) (harg15 : arg15.IsWhole) (arg16 : Memref sig .tc .vmem S8x128x160 .bf16) (harg16 : arg16.IsWhole) (arg17 : Memref sig .tc .vmem S128x8 .f32) (harg17 : arg17.IsWhole) (arg18 : Memref sig .tc .vmem S128x24 .f32) (harg18 : arg18.IsWhole) (arg19 : Memref sig .tc .vmem S128x192 .f32) (harg19 : arg19.IsWhole) (arg20 : Memref sig .tc .vmem S128x256 .f32) (harg20 : arg20.IsWhole) (arg21 : Memref sig .tc .vmem S128x160 .f32) (harg21 : arg21.IsWhole) (arg22 : Memref sig .tc .vmem S128x128 .f32) (harg22 : arg22.IsWhole) (arg23 : Memref sig .tc .vmem S7x128x64 .bf16) (harg23 : arg23.IsWhole) (arg24 : Memref sig .tc .vmem S128x160 .bf16) (harg24 : arg24.IsWhole)
  {x0 : Vec Ideal S128x1024 .f32} {x1 : Vec Ideal S1x1024 .f32} {x2 : Vec Ideal S1024x1920 .bf16} {x3 : Vec Ideal S1024x768 .bf16} {x4 : Vec Ideal S128x128 .f32} {x5 : Vec Ideal S128x128 .f32} {x6 : Vec Ideal S128x128 .f32} {x7 : Vec Ideal S128x128 .f32} {x8 : Vec Ideal S128x128 .f32} {x9 : Vec Ideal S128x128 .f32} {x10 : Vec Ideal S1x256 .f32} {x11 : Vec Ideal S256x768 .bf16} {x12 : Vec Ideal S512x1024 .bf16} {x13 : Vec Ideal S1x128 .f32}
  {P : Fin 128 → Fin 5632 → EReal} {cs sn : Fin 128 → Fin 32 → EReal} {ct st : Fin 128 → Fin 16 → EReal}
  {W : Fin 256 → Fin 768 → EReal} {U : Fin 128 → Fin 8 → Fin 64 → EReal}
  (hA : ∀ r k c, permR k.val c.val → k0_pay7 (F := Ideal) x0 x1 x2 (ix2 r k) = P r c)
  (hB : ∀ r k c, permP k.val c.val → k0_pay8 (F := Ideal) x0 x1 x3 (ix2 r k) = P r c)
  (T : Tab64 x4 x5 x6 cs sn) (T' : Tab32 x7 x8 x9 ct st)
  (hW : ∀ i k c, permQ k.val c.val → x11 (ix2 i k) = W i c)
  (hU : Diag x12 U)

include hB in
/-- The index heads' weights. -/
theorem out16_apply (r : Fin 128) (d : Fin 8) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = idxwRow (P r) d := by
  have e : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay80 (k0_pay76 (k0_pay8 x0 x1 x3)) := by frame_out
  rw [e]
  exact pay80_apply hB r d

include hB in
/-- The sparse attention's gates. -/
theorem out17_apply (r : Fin 128) (d : Fin 24) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = gateRow (P r) d := by
  have e : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 = k0_pay81 (k0_pay76 (k0_pay8 x0 x1 x3)) := by frame_out
  rw [e]
  exact pay81_apply hB r d

include hB T' in
/-- The latent cache's row. -/
theorem out20_apply (r : Fin 128) (d : Fin 160) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = mlaRow (P r) (fun i => x13 (ix2 (0 : Fin 1) i)) (ct r) (st r) d := by
  frame_out
  canon_tiles x h using (View.cover_of_tiledBy _ ![128, 32] (by sl_kernel_rfl) _)
  · obtain ⟨j, rfl⟩ := idx2 (n := 128) (m := 32) x r h0
    have h1 : d.val = 128 + j.val := h1
    rw [mlaRow_r (P r) (ct r) (st r) _ j d h1, pay12_eq, pay13_eq, pay14_eq]
    skip
    exact pay77_apply hB T' r j
  · obtain ⟨j, rfl⟩ := idx2 (n := 128) (m := 128) x r h0
    have h1 : d.val = j.val := h1
    rw [mlaRow_c (P r) (ct r) (st r) _ j d h1]
    skip
    exact pay75_apply hB x13 r j

include hB T' in
/-- The latent cache's row, as the attention reads it. -/
theorem out23_apply (r : Fin 128) (d : Fin 160) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = mlaRow (P r) (fun i => x13 (ix2 (0 : Fin 1) i)) (ct r) (st r) d := by
  frame_out
  canon_tiles x h using (View.cover_of_tiledBy _ ![128, 32] (by sl_kernel_rfl) _)
  · obtain ⟨j, rfl⟩ := idx2 (n := 128) (m := 32) x r h0
    have h1 : d.val = 128 + j.val := h1
    rw [mlaRow_r (P r) (ct r) (st r) _ j d h1, pay12_eq, pay13_eq, pay14_eq]
    unfold k0_pay79; pointwise
    exact pay77_apply hB T' r j
  · obtain ⟨j, rfl⟩ := idx2 (n := 128) (m := 128) x r h0
    have h1 : d.val = j.val := h1
    rw [mlaRow_c (P r) (ct r) (st r) _ j d h1]
    unfold k0_pay78; pointwise
    exact pay75_apply hB x13 r j

include hA hB T in
/-- The first cache's row. -/
theorem out18_apply (r : Fin 128) (d : Fin 192) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = dsaRow (P r) (cs r) (sn r) d := by
  frame_out
  canon_tiles x h
  · obtain ⟨j, rfl⟩ := idx2 (n := 128) (m := 64) x r h0
    have h1 : d.val = 128 + j.val := h1
    rw [dsaRow_i _ _ _ j d h1, pay9_eq, pay10_eq, pay11_eq]
    exact st59 hA T r j
  · obtain ⟨j, rfl⟩ := idx2 (n := 128) (m := 64) x r h0
    have h1 : d.val = 64 + j.val := h1
    have hl : d.val < 128 := by omega
    rw [dsaRow_kv _ _ _ d hl, kv_v _ _ _ _ j ⟨d.val, hl⟩ h1]
    exact st63 hB r j
  · obtain ⟨j, rfl⟩ := idx2 (n := 128) (m := 64) x r h0
    have h1 : d.val = j.val := h1
    have hl : d.val < 128 := by omega
    rw [dsaRow_kv _ _ _ d hl, kv_k _ _ _ _ j ⟨d.val, hl⟩ h1, pay9_eq, pay10_eq, pay11_eq]
    exact st58 hA T r j

include hA hB T in
/-- The second cache's row. -/
theorem out19_apply (r : Fin 128) (d : Fin 256) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = nsaRow (P r) (cs r) (sn r) d := by
  frame_out
  canon_tiles x h
  · obtain ⟨j, rfl⟩ := idx2 (n := 128) (m := 64) x r h0
    have h1 : d.val = 192 + j.val := h1
    have hl : ¬ d.val < 128 := by omega
    rw [nsaRow_hi _ _ _ d hl, kv_v _ _ _ _ j ⟨d.val - 128, by omega⟩ (by show d.val - 128 = _; omega)]
    exact st65 hB r j
  · obtain ⟨j, rfl⟩ := idx2 (n := 128) (m := 64) x r h0
    have h1 : d.val = 128 + j.val := h1
    have hl : ¬ d.val < 128 := by omega
    rw [nsaRow_hi _ _ _ d hl, kv_k _ _ _ _ j ⟨d.val - 128, by omega⟩ (by show d.val - 128 = _; omega), pay9_eq, pay10_eq, pay11_eq]
    exact st61 hA T r j
  · obtain ⟨j, rfl⟩ := idx2 (n := 128) (m := 64) x r h0
    have h1 : d.val = 64 + j.val := h1
    have hl : d.val < 128 := by omega
    rw [nsaRow_lo _ _ _ d hl, kv_v _ _ _ _ j ⟨d.val, by omega⟩ h1]
    exact st64 hB r j
  · obtain ⟨j, rfl⟩ := idx2 (n := 128) (m := 64) x r h0
    have h1 : d.val = j.val := h1
    have hl : d.val < 128 := by omega
    rw [nsaRow_lo _ _ _ d hl, kv_k _ _ _ _ j ⟨d.val, by omega⟩ h1, pay9_eq, pay10_eq, pay11_eq]
    exact st60 hA T r j

include hA hB T in
/-- The window's row. -/
theorem out21_apply (r : Fin 128) (d : Fin 128) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix2 r d) = winRow (P r) (cs r) (sn r) d := by
  unfold winRow
  frame_out
  canon_tiles x h
  · obtain ⟨j, rfl⟩ := idx2 (n := 128) (m := 64) x r h0
    have h1 : d.val = 64 + j.val := h1
    rw [kv_v _ _ _ _ j d h1]
    exact st66 hB r j
  · obtain ⟨j, rfl⟩ := idx2 (n := 128) (m := 64) x r h0
    have h1 : d.val = j.val := h1
    rw [kv_k _ _ _ _ j d h1, pay9_eq, pay10_eq, pay11_eq]
    exact st62 hA T r j

include hA hB T in
/-- The seven keys and values. -/
theorem out22_apply (b : Fin 7) (r : Fin 128) (d : Fin 64) : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 b r d) = kv7Row (P r) (cs r) (sn r) b d := by
  frame_out
  canon_tiles x h
  · obtain ⟨j, rfl⟩ := idx3 (n := 128) (m := 64) x r h1
    have h0 : b.val = 6 + 0 := h0
    have h2 : d.val = j.val := h2
    have hb : b.val = 6 := by omega
    have hd : d = j := Fin.ext h2
    unfold kv7Row
    rw [if_neg (by omega), if_neg (by omega), if_neg (by omega), if_neg (by omega), if_neg (by omega), if_neg (by omega), st74, hd]
    exact st66 hB r j
  · obtain ⟨j, rfl⟩ := idx3 (n := 128) (m := 64) x r h1
    have h0 : b.val = 5 + 0 := h0
    have h2 : d.val = j.val := h2
    have hb : b.val = 5 := by omega
    have hd : d = j := Fin.ext h2
    unfold kv7Row
    rw [if_neg (by omega), if_neg (by omega), if_neg (by omega), if_neg (by omega), if_neg (by omega), if_pos hb, st73, pay9_eq, pay10_eq, pay11_eq, hd]
    exact st62 hA T r j
  · obtain ⟨j, rfl⟩ := idx3 (n := 128) (m := 64) x r h1
    have h0 : b.val = 4 + 0 := h0
    have h2 : d.val = j.val := h2
    have hb : b.val = 4 := by omega
    have hd : d = j := Fin.ext h2
    unfold kv7Row
    rw [if_neg (by omega), if_neg (by omega), if_neg (by omega), if_neg (by omega), if_pos hb, st72, hd]
    exact st65 hB r j
  · obtain ⟨j, rfl⟩ := idx3 (n := 128) (m := 64) x r h1
    have h0 : b.val = 3 + 0 := h0
    have h2 : d.val = j.val := h2
    have hb : b.val = 3 := by omega
    have hd : d = j := Fin.ext h2
    unfold kv7Row
    rw [if_neg (by omega), if_neg (by omega), if_neg (by omega), if_pos hb, st70, pay9_eq, pay10_eq, pay11_eq, hd]
    exact st61 hA T r j
  · obtain ⟨j, rfl⟩ := idx3 (n := 128) (m := 64) x r h1
    have h0 : b.val = 2 + 0 := h0
    have h2 : d.val = j.val := h2
    have hb : b.val = 2 := by omega
    have hd : d = j := Fin.ext h2
    unfold kv7Row
    rw [if_neg (by omega), if_neg (by omega), if_pos hb, st69, pay9_eq, pay10_eq, pay11_eq, hd]
    exact st59 hA T r j
  · obtain ⟨j, rfl⟩ := idx3 (n := 128) (m := 64) x r h1
    have h0 : b.val = 1 + 0 := h0
    have h2 : d.val = j.val := h2
    have hb : b.val = 1 := by omega
    have hd : d = j := Fin.ext h2
    unfold kv7Row
    rw [if_neg (by omega), if_pos hb, st68, hd]
    exact st63 hB r j
  · obtain ⟨j, rfl⟩ := idx3 (n := 128) (m := 64) x r h1
    have h0 : b.val = 0 := h0
    have h2 : d.val = j.val := h2
    have hb : b.val = 0 := by omega
    have hd : d = j := Fin.ext h2
    unfold kv7Row
    rw [if_pos hb, st67, pay9_eq, pay10_eq, pay11_eq, hd]
    exact st58 hA T r j

include hA T in
/-- The three groups of queries. -/
theorem out14_apply (b : Fin 3) (h : Fin 8) (r : Fin 128) (d : Fin 64) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix4 b h r d) = q3Row (P r) (cs r) (sn r) b h d := by
  frame_out
  canon_tiles x h
  · obtain ⟨j, rfl⟩ := idx4 (n := 128) (m := 64) x r h2
    have h0 : b.val = 2 + 0 := h0
    have h1 : h.val = 7 + 0 := h1
    have h3 : d.val = j.val := h3
    have hb : b.val = 2 := by omega
    have hh : h.val = 7 := by omega
    have hd : d = j := Fin.ext h3
    rw [q3Row_2 _ _ _ b h d 1672 (by omega) hb (by omega), pay9_eq, pay10_eq, pay11_eq, hd]
    exact st57 hA T r j
  · obtain ⟨j, rfl⟩ := idx4 (n := 128) (m := 64) x r h2
    have h0 : b.val = 2 + 0 := h0
    have h1 : h.val = 6 + 0 := h1
    have h3 : d.val = j.val := h3
    have hb : b.val = 2 := by omega
    have hh : h.val = 6 := by omega
    have hd : d = j := Fin.ext h3
    rw [q3Row_2 _ _ _ b h d 1608 (by omega) hb (by omega), pay9_eq, pay10_eq, pay11_eq, hd]
    exact st56 hA T r j
  · obtain ⟨j, rfl⟩ := idx4 (n := 128) (m := 64) x r h2
    have h0 : b.val = 2 + 0 := h0
    have h1 : h.val = 5 + 0 := h1
    have h3 : d.val = j.val := h3
    have hb : b.val = 2 := by omega
    have hh : h.val = 5 := by omega
    have hd : d = j := Fin.ext h3
    rw [q3Row_2 _ _ _ b h d 1544 (by omega) hb (by omega), pay9_eq, pay10_eq, pay11_eq, hd]
    exact st55 hA T r j
  · obtain ⟨j, rfl⟩ := idx4 (n := 128) (m := 64) x r h2
    have h0 : b.val = 2 + 0 := h0
    have h1 : h.val = 4 + 0 := h1
    have h3 : d.val = j.val := h3
    have hb : b.val = 2 := by omega
    have hh : h.val = 4 := by omega
    have hd : d = j := Fin.ext h3
    rw [q3Row_2 _ _ _ b h d 1480 (by omega) hb (by omega), pay9_eq, pay10_eq, pay11_eq, hd]
    exact st54 hA T r j
  · obtain ⟨j, rfl⟩ := idx4 (n := 128) (m := 64) x r h2
    have h0 : b.val = 2 + 0 := h0
    have h1 : h.val = 3 + 0 := h1
    have h3 : d.val = j.val := h3
    have hb : b.val = 2 := by omega
    have hh : h.val = 3 := by omega
    have hd : d = j := Fin.ext h3
    rw [q3Row_2 _ _ _ b h d 1416 (by omega) hb (by omega), pay9_eq, pay10_eq, pay11_eq, hd]
    exact st52 hA T r j
  · obtain ⟨j, rfl⟩ := idx4 (n := 128) (m := 64) x r h2
    have h0 : b.val = 2 + 0 := h0
    have h1 : h.val = 2 + 0 := h1
    have h3 : d.val = j.val := h3
    have hb : b.val = 2 := by omega
    have hh : h.val = 2 := by omega
    have hd : d = j := Fin.ext h3
    rw [q3Row_2 _ _ _ b h d 1352 (by omega) hb (by omega), pay9_eq, pay10_eq, pay11_eq, hd]
    exact st51 hA T r j
  · obtain ⟨j, rfl⟩ := idx4 (n := 128) (m := 64) x r h2
    have h0 : b.val = 2 + 0 := h0
    have h1 : h.val = 1 + 0 := h1
    have h3 : d.val = j.val := h3
    have hb : b.val = 2 := by omega
    have hh : h.val = 1 := by omega
    have hd : d = j := Fin.ext h3
    rw [q3Row_2 _ _ _ b h d 1288 (by omega) hb (by omega), pay9_eq, pay10_eq, pay11_eq, hd]
    exact st50 hA T r j
  · obtain ⟨j, rfl⟩ := idx4 (n := 128) (m := 64) x r h2
    have h0 : b.val = 2 + 0 := h0
    have h1 : h.val = 0 := h1
    have h3 : d.val = j.val := h3
    have hb : b.val = 2 := by omega
    have hh : h.val = 0 := by omega
    have hd : d = j := Fin.ext h3
    rw [q3Row_2 _ _ _ b h d 1224 (by omega) hb (by omega), pay9_eq, pay10_eq, pay11_eq, hd]
    exact st49 hA T r j
  · obtain ⟨j, rfl⟩ := idx4 (n := 128) (m := 64) x r h2
    have h0 : b.val = 1 + 0 := h0
    have h1 : h.val = 7 + 0 := h1
    have h3 : d.val = j.val := h3
    have hb : b.val = 1 := by omega
    have hh : h.val = 7 := by omega
    have hd : d = j := Fin.ext h3
    rw [q3Row_1 _ _ _ b h d 1088 (by omega) hb (by omega), pay9_eq, pay10_eq, pay11_eq, hd]
    exact st47 hA T r j
  · obtain ⟨j, rfl⟩ := idx4 (n := 128) (m := 64) x r h2
    have h0 : b.val = 1 + 0 := h0
    have h1 : h.val = 6 + 0 := h1
    have h3 : d.val = j.val := h3
    have hb : b.val = 1 := by omega
    have hh : h.val = 6 := by omega
    have hd : d = j := Fin.ext h3
    rw [q3Row_1 _ _ _ b h d 1024 (by omega) hb (by omega), pay9_eq, pay10_eq, pay11_eq, hd]
    exact st46 hA T r j
  · obtain ⟨j, rfl⟩ := idx4 (n := 128) (m := 64) x r h2
    have h0 : b.val = 1 + 0 := h0
    have h1 : h.val = 5 + 0 := h1
    have h3 : d.val = j.val := h3
    have hb : b.val = 1 := by omega
    have hh : h.val = 5 := by omega
    have hd : d = j := Fin.ext h3
    rw [q3Row_1 _ _ _ b h d 960 (by omega) hb (by omega), pay9_eq, pay10_eq, pay11_eq, hd]
    exact st45 hA T r j
  · obtain ⟨j, rfl⟩ := idx4 (n := 128) (m := 64) x r h2
    have h0 : b.val = 1 + 0 := h0
    have h1 : h.val = 4 + 0 := h1
    have h3 : d.val = j.val := h3
    have hb : b.val = 1 := by omega
    have hh : h.val = 4 := by omega
    have hd : d = j := Fin.ext h3
    rw [q3Row_1 _ _ _ b h d 896 (by omega) hb (by omega), pay9_eq, pay10_eq, pay11_eq, hd]
    exact st44 hA T r j
  · obtain ⟨j, rfl⟩ := idx4 (n := 128) (m := 64) x r h2
    have h0 : b.val = 1 + 0 := h0
    have h1 : h.val = 3 + 0 := h1
    have h3 : d.val = j.val := h3
    have hb : b.val = 1 := by omega
    have hh : h.val = 3 := by omega
    have hd : d = j := Fin.ext h3
    rw [q3Row_1 _ _ _ b h d 832 (by omega) hb (by omega), pay9_eq, pay10_eq, pay11_eq, hd]
    exact st43 hA T r j
  · obtain ⟨j, rfl⟩ := idx4 (n := 128) (m := 64) x r h2
    have h0 : b.val = 1 + 0 := h0
    have h1 : h.val = 2 + 0 := h1
    have h3 : d.val = j.val := h3
    have hb : b.val = 1 := by omega
    have hh : h.val = 2 := by omega
    have hd : d = j := Fin.ext h3
    rw [q3Row_1 _ _ _ b h d 768 (by omega) hb (by omega), pay9_eq, pay10_eq, pay11_eq, hd]
    exact st41 hA T r j
  · obtain ⟨j, rfl⟩ := idx4 (n := 128) (m := 64) x r h2
    have h0 : b.val = 1 + 0 := h0
    have h1 : h.val = 1 + 0 := h1
    have h3 : d.val = j.val := h3
    have hb : b.val = 1 := by omega
    have hh : h.val = 1 := by omega
    have hd : d = j := Fin.ext h3
    rw [q3Row_1 _ _ _ b h d 704 (by omega) hb (by omega), pay9_eq, pay10_eq, pay11_eq, hd]
    exact st40 hA T r j
  · obtain ⟨j, rfl⟩ := idx4 (n := 128) (m := 64) x r h2
    have h0 : b.val = 1 + 0 := h0
    have h1 : h.val = 0 := h1
    have h3 : d.val = j.val := h3
    have hb : b.val = 1 := by omega
    have hh : h.val = 0 := by omega
    have hd : d = j := Fin.ext h3
    rw [q3Row_1 _ _ _ b h d 640 (by omega) hb (by omega), pay9_eq, pay10_eq, pay11_eq, hd]
    exact st39 hA T r j
  · obtain ⟨j, rfl⟩ := idx4 (n := 128) (m := 64) x r h2
    have h0 : b.val = 0 := h0
    have h1 : h.val = 7 + 0 := h1
    have h3 : d.val = j.val := h3
    have hb : b.val = 0 := by omega
    have hh : h.val = 7 := by omega
    have hd : d = j := Fin.ext h3
    rw [q3Row_0 _ _ _ b h d 448 (by omega) hb (by omega), pay9_eq, pay10_eq, pay11_eq, hd]
    exact st38 hA T r j
  · obtain ⟨j, rfl⟩ := idx4 (n := 128) (m := 64) x r h2
    have h0 : b.val = 0 := h0
    have h1 : h.val = 6 + 0 := h1
    have h3 : d.val = j.val := h3
    have hb : b.val = 0 := by omega
    have hh : h.val = 6 := by omega
    have hd : d = j := Fin.ext h3
    rw [q3Row_0 _ _ _ b h d 384 (by omega) hb (by omega), pay9_eq, pay10_eq, pay11_eq, hd]
    exact st37 hA T r j
  · obtain ⟨j, rfl⟩ := idx4 (n := 128) (m := 64) x r h2
    have h0 : b.val = 0 := h0
    have h1 : h.val = 5 + 0 := h1
    have h3 : d.val = j.val := h3
    have hb : b.val = 0 := by omega
    have hh : h.val = 5 := by omega
    have hd : d = j := Fin.ext h3
    rw [q3Row_0 _ _ _ b h d 320 (by omega) hb (by omega), pay9_eq, pay10_eq, pay11_eq, hd]
    exact st36 hA T r j
  · obtain ⟨j, rfl⟩ := idx4 (n := 128) (m := 64) x r h2
    have h0 : b.val = 0 := h0
    have h1 : h.val = 4 + 0 := h1
    have h3 : d.val = j.val := h3
    have hb : b.val = 0 := by omega
    have hh : h.val = 4 := by omega
    have hd : d = j := Fin.ext h3
    rw [q3Row_0 _ _ _ b h d 256 (by omega) hb (by omega), pay9_eq, pay10_eq, pay11_eq, hd]
    exact st35 hA T r j
  · obtain ⟨j, rfl⟩ := idx4 (n := 128) (m := 64) x r h2
    have h0 : b.val = 0 := h0
    have h1 : h.val = 3 + 0 := h1
    have h3 : d.val = j.val := h3
    have hb : b.val = 0 := by omega
    have hh : h.val = 3 := by omega
    have hd : d = j := Fin.ext h3
    rw [q3Row_0 _ _ _ b h d 192 (by omega) hb (by omega), pay9_eq, pay10_eq, pay11_eq, hd]
    exact st34 hA T r j
  · obtain ⟨j, rfl⟩ := idx4 (n := 128) (m := 64) x r h2
    have h0 : b.val = 0 := h0
    have h1 : h.val = 2 + 0 := h1
    have h3 : d.val = j.val := h3
    have hb : b.val = 0 := by omega
    have hh : h.val = 2 := by omega
    have hd : d = j := Fin.ext h3
    rw [q3Row_0 _ _ _ b h d 128 (by omega) hb (by omega), pay9_eq, pay10_eq, pay11_eq, hd]
    exact st33 hA T r j
  · obtain ⟨j, rfl⟩ := idx4 (n := 128) (m := 64) x r h2
    have h0 : b.val = 0 := h0
    have h1 : h.val = 1 + 0 := h1
    have h3 : d.val = j.val := h3
    have hb : b.val = 0 := by omega
    have hh : h.val = 1 := by omega
    have hd : d = j := Fin.ext h3
    rw [q3Row_0 _ _ _ b h d 64 (by omega) hb (by omega), pay9_eq, pay10_eq, pay11_eq, hd]
    exact st31 hA T r j
  · obtain ⟨j, rfl⟩ := idx4 (n := 128) (m := 64) x r h2
    have h0 : b.val = 0 := h0
    have h1 : h.val = 0 := h1
    have h3 : d.val = j.val := h3
    have hb : b.val = 0 := by omega
    have hh : h.val = 0 := by omega
    have hd : d = j := Fin.ext h3
    rw [q3Row_0 _ _ _ b h d 0 (by omega) hb (by omega), pay9_eq, pay10_eq, pay11_eq, hd]
    exact st30 hA T r j

include hB T' hW hU in
/-- The latent attention's queries. -/
theorem out15_apply (h : Fin 8) (r : Fin 128) (d : Fin 160) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 (ix3 h r d) = qcatRow (fun c => qRow (P r) (fun i => x10 (ix2 (0 : Fin 1) i)) W c) (ct r) (st r) U h d := by
  have hQ : ∀ r k c, permQ k.val c.val → k0_pay82 (F := Ideal) (k0_pay8 x0 x1 x3) x10 x11 (ix2 r k) = qRow (P r) (fun i => x10 (ix2 (0 : Fin 1) i)) W c :=
    fun r k c hk => pay82_apply hB x10 x11 W hW r k c hk
  have hz : ∀ r (k : Fin 512), k0_pay83 (F := Ideal) (k0_pay8 x0 x1 x3) x10 x11 (ix2 r k)
      = k0_pay82 (F := Ideal) (k0_pay8 x0 x1 x3) x10 x11 (ix2 r ⟨k.val, by omega⟩) := fun r k => by
    unfold k0_pay83
    generalize k0_pay82 (F := Ideal) (k0_pay8 x0 x1 x3) x10 x11 = v
    pointwise
  have e84 : k0_pay84 (F := Ideal) x12 = x12 := pay84_eq x12
  frame_out
  canon_tiles x h using (View.cover_of_tiledBy _ ![1, 128, 32] (by sl_kernel_rfl) _)
  · obtain ⟨j, rfl⟩ := idx3 (n := 128) (m := 32) x r h1
    have h0 : h.val = 7 + 0 := h0
    have h2 : d.val = 128 + j.val := h2
    have hh : h.val = 7 := by omega
    rw [qcatRow_r _ _ _ U h j d h2 ⟨7, by omega⟩ hh, pay12_eq, pay13_eq, pay14_eq]
    exact st5 T' hQ r j
  · obtain ⟨j, rfl⟩ := idx3 (n := 128) (m := 128) x r h1
    have h0 : h.val = 7 + 0 := h0
    have h2 : d.val = j.val := h2
    have hh : h.val = 7 := by omega
    rw [qcatRow_c _ _ _ U h j d h2, st4, e84]
    exact pay85_apply hQ _ x12 U hz hU r h j _ (by show 896 + j.val = _; omega)
  · obtain ⟨j, rfl⟩ := idx3 (n := 128) (m := 32) x r h1
    have h0 : h.val = 6 + 0 := h0
    have h2 : d.val = 128 + j.val := h2
    have hh : h.val = 6 := by omega
    rw [qcatRow_r _ _ _ U h j d h2 ⟨6, by omega⟩ hh, pay12_eq, pay13_eq, pay14_eq]
    exact st3 T' hQ r j
  · obtain ⟨j, rfl⟩ := idx3 (n := 128) (m := 128) x r h1
    have h0 : h.val = 6 + 0 := h0
    have h2 : d.val = j.val := h2
    have hh : h.val = 6 := by omega
    rw [qcatRow_c _ _ _ U h j d h2, st2, e84]
    exact pay85_apply hQ _ x12 U hz hU r h j _ (by show 768 + j.val = _; omega)
  · obtain ⟨j, rfl⟩ := idx3 (n := 128) (m := 32) x r h1
    have h0 : h.val = 5 + 0 := h0
    have h2 : d.val = 128 + j.val := h2
    have hh : h.val = 5 := by omega
    rw [qcatRow_r _ _ _ U h j d h2 ⟨5, by omega⟩ hh, pay12_eq, pay13_eq, pay14_eq]
    exact st1 T' hQ r j
  · obtain ⟨j, rfl⟩ := idx3 (n := 128) (m := 128) x r h1
    have h0 : h.val = 5 + 0 := h0
    have h2 : d.val = j.val := h2
    have hh : h.val = 5 := by omega
    rw [qcatRow_c _ _ _ U h j d h2, st99, e84]
    exact pay85_apply hQ _ x12 U hz hU r h j _ (by show 640 + j.val = _; omega)
  · obtain ⟨j, rfl⟩ := idx3 (n := 128) (m := 32) x r h1
    have h0 : h.val = 4 + 0 := h0
    have h2 : d.val = 128 + j.val := h2
    have hh : h.val = 4 := by omega
    rw [qcatRow_r _ _ _ U h j d h2 ⟨4, by omega⟩ hh, pay12_eq, pay13_eq, pay14_eq]
    exact st98 T' hQ r j
  · obtain ⟨j, rfl⟩ := idx3 (n := 128) (m := 128) x r h1
    have h0 : h.val = 4 + 0 := h0
    have h2 : d.val = j.val := h2
    have hh : h.val = 4 := by omega
    rw [qcatRow_c _ _ _ U h j d h2, st97, e84]
    exact pay85_apply hQ _ x12 U hz hU r h j _ (by show 512 + j.val = _; omega)
  · obtain ⟨j, rfl⟩ := idx3 (n := 128) (m := 32) x r h1
    have h0 : h.val = 3 + 0 := h0
    have h2 : d.val = 128 + j.val := h2
    have hh : h.val = 3 := by omega
    rw [qcatRow_r _ _ _ U h j d h2 ⟨3, by omega⟩ hh, pay12_eq, pay13_eq, pay14_eq]
    exact st96 T' hQ r j
  · obtain ⟨j, rfl⟩ := idx3 (n := 128) (m := 128) x r h1
    have h0 : h.val = 3 + 0 := h0
    have h2 : d.val = j.val := h2
    have hh : h.val = 3 := by omega
    rw [qcatRow_c _ _ _ U h j d h2, st95, e84]
    exact pay85_apply hQ _ x12 U hz hU r h j _ (by show 384 + j.val = _; omega)
  · obtain ⟨j, rfl⟩ := idx3 (n := 128) (m := 32) x r h1
    have h0 : h.val = 2 + 0 := h0
    have h2 : d.val = 128 + j.val := h2
    have hh : h.val = 2 := by omega
    rw [qcatRow_r _ _ _ U h j d h2 ⟨2, by omega⟩ hh, pay12_eq, pay13_eq, pay14_eq]
    exact st94 T' hQ r j
  · obtain ⟨j, rfl⟩ := idx3 (n := 128) (m := 128) x r h1
    have h0 : h.val = 2 + 0 := h0
    have h2 : d.val = j.val := h2
    have hh : h.val = 2 := by omega
    rw [qcatRow_c _ _ _ U h j d h2, st93, e84]
    exact pay85_apply hQ _ x12 U hz hU r h j _ (by show 256 + j.val = _; omega)
  · obtain ⟨j, rfl⟩ := idx3 (n := 128) (m := 32) x r h1
    have h0 : h.val = 1 + 0 := h0
    have h2 : d.val = 128 + j.val := h2
    have hh : h.val = 1 := by omega
    rw [qcatRow_r _ _ _ U h j d h2 ⟨1, by omega⟩ hh, pay12_eq, pay13_eq, pay14_eq]
    exact st91 T' hQ r j
  · obtain ⟨j, rfl⟩ := idx3 (n := 128) (m := 128) x r h1
    have h0 : h.val = 1 + 0 := h0
    have h2 : d.val = j.val := h2
    have hh : h.val = 1 := by omega
    rw [qcatRow_c _ _ _ U h j d h2, st90, e84]
    exact pay85_apply hQ _ x12 U hz hU r h j _ (by show 128 + j.val = _; omega)
  · obtain ⟨j, rfl⟩ := idx3 (n := 128) (m := 32) x r h1
    have h0 : h.val = 0 := h0
    have h2 : d.val = 128 + j.val := h2
    have hh : h.val = 0 := by omega
    rw [qcatRow_r _ _ _ U h j d h2 ⟨0, by omega⟩ hh, pay12_eq, pay13_eq, pay14_eq]
    exact st89 T' hQ r j
  · obtain ⟨j, rfl⟩ := idx3 (n := 128) (m := 128) x r h1
    have h0 : h.val = 0 := h0
    have h2 : d.val = j.val := h2
    have hh : h.val = 0 := by omega
    rw [qcatRow_c _ _ _ U h j d h2, st88, e84]
    exact pay85_apply hQ _ x12 U hz hU r h j _ (by show j.val = _; omega)
end

end Cert.ProjS
-- ==== Proof.ProjSHost.lean ====
module

public import proofs.«01_k».proof.Proof.Gen.Kernel6Ideal.Value
public import Idealize.ShloMosaic.Lib.Pipeline.ValueKit
public import proofs.«01_k».proof.Proof.ProjSOut
public import proofs.«01_k».proof.Proof.ProjHost

@[expose] public section

set_option maxRecDepth 16384

noncomputable section

/-! # What the sample projection kernel's host code prepares -/

namespace Cert.ProjS

open Cert.Kernel6Ideal Cert.Kernel6Ideal.Gen Idealize.ShloMosaic Idealize.ShloMosaic.TcCoe Idealize.SL.Sem Cert.Proj

/-- The angles of 32 frequencies at the position of every row, 16384. -/
def angT64 : FVec Ideal S128x32 .f32 :=
  mulf (broadcastInDim S128x32 ![0, 1] bcast_S128x1_S128x32_0_1 (broadcastInDim S128x1 ![0] bcast_S128_S128x1_0 (sitofp .f32 (broadcastInDim S128 ![] bcast_S_S128 (constantI S_ 32 16384#32)))))
    (broadcastInDim S128x32 ![0, 1] bcast_S1x32_S128x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem angT64_apply (p : Fin 128) (j : Fin 32) : angT64 (ix2 p j) = ang64 16384 j.val := by
  unfold angT64
  pointwise
  rfl

def cosT64 : FVec Ideal S128x32 .f32 := Host.cos angT64
def sinT64 : FVec Ideal S128x32 .f32 := Host.sin angT64

theorem cosT64_apply (p : Fin 128) (j : Fin 32) : cosT64 (ix2 p j) = Ideal.cos (ang64 16384 j.val) := by
  unfold cosT64
  pointwise
  rw [angT64_apply]

theorem sinT64_apply (p : Fin 128) (j : Fin 32) : sinT64 (ix2 p j) = Ideal.sin (ang64 16384 j.val) := by
  unfold sinT64
  pointwise
  rw [angT64_apply]

def zeroT64 : FVec Ideal S128x32 .f32 := broadcastInDim S128x32 ![] bcast_S_S128x32 (constant S_ .f32 0x00000000#32)

theorem zeroT64_apply (p : Fin 128) (j : Fin 32) : zeroT64 (ix2 p j) = 0 := by
  unfold zeroT64
  pointwise
  try exact Ideal.ofBits_zero_f32

/-- Two tables side by side, repeated over the 128 lanes. -/
def lanes64 (a b : FVec Ideal S128x32 .f32) : FVec Ideal S128x128 .f32 :=
  shapeCast S128x128 (broadcastInDim S1x128x2x64 ![0, 1, 2, 3] bcast_S1x128x1x64_S1x128x2x64_0_1_2_3
    (shapeCast S1x128x1x64 (concatenate S128x64 1 [⟨S128x32, a⟩, ⟨S128x32, b⟩] concatenates_S128x32_S128x32_S128x64_d1)
      shapeCasts_S128x64_S1x128x1x64)) shapeCasts_S1x128x2x64_S128x128

theorem lanes64_apply (a b : FVec Ideal S128x32 .f32) (p : Fin 128) (l : Fin 128) :
    lanes64 a b (ix2 p l) = if l.val % 64 < 32 then a (ix2 p ⟨l.val % 32, by omega⟩) else b (ix2 p ⟨l.val % 32, by omega⟩) := by
  unfold lanes64
  pointwise
  by_cases h : l.val % 64 < 32
  · rw [dif_pos h, if_pos h]
    exact congrArg a (congrArg (ix2 p) (Fin.ext (by show l.val % 64 = l.val % 32; omega)))
  · rw [dif_neg h, if_neg h]
    exact congrArg b (congrArg (ix2 p) (Fin.ext (by show l.val % 64 - 32 = l.val % 32; omega)))

/-- The angles of 16 frequencies at the position of every row, 16384. -/
def angT32 : FVec Ideal S128x16 .f32 :=
  mulf (broadcastInDim S128x16 ![0, 1] bcast_S128x1_S128x16_0_1 (broadcastInDim S128x1 ![0] bcast_S128_S128x1_0 (sitofp .f32 (broadcastInDim S128 ![] bcast_S_S128 (constantI S_ 32 16384#32)))))
    (broadcastInDim S128x16 ![0, 1] bcast_S1x16_S128x16_0_1 (broadcastInDim S1x16 ![1] bcast_S16_S1x16_1
      (Host.powf (broadcastInDim S16 ![] bcast_S_S16 (constant S_ .f32 0x461C4000#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

theorem angT32_apply (p : Fin 128) (j : Fin 16) : angT32 (ix2 p j) = ang32 16384 j.val := by
  unfold angT32
  pointwise
  rfl

def cosT32 : FVec Ideal S128x16 .f32 := Host.cos angT32
def sinT32 : FVec Ideal S128x16 .f32 := Host.sin angT32

theorem cosT32_apply (p : Fin 128) (j : Fin 16) : cosT32 (ix2 p j) = Ideal.cos (ang32 16384 j.val) := by
  unfold cosT32
  pointwise
  rw [angT32_apply]

theorem sinT32_apply (p : Fin 128) (j : Fin 16) : sinT32 (ix2 p j) = Ideal.sin (ang32 16384 j.val) := by
  unfold sinT32
  pointwise
  rw [angT32_apply]

def zeroT32 : FVec Ideal S128x16 .f32 := broadcastInDim S128x16 ![] bcast_S_S128x16 (constant S_ .f32 0x00000000#32)

theorem zeroT32_apply (p : Fin 128) (j : Fin 16) : zeroT32 (ix2 p j) = 0 := by
  unfold zeroT32
  pointwise
  try exact Ideal.ofBits_zero_f32

/-- Two tables side by side, repeated over the 128 lanes. -/
def lanes32 (a b : FVec Ideal S128x16 .f32) : FVec Ideal S128x128 .f32 :=
  shapeCast S128x128 (broadcastInDim S1x128x4x32 ![0, 1, 2, 3] bcast_S1x128x1x32_S1x128x4x32_0_1_2_3
    (shapeCast S1x128x1x32 (concatenate S128x32 1 [⟨S128x16, a⟩, ⟨S128x16, b⟩] concatenates_S128x16_S128x16_S128x32_d1)
      shapeCasts_S128x32_S1x128x1x32)) shapeCasts_S1x128x4x32_S128x128

theorem lanes32_apply (a b : FVec Ideal S128x16 .f32) (p : Fin 128) (l : Fin 128) :
    lanes32 a b (ix2 p l) = if l.val % 32 < 16 then a (ix2 p ⟨l.val % 16, by omega⟩) else b (ix2 p ⟨l.val % 16, by omega⟩) := by
  unfold lanes32
  pointwise
  by_cases h : l.val % 32 < 16
  · rw [dif_pos h, if_pos h]
    exact congrArg a (congrArg (ix2 p) (Fin.ext (by show l.val % 32 = l.val % 16; omega)))
  · rw [dif_neg h, if_neg h]
    exact congrArg b (congrArg (ix2 p) (Fin.ext (by show l.val % 32 - 16 = l.val % 16; omega)))

/-- The columns whose heads are rotated, gathered. -/
def wrT (w : FVec Ideal S1024x5632 .f32) : FVec Ideal S1024x1920 .bf16 :=
  truncf .bf16 (concatenate S1024x1920 1 [⟨S1024x512, extractStridedSlice S1024x512 ![0, 0] w slices_S1024x5632_S1024x512_0_0⟩,
    ⟨S1024x512, extractStridedSlice S1024x512 ![0, 640] w slices_S1024x5632_S1024x512_0_640⟩,
    ⟨S1024x512, extractStridedSlice S1024x512 ![0, 1224] w slices_S1024x5632_S1024x512_0_1224⟩,
    ⟨S1024x64, extractStridedSlice S1024x64 ![0, 512] w slices_S1024x5632_S1024x64_0_512⟩,
    ⟨S1024x64, extractStridedSlice S1024x64 ![0, 1152] w slices_S1024x5632_S1024x64_0_1152⟩,
    ⟨S1024x64, extractStridedSlice S1024x64 ![0, 1736] w slices_S1024x5632_S1024x64_0_1736⟩,
    ⟨S1024x64, extractStridedSlice S1024x64 ![0, 1864] w slices_S1024x5632_S1024x64_0_1864⟩,
    ⟨S1024x64, extractStridedSlice S1024x64 ![0, 1992] w slices_S1024x5632_S1024x64_0_1992⟩,
    ⟨S1024x64, broadcastInDim S1024x64 ![] bcast_S_S1024x64 (constant S_ .f32 0x00000000#32)⟩] concatenates_S1024x512_S1024x512_S1024x512_S1024x64_S1024x64_S1024x64_S1024x64_S1024x64_S1024x64_S1024x1920_d1) bitsLt_bf16_f32

/-- The other columns, gathered. -/
def wpT (w : FVec Ideal S1024x5632 .f32) : FVec Ideal S1024x768 .bf16 :=
  truncf .bf16 (concatenate S1024x768 1 [⟨S1024x64, extractStridedSlice S1024x64 ![0, 576] w slices_S1024x5632_S1024x64_0_576⟩,
    ⟨S1024x64, extractStridedSlice S1024x64 ![0, 1800] w slices_S1024x5632_S1024x64_0_1800⟩,
    ⟨S1024x64, extractStridedSlice S1024x64 ![0, 1928] w slices_S1024x5632_S1024x64_0_1928⟩,
    ⟨S1024x64, extractStridedSlice S1024x64 ![0, 2056] w slices_S1024x5632_S1024x64_0_2056⟩,
    ⟨S1024x128, extractStridedSlice S1024x128 ![0, 2400] w slices_S1024x5632_S1024x128_0_2400⟩,
    ⟨S1024x256, extractStridedSlice S1024x256 ![0, 2144] w slices_S1024x5632_S1024x256_0_2144⟩,
    ⟨S1024x32, extractStridedSlice S1024x32 ![0, 2528] w slices_S1024x5632_S1024x32_0_2528⟩,
    ⟨S1024x8, extractStridedSlice S1024x8 ![0, 1216] w slices_S1024x5632_S1024x8_0_1216⟩,
    ⟨S1024x24, extractStridedSlice S1024x24 ![0, 2120] w slices_S1024x5632_S1024x24_0_2120⟩,
    ⟨S1024x64, broadcastInDim S1024x64 ![] bcast_S_S1024x64 (constant S_ .f32 0x00000000#32)⟩] concatenates_S1024x64_S1024x64_S1024x64_S1024x64_S1024x128_S1024x256_S1024x32_S1024x8_S1024x24_S1024x64_S1024x768_d1) bitsLt_bf16_f32

theorem wrT_apply (w : FVec Ideal S1024x5632 .f32) (i : Fin 1024) (k : Fin 1920) (c : Fin 5632) (h : permR k.val c.val) :
    wrT w (ix2 i k) = w (ix2 i c) := by
  unfold wrT
  pointwise
  unfold permR at h
  split_ifs <;> first
    | exact congrArg w (congrArg (ix2 i) (Fin.ext (by simp only []; omega)))
    | (exfalso; omega)

theorem wpT_apply (w : FVec Ideal S1024x5632 .f32) (i : Fin 1024) (k : Fin 768) (c : Fin 5632) (h : permP k.val c.val) :
    wpT w (ix2 i k) = w (ix2 i c) := by
  unfold wpT
  pointwise
  unfold permP at h
  split_ifs <;> first
    | exact congrArg w (congrArg (ix2 i) (Fin.ext (by simp only []; omega)))
    | (exfalso; omega)

/-- The query projection's matrix, all heads' plain columns before all heads' rotated ones. -/
def wuqT (w : FVec Ideal S256x768 .f32) : FVec Ideal S256x768 .bf16 :=
  truncf .bf16 (concatenate S256x768 1 [
    ⟨S256x512, shapeCast S256x512 (extractStridedSlice S256x8x64 ![0, 0, 0] (shapeCast S256x8x96 w shapeCasts_S256x768_S256x8x96) slices_S256x8x96_S256x8x64_0_0_0) shapeCasts_S256x8x64_S256x512⟩,
    ⟨S256x256, shapeCast S256x256 (extractStridedSlice S256x8x32 ![0, 0, 64] (shapeCast S256x8x96 w shapeCasts_S256x768_S256x8x96) slices_S256x8x96_S256x8x32_0_0_64) shapeCasts_S256x8x32_S256x256⟩]
    concatenates_S256x512_S256x256_S256x768_d1) bitsLt_bf16_f32

theorem wuqT_apply (w : FVec Ideal S256x768 .f32) (i : Fin 256) (k c : Fin 768) (h : permQ k.val c.val) : wuqT w (ix2 i k) = w (ix2 i c) := by
  unfold wuqT
  pointwise
  unfold permQ at h
  split_ifs <;> first
    | exact congrArg w (congrArg (ix2 i) (Fin.ext (by simp only []; omega)))
    | (exfalso; omega)

/-- The unit matrix's entries. -/
theorem eye_apply (a b : Fin 8) :
    FloatOps.uitofp (F := Ideal) .f32 (IntOp.cmpi .eq (IntOp.addi (BitVec.ofNat 32 a.val) 0#32) (BitVec.ofNat 32 b.val))
      = if a.val = b.val then (1 : EReal) else 0 := by
  have h : ∀ a b : Fin 8, IntOp.cmpi .eq (IntOp.addi (BitVec.ofNat 32 a.val) 0#32) (BitVec.ofNat 32 b.val) = if a.val = b.val then 1#1 else 0#1 := by
    decide +kernel
  rw [h]
  by_cases e : a.val = b.val
  · rw [if_pos e, if_pos e]
    show (((1#1 : BitVec 1).toNat : ℝ) : EReal) = 1
    simp
  · rw [if_neg e, if_neg e]
    show (((0#1 : BitVec 1).toNat : ℝ) : EReal) = 0
    simp

/-- The heads' key matrices on the diagonal of one matrix. -/
def wukT (w : FVec Ideal S128x8x64 .f32) : FVec Ideal S512x1024 .bf16 :=
  truncf .bf16 (shapeCast S512x1024 (mulf
    (broadcastInDim S8x64x8x128 ![0, 1, 2, 3] bcast_S8x1x8x1_S8x64x8x128_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x128 ![0, 1, 2, 3] bcast_S8x64x1x128_S8x64x8x128_0_1_2_3 (broadcastInDim S8x64x1x128 ![0, 1, 3] bcast_S8x64x128_S8x64x1x128_0_1_3
      (transpose S8x64x128 [1, 2, 0] w transposes_S128x8x64_S8x64x128_1_2_0)))) shapeCasts_S8x64x8x128_S512x1024) bitsLt_bf16_f32

theorem wukT_apply (w : FVec Ideal S128x8x64 .f32) (k : Fin 512) (l : Fin 1024) :
    wukT w (ix2 k l) = (if k.val / 64 = l.val / 128 then 1 else 0)
      * w (ix3 (⟨l.val % 128, by omega⟩ : Fin 128) (⟨l.val / 128, by omega⟩ : Fin 8) (⟨k.val % 64, by omega⟩ : Fin 64)) := by
  unfold wukT
  pointwise
  have hk : k.val / 64 < 8 := by omega
  have hl : l.val / 128 < 8 := by omega
  have key := eye_apply ⟨k.val / 64, hk⟩ ⟨l.val / 128, hl⟩
  simp only [] at key
  rw [key]
  by_cases h : k.val / 64 = l.val / 128
  · refine congrArg (HMul.hMul _) (congrArg w ?_)
    have e : (⟨k.val / 64, hk⟩ : Fin 8) = ⟨l.val / 128, hl⟩ := Fin.ext h
    exact congrArg (fun z => ix3 _ z _) e
  · simp only [if_neg h, zero_mul]

variable (m : (ℓ : Loc nD τ sig) → Buf (Elt Ideal) ℓ)

/-- Device `c`'s rows. -/
abbrev xs (c : Dev nD) : FVec Ideal S128x1024 .f32 := m ((c : Thread nD τ).loc main_arg0)
/-- Device `c`'s gains of the layer's first normalisation. -/
abbrev gs (c : Dev nD) : FVec Ideal S1024 .f32 := m ((c : Thread nD τ).loc main_arg1)
/-- Device `c`'s input projection. -/
abbrev ws (c : Dev nD) : FVec Ideal S1024x5632 .f32 := m ((c : Thread nD τ).loc main_arg2)
/-- Device `c`'s gains of the latent query's normalisation. -/
abbrev gqs (c : Dev nD) : FVec Ideal S256 .f32 := m ((c : Thread nD τ).loc main_arg3)
/-- Device `c`'s projection of the latent query to the heads. -/
abbrev wuqs (c : Dev nD) : FVec Ideal S256x768 .f32 := m ((c : Thread nD τ).loc main_arg4)
/-- Device `c`'s gains of the latent cache's normalisation. -/
abbrev gkvs (c : Dev nD) : FVec Ideal S128 .f32 := m ((c : Thread nD τ).loc main_arg5)
/-- Device `c`'s heads' key matrices. -/
abbrev wuks (c : Dev nD) : FVec Ideal S128x8x64 .f32 := m ((c : Thread nD τ).loc main_arg6)

theorem host_v40 (c : Dev nD) : V m c main_v40 = broadcastInDim S1x1024 ![1] bcast_S1024_S1x1024_1 (gs m c) := by
  unfold_abbrev_sides
  after_results_simp
  skip

theorem host_v43 (c : Dev nD) : V m c main_v43 = broadcastInDim S1x256 ![1] bcast_S256_S1x256_1 (gqs m c) := by
  unfold_abbrev_sides
  after_results_simp
  skip

theorem host_v46 (c : Dev nD) : V m c main_v46 = broadcastInDim S1x128 ![1] bcast_S128_S1x128_1 (gkvs m c) := by
  unfold_abbrev_sides
  after_results_simp
  skip

theorem host_v41 (c : Dev nD) : V m c main_v41 = wrT (ws m c) := by
  unfold_abbrev_sides
  after_results_simp
  rfl

theorem host_v42 (c : Dev nD) : V m c main_v42 = wpT (ws m c) := by
  unfold_abbrev_sides
  after_results_simp
  rfl

theorem host_v44 (c : Dev nD) : V m c main_v44 = wuqT (wuqs m c) := by
  unfold_abbrev_sides
  after_results_simp
  rfl

theorem host_v45 (c : Dev nD) : V m c main_v45 = wukT (wuks m c) := by
  unfold_abbrev_sides
  after_results_simp
  rfl

theorem host_v68 (c : Dev nD) : V m c main_v68 = lanes64 cosT64 cosT64 := by
  unfold_abbrev_sides
  after_results_simp
  rfl

theorem host_v73 (c : Dev nD) : V m c main_v73 = lanes64 (Host.negf sinT64) zeroT64 := by
  unfold_abbrev_sides
  after_results_simp
  rfl

theorem host_v77 (c : Dev nD) : V m c main_v77 = lanes64 zeroT64 sinT64 := by
  unfold_abbrev_sides
  after_results_simp
  rfl

theorem host_v98 (c : Dev nD) : V m c main_v98 = lanes32 cosT32 cosT32 := by
  unfold_abbrev_sides
  after_results_simp
  rfl

theorem host_v103 (c : Dev nD) : V m c main_v103 = lanes32 (Host.negf sinT32) zeroT32 := by
  unfold_abbrev_sides
  after_results_simp
  rfl

theorem host_v107 (c : Dev nD) : V m c main_v107 = lanes32 zeroT32 sinT32 := by
  unfold_abbrev_sides
  after_results_simp
  rfl

end Cert.ProjS
-- ==== Proof.ProjSArr.lean ====
module

public import proofs.«01_k».proof.Proof.ProjSHost

@[expose] public section

set_option maxRecDepth 16384

noncomputable section

/-! # The sample projection kernel's ten arrays, as functions of its arguments -/

namespace Cert.ProjS

open Cert.Kernel6Ideal Cert.Kernel6Ideal.Gen Idealize.ShloMosaic Idealize.ShloMosaic.TcCoe Idealize.SL.Sem Cert.Proj

/-- Row `R`'s projection: the row, normalised, through the matrix. -/
def projRow (x : FVec Ideal S128x1024 .f32) (g : FVec Ideal S1024 .f32) (w : FVec Ideal S1024x5632 .f32) (R : Fin 128) (c : Fin 5632) : EReal :=
  ∑ i, Row.norm (fun i => x (ix2 R i)) (fun i => g (ix1 i)) i * w (ix2 i c)

/-! The cosines and sines of row `R`, whose position in its sequence is 16384, whichever row it is. -/

def cs64 (R : Fin 128) (j : Fin 32) : EReal := Ideal.cos (ang64 16384 j.val)
def sn64 (R : Fin 128) (j : Fin 32) : EReal := Ideal.sin (ang64 16384 j.val)
def cs32 (R : Fin 128) (j : Fin 16) : EReal := Ideal.cos (ang32 16384 j.val)
def sn32 (R : Fin 128) (j : Fin 16) : EReal := Ideal.sin (ang32 16384 j.val)

section specs
variable (x : FVec Ideal S128x1024 .f32) (g : FVec Ideal S1024 .f32) (w : FVec Ideal S1024x5632 .f32) (gq : FVec Ideal S256 .f32)
  (wuq : FVec Ideal S256x768 .f32) (gkv : FVec Ideal S128 .f32) (wuk : FVec Ideal S128x8x64 .f32)

/-- The three groups of queries. -/
def arr14 (y : S3x8x128x64.Idx) : EReal :=
  q3Row (projRow x g w (y 2)) (cs64 (y 2)) (sn64 (y 2)) (y 0) (y 1) (y 3)

/-- The latent attention's queries. -/
def arr15 (y : S8x128x160.Idx) : EReal :=
  qcatRow (fun c => qRow (projRow x g w (y 1)) (fun i => gq (ix1 i)) (fun i c => wuq (ix2 i c)) c) (cs32 (y 1)) (sn32 (y 1)) (fun d h e => wuk (ix3 d h e)) (y 0) (y 2)

/-- The index heads' weights. -/
def arr16 (y : S128x8.Idx) : EReal :=
  idxwRow (projRow x g w (y 0)) (y 1)

/-- The gates. -/
def arr17 (y : S128x24.Idx) : EReal :=
  gateRow (projRow x g w (y 0)) (y 1)

/-- The first cache's rows. -/
def arr18 (y : S128x192.Idx) : EReal :=
  dsaRow (projRow x g w (y 0)) (cs64 (y 0)) (sn64 (y 0)) (y 1)

/-- The second cache's rows. -/
def arr19 (y : S128x256.Idx) : EReal :=
  nsaRow (projRow x g w (y 0)) (cs64 (y 0)) (sn64 (y 0)) (y 1)

/-- The latent cache's rows. -/
def arr20 (y : S128x160.Idx) : EReal :=
  mlaRow (projRow x g w (y 0)) (fun i => gkv (ix1 i)) (cs32 (y 0)) (sn32 (y 0)) (y 1)

/-- The window's rows. -/
def arr21 (y : S128x128.Idx) : EReal :=
  winRow (projRow x g w (y 0)) (cs64 (y 0)) (sn64 (y 0)) (y 1)

/-- The seven keys and values. -/
def arr22 (y : S7x128x64.Idx) : EReal :=
  kv7Row (projRow x g w (y 1)) (cs64 (y 1)) (sn64 (y 1)) (y 0) (y 2)

end specs

variable (m : (ℓ : Loc nD τ sig) → Buf (Elt Ideal) ℓ)

theorem N_eq : cfg0.N = 1 := by decide

/-! Where each point's blocks lie. -/

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0, t.val, 0] := (by decide +kernel : ∀ t : Fin grid0.N, _)
theorem ix_15 : ∀ t : Fin cfg0.N, win0_15.index t = ![0, t.val, 0] := (by decide +kernel : ∀ t : Fin grid0.N, _)
theorem ix_16 : ∀ t : Fin cfg0.N, win0_16.index t = ![t.val, 0] := (by decide +kernel : ∀ t : Fin grid0.N, _)
theorem ix_17 : ∀ t : Fin cfg0.N, win0_17.index t = ![t.val, 0] := (by decide +kernel : ∀ t : Fin grid0.N, _)
theorem ix_18 : ∀ t : Fin cfg0.N, win0_18.index t = ![t.val, 0] := (by decide +kernel : ∀ t : Fin grid0.N, _)
theorem ix_19 : ∀ t : Fin cfg0.N, win0_19.index t = ![t.val, 0] := (by decide +kernel : ∀ t : Fin grid0.N, _)
theorem ix_20 : ∀ t : Fin cfg0.N, win0_20.index t = ![t.val, 0] := (by decide +kernel : ∀ t : Fin grid0.N, _)
theorem ix_21 : ∀ t : Fin cfg0.N, win0_21.index t = ![t.val, 0] := (by decide +kernel : ∀ t : Fin grid0.N, _)
theorem ix_22 : ∀ t : Fin cfg0.N, win0_22.index t = ![0, t.val, 0] := (by decide +kernel : ∀ t : Fin grid0.N, _)
theorem ix_23 : ∀ t : Fin cfg0.N, win0_23.index t = ![t.val, 0] := (by decide +kernel : ∀ t : Fin grid0.N, _)

/-- The row of the whole array at place `r` of point `t`'s block. -/
abbrev rowAt (t : Fin cfg0.N) (r : Fin 128) : Fin 128 := ⟨t.val * 128 + r.val, by have := t.isLt; have := N_eq; omega⟩

/-- The row of the tables at place `r` of a point's block. -/
abbrev posAt (_ : Fin cfg0.N) (r : Fin 128) : Fin 128 := r

theorem x_blk (c : Dev nD) (t : Fin cfg0.N) (r : Fin 128) (i : Fin 1024) : iblk m c 0 t (ix2 r i) = xs m c (ix2 (rowAt t r) i) := by
  have e0 := ix_0 t
  refine Eq.trans (b := V m c main_arg0 (ix2 (rowAt t r) i)) ?_ (congrFun (V_main_arg0 m c) _)
  blk_ext [iblk, e0]

theorem g_blk (c : Dev nD) (t : Fin cfg0.N) (i : Fin 1024) : iblk m c 1 t (ix2 (0 : Fin 1) i) = gs m c (ix1 i) := by
  have e0 := ix_1 t
  refine Eq.trans (b := V m c main_v40 (ix2 (0 : Fin 1) i)) ?_ ((congrFun (host_v40 m c) _).trans (by pointwise))
  blk_ext [iblk, e0]

theorem gq_blk (c : Dev nD) (t : Fin cfg0.N) (i : Fin 256) : iblk m c 10 t (ix2 (0 : Fin 1) i) = gqs m c (ix1 i) := by
  have e0 := ix_10 t
  refine Eq.trans (b := V m c main_v43 (ix2 (0 : Fin 1) i)) ?_ ((congrFun (host_v43 m c) _).trans (by pointwise))
  blk_ext [iblk, e0]

theorem gkv_blk (c : Dev nD) (t : Fin cfg0.N) (i : Fin 128) : iblk m c 13 t (ix2 (0 : Fin 1) i) = gkvs m c (ix1 i) := by
  have e0 := ix_13 t
  refine Eq.trans (b := V m c main_v46 (ix2 (0 : Fin 1) i)) ?_ ((congrFun (host_v46 m c) _).trans (by pointwise))
  blk_ext [iblk, e0]

theorem wr_blk (c : Dev nD) (t : Fin cfg0.N) (i : Fin 1024) (k : Fin 1920) : iblk m c 2 t (ix2 i k) = wrT (ws m c) (ix2 i k) := by
  have e0 := ix_2 t
  refine Eq.trans (b := V m c main_v41 (ix2 i k)) ?_ (congrFun (host_v41 m c) _)
  blk_ext [iblk, e0]

theorem wp_blk (c : Dev nD) (t : Fin cfg0.N) (i : Fin 1024) (k : Fin 768) : iblk m c 3 t (ix2 i k) = wpT (ws m c) (ix2 i k) := by
  have e0 := ix_3 t
  refine Eq.trans (b := V m c main_v42 (ix2 i k)) ?_ (congrFun (host_v42 m c) _)
  blk_ext [iblk, e0]

theorem wuq_blk (c : Dev nD) (t : Fin cfg0.N) (i : Fin 256) (k : Fin 768) : iblk m c 11 t (ix2 i k) = wuqT (wuqs m c) (ix2 i k) := by
  have e0 := ix_11 t
  refine Eq.trans (b := V m c main_v44 (ix2 i k)) ?_ (congrFun (host_v44 m c) _)
  blk_ext [iblk, e0]

theorem wuk_blk (c : Dev nD) (t : Fin cfg0.N) (k : Fin 512) (l : Fin 1024) : iblk m c 12 t (ix2 k l) = wukT (wuks m c) (ix2 k l) := by
  have e0 := ix_12 t
  refine Eq.trans (b := V m c main_v45 (ix2 k l)) ?_ (congrFun (host_v45 m c) _)
  blk_ext [iblk, e0]

theorem tab4_blk (c : Dev nD) (t : Fin cfg0.N) (r : Fin 128) (l : Fin 128) : iblk m c 4 t (ix2 r l) = lanes64 cosT64 cosT64 (ix2 (posAt t r) l) := by
  have e0 := ix_4 t
  refine Eq.trans (b := V m c main_v68 (ix2 (posAt t r) l)) ?_ (congrFun (host_v68 m c) _)
  blk_ext [iblk, e0]

theorem tab5_blk (c : Dev nD) (t : Fin cfg0.N) (r : Fin 128) (l : Fin 128) : iblk m c 5 t (ix2 r l) = lanes64 (Host.negf sinT64) zeroT64 (ix2 (posAt t r) l) := by
  have e0 := ix_5 t
  refine Eq.trans (b := V m c main_v73 (ix2 (posAt t r) l)) ?_ (congrFun (host_v73 m c) _)
  blk_ext [iblk, e0]

theorem tab6_blk (c : Dev nD) (t : Fin cfg0.N) (r : Fin 128) (l : Fin 128) : iblk m c 6 t (ix2 r l) = lanes64 zeroT64 sinT64 (ix2 (posAt t r) l) := by
  have e0 := ix_6 t
  refine Eq.trans (b := V m c main_v77 (ix2 (posAt t r) l)) ?_ (congrFun (host_v77 m c) _)
  blk_ext [iblk, e0]

theorem tab64 (c : Dev nD) (t : Fin cfg0.N) :
    Tab64 (iblk m c 4 t) (iblk m c 5 t) (iblk m c 6 t) (fun r => cs64 (rowAt t r)) (fun r => sn64 (rowAt t r)) where
  hc r l := by
    rw [tab4_blk, lanes64_apply, cosT64_apply, ite_self]
    rfl
  hs r l := by
    have e : (Host.negf sinT64 : FVec Ideal S128x32 .f32) (ix2 (posAt t r) ⟨l.val % 32, by omega⟩) = -sinT64 (ix2 (posAt t r) ⟨l.val % 32, by omega⟩) := by pointwise
    rw [tab5_blk, lanes64_apply, e, sinT64_apply, zeroT64_apply]
    rfl
  ht r l := by
    rw [tab6_blk, lanes64_apply, sinT64_apply, zeroT64_apply]
    rfl

theorem tab7_blk (c : Dev nD) (t : Fin cfg0.N) (r : Fin 128) (l : Fin 128) : iblk m c 7 t (ix2 r l) = lanes32 cosT32 cosT32 (ix2 (posAt t r) l) := by
  have e0 := ix_7 t
  refine Eq.trans (b := V m c main_v98 (ix2 (posAt t r) l)) ?_ (congrFun (host_v98 m c) _)
  blk_ext [iblk, e0]

theorem tab8_blk (c : Dev nD) (t : Fin cfg0.N) (r : Fin 128) (l : Fin 128) : iblk m c 8 t (ix2 r l) = lanes32 (Host.negf sinT32) zeroT32 (ix2 (posAt t r) l) := by
  have e0 := ix_8 t
  refine Eq.trans (b := V m c main_v103 (ix2 (posAt t r) l)) ?_ (congrFun (host_v103 m c) _)
  blk_ext [iblk, e0]

theorem tab9_blk (c : Dev nD) (t : Fin cfg0.N) (r : Fin 128) (l : Fin 128) : iblk m c 9 t (ix2 r l) = lanes32 zeroT32 sinT32 (ix2 (posAt t r) l) := by
  have e0 := ix_9 t
  refine Eq.trans (b := V m c main_v107 (ix2 (posAt t r) l)) ?_ (congrFun (host_v107 m c) _)
  blk_ext [iblk, e0]

theorem tab32 (c : Dev nD) (t : Fin cfg0.N) :
    Tab32 (iblk m c 7 t) (iblk m c 8 t) (iblk m c 9 t) (fun r => cs32 (rowAt t r)) (fun r => sn32 (rowAt t r)) where
  hc r l := by
    rw [tab7_blk, lanes32_apply, cosT32_apply, ite_self]
    rfl
  hs r l := by
    have e : (Host.negf sinT32 : FVec Ideal S128x16 .f32) (ix2 (posAt t r) ⟨l.val % 16, by omega⟩) = -sinT32 (ix2 (posAt t r) ⟨l.val % 16, by omega⟩) := by pointwise
    rw [tab8_blk, lanes32_apply, e, sinT32_apply, zeroT32_apply]
    rfl
  ht r l := by
    rw [tab9_blk, lanes32_apply, sinT32_apply, zeroT32_apply]
    rfl

/-- A point's rotated columns are the projection's. -/
theorem hA (c : Dev nD) (t : Fin cfg0.N) (r : Fin 128) (k : Fin 1920) (d : Fin 5632) (h : permR k.val d.val) :
    k0_pay7 (F := Ideal) (iblk m c 0 t) (iblk m c 1 t) (iblk m c 2 t) (ix2 r k) = projRow (xs m c) (gs m c) (ws m c) (rowAt t r) d := by
  rw [pay7_apply]
  simp only [x_blk, g_blk, wr_blk, wrT_apply (ws m c) _ k d h]
  rfl

/-- A point's other columns are the projection's. -/
theorem hB (c : Dev nD) (t : Fin cfg0.N) (r : Fin 128) (k : Fin 768) (d : Fin 5632) (h : permP k.val d.val) :
    k0_pay8 (F := Ideal) (iblk m c 0 t) (iblk m c 1 t) (iblk m c 3 t) (ix2 r k) = projRow (xs m c) (gs m c) (ws m c) (rowAt t r) d := by
  rw [pay8_apply]
  simp only [x_blk, g_blk, wp_blk, wpT_apply (ws m c) _ k d h]
  rfl

theorem hW (c : Dev nD) (t : Fin cfg0.N) (i : Fin 256) (k d : Fin 768) (h : permQ k.val d.val) :
    iblk m c 11 t (ix2 i k) = wuqs m c (ix2 i d) := by
  rw [wuq_blk, wuqT_apply _ i k d h]

theorem hU (c : Dev nD) (t : Fin cfg0.N) : Diag (iblk m c 12 t) (fun d h e => wuks m c (ix3 d h e)) := fun k l => by
  rw [wuk_blk, wukT_apply]

end Cert.ProjS
-- ==== Proof.ProjSFin.lean ====
module

public import proofs.«01_k».proof.Proof.ProjSArr

@[expose] public section

set_option maxRecDepth 16384

noncomputable section

/-! # The sample projection kernel's ten arrays -/

namespace Cert.ProjS

open Cert.Kernel6Ideal Cert.Kernel6Ideal.Gen Idealize.ShloMosaic Idealize.ShloMosaic.TcCoe Idealize.SL.Sem Cert.Proj

variable (m : (ℓ : Loc nD τ sig) → Buf (Elt Ideal) ℓ)

theorem emb16 (t : Fin cfg0.N) (r : Fin 128) (d : Fin 8) :
    ((cfg0.win 16).blk t).view.emb (ix2 r d) = (ix2 (rowAt t r) d : S128x8.Idx) := by
  have e := ix_16 t
  funext a; apply Fin.ext
  match a with
  | ⟨0, _⟩ => show win0_16.index t (0 : Fin 2) * 128 + 1 * r.val = t.val * 128 + r.val; rw [e]; simp
  | ⟨1, _⟩ => show win0_16.index t (1 : Fin 2) * 8 + 1 * d.val = d.val; rw [e]; simp

theorem blk16 (c : Dev nD) (t : Fin cfg0.N) (r : Fin 128) (d : Fin 8) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr16 (xs m c) (gs m c) (ws m c) (((cfg0.win 16).blk t).view.emb (ix2 r d)) := by
  rw [emb16]
  exact (out16_apply _ _ _ _ _ _ _ _ _ _ _ _ _ _ _ _ _ _ _ _ _ _ _ _ _ _ _ _ _ _ _ _ _ _ _ _ _ _ _ _ _ _ _ _ _ _ _ _ _ _ (hB m c t) r d)

theorem final16 (c : Dev nD) : (dats m 0 c).arrAt 16 cfg0.N = arr16 (xs m c) (gs m c) (ws m c) := by
  refine (dats m 0 c).arrAt_eq_of_covers 16 _ (by decide +kernel) fun t hf y => ?_
  refine (congrFun (Cert.Kernel6Ideal.Value.flushed16_A m c t) y).trans ?_
  have hy : y = ix2 (y 0) (y 1) := by funext a; match a with | ⟨0, _⟩ => rfl | ⟨1, _⟩ => rfl
  rw [hy]
  exact blk16 m c t (y 0) (y 1)

theorem emb17 (t : Fin cfg0.N) (r : Fin 128) (d : Fin 24) :
    ((cfg0.win 17).blk t).view.emb (ix2 r d) = (ix2 (rowAt t r) d : S128x24.Idx) := by
  have e := ix_17 t
  funext a; apply Fin.ext
  match a with
  | ⟨0, _⟩ => show win0_17.index t (0 : Fin 2) * 128 + 1 * r.val = t.val * 128 + r.val; rw [e]; simp
  | ⟨1, _⟩ => show win0_17.index t (1 : Fin 2) * 24 + 1 * d.val = d.val; rw [e]; simp

theorem blk17 (c : Dev nD) (t : Fin cfg0.N) (r : Fin 128) (d : Fin 24) :
    out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr17 (xs m c) (gs m c) (ws m c) (((cfg0.win 17).blk t).view.emb (ix2 r d)) := by
  rw [emb17]
  exact (out17_apply _ _ _ _ _ _ _ _ _ _ _ _ _ _ _ _ _ _ _ _ _ _ _ _ _ _ _ _ _ _ _ _ _ _ _ _ _ _ _ _ _ _ _ _ _ _ _ _ _ _ (hB m c t) r d)

theorem final17 (c : Dev nD) : (dats m 0 c).arrAt 17 cfg0.N = arr17 (xs m c) (gs m c) (ws m c) := by
  refine (dats m 0 c).arrAt_eq_of_covers 17 _ (by decide +kernel) fun t hf y => ?_
  refine (congrFun (Cert.Kernel6Ideal.Value.flushed17_A m c t) y).trans ?_
  have hy : y = ix2 (y 0) (y 1) := by funext a; match a with | ⟨0, _⟩ => rfl | ⟨1, _⟩ => rfl
  rw [hy]
  exact blk17 m c t (y 0) (y 1)

theorem emb18 (t : Fin cfg0.N) (r : Fin 128) (d : Fin 192) :
    ((cfg0.win 18).blk t).view.emb (ix2 r d) = (ix2 (rowAt t r) d : S128x192.Idx) := by
  have e := ix_18 t
  funext a; apply Fin.ext
  match a with
  | ⟨0, _⟩ => show win0_18.index t (0 : Fin 2) * 128 + 1 * r.val = t.val * 128 + r.val; rw [e]; simp
  | ⟨1, _⟩ => show win0_18.index t (1 : Fin 2) * 192 + 1 * d.val = d.val; rw [e]; simp

theorem blk18 (c : Dev nD) (t : Fin cfg0.N) (r : Fin 128) (d : Fin 192) :
    out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr18 (xs m c) (gs m c) (ws m c) (((cfg0.win 18).blk t).view.emb (ix2 r d)) := by
  rw [emb18]
  exact (out18_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final18 (c : Dev nD) : (dats m 0 c).arrAt 18 cfg0.N = arr18 (xs m c) (gs m c) (ws m c) := by
  refine (dats m 0 c).arrAt_eq_of_covers 18 _ (by decide +kernel) fun t hf y => ?_
  refine (congrFun (Cert.Kernel6Ideal.Value.flushed18_A m c t) y).trans ?_
  have hy : y = ix2 (y 0) (y 1) := by funext a; match a with | ⟨0, _⟩ => rfl | ⟨1, _⟩ => rfl
  rw [hy]
  exact blk18 m c t (y 0) (y 1)

theorem emb19 (t : Fin cfg0.N) (r : Fin 128) (d : Fin 256) :
    ((cfg0.win 19).blk t).view.emb (ix2 r d) = (ix2 (rowAt t r) d : S128x256.Idx) := by
  have e := ix_19 t
  funext a; apply Fin.ext
  match a with
  | ⟨0, _⟩ => show win0_19.index t (0 : Fin 2) * 128 + 1 * r.val = t.val * 128 + r.val; rw [e]; simp
  | ⟨1, _⟩ => show win0_19.index t (1 : Fin 2) * 256 + 1 * d.val = d.val; rw [e]; simp

theorem blk19 (c : Dev nD) (t : Fin cfg0.N) (r : Fin 128) (d : Fin 256) :
    out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr19 (xs m c) (gs m c) (ws m c) (((cfg0.win 19).blk t).view.emb (ix2 r d)) := by
  rw [emb19]
  exact (out19_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final19 (c : Dev nD) : (dats m 0 c).arrAt 19 cfg0.N = arr19 (xs m c) (gs m c) (ws m c) := by
  refine (dats m 0 c).arrAt_eq_of_covers 19 _ (by decide +kernel) fun t hf y => ?_
  refine (congrFun (Cert.Kernel6Ideal.Value.flushed19_A m c t) y).trans ?_
  have hy : y = ix2 (y 0) (y 1) := by funext a; match a with | ⟨0, _⟩ => rfl | ⟨1, _⟩ => rfl
  rw [hy]
  exact blk19 m c t (y 0) (y 1)

theorem emb21 (t : Fin cfg0.N) (r : Fin 128) (d : Fin 128) :
    ((cfg0.win 21).blk t).view.emb (ix2 r d) = (ix2 (rowAt t r) d : S128x128.Idx) := by
  have e := ix_21 t
  funext a; apply Fin.ext
  match a with
  | ⟨0, _⟩ => show win0_21.index t (0 : Fin 2) * 128 + 1 * r.val = t.val * 128 + r.val; rw [e]; simp
  | ⟨1, _⟩ => show win0_21.index t (1 : Fin 2) * 128 + 1 * d.val = d.val; rw [e]; simp

theorem blk21 (c : Dev nD) (t : Fin cfg0.N) (r : Fin 128) (d : Fin 128) :
    out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr21 (xs m c) (gs m c) (ws m c) (((cfg0.win 21).blk t).view.emb (ix2 r d)) := by
  rw [emb21]
  exact (out21_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) r d)

theorem final21 (c : Dev nD) : (dats m 0 c).arrAt 21 cfg0.N = arr21 (xs m c) (gs m c) (ws m c) := by
  refine (dats m 0 c).arrAt_eq_of_covers 21 _ (by decide +kernel) fun t hf y => ?_
  refine (congrFun (Cert.Kernel6Ideal.Value.flushed21_A m c t) y).trans ?_
  have hy : y = ix2 (y 0) (y 1) := by funext a; match a with | ⟨0, _⟩ => rfl | ⟨1, _⟩ => rfl
  rw [hy]
  exact blk21 m c t (y 0) (y 1)

theorem emb20 (t : Fin cfg0.N) (r : Fin 128) (d : Fin 160) :
    ((cfg0.win 20).blk t).view.emb (ix2 r d) = (ix2 (rowAt t r) d : S128x160.Idx) := by
  have e := ix_20 t
  funext a; apply Fin.ext
  match a with
  | ⟨0, _⟩ => show win0_20.index t (0 : Fin 2) * 128 + 1 * r.val = t.val * 128 + r.val; rw [e]; simp
  | ⟨1, _⟩ => show win0_20.index t (1 : Fin 2) * 160 + 1 * d.val = d.val; rw [e]; simp

theorem blk20 (c : Dev nD) (t : Fin cfg0.N) (r : Fin 128) (d : Fin 160) :
    out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr20 (xs m c) (gs m c) (ws m c) (gkvs m c) (((cfg0.win 20).blk t).view.emb (ix2 r d)) := by
  rw [emb20]
  have eg : (fun i => iblk m c 13 t (ix2 (0 : Fin 1) i)) = fun i => gkvs m c (ix1 i) := funext fun i => gkv_blk m c t i
  refine (out20_apply _ _ _ _ _ _ _ _ _ _ _ _ _ _ _ _ _ _ _ _ _ _ _ _ _ _ _ _ _ _ _ _ _ _ _ _ _ _ _ _ _ _ _ _ _ _ _ _ _ _ (hB m c t) (tab32 m c t) r d).trans ?_
  rw [eg]
  rfl

theorem final20 (c : Dev nD) : (dats m 0 c).arrAt 20 cfg0.N = arr20 (xs m c) (gs m c) (ws m c) (gkvs m c) := by
  refine (dats m 0 c).arrAt_eq_of_covers 20 _ (by decide +kernel) fun t hf y => ?_
  refine (congrFun (Cert.Kernel6Ideal.Value.flushed20_A m c t) y).trans ?_
  have hy : y = ix2 (y 0) (y 1) := by funext a; match a with | ⟨0, _⟩ => rfl | ⟨1, _⟩ => rfl
  rw [hy]
  exact blk20 m c t (y 0) (y 1)

theorem emb23 (t : Fin cfg0.N) (r : Fin 128) (d : Fin 160) :
    ((cfg0.win 23).blk t).view.emb (ix2 r d) = (ix2 (rowAt t r) d : S128x160.Idx) := by
  have e := ix_23 t
  funext a; apply Fin.ext
  match a with
  | ⟨0, _⟩ => show win0_23.index t (0 : Fin 2) * 128 + 1 * r.val = t.val * 128 + r.val; rw [e]; simp
  | ⟨1, _⟩ => show win0_23.index t (1 : Fin 2) * 160 + 1 * d.val = d.val; rw [e]; simp

theorem blk23 (c : Dev nD) (t : Fin cfg0.N) (r : Fin 128) (d : Fin 160) :
    out0_A_23 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = arr20 (xs m c) (gs m c) (ws m c) (gkvs m c) (((cfg0.win 23).blk t).view.emb (ix2 r d)) := by
  rw [emb23]
  have eg : (fun i => iblk m c 13 t (ix2 (0 : Fin 1) i)) = fun i => gkvs m c (ix1 i) := funext fun i => gkv_blk m c t i
  refine (out23_apply _ _ _ _ _ _ _ _ _ _ _ _ _ _ _ _ _ _ _ _ _ _ _ _ _ _ _ _ _ _ _ _ _ _ _ _ _ _ _ _ _ _ _ _ _ _ _ _ _ _ (hB m c t) (tab32 m c t) r d).trans ?_
  rw [eg]
  rfl

theorem final23 (c : Dev nD) : (dats m 0 c).arrAt 23 cfg0.N = arr20 (xs m c) (gs m c) (ws m c) (gkvs m c) := by
  refine (dats m 0 c).arrAt_eq_of_covers 23 _ (by decide +kernel) fun t hf y => ?_
  refine (congrFun (Cert.Kernel6Ideal.Value.flushed23_A m c t) y).trans ?_
  have hy : y = ix2 (y 0) (y 1) := by funext a; match a with | ⟨0, _⟩ => rfl | ⟨1, _⟩ => rfl
  rw [hy]
  exact blk23 m c t (y 0) (y 1)

theorem emb22 (t : Fin cfg0.N) (b : Fin 7) (r : Fin 128) (d : Fin 64) :
    ((cfg0.win 22).blk t).view.emb (ix3 b r d) = (ix3 b (rowAt t r) d : S7x128x64.Idx) := by
  have e := ix_22 t
  funext a; apply Fin.ext
  match a with
  | ⟨0, _⟩ => show win0_22.index t (0 : Fin 3) * 7 + 1 * b.val = b.val; rw [e]; simp
  | ⟨1, _⟩ => show win0_22.index t (1 : Fin 3) * 128 + 1 * r.val = t.val * 128 + r.val; rw [e]; simp
  | ⟨2, _⟩ => show win0_22.index t (2 : Fin 3) * 64 + 1 * d.val = d.val; rw [e]; simp

theorem blk22 (c : Dev nD) (t : Fin cfg0.N) (b : Fin 7) (r : Fin 128) (d : Fin 64) :
    out0_A_22 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 b r d)
      = arr22 (xs m c) (gs m c) (ws m c) (((cfg0.win 22).blk t).view.emb (ix3 b r d)) := by
  rw [emb22]
  exact (out22_apply _ _ _ _ _ _ _ _ _ _ _ _ _ _ _ _ _ _ _ _ _ _ _ _ _ _ _ _ _ _ _ _ _ _ _ _ _ _ _ _ _ _ _ _ _ _ _ _ _ _ (hA m c t) (hB m c t) (tab64 m c t) b r d)

theorem final22 (c : Dev nD) : (dats m 0 c).arrAt 22 cfg0.N = arr22 (xs m c) (gs m c) (ws m c) := by
  refine (dats m 0 c).arrAt_eq_of_covers 22 _ (by decide +kernel) fun t hf y => ?_
  refine (congrFun (Cert.Kernel6Ideal.Value.flushed22_A m c t) y).trans ?_
  have hy : y = ix3 (y 0) (y 1) (y 2) := by funext a; match a with | ⟨0, _⟩ => rfl | ⟨1, _⟩ => rfl | ⟨2, _⟩ => rfl
  rw [hy]
  exact blk22 m c t (y 0) (y 1) (y 2)

theorem emb14 (t : Fin cfg0.N) (b : Fin 3) (h : Fin 8) (r : Fin 128) (d : Fin 64) :
    ((cfg0.win 14).blk t).view.emb (ix4 b h r d) = (ix4 b h (rowAt t r) d : S3x8x128x64.Idx) := by
  have e := ix_14 t
  funext a; apply Fin.ext
  match a with
  | ⟨0, _⟩ => show win0_14.index t (0 : Fin 4) * 3 + 1 * b.val = b.val; rw [e]; simp
  | ⟨1, _⟩ => show win0_14.index t (1 : Fin 4) * 8 + 1 * h.val = h.val; rw [e]; simp
  | ⟨2, _⟩ => show win0_14.index t (2 : Fin 4) * 128 + 1 * r.val = t.val * 128 + r.val; rw [e]; simp
  | ⟨3, _⟩ => show win0_14.index t (3 : Fin 4) * 64 + 1 * d.val = d.val; rw [e]; simp

theorem blk14 (c : Dev nD) (t : Fin cfg0.N) (b : Fin 3) (h : Fin 8) (r : Fin 128) (d : Fin 64) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 b h r d)
      = arr14 (xs m c) (gs m c) (ws m c) (((cfg0.win 14).blk t).view.emb (ix4 b h r d)) := by
  rw [emb14]
  exact (out14_apply _ _ _ _ _ _ _ _ _ _ _ _ _ _ _ _ _ _ _ _ _ _ _ _ _ _ _ _ _ _ _ _ _ _ _ _ _ _ _ _ _ _ _ _ _ _ _ _ _ _ (hA m c t) (tab64 m c t) b h r d)

theorem final14 (c : Dev nD) : (dats m 0 c).arrAt 14 cfg0.N = arr14 (xs m c) (gs m c) (ws m c) := by
  refine (dats m 0 c).arrAt_eq_of_covers 14 _ (by decide +kernel) fun t hf y => ?_
  refine (congrFun (Cert.Kernel6Ideal.Value.flushed14_A m c t) y).trans ?_
  have hy : y = ix4 (y 0) (y 1) (y 2) (y 3) := by funext a; match a with | ⟨0, _⟩ => rfl | ⟨1, _⟩ => rfl | ⟨2, _⟩ => rfl | ⟨3, _⟩ => rfl
  rw [hy]
  exact blk14 m c t (y 0) (y 1) (y 2) (y 3)

theorem emb15 (t : Fin cfg0.N) (h : Fin 8) (r : Fin 128) (d : Fin 160) :
    ((cfg0.win 15).blk t).view.emb (ix3 h r d) = (ix3 h (rowAt t r) d : S8x128x160.Idx) := by
  have e := ix_15 t
  funext a; apply Fin.ext
  match a with
  | ⟨0, _⟩ => show win0_15.index t (0 : Fin 3) * 8 + 1 * h.val = h.val; rw [e]; simp
  | ⟨1, _⟩ => show win0_15.index t (1 : Fin 3) * 128 + 1 * r.val = t.val * 128 + r.val; rw [e]; simp
  | ⟨2, _⟩ => show win0_15.index t (2 : Fin 3) * 160 + 1 * d.val = d.val; rw [e]; simp

theorem blk15 (c : Dev nD) (t : Fin cfg0.N) (h : Fin 8) (r : Fin 128) (d : Fin 160) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 h r d)
      = arr15 (xs m c) (gs m c) (ws m c) (gqs m c) (wuqs m c) (wuks m c) (((cfg0.win 15).blk t).view.emb (ix3 h r d)) := by
  rw [emb15]
  have eg : (fun i => iblk m c 10 t (ix2 (0 : Fin 1) i)) = fun i => gqs m c (ix1 i) := funext fun i => gq_blk m c t i
  refine (out15_apply _ _ _ _ _ _ _ _ _ _ _ _ _ _ _ _ _ _ _ _ _ _ _ _ _ _ _ _ _ _ _ _ _ _ _ _ _ _ _ _ _ _ _ _ _ _ _ _ _ _ (hB m c t) (tab32 m c t) (hW m c t) (U := fun d h e => wuks m c (ix3 d h e)) (hU m c t) h r d).trans ?_
  rw [eg]
  rfl

theorem final15 (c : Dev nD) : (dats m 0 c).arrAt 15 cfg0.N = arr15 (xs m c) (gs m c) (ws m c) (gqs m c) (wuqs m c) (wuks m c) := by
  refine (dats m 0 c).arrAt_eq_of_covers 15 _ (by decide +kernel) fun t hf y => ?_
  refine (congrFun (Cert.Kernel6Ideal.Value.flushed15_A m c t) y).trans ?_
  have hy : y = ix3 (y 0) (y 1) (y 2) := by funext a; match a with | ⟨0, _⟩ => rfl | ⟨1, _⟩ => rfl | ⟨2, _⟩ => rfl
  rw [hy]
  exact blk15 m c t (y 0) (y 1) (y 2)

end Cert.ProjS
-- ==== Proof.ProjSStep.lean ====
module

public import proofs.«01_k».proof.Proof.Gen.Reference6Ideal.Run
public import proofs.«01_k».proof.Proof.ProjSArr

@[expose] public section

set_option maxRecDepth 16384

noncomputable section

/-! # The steps of the projection's reference, at an index -/

namespace Cert.ProjS

open Cert.Reference6Ideal Cert.Reference6Ideal.Gen Idealize.ShloMosaic Idealize.ShloMosaic.TcCoe Idealize.SL.Sem Cert.Proj

/-- Every row's position, 16384. -/
def posR : FVec Ideal S128 .f32 :=
  sitofp .f32 (broadcastInDim S128 ![] bcast_S_S128 (constantI S_ 32 16384#32))

theorem posR_apply (R : Fin 128) : posR (ix1 R) = FloatOps.sitofp (F := Ideal) .f32 (BitVec.ofNat 32 16384) := by
  unfold posR
  pointwise

/-- The angles of 32 frequencies at every row's position. -/
def angR64 : FVec Ideal S128x32 .f32 :=
  mulf (broadcastInDim S128x32 ![0, 1] bcast_S128x1_S128x32_0_1 (broadcastInDim S128x1 ![0] bcast_S128_S128x1_0 posR))
    (broadcastInDim S128x32 ![0, 1] bcast_S1x32_S128x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem angR64_apply (R : Fin 128) (j : Fin 32) : angR64 (ix2 R j) = ang64 16384 j.val := by
  unfold angR64
  pointwise
  rw [posR_apply]
  rfl

def cosR64 : FVec Ideal S128x1x32 .f32 := broadcastInDim S128x1x32 ![0, 2] bcast_S128x32_S128x1x32_0_2 (Host.cos angR64)
def sinR64 : FVec Ideal S128x1x32 .f32 := broadcastInDim S128x1x32 ![0, 2] bcast_S128x32_S128x1x32_0_2 (Host.sin angR64)

theorem cosR64_apply (R : Fin 128) (j : Fin 32) : cosR64 (ix3 R (0 : Fin 1) j) = cs64 R j := by
  unfold cosR64 cs64
  pointwise
  rw [angR64_apply]

theorem sinR64_apply (R : Fin 128) (j : Fin 32) : sinR64 (ix3 R (0 : Fin 1) j) = sn64 R j := by
  unfold sinR64 sn64
  pointwise
  rw [angR64_apply]

/-- The rotation of eight heads. -/
def rotH64 (v : FVec Ideal S128x8x64 .f32) (a b : FVec Ideal S128x1x32 .f32) : FVec Ideal S128x8x64 .f32 :=
  concatenate S128x8x64 2
    [⟨S128x8x32, subf (mulf (extractStridedSlice S128x8x32 ![0, 0, 0] v slices_S128x8x64_S128x8x32_0_0_0) (broadcastInDim S128x8x32 ![0, 1, 2] bcast_S128x1x32_S128x8x32_0_1_2 a))
        (mulf (extractStridedSlice S128x8x32 ![0, 0, 32] v slices_S128x8x64_S128x8x32_0_0_32) (broadcastInDim S128x8x32 ![0, 1, 2] bcast_S128x1x32_S128x8x32_0_1_2 b))⟩,
      ⟨S128x8x32, addf (mulf (extractStridedSlice S128x8x32 ![0, 0, 32] v slices_S128x8x64_S128x8x32_0_0_32) (broadcastInDim S128x8x32 ![0, 1, 2] bcast_S128x1x32_S128x8x32_0_1_2 a))
        (mulf (extractStridedSlice S128x8x32 ![0, 0, 0] v slices_S128x8x64_S128x8x32_0_0_0) (broadcastInDim S128x8x32 ![0, 1, 2] bcast_S128x1x32_S128x8x32_0_1_2 b))⟩]
    concatenates_S128x8x32_S128x8x32_S128x8x64_d2

theorem rotH64_apply (v : FVec Ideal S128x8x64 .f32) (a b : FVec Ideal S128x1x32 .f32) (R : Fin 128) (h : Fin 8) (j : Fin 64) :
    rotH64 v a b (ix3 R h j) = rot64 (fun j => v (ix3 R h j)) (fun i => a (ix3 R (0 : Fin 1) i)) (fun i => b (ix3 R (0 : Fin 1) i)) j := by
  unfold rotH64 rot64
  pointwise
  split_ifs with hj
  · have e : (⟨32 + j.val, by omega⟩ : Fin 64) = ⟨j.val + 32, by omega⟩ := Fin.ext (by simp only []; omega)
    rw [← e]
  · have e : (⟨32 + (j.val - 32), by omega⟩ : Fin 64) = j := Fin.ext (by simp only []; omega)
    rw [e]
  · exact absurd rfl (by assumption)

/-- The rotation of one key. -/
def keyR64 (s : FVec Ideal S128x64 .f32) (a b : FVec Ideal S128x1x32 .f32) : FVec Ideal S128x64 .f32 :=
  shapeCast S128x64 (concatenate S128x1x64 2
    [⟨S128x1x32, subf (mulf (extractStridedSlice S128x1x32 ![0, 0, 0] (broadcastInDim S128x1x64 ![0, 2] bcast_S128x64_S128x1x64_0_2 s) slices_S128x1x64_S128x1x32_0_0_0) a)
        (mulf (extractStridedSlice S128x1x32 ![0, 0, 32] (broadcastInDim S128x1x64 ![0, 2] bcast_S128x64_S128x1x64_0_2 s) slices_S128x1x64_S128x1x32_0_0_32) b)⟩,
      ⟨S128x1x32, addf (mulf (extractStridedSlice S128x1x32 ![0, 0, 32] (broadcastInDim S128x1x64 ![0, 2] bcast_S128x64_S128x1x64_0_2 s) slices_S128x1x64_S128x1x32_0_0_32) a)
        (mulf (extractStridedSlice S128x1x32 ![0, 0, 0] (broadcastInDim S128x1x64 ![0, 2] bcast_S128x64_S128x1x64_0_2 s) slices_S128x1x64_S128x1x32_0_0_0) b)⟩]
    concatenates_S128x1x32_S128x1x32_S128x1x64_d2) shapeCasts_S128x1x64_S128x64

theorem keyR64_apply (s : FVec Ideal S128x64 .f32) (a b : FVec Ideal S128x1x32 .f32) (R : Fin 128) (j : Fin 64) :
    keyR64 s a b (ix2 R j) = rot64 (fun j => s (ix2 R j)) (fun i => a (ix3 R (0 : Fin 1) i)) (fun i => b (ix3 R (0 : Fin 1) i)) j := by
  unfold keyR64 rot64
  pointwise
  split_ifs with hj
  · have e : (⟨32 + j.val, by omega⟩ : Fin 64) = ⟨j.val + 32, by omega⟩ := Fin.ext (by simp only []; omega)
    rw [← e]
  · have e : (⟨32 + (j.val - 32), by omega⟩ : Fin 64) = j := Fin.ext (by simp only []; omega)
    rw [e]
  · exact absurd rfl (by assumption)

/-- The angles of 16 frequencies at every row's position. -/
def angR32 : FVec Ideal S128x16 .f32 :=
  mulf (broadcastInDim S128x16 ![0, 1] bcast_S128x1_S128x16_0_1 (broadcastInDim S128x1 ![0] bcast_S128_S128x1_0 posR))
    (broadcastInDim S128x16 ![0, 1] bcast_S1x16_S128x16_0_1 (broadcastInDim S1x16 ![1] bcast_S16_S1x16_1
      (Host.powf (broadcastInDim S16 ![] bcast_S_S16 (constant S_ .f32 0x461C4000#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

theorem angR32_apply (R : Fin 128) (j : Fin 16) : angR32 (ix2 R j) = ang32 16384 j.val := by
  unfold angR32
  pointwise
  rw [posR_apply]
  rfl

def cosR32 : FVec Ideal S128x1x16 .f32 := broadcastInDim S128x1x16 ![0, 2] bcast_S128x16_S128x1x16_0_2 (Host.cos angR32)
def sinR32 : FVec Ideal S128x1x16 .f32 := broadcastInDim S128x1x16 ![0, 2] bcast_S128x16_S128x1x16_0_2 (Host.sin angR32)

theorem cosR32_apply (R : Fin 128) (j : Fin 16) : cosR32 (ix3 R (0 : Fin 1) j) = cs32 R j := by
  unfold cosR32 cs32
  pointwise
  rw [angR32_apply]

theorem sinR32_apply (R : Fin 128) (j : Fin 16) : sinR32 (ix3 R (0 : Fin 1) j) = sn32 R j := by
  unfold sinR32 sn32
  pointwise
  rw [angR32_apply]

/-- The rotation of eight heads. -/
def rotH32 (v : FVec Ideal S128x8x32 .f32) (a b : FVec Ideal S128x1x16 .f32) : FVec Ideal S128x8x32 .f32 :=
  concatenate S128x8x32 2
    [⟨S128x8x16, subf (mulf (extractStridedSlice S128x8x16 ![0, 0, 0] v slices_S128x8x32_S128x8x16_0_0_0) (broadcastInDim S128x8x16 ![0, 1, 2] bcast_S128x1x16_S128x8x16_0_1_2 a))
        (mulf (extractStridedSlice S128x8x16 ![0, 0, 16] v slices_S128x8x32_S128x8x16_0_0_16) (broadcastInDim S128x8x16 ![0, 1, 2] bcast_S128x1x16_S128x8x16_0_1_2 b))⟩,
      ⟨S128x8x16, addf (mulf (extractStridedSlice S128x8x16 ![0, 0, 16] v slices_S128x8x32_S128x8x16_0_0_16) (broadcastInDim S128x8x16 ![0, 1, 2] bcast_S128x1x16_S128x8x16_0_1_2 a))
        (mulf (extractStridedSlice S128x8x16 ![0, 0, 0] v slices_S128x8x32_S128x8x16_0_0_0) (broadcastInDim S128x8x16 ![0, 1, 2] bcast_S128x1x16_S128x8x16_0_1_2 b))⟩]
    concatenates_S128x8x16_S128x8x16_S128x8x32_d2

theorem rotH32_apply (v : FVec Ideal S128x8x32 .f32) (a b : FVec Ideal S128x1x16 .f32) (R : Fin 128) (h : Fin 8) (j : Fin 32) :
    rotH32 v a b (ix3 R h j) = rot32 (fun j => v (ix3 R h j)) (fun i => a (ix3 R (0 : Fin 1) i)) (fun i => b (ix3 R (0 : Fin 1) i)) j := by
  unfold rotH32 rot32
  pointwise
  split_ifs with hj
  · have e : (⟨16 + j.val, by omega⟩ : Fin 32) = ⟨j.val + 16, by omega⟩ := Fin.ext (by simp only []; omega)
    rw [← e]
  · have e : (⟨16 + (j.val - 16), by omega⟩ : Fin 32) = j := Fin.ext (by simp only []; omega)
    rw [e]
  · exact absurd rfl (by assumption)

/-- The rotation of one key. -/
def keyR32 (s : FVec Ideal S128x32 .f32) (a b : FVec Ideal S128x1x16 .f32) : FVec Ideal S128x32 .f32 :=
  shapeCast S128x32 (concatenate S128x1x32 2
    [⟨S128x1x16, subf (mulf (extractStridedSlice S128x1x16 ![0, 0, 0] (broadcastInDim S128x1x32 ![0, 2] bcast_S128x32_S128x1x32_0_2 s) slices_S128x1x32_S128x1x16_0_0_0) a)
        (mulf (extractStridedSlice S128x1x16 ![0, 0, 16] (broadcastInDim S128x1x32 ![0, 2] bcast_S128x32_S128x1x32_0_2 s) slices_S128x1x32_S128x1x16_0_0_16) b)⟩,
      ⟨S128x1x16, addf (mulf (extractStridedSlice S128x1x16 ![0, 0, 16] (broadcastInDim S128x1x32 ![0, 2] bcast_S128x32_S128x1x32_0_2 s) slices_S128x1x32_S128x1x16_0_0_16) a)
        (mulf (extractStridedSlice S128x1x16 ![0, 0, 0] (broadcastInDim S128x1x32 ![0, 2] bcast_S128x32_S128x1x32_0_2 s) slices_S128x1x32_S128x1x16_0_0_0) b)⟩]
    concatenates_S128x1x16_S128x1x16_S128x1x32_d2) shapeCasts_S128x1x32_S128x32

theorem keyR32_apply (s : FVec Ideal S128x32 .f32) (a b : FVec Ideal S128x1x16 .f32) (R : Fin 128) (j : Fin 32) :
    keyR32 s a b (ix2 R j) = rot32 (fun j => s (ix2 R j)) (fun i => a (ix3 R (0 : Fin 1) i)) (fun i => b (ix3 R (0 : Fin 1) i)) j := by
  unfold keyR32 rot32
  pointwise
  split_ifs with hj
  · have e : (⟨16 + j.val, by omega⟩ : Fin 32) = ⟨j.val + 16, by omega⟩ := Fin.ext (by simp only []; omega)
    rw [← e]
  · have e : (⟨16 + (j.val - 16), by omega⟩ : Fin 32) = j := Fin.ext (by simp only []; omega)
    rw [e]
  · exact absurd rfl (by assumption)

/-- The normalisation of the latent query. -/
def nrmQ (s : FVec Ideal S128x256 .f32) (g : FVec Ideal S256 .f32) : FVec Ideal S128x256 .f32 :=
  mulf (mulf s (broadcastInDim S128x256 ![0, 1] bcast_S128x1_S128x256_0_1 (Host.rsqrt (addf
      (Host.divf (broadcastInDim S128x1 ![0] bcast_S128_S128x1_0 (Host.reduceAdd (mulf s s) (constant S_ .f32 0x00000000#32) reducesTo_S128x256_S128_d1 h_S_))
        (broadcastInDim S128x1 ![] bcast_S_S128x1 (constant S_ .f32 0x43800000#32)))
      (broadcastInDim S128x1 ![] bcast_S_S128x1 (constant S_ .f32 0x358637BD#32))))))
    (broadcastInDim S128x256 ![0, 1] bcast_S1x256_S128x256_0_1 (broadcastInDim S1x256 ![1] bcast_S256_S1x256_1 g))

theorem nrmQ_apply (s : FVec Ideal S128x256 .f32) (g : FVec Ideal S256 .f32) (R : Fin 128) (j : Fin 256) :
    nrmQ s g (ix2 R j) = nrm (Ideal.ofBits .f32 0x43800000#32) (fun i => s (ix2 R i)) (fun i => g (ix1 i)) j := by
  unfold nrmQ
  pointwise
  rfl

/-- The normalisation of the latent key and value. -/
def nrmK (s : FVec Ideal S128x128 .f32) (g : FVec Ideal S128 .f32) : FVec Ideal S128x128 .f32 :=
  mulf (mulf s (broadcastInDim S128x128 ![0, 1] bcast_S128x1_S128x128_0_1 (Host.rsqrt (addf
      (Host.divf (broadcastInDim S128x1 ![0] bcast_S128_S128x1_0 (Host.reduceAdd (mulf s s) (constant S_ .f32 0x00000000#32) reducesTo_S128x128_S128_d1 h_S_))
        (broadcastInDim S128x1 ![] bcast_S_S128x1 (constant S_ .f32 0x43000000#32)))
      (broadcastInDim S128x1 ![] bcast_S_S128x1 (constant S_ .f32 0x358637BD#32))))))
    (broadcastInDim S128x128 ![0, 1] bcast_S1x128_S128x128_0_1 (broadcastInDim S1x128 ![1] bcast_S128_S1x128_1 g))

theorem nrmK_apply (s : FVec Ideal S128x128 .f32) (g : FVec Ideal S128 .f32) (R : Fin 128) (j : Fin 128) :
    nrmK s g (ix2 R j) = nrm (Ideal.ofBits .f32 0x43000000#32) (fun i => s (ix2 R i)) (fun i => g (ix1 i)) j := by
  unfold nrmK
  pointwise
  rfl

/-- The normalisation of the rows. -/
def nrmX (x : FVec Ideal S128x1024 .f32) (g : FVec Ideal S1024 .f32) : FVec Ideal S128x1024 .f32 :=
  mulf (mulf x (broadcastInDim S128x1024 ![0, 1] bcast_S128x1_S128x1024_0_1 (Host.rsqrt (addf
      (Host.divf (broadcastInDim S128x1 ![0] bcast_S128_S128x1_0 (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

theorem nrmX_apply (x : FVec Ideal S128x1024 .f32) (g : FVec Ideal S1024 .f32) (R : Fin 128) (j : Fin 1024) :
    nrmX x g (ix2 R j) = Row.norm (fun i => x (ix2 R i)) (fun i => g (ix1 i)) j := by
  unfold nrmX
  pointwise
  rfl

/-- The rows' projection. -/
def prjX (h : FVec Ideal S128x1024 .f32) (w : FVec Ideal S1024x5632 .f32) : FVec Ideal S128x5632 .f32 :=
  Host.dotGeneral dot_S128x1024_S1024x5632_S128x5632_1_0_0_1_n_n none h w

theorem prjX_apply (x : FVec Ideal S128x1024 .f32) (g : FVec Ideal S1024 .f32) (w : FVec Ideal S1024x5632 .f32) (R : Fin 128) (j : Fin 5632) :
    prjX (nrmX x g) w (ix2 R j) = projRow x g w R j := by
  unfold prjX projRow
  pointwise
  simp only [nrmX_apply]

/-- The latent query's projection to eight heads of 96. -/
def latR (s : FVec Ideal S128x256 .f32) (wuq : FVec Ideal S256x768 .f32) : FVec Ideal S128x8x96 .f32 :=
  shapeCast S128x8x96 (Host.dotGeneral dot_S128x256_S256x768_S128x768_1_0_0_1_n_n none s wuq) shapeCasts_S128x768_S128x8x96

theorem latR_apply (s : FVec Ideal S128x256 .f32) (wuq : FVec Ideal S256x768 .f32) (R : Fin 128) (h : Fin 8) (e : Fin 96) :
    latR s wuq (ix3 R h e) = ∑ i : Fin 256, s (ix2 R i) * wuq (ix2 i (⟨h.val * 96 + e.val, by omega⟩ : Fin 768)) := by
  unfold latR
  pointwise

/-- The latent attention's queries: the plain entries through the keys' matrix, then the rotated entries. -/
def qcatR (q : FVec Ideal S128x8x96 .f32) (r : FVec Ideal S128x8x32 .f32) (wuk : FVec Ideal S128x8x64 .f32) : FVec Ideal S8x128x160 .bf16 :=
  truncf .bf16 (transpose S8x128x160 [1, 0, 2] (concatenate S128x8x160 2 [⟨S128x8x128, transpose S128x8x128 [2, 0, 1]
      (Host.dotGeneral dot_S128x8x64_S128x8x64_S8x128x128_2_2_0_0_1_1 none wuk (extractStridedSlice S128x8x64 ![0, 0, 0] q slices_S128x8x96_S128x8x64_0_0_0))
      transposes_S8x128x128_S128x8x128_2_0_1⟩, ⟨S128x8x32, r⟩] concatenates_S128x8x128_S128x8x32_S128x8x160_d2)
    transposes_S128x8x160_S8x128x160_1_0_2) bitsLt_bf16_f32

theorem qcatR_apply (q : FVec Ideal S128x8x96 .f32) (r : FVec Ideal S128x8x32 .f32) (wuk : FVec Ideal S128x8x64 .f32) (h : Fin 8) (R : Fin 128) (d : Fin 160) :
    qcatR q r wuk (ix3 h R d) = if hd : d.val < 128 then ∑ e : Fin 64, wuk (ix3 ⟨d.val, hd⟩ h e) * q (ix3 R h (⟨e.val, by omega⟩ : Fin 96))
      else r (ix3 R h (⟨d.val - 128, by omega⟩ : Fin 32)) := by
  unfold qcatR
  pointwise

/-- The rotated part of the latent query. -/
def tailR (q : FVec Ideal S128x8x96 .f32) : FVec Ideal S128x8x32 .f32 := extractStridedSlice S128x8x32 ![0, 0, 64] q slices_S128x8x96_S128x8x32_0_0_64

theorem tailR_apply (q : FVec Ideal S128x8x96 .f32) (R : Fin 128) (h : Fin 8) (e : Fin 32) :
    tailR q (ix3 R h e) = q (ix3 R h (⟨64 + e.val, by omega⟩ : Fin 96)) := by
  unfold tailR
  pointwise

/-- Three groups of queries, head by head. -/
def stackR (a b d : FVec Ideal S128x8x64 .f32) : FVec Ideal S3x8x128x64 .bf16 :=
  truncf .bf16 (transpose S3x8x128x64 [0, 2, 1, 3] (concatenate S3x128x8x64 0
    [⟨S1x128x8x64, broadcastInDim S1x128x8x64 ![1, 2, 3] bcast_S128x8x64_S1x128x8x64_1_2_3 a⟩,
      ⟨S1x128x8x64, broadcastInDim S1x128x8x64 ![1, 2, 3] bcast_S128x8x64_S1x128x8x64_1_2_3 b⟩,
      ⟨S1x128x8x64, broadcastInDim S1x128x8x64 ![1, 2, 3] bcast_S128x8x64_S1x128x8x64_1_2_3 d⟩]
    concatenates_S1x128x8x64_S1x128x8x64_S1x128x8x64_S3x128x8x64_d0) transposes_S3x128x8x64_S3x8x128x64_0_2_1_3) bitsLt_bf16_f32

theorem stackR_apply (a b d : FVec Ideal S128x8x64 .f32) (k : Fin 3) (h : Fin 8) (R : Fin 128) (j : Fin 64) :
    stackR a b d (ix4 k h R j) = if k.val = 0 then a (ix3 R h j) else if k.val = 1 then b (ix3 R h j) else d (ix3 R h j) := by
  unfold stackR
  fin_cases k <;> pointwise <;> rfl

/-- An eighth of the queries. -/
def eighthR (a : FVec Ideal S128x8x64 .f32) : FVec Ideal S128x8x64 .f32 := mulf a (broadcastInDim S128x8x64 ![] bcast_S_S128x8x64 (constant S_ .f32 0x3E000000#32))

theorem eighthR_apply (a : FVec Ideal S128x8x64 .f32) (y : S128x8x64.Idx) : eighthR a y = a y * Ideal.ofBits .f32 0x3E000000#32 := rfl

/-- A key and its value side by side. -/
def kvR (k v : FVec Ideal S128x64 .f32) : FVec Ideal S128x128 .f32 := concatenate S128x128 1 [⟨S128x64, k⟩, ⟨S128x64, v⟩] concatenates_S128x64_S128x64_S128x128_d1

theorem kvR_apply (k v : FVec Ideal S128x64 .f32) (R : Fin 128) (d : Fin 128) :
    kvR k v (ix2 R d) = if h : d.val < 64 then k (ix2 R ⟨d.val, h⟩) else v (ix2 R (⟨d.val - 64, by omega⟩ : Fin 64)) := by
  unfold kvR
  pointwise

/-- Seven arrays, one above the other. -/
def sevenR (a0 a1 a2 a3 a4 a5 a6 : FVec Ideal S128x64 .f32) : FVec Ideal S7x128x64 .bf16 :=
  truncf .bf16 (concatenate S7x128x64 0
    [⟨S1x128x64, broadcastInDim S1x128x64 ![1, 2] bcast_S128x64_S1x128x64_1_2 a0⟩,
      ⟨S1x128x64, broadcastInDim S1x128x64 ![1, 2] bcast_S128x64_S1x128x64_1_2 a1⟩,
      ⟨S1x128x64, broadcastInDim S1x128x64 ![1, 2] bcast_S128x64_S1x128x64_1_2 a2⟩,
      ⟨S1x128x64, broadcastInDim S1x128x64 ![1, 2] bcast_S128x64_S1x128x64_1_2 a3⟩,
      ⟨S1x128x64, broadcastInDim S1x128x64 ![1, 2] bcast_S128x64_S1x128x64_1_2 a4⟩,
      ⟨S1x128x64, broadcastInDim S1x128x64 ![1, 2] bcast_S128x64_S1x128x64_1_2 a5⟩,
      ⟨S1x128x64, broadcastInDim S1x128x64 ![1, 2] bcast_S128x64_S1x128x64_1_2 a6⟩]
    concatenates_S1x128x64_S1x128x64_S1x128x64_S1x128x64_S1x128x64_S1x128x64_S1x128x64_S7x128x64_d0) bitsLt_bf16_f32

theorem sevenR_apply (a0 a1 a2 a3 a4 a5 a6 : FVec Ideal S128x64 .f32) (k : Fin 7) (R : Fin 128) (j : Fin 64) :
    sevenR a0 a1 a2 a3 a4 a5 a6 (ix3 k R j) = if k.val = 0 then a0 (ix2 R j) else if k.val = 1 then a1 (ix2 R j) else if k.val = 2 then a2 (ix2 R j)
      else if k.val = 3 then a3 (ix2 R j) else if k.val = 4 then a4 (ix2 R j) else if k.val = 5 then a5 (ix2 R j) else a6 (ix2 R j) := by
  unfold sevenR
  fin_cases k <;> pointwise <;> rfl

/-! The halves of a key and its value. -/

def loR (a : FVec Ideal S128x128 .f32) : FVec Ideal S128x64 .f32 := extractStridedSlice S128x64 ![0, 0] a slices_S128x128_S128x64_0_0
def hiR (a : FVec Ideal S128x128 .f32) : FVec Ideal S128x64 .f32 := extractStridedSlice S128x64 ![0, 64] a slices_S128x128_S128x64_0_64

theorem loR_apply (k v : FVec Ideal S128x64 .f32) (R : Fin 128) (j : Fin 64) : loR (kvR k v) (ix2 R j) = k (ix2 R j) := by
  unfold loR kvR
  pointwise

theorem hiR_apply (k v : FVec Ideal S128x64 .f32) (R : Fin 128) (j : Fin 64) : hiR (kvR k v) (ix2 R j) = v (ix2 R j) := by
  unfold hiR kvR
  pointwise
  try exact congrArg v (congrArg (ix2 R) (Fin.ext (by simp only []; omega)))

/-! The columns of the projection. -/

def col512 (p : FVec Ideal S128x5632 .f32) : FVec Ideal S128x64 .f32 := extractStridedSlice S128x64 ![0, 512] p slices_S128x5632_S128x64_0_512

theorem col512_apply (p : FVec Ideal S128x5632 .f32) (R : Fin 128) (j : Fin 64) : col512 p (ix2 R j) = cols 64 512 (by omega) (fun i => p (ix2 R i)) j := by
  unfold col512
  pointwise
  rfl

def col576 (p : FVec Ideal S128x5632 .f32) : FVec Ideal S128x64 .f32 := extractStridedSlice S128x64 ![0, 576] p slices_S128x5632_S128x64_0_576

theorem col576_apply (p : FVec Ideal S128x5632 .f32) (R : Fin 128) (j : Fin 64) : col576 p (ix2 R j) = cols 64 576 (by omega) (fun i => p (ix2 R i)) j := by
  unfold col576
  pointwise
  rfl

def col1152 (p : FVec Ideal S128x5632 .f32) : FVec Ideal S128x64 .f32 := extractStridedSlice S128x64 ![0, 1152] p slices_S128x5632_S128x64_0_1152

theorem col1152_apply (p : FVec Ideal S128x5632 .f32) (R : Fin 128) (j : Fin 64) : col1152 p (ix2 R j) = cols 64 1152 (by omega) (fun i => p (ix2 R i)) j := by
  unfold col1152
  pointwise
  rfl

def col1736 (p : FVec Ideal S128x5632 .f32) : FVec Ideal S128x64 .f32 := extractStridedSlice S128x64 ![0, 1736] p slices_S128x5632_S128x64_0_1736

theorem col1736_apply (p : FVec Ideal S128x5632 .f32) (R : Fin 128) (j : Fin 64) : col1736 p (ix2 R j) = cols 64 1736 (by omega) (fun i => p (ix2 R i)) j := by
  unfold col1736
  pointwise
  rfl

def col1800 (p : FVec Ideal S128x5632 .f32) : FVec Ideal S128x64 .f32 := extractStridedSlice S128x64 ![0, 1800] p slices_S128x5632_S128x64_0_1800

theorem col1800_apply (p : FVec Ideal S128x5632 .f32) (R : Fin 128) (j : Fin 64) : col1800 p (ix2 R j) = cols 64 1800 (by omega) (fun i => p (ix2 R i)) j := by
  unfold col1800
  pointwise
  rfl

def col1864 (p : FVec Ideal S128x5632 .f32) : FVec Ideal S128x64 .f32 := extractStridedSlice S128x64 ![0, 1864] p slices_S128x5632_S128x64_0_1864

theorem col1864_apply (p : FVec Ideal S128x5632 .f32) (R : Fin 128) (j : Fin 64) : col1864 p (ix2 R j) = cols 64 1864 (by omega) (fun i => p (ix2 R i)) j := by
  unfold col1864
  pointwise
  rfl

def col1928 (p : FVec Ideal S128x5632 .f32) : FVec Ideal S128x64 .f32 := extractStridedSlice S128x64 ![0, 1928] p slices_S128x5632_S128x64_0_1928

theorem col1928_apply (p : FVec Ideal S128x5632 .f32) (R : Fin 128) (j : Fin 64) : col1928 p (ix2 R j) = cols 64 1928 (by omega) (fun i => p (ix2 R i)) j := by
  unfold col1928
  pointwise
  rfl

def col1992 (p : FVec Ideal S128x5632 .f32) : FVec Ideal S128x64 .f32 := extractStridedSlice S128x64 ![0, 1992] p slices_S128x5632_S128x64_0_1992

theorem col1992_apply (p : FVec Ideal S128x5632 .f32) (R : Fin 128) (j : Fin 64) : col1992 p (ix2 R j) = cols 64 1992 (by omega) (fun i => p (ix2 R i)) j := by
  unfold col1992
  pointwise
  rfl

def col2056 (p : FVec Ideal S128x5632 .f32) : FVec Ideal S128x64 .f32 := extractStridedSlice S128x64 ![0, 2056] p slices_S128x5632_S128x64_0_2056

theorem col2056_apply (p : FVec Ideal S128x5632 .f32) (R : Fin 128) (j : Fin 64) : col2056 p (ix2 R j) = cols 64 2056 (by omega) (fun i => p (ix2 R i)) j := by
  unfold col2056
  pointwise
  rfl

def col1216 (p : FVec Ideal S128x5632 .f32) : FVec Ideal S128x8 .f32 := extractStridedSlice S128x8 ![0, 1216] p slices_S128x5632_S128x8_0_1216

theorem col1216_apply (p : FVec Ideal S128x5632 .f32) (R : Fin 128) (j : Fin 8) : col1216 p (ix2 R j) = cols 8 1216 (by omega) (fun i => p (ix2 R i)) j := by
  unfold col1216
  pointwise
  rfl

def col2120 (p : FVec Ideal S128x5632 .f32) : FVec Ideal S128x24 .f32 := extractStridedSlice S128x24 ![0, 2120] p slices_S128x5632_S128x24_0_2120

theorem col2120_apply (p : FVec Ideal S128x5632 .f32) (R : Fin 128) (j : Fin 24) : col2120 p (ix2 R j) = cols 24 2120 (by omega) (fun i => p (ix2 R i)) j := by
  unfold col2120
  pointwise
  rfl

def col2144 (p : FVec Ideal S128x5632 .f32) : FVec Ideal S128x256 .f32 := extractStridedSlice S128x256 ![0, 2144] p slices_S128x5632_S128x256_0_2144

theorem col2144_apply (p : FVec Ideal S128x5632 .f32) (R : Fin 128) (j : Fin 256) : col2144 p (ix2 R j) = cols 256 2144 (by omega) (fun i => p (ix2 R i)) j := by
  unfold col2144
  pointwise
  rfl

def col2400 (p : FVec Ideal S128x5632 .f32) : FVec Ideal S128x128 .f32 := extractStridedSlice S128x128 ![0, 2400] p slices_S128x5632_S128x128_0_2400

theorem col2400_apply (p : FVec Ideal S128x5632 .f32) (R : Fin 128) (j : Fin 128) : col2400 p (ix2 R j) = cols 128 2400 (by omega) (fun i => p (ix2 R i)) j := by
  unfold col2400
  pointwise
  rfl

def col2528 (p : FVec Ideal S128x5632 .f32) : FVec Ideal S128x32 .f32 := extractStridedSlice S128x32 ![0, 2528] p slices_S128x5632_S128x32_0_2528

theorem col2528_apply (p : FVec Ideal S128x5632 .f32) (R : Fin 128) (j : Fin 32) : col2528 p (ix2 R j) = cols 32 2528 (by omega) (fun i => p (ix2 R i)) j := by
  unfold col2528
  pointwise
  rfl

def head0 (p : FVec Ideal S128x5632 .f32) : FVec Ideal S128x8x64 .f32 :=
  shapeCast S128x8x64 (extractStridedSlice S128x512 ![0, 0] p slices_S128x5632_S128x512_0_0) shapeCasts_S128x512_S128x8x64

theorem head0_apply (p : FVec Ideal S128x5632 .f32) (R : Fin 128) (h : Fin 8) (j : Fin 64) :
    head0 p (ix3 R h j) = cols 64 (0 + h.val * 64) (by omega) (fun i => p (ix2 R i)) j := by
  unfold head0
  pointwise
  exact congrArg p (congrArg (ix2 R) (Fin.ext (by simp only [add_assoc, zero_add])))

def head640 (p : FVec Ideal S128x5632 .f32) : FVec Ideal S128x8x64 .f32 :=
  shapeCast S128x8x64 (extractStridedSlice S128x512 ![0, 640] p slices_S128x5632_S128x512_0_640) shapeCasts_S128x512_S128x8x64

theorem head640_apply (p : FVec Ideal S128x5632 .f32) (R : Fin 128) (h : Fin 8) (j : Fin 64) :
    head640 p (ix3 R h j) = cols 64 (640 + h.val * 64) (by omega) (fun i => p (ix2 R i)) j := by
  unfold head640
  pointwise
  exact congrArg p (congrArg (ix2 R) (Fin.ext (by simp only [add_assoc, zero_add])))

def head1224 (p : FVec Ideal S128x5632 .f32) : FVec Ideal S128x8x64 .f32 :=
  shapeCast S128x8x64 (extractStridedSlice S128x512 ![0, 1224] p slices_S128x5632_S128x512_0_1224) shapeCasts_S128x512_S128x8x64

theorem head1224_apply (p : FVec Ideal S128x5632 .f32) (R : Fin 128) (h : Fin 8) (j : Fin 64) :
    head1224 p (ix3 R h j) = cols 64 (1224 + h.val * 64) (by omega) (fun i => p (ix2 R i)) j := by
  unfold head1224
  pointwise
  exact congrArg p (congrArg (ix2 R) (Fin.ext (by simp only [add_assoc, zero_add])))

/-! The two small results. -/

def idxwR (s : FVec Ideal S128x8 .f32) : FVec Ideal S128x8 .f32 := mulf s (broadcastInDim S128x8 ![] bcast_S_S128x8 (constant S_ .f32 0x3EB504F3#32))

theorem idxwR_apply (s : FVec Ideal S128x8 .f32) (y : S128x8.Idx) : idxwR s y = s y * Ideal.ofBits .f32 0x3EB504F3#32 := rfl

def gateR (s : FVec Ideal S128x24 .f32) : FVec Ideal S128x24 .f32 :=
  Host.divf (broadcastInDim S128x24 ![] bcast_S_S128x24 (constant S_ .f32 0x3F800000#32))
    (addf (broadcastInDim S128x24 ![] bcast_S_S128x24 (constant S_ .f32 0x3F800000#32)) (Host.exp (Host.negf s)))

theorem gateR_apply (s : FVec Ideal S128x24 .f32) (R : Fin 128) (j : Fin 24) : gateR s (ix2 R j) = Ideal.logistic (s (ix2 R j)) := by
  unfold gateR
  pointwise
  rfl

/-! The cache rows. -/

def dsaR (a : FVec Ideal S128x128 .f32) (b : FVec Ideal S128x64 .f32) : FVec Ideal S128x192 .f32 :=
  concatenate S128x192 1 [⟨S128x128, a⟩, ⟨S128x64, b⟩] concatenates_S128x128_S128x64_S128x192_d1

theorem dsaR_apply (a : FVec Ideal S128x128 .f32) (b : FVec Ideal S128x64 .f32) (R : Fin 128) (d : Fin 192) :
    dsaR a b (ix2 R d) = if h : d.val < 128 then a (ix2 R ⟨d.val, h⟩) else b (ix2 R (⟨d.val - 128, by omega⟩ : Fin 64)) := by
  unfold dsaR
  pointwise

def nsaR (a b : FVec Ideal S128x128 .f32) : FVec Ideal S128x256 .f32 :=
  concatenate S128x256 1 [⟨S128x128, a⟩, ⟨S128x128, b⟩] concatenates_S128x128_S128x128_S128x256_d1

theorem nsaR_apply (a b : FVec Ideal S128x128 .f32) (R : Fin 128) (d : Fin 256) :
    nsaR a b (ix2 R d) = if h : d.val < 128 then a (ix2 R ⟨d.val, h⟩) else b (ix2 R (⟨d.val - 128, by omega⟩ : Fin 128)) := by
  unfold nsaR
  pointwise

def mlaR (a : FVec Ideal S128x128 .f32) (b : FVec Ideal S128x32 .f32) : FVec Ideal S128x160 .f32 :=
  concatenate S128x160 1 [⟨S128x128, a⟩, ⟨S128x32, b⟩] concatenates_S128x128_S128x32_S128x160_d1

theorem mlaR_apply (a : FVec Ideal S128x128 .f32) (b : FVec Ideal S128x32 .f32) (R : Fin 128) (d : Fin 160) :
    mlaR a b (ix2 R d) = if h : d.val < 128 then a (ix2 R ⟨d.val, h⟩) else b (ix2 R (⟨d.val - 128, by omega⟩ : Fin 32)) := by
  unfold mlaR
  pointwise

end Cert.ProjS
-- ==== Proof.ProjSRef.lean ====
module

public import proofs.«01_k».proof.Proof.ProjSStep

@[expose] public section

set_option maxRecDepth 16384

noncomputable section

/-! # The projection reference's ten results -/

namespace Cert.ProjS

open Cert.Reference6Ideal Cert.Reference6Ideal.Gen Idealize.ShloMosaic Idealize.ShloMosaic.TcCoe Idealize.SL.Sem Idealize.ShloMosaic.StableHlo Cert.Proj

/-- Eight rotated heads. -/
def turnH (v : FVec Ideal S128x8x64 .f32) : FVec Ideal S128x8x64 .f32 := rotH64 v cosR64 sinR64

/-- A rotated key. -/
def turnK (s : FVec Ideal S128x64 .f32) : FVec Ideal S128x64 .f32 := keyR64 s cosR64 sinR64

theorem turnH_apply (v : FVec Ideal S128x8x64 .f32) (R : Fin 128) (h : Fin 8) (j : Fin 64) :
    turnH v (ix3 R h j) = rot64 (fun j => v (ix3 R h j)) (cs64 R) (sn64 R) j := by
  unfold turnH
  simp only [rotH64_apply, cosR64_apply, sinR64_apply]

theorem turnK_apply (s : FVec Ideal S128x64 .f32) (R : Fin 128) (j : Fin 64) :
    turnK s (ix2 R j) = rot64 (fun j => s (ix2 R j)) (cs64 R) (sn64 R) j := by
  unfold turnK
  simp only [keyR64_apply, cosR64_apply, sinR64_apply]

/-- A rotated key and its value. -/
def pairR (k v : FVec Ideal S128x64 .f32) : FVec Ideal S128x128 .f32 := kvR (turnK k) v

theorem pairR_apply (k v : FVec Ideal S128x64 .f32) (R : Fin 128) (d : Fin 128) :
    pairR k v (ix2 R d) = kv (fun j => k (ix2 R j)) (fun j => v (ix2 R j)) (cs64 R) (sn64 R) d := by
  unfold pairR kv
  simp only [kvR_apply, turnK_apply]

section results
variable (x : FVec Ideal S128x1024 .f32) (g : FVec Ideal S1024 .f32) (w : FVec Ideal S1024x5632 .f32) (gq : FVec Ideal S256 .f32)
  (wuq : FVec Ideal S256x768 .f32) (gkv : FVec Ideal S128 .f32) (wuk : FVec Ideal S128x8x64 .f32)

/-- The reference's projection. -/
def pR : FVec Ideal S128x5632 .f32 := prjX (nrmX x g) w

theorem pR_apply (R : Fin 128) (j : Fin 5632) : pR x g w (ix2 R j) = projRow x g w R j := prjX_apply x g w R j

theorem pR_row (R : Fin 128) : (fun i => pR x g w (ix2 R i)) = projRow x g w R := funext (pR_apply x g w R)

/-- The three groups of queries. -/
def q3Of (p : FVec Ideal S128x5632 .f32) : FVec Ideal S3x8x128x64 .bf16 :=
  stackR (eighthR (turnH (head0 p))) (turnH (head640 p)) (eighthR (turnH (head1224 p)))

theorem ref14 : q3Of (pR x g w) = arr14 x g w := by
  funext y
  obtain ⟨a, b, c, d, rfl⟩ : ∃ (a : Fin 3) (b : Fin 8) (c : Fin 128) (d : Fin 64), y = ix4 a b c d :=
    ⟨y 0, y 1, y 2, y 3, by funext i; match i with | ⟨0, _⟩ => rfl | ⟨1, _⟩ => rfl | ⟨2, _⟩ => rfl | ⟨3, _⟩ => rfl⟩
  refine Eq.trans ?_ (b := q3Row (projRow x g w c) (cs64 c) (sn64 c) a b d) rfl
  unfold q3Of q3Row
  simp only [stackR_apply, eighthR_apply, turnH_apply, head0_apply, head640_apply, head1224_apply, pR_row]

/-- The index heads' weights. -/
def idxwOf (p : FVec Ideal S128x5632 .f32) : FVec Ideal S128x8 .f32 :=
  idxwR (col1216 p)

theorem ref16 : idxwOf (pR x g w) = arr16 x g w := by
  funext y
  obtain ⟨a, b, rfl⟩ : ∃ (a : Fin 128) (b : Fin 8), y = ix2 a b :=
    ⟨y 0, y 1, by funext i; match i with | ⟨0, _⟩ => rfl | ⟨1, _⟩ => rfl⟩
  refine Eq.trans ?_ (b := idxwRow (projRow x g w a) b) rfl
  unfold idxwOf idxwRow
  simp only [idxwR_apply, col1216_apply, pR_row]

/-- The gates. -/
def gateOf (p : FVec Ideal S128x5632 .f32) : FVec Ideal S128x24 .f32 :=
  gateR (col2120 p)

theorem ref17 : gateOf (pR x g w) = arr17 x g w := by
  funext y
  obtain ⟨a, b, rfl⟩ : ∃ (a : Fin 128) (b : Fin 24), y = ix2 a b :=
    ⟨y 0, y 1, by funext i; match i with | ⟨0, _⟩ => rfl | ⟨1, _⟩ => rfl⟩
  refine Eq.trans ?_ (b := gateRow (projRow x g w a) b) rfl
  unfold gateOf gateRow
  simp only [gateR_apply, col2120_apply, pR_row]

/-- The first cache's rows. -/
def dsaOf (p : FVec Ideal S128x5632 .f32) : FVec Ideal S128x192 .f32 :=
  dsaR (pairR (col512 p) (col576 p)) (turnK (col1152 p))

theorem ref18 : dsaOf (pR x g w) = arr18 x g w := by
  funext y
  obtain ⟨a, b, rfl⟩ : ∃ (a : Fin 128) (b : Fin 192), y = ix2 a b :=
    ⟨y 0, y 1, by funext i; match i with | ⟨0, _⟩ => rfl | ⟨1, _⟩ => rfl⟩
  refine Eq.trans ?_ (b := dsaRow (projRow x g w a) (cs64 a) (sn64 a) b) rfl
  unfold dsaOf dsaRow
  simp only [dsaR_apply, pairR_apply, turnK_apply, col512_apply, col576_apply, col1152_apply, pR_row]

/-- The second cache's rows. -/
def nsaOf (p : FVec Ideal S128x5632 .f32) : FVec Ideal S128x256 .f32 :=
  nsaR (pairR (col1736 p) (col1800 p)) (pairR (col1864 p) (col1928 p))

theorem ref19 : nsaOf (pR x g w) = arr19 x g w := by
  funext y
  obtain ⟨a, b, rfl⟩ : ∃ (a : Fin 128) (b : Fin 256), y = ix2 a b :=
    ⟨y 0, y 1, by funext i; match i with | ⟨0, _⟩ => rfl | ⟨1, _⟩ => rfl⟩
  refine Eq.trans ?_ (b := nsaRow (projRow x g w a) (cs64 a) (sn64 a) b) rfl
  unfold nsaOf nsaRow
  simp only [nsaR_apply, pairR_apply, col1736_apply, col1800_apply, col1864_apply, col1928_apply, pR_row]

/-- The window's rows. -/
def winOf (p : FVec Ideal S128x5632 .f32) : FVec Ideal S128x128 .f32 :=
  pairR (col1992 p) (col2056 p)

theorem ref21 : winOf (pR x g w) = arr21 x g w := by
  funext y
  obtain ⟨a, b, rfl⟩ : ∃ (a : Fin 128) (b : Fin 128), y = ix2 a b :=
    ⟨y 0, y 1, by funext i; match i with | ⟨0, _⟩ => rfl | ⟨1, _⟩ => rfl⟩
  refine Eq.trans ?_ (b := winRow (projRow x g w a) (cs64 a) (sn64 a) b) rfl
  unfold winOf winRow
  simp only [pairR_apply, col1992_apply, col2056_apply, pR_row]

/-- The seven keys and values. -/
def kv7Of (p : FVec Ideal S128x5632 .f32) : FVec Ideal S7x128x64 .bf16 :=
  sevenR (loR (pairR (col512 p) (col576 p))) (hiR (pairR (col512 p) (col576 p))) (turnK (col1152 p)) (loR (pairR (col1864 p) (col1928 p)))
    (hiR (pairR (col1864 p) (col1928 p))) (loR (pairR (col1992 p) (col2056 p))) (hiR (pairR (col1992 p) (col2056 p)))

theorem ref22 : kv7Of (pR x g w) = arr22 x g w := by
  funext y
  obtain ⟨a, b, c, rfl⟩ : ∃ (a : Fin 7) (b : Fin 128) (c : Fin 64), y = ix3 a b c :=
    ⟨y 0, y 1, y 2, by funext i; match i with | ⟨0, _⟩ => rfl | ⟨1, _⟩ => rfl | ⟨2, _⟩ => rfl⟩
  refine Eq.trans ?_ (b := kv7Row (projRow x g w b) (cs64 b) (sn64 b) a c) rfl
  unfold kv7Of kv7Row
  simp only [sevenR_apply, pairR, loR_apply, hiR_apply, turnK_apply, col512_apply, col576_apply, col1152_apply, col1864_apply, col1928_apply, col1992_apply, col2056_apply, pR_row]

/-- The latent attention's queries. -/
def qcatOf (p : FVec Ideal S128x5632 .f32) (gq : FVec Ideal S256 .f32) (wuq : FVec Ideal S256x768 .f32) (wuk : FVec Ideal S128x8x64 .f32) : FVec Ideal S8x128x160 .bf16 :=
  qcatR (latR (nrmQ (col2144 p) gq) wuq) (rotH32 (tailR (latR (nrmQ (col2144 p) gq) wuq)) cosR32 sinR32) wuk

theorem ref15 : qcatOf (pR x g w) gq wuq wuk = arr15 x g w gq wuq wuk := by
  funext y
  obtain ⟨a, b, d, rfl⟩ : ∃ (a : Fin 8) (b : Fin 128) (d : Fin 160), y = ix3 a b d :=
    ⟨y 0, y 1, y 2, by funext i; match i with | ⟨0, _⟩ => rfl | ⟨1, _⟩ => rfl | ⟨2, _⟩ => rfl⟩
  refine Eq.trans ?_ (b := qcatRow (fun c => qRow (projRow x g w b) (fun i => gq (ix1 i)) (fun i c => wuq (ix2 i c)) c) (cs32 b) (sn32 b)
    (fun d h e => wuk (ix3 d h e)) a d) rfl
  unfold qcatOf qcatRow qRow
  simp only [qcatR_apply, rotH32_apply, tailR_apply, latR_apply, nrmQ_apply, col2144_apply, cosR32_apply, sinR32_apply, pR_row]
  split_ifs with h
  · exact Finset.sum_congr rfl fun e _ => mul_comm _ _
  · simp only [add_assoc]

/-- The latent cache's rows. -/
def mlaOf (p : FVec Ideal S128x5632 .f32) (gkv : FVec Ideal S128 .f32) : FVec Ideal S128x160 .f32 :=
  mlaR (nrmK (col2400 p) gkv) (keyR32 (col2528 p) cosR32 sinR32)

theorem ref20 : mlaOf (pR x g w) gkv = arr20 x g w gkv := by
  funext y
  obtain ⟨a, b, rfl⟩ : ∃ (a : Fin 128) (b : Fin 160), y = ix2 a b := ⟨y 0, y 1, by funext i; match i with | ⟨0, _⟩ => rfl | ⟨1, _⟩ => rfl⟩
  refine Eq.trans ?_ (b := mlaRow (projRow x g w a) (fun i => gkv (ix1 i)) (cs32 a) (sn32 a) b) rfl
  unfold mlaOf mlaRow
  simp only [mlaR_apply, nrmK_apply, keyR32_apply, col2400_apply, col2528_apply, cosR32_apply, sinR32_apply, pR_row]

end results

section run
variable (m : (ℓ : Loc nD τ sig) → Buf (Elt Ideal) ℓ) (c : Dev nD)

/-- The run's projection is the reference's. -/
theorem run_pR : Cert.Reference6Ideal.Value.res_main_v14 (F := Ideal) (launchContents m c)
    = pR (m ((c.tc : Thread nD τ).loc main_arg0)) (m ((c.tc : Thread nD τ).loc main_arg1)) (m ((c.tc : Thread nD τ).loc main_arg2)) := rfl

end run

end Cert.ProjS
-- ==== Proof.lean ====
module

public import proofs.«01_k».proof.Proof.PickRef
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Array
public import proofs.«01_k».proof.Proof.RefAttn
public import proofs.«01_k».proof.Proof.Finite
public import proofs.«01_k».proof.Proof.FfnRef
public import proofs.«01_k».proof.Proof.MergeRef
public import proofs.«01_k».proof.Proof.ProjFin
public import proofs.«01_k».proof.Proof.ProjRef
public import proofs.«01_k».proof.Proof.Ffn1
public import proofs.«01_k».proof.Proof.Ffn1S
public import proofs.«01_k».proof.Proof.FfnSRef
public import proofs.«01_k».proof.Proof.MergeSRef
public import proofs.«01_k».proof.Proof.ProjSFin
public import proofs.«01_k».proof.Proof.ProjSRef

@[expose] public section

/-! # The claim -/

open Idealize.ShloMosaic Idealize.ShloMosaic.TcCoe Idealize.SL.Sem

/-- From any memory, the reference ends with its arguments as launched and no semaphore raised. -/
theorem Cert.Mla.ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- On finite queries and rows the kernel and the reference end with one result: the attention of the arguments. -/
theorem Cert.Mla.agree : Cert.algebraic_KernelIdeal_ReferenceIdeal_pre_finite := by
  intro m g m' g' hpre hagree
  have hr := fun c => Cert.Mla.real_of_pre _ _ _ (hpre c)
  refine ⟨fun c => Cert.Mla.attn (Cert.Mla.qs m c) (Cert.Mla.ks m c) (Cert.Mla.ws m c), ?_, ?_⟩
  · exact (θ_run _ _ _).mono (fun _ h c => ⟨(h c).1.trans (Cert.Mla.final m c (hr c).1 (hr c).2), (h c).2⟩) (Cert.KernelIdeal.Value.run_blocks (F := Ideal) m g)
  · exact (θ_run _ _ _).mono (fun _ h c => ⟨(h c).1.trans (Cert.Mla.ref_attn m' c _ _ _ (hagree c).1 (hagree c).2.1 (hagree c).2.2 (hr c).1 (hr c).2), (h c).2⟩)
      (Cert.ReferenceIdeal.Value.run (F := Ideal) m' g')

/-- From any memory, the feed-forward reference ends with its arguments as launched and no semaphore raised. -/
theorem Cert.Ffn.ref_frame : Cert.quiescent_Reference2Ideal := fun m g _ =>
  (θ_run Cert.Reference2Ideal.defs _ _).mono (fun r h => ⟨fun c => (h c).2.2, sem_eq_zero_of_no_sems (by decide) r.2⟩) (Cert.Reference2Ideal.Value.run (F := Ideal) m g)

/-- The feed-forward kernel and its reference end with one pair of results: the feed-forward block of the arguments, and its normalisation. -/
theorem Cert.Ffn.agree : Cert.algebraic_Kernel2Ideal_Reference2Ideal := by
  intro m g m' g' _ hagree
  refine ⟨fun c => Cert.Ffn.mid (Cert.Ffn.xs m c) (Cert.Ffn.gs m c) (Cert.Ffn.wgs m c) (Cert.Ffn.wus m c) (Cert.Ffn.wds m c),
    fun c => Cert.Ffn.normed (Cert.Ffn.mid (Cert.Ffn.xs m c) (Cert.Ffn.gs m c) (Cert.Ffn.wgs m c) (Cert.Ffn.wus m c) (Cert.Ffn.wds m c)) (Cert.Ffn.gfs m c), ?_, ?_⟩
  · exact (θ_run _ _ _).mono (fun _ h c => ⟨(h c).1.trans (Cert.Ffn.final6 m c), (h c).2.1.trans (Cert.Ffn.final7 m c), (h c).2.2⟩)
      (Cert.Kernel2Ideal.Value.run_blocks (F := Ideal) m g)
  · refine (θ_run _ _ _).mono (fun _ h c => ?_) (Cert.Reference2Ideal.Value.run (F := Ideal) m' g')
    obtain ⟨a0, a1, a2, a3, a4, a5⟩ := hagree c
    refine ⟨(h c).1.trans ?_, (h c).2.1.trans ?_, (h c).2.2⟩
    · rw [a0, a1, a2, a3, a4]
      exact Cert.Ffn.midR_eq _ _ _ _ _
    · rw [Cert.Ffn.res_eq, a0, a1, a2, a3, a4, a5, Cert.Ffn.midR_eq]
      exact Cert.Ffn.normR_eq _ _

/-- From any memory, the merge reference ends with its arguments as launched and no semaphore raised. -/
theorem Cert.Merge.ref_frame : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)

/-- The merge kernel and its reference end with one result: the merge of the arguments. -/
theorem Cert.Merge.agree : Cert.algebraic_Kernel3Ideal_Reference3Ideal := by
  intro m g m' g' _ hagree
  refine ⟨fun c => Cert.Merge.merged (Cert.Merge.xs m c) (Cert.Merge.gs m c) (Cert.Merge.ws m c) (Cert.Merge.o0s m c) (Cert.Merge.o1s m c) (Cert.Merge.o2s m c)
    (Cert.Merge.b0s m c) (Cert.Merge.b1s m c) (Cert.Merge.b2s m c) (Cert.Merge.wos m c), ?_, ?_⟩
  · exact (θ_run _ _ _).mono (fun _ h c => ⟨(h c).1.trans (Cert.Merge.final m c), (h c).2⟩) (Cert.Kernel3Ideal.Value.run_blocks (F := Ideal) m g)
  · refine (θ_run _ _ _).mono (fun _ h c => ?_) (Cert.Reference3Ideal.Value.run (F := Ideal) m' g')
    obtain ⟨a0, a1, a2, a3, a4, a5, a6, a7, a8, a9⟩ := hagree c
    refine ⟨(h c).1.trans ?_, (h c).2⟩
    rw [Cert.Merge.res_eq, a0, a1, a2, a3, a4, a5, a6, a7, a8, a9]
    exact Cert.Merge.resR_eq _ _ _ _ _ _ _ _ _ _

/-- From any memory, the projection's reference ends with its arguments as launched and no semaphore raised. -/
theorem Cert.Proj.ref_frame : Cert.quiescent_Reference4Ideal := fun m g _ =>
  (θ_run Cert.Reference4Ideal.defs _ _).mono (fun r h => ⟨fun c => (h c).2.2.2.2.2.2.2.2.2.2, sem_eq_zero_of_no_sems (by decide) r.2⟩) (Cert.Reference4Ideal.Value.run (F := Ideal) m g)

/-- The projection kernel and its reference end with the same ten results: queries, gates, cache rows, keys and values of the arguments. -/
theorem Cert.Proj.agree : Cert.algebraic_Kernel4Ideal_Reference4Ideal := by
  intro m g m' g' _ hagree
  refine ⟨fun c => Cert.Proj.arr14 (Cert.Proj.xs m c) (Cert.Proj.gs m c) (Cert.Proj.ws m c),
    fun c => Cert.Proj.arr15 (Cert.Proj.xs m c) (Cert.Proj.gs m c) (Cert.Proj.ws m c) (Cert.Proj.gqs m c) (Cert.Proj.wuqs m c) (Cert.Proj.wuks m c),
    fun c => Cert.Proj.arr16 (Cert.Proj.xs m c) (Cert.Proj.gs m c) (Cert.Proj.ws m c),
    fun c => Cert.Proj.arr17 (Cert.Proj.xs m c) (Cert.Proj.gs m c) (Cert.Proj.ws m c),
    fun c => Cert.Proj.arr18 (Cert.Proj.xs m c) (Cert.Proj.gs m c) (Cert.Proj.ws m c),
    fun c => Cert.Proj.arr19 (Cert.Proj.xs m c) (Cert.Proj.gs m c) (Cert.Proj.ws m c),
    fun c => Cert.Proj.arr20 (Cert.Proj.xs m c) (Cert.Proj.gs m c) (Cert.Proj.ws m c) (Cert.Proj.gkvs m c),
    fun c => Cert.Proj.arr21 (Cert.Proj.xs m c) (Cert.Proj.gs m c) (Cert.Proj.ws m c),
    fun c => Cert.Proj.arr22 (Cert.Proj.xs m c) (Cert.Proj.gs m c) (Cert.Proj.ws m c),
    fun c => Cert.Proj.arr20 (Cert.Proj.xs m c) (Cert.Proj.gs m c) (Cert.Proj.ws m c) (Cert.Proj.gkvs m c), ?_, ?_⟩
  · exact (θ_run _ _ _).mono (fun _ h c => ⟨(h c).1.trans (Cert.Proj.final14 m c),
      (h c).2.1.trans (Cert.Proj.final15 m c),
      (h c).2.2.1.trans (Cert.Proj.final16 m c),
      (h c).2.2.2.1.trans (Cert.Proj.final17 m c),
      (h c).2.2.2.2.1.trans (Cert.Proj.final18 m c),
      (h c).2.2.2.2.2.1.trans (Cert.Proj.final19 m c),
      (h c).2.2.2.2.2.2.1.trans (Cert.Proj.final20 m c),
      (h c).2.2.2.2.2.2.2.1.trans (Cert.Proj.final21 m c),
      (h c).2.2.2.2.2.2.2.2.1.trans (Cert.Proj.final22 m c),
      (h c).2.2.2.2.2.2.2.2.2.1.trans (Cert.Proj.final23 m c),
      (h c).2.2.2.2.2.2.2.2.2.2⟩) (Cert.Kernel4Ideal.Value.run_blocks (F := Ideal) m g)
  · refine (θ_run _ _ _).mono (fun _ h c => ?_) (Cert.Reference4Ideal.Value.run (F := Ideal) m' g')
    obtain ⟨a0, a1, a2, a3, a4, a5, a6⟩ := hagree c
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2⟩
    · refine Eq.trans (b := Cert.Proj.q3Of (Cert.Reference4Ideal.Value.res_main_v17 (F := Ideal) (Idealize.ShloMosaic.StableHlo.launchContents m' c))) rfl ?_
      rw [Cert.Proj.run_pR, a0, a1, a2]
      exact Cert.Proj.ref14 _ _ _
    · refine Eq.trans (b := Cert.Proj.qcatOf (Cert.Reference4Ideal.Value.res_main_v17 (F := Ideal) (Idealize.ShloMosaic.StableHlo.launchContents m' c)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6))) rfl ?_
      rw [Cert.Proj.run_pR, a0, a1, a2, a3, a4, a6]
      exact Cert.Proj.ref15 _ _ _ _ _ _
    · refine Eq.trans (b := Cert.Proj.idxwOf (Cert.Reference4Ideal.Value.res_main_v17 (F := Ideal) (Idealize.ShloMosaic.StableHlo.launchContents m' c))) rfl ?_
      rw [Cert.Proj.run_pR, a0, a1, a2]
      exact Cert.Proj.ref16 _ _ _
    · refine Eq.trans (b := Cert.Proj.gateOf (Cert.Reference4Ideal.Value.res_main_v17 (F := Ideal) (Idealize.ShloMosaic.StableHlo.launchContents m' c))) rfl ?_
      rw [Cert.Proj.run_pR, a0, a1, a2]
      exact Cert.Proj.ref17 _ _ _
    · refine Eq.trans (b := Cert.Proj.dsaOf (Cert.Reference4Ideal.Value.res_main_v17 (F := Ideal) (Idealize.ShloMosaic.StableHlo.launchContents m' c))) rfl ?_
      rw [Cert.Proj.run_pR, a0, a1, a2]
      exact Cert.Proj.ref18 _ _ _
    · refine Eq.trans (b := Cert.Proj.nsaOf (Cert.Reference4Ideal.Value.res_main_v17 (F := Ideal) (Idealize.ShloMosaic.StableHlo.launchContents m' c))) rfl ?_
      rw [Cert.Proj.run_pR, a0, a1, a2]
      exact Cert.Proj.ref19 _ _ _
    · refine Eq.trans (b := Cert.Proj.mlaOf (Cert.Reference4Ideal.Value.res_main_v17 (F := Ideal) (Idealize.ShloMosaic.StableHlo.launchContents m' c)) (m' ((c.tc : Thread Cert.Reference4Ideal.nD Cert.Reference4Ideal.τ).loc Cert.Reference4Ideal.main_arg5))) rfl ?_
      rw [Cert.Proj.run_pR, a0, a1, a2, a5]
      exact Cert.Proj.ref20 _ _ _ _
    · refine Eq.trans (b := Cert.Proj.winOf (Cert.Reference4Ideal.Value.res_main_v17 (F := Ideal) (Idealize.ShloMosaic.StableHlo.launchContents m' c))) rfl ?_
      rw [Cert.Proj.run_pR, a0, a1, a2]
      exact Cert.Proj.ref21 _ _ _
    · refine Eq.trans (b := Cert.Proj.kv7Of (Cert.Reference4Ideal.Value.res_main_v17 (F := Ideal) (Idealize.ShloMosaic.StableHlo.launchContents m' c))) rfl ?_
      rw [Cert.Proj.run_pR, a0, a1, a2]
      exact Cert.Proj.ref22 _ _ _
    · refine Eq.trans (b := Cert.Proj.mlaOf (Cert.Reference4Ideal.Value.res_main_v17 (F := Ideal) (Idealize.ShloMosaic.StableHlo.launchContents m' c)) (m' ((c.tc : Thread Cert.Reference4Ideal.nD Cert.Reference4Ideal.τ).loc Cert.Reference4Ideal.main_arg5))) rfl ?_
      rw [Cert.Proj.run_pR, a0, a1, a2, a5]
      exact Cert.Proj.ref20 _ _ _ _

/-- From any memory, the first layer's feed-forward reference ends with its arguments as launched and no semaphore raised. -/
theorem Cert.Ffn1.ref_frame : Cert.quiescent_Reference5Ideal := fun m g _ =>
  (θ_run Cert.Reference5Ideal.defs _ _).mono (fun r h => ⟨fun c => (h c).2, sem_eq_zero_of_no_sems (by decide) r.2⟩) (Cert.Reference5Ideal.Value.run (F := Ideal) m g)

/-- The first layer's feed-forward kernel and its reference end with one result: the feed-forward block of the arguments. -/
theorem Cert.Ffn1.agree : Cert.algebraic_Kernel5Ideal_Reference5Ideal := by
  intro m g m' g' _ hagree
  refine ⟨fun c => Cert.Ffn.mid (Cert.Ffn1.xs m c) (Cert.Ffn1.gs m c) (Cert.Ffn1.wgs m c) (Cert.Ffn1.wus m c) (Cert.Ffn1.wds m c), ?_, ?_⟩
  · exact (θ_run _ _ _).mono (fun _ h c => ⟨(h c).1.trans (Cert.Ffn1.final6 m c), (h c).2⟩) (Cert.Kernel5Ideal.Value.run_blocks (F := Ideal) m g)
  · refine (θ_run _ _ _).mono (fun _ h c => ?_) (Cert.Reference5Ideal.Value.run (F := Ideal) m' g')
    obtain ⟨a0, a1, a2, a3, a4, _⟩ := hagree c
    refine ⟨(h c).1.trans ?_, (h c).2⟩
    rw [a0, a1, a2, a3, a4]
    exact Cert.Ffn.midR_eq _ _ _ _ _

/-- From any memory, the sample projection's reference ends with its arguments as launched and no semaphore raised. -/
theorem Cert.ProjS.ref_frame : Cert.quiescent_Reference6Ideal := fun m g _ =>
  (θ_run Cert.Reference6Ideal.defs _ _).mono (fun r h => ⟨fun c => (h c).2.2.2.2.2.2.2.2.2.2, sem_eq_zero_of_no_sems (by decide) r.2⟩) (Cert.Reference6Ideal.Value.run (F := Ideal) m g)

/-- The sample projection kernel and its reference end with the same ten results: queries, gates, cache rows, keys and values of the arguments. -/
theorem Cert.ProjS.agree : Cert.algebraic_Kernel6Ideal_Reference6Ideal := by
  intro m g m' g' _ hagree
  refine ⟨fun c => Cert.ProjS.arr14 (Cert.ProjS.xs m c) (Cert.ProjS.gs m c) (Cert.ProjS.ws m c),
    fun c => Cert.ProjS.arr15 (Cert.ProjS.xs m c) (Cert.ProjS.gs m c) (Cert.ProjS.ws m c) (Cert.ProjS.gqs m c) (Cert.ProjS.wuqs m c) (Cert.ProjS.wuks m c),
    fun c => Cert.ProjS.arr16 (Cert.ProjS.xs m c) (Cert.ProjS.gs m c) (Cert.ProjS.ws m c),
    fun c => Cert.ProjS.arr17 (Cert.ProjS.xs m c) (Cert.ProjS.gs m c) (Cert.ProjS.ws m c),
    fun c => Cert.ProjS.arr18 (Cert.ProjS.xs m c) (Cert.ProjS.gs m c) (Cert.ProjS.ws m c),
    fun c => Cert.ProjS.arr19 (Cert.ProjS.xs m c) (Cert.ProjS.gs m c) (Cert.ProjS.ws m c),
    fun c => Cert.ProjS.arr20 (Cert.ProjS.xs m c) (Cert.ProjS.gs m c) (Cert.ProjS.ws m c) (Cert.ProjS.gkvs m c),
    fun c => Cert.ProjS.arr21 (Cert.ProjS.xs m c) (Cert.ProjS.gs m c) (Cert.ProjS.ws m c),
    fun c => Cert.ProjS.arr22 (Cert.ProjS.xs m c) (Cert.ProjS.gs m c) (Cert.ProjS.ws m c),
    fun c => Cert.ProjS.arr20 (Cert.ProjS.xs m c) (Cert.ProjS.gs m c) (Cert.ProjS.ws m c) (Cert.ProjS.gkvs m c), ?_, ?_⟩
  · exact (θ_run _ _ _).mono (fun _ h c => ⟨(h c).1.trans (Cert.ProjS.final14 m c),
      (h c).2.1.trans (Cert.ProjS.final15 m c),
      (h c).2.2.1.trans (Cert.ProjS.final16 m c),
      (h c).2.2.2.1.trans (Cert.ProjS.final17 m c),
      (h c).2.2.2.2.1.trans (Cert.ProjS.final18 m c),
      (h c).2.2.2.2.2.1.trans (Cert.ProjS.final19 m c),
      (h c).2.2.2.2.2.2.1.trans (Cert.ProjS.final20 m c),
      (h c).2.2.2.2.2.2.2.1.trans (Cert.ProjS.final21 m c),
      (h c).2.2.2.2.2.2.2.2.1.trans (Cert.ProjS.final22 m c),
      (h c).2.2.2.2.2.2.2.2.2.1.trans (Cert.ProjS.final23 m c),
      (h c).2.2.2.2.2.2.2.2.2.2⟩) (Cert.Kernel6Ideal.Value.run_blocks (F := Ideal) m g)
  · refine (θ_run _ _ _).mono (fun _ h c => ?_) (Cert.Reference6Ideal.Value.run (F := Ideal) m' g')
    obtain ⟨a0, a1, a2, a3, a4, a5, a6⟩ := hagree c
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2⟩
    · refine Eq.trans (b := Cert.ProjS.q3Of (Cert.Reference6Ideal.Value.res_main_v14 (F := Ideal) (Idealize.ShloMosaic.StableHlo.launchContents m' c))) rfl ?_
      rw [Cert.ProjS.run_pR, a0, a1, a2]
      exact Cert.ProjS.ref14 _ _ _
    · refine Eq.trans (b := Cert.ProjS.qcatOf (Cert.Reference6Ideal.Value.res_main_v14 (F := Ideal) (Idealize.ShloMosaic.StableHlo.launchContents m' c)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg6))) rfl ?_
      rw [Cert.ProjS.run_pR, a0, a1, a2, a3, a4, a6]
      exact Cert.ProjS.ref15 _ _ _ _ _ _
    · refine Eq.trans (b := Cert.ProjS.idxwOf (Cert.Reference6Ideal.Value.res_main_v14 (F := Ideal) (Idealize.ShloMosaic.StableHlo.launchContents m' c))) rfl ?_
      rw [Cert.ProjS.run_pR, a0, a1, a2]
      exact Cert.ProjS.ref16 _ _ _
    · refine Eq.trans (b := Cert.ProjS.gateOf (Cert.Reference6Ideal.Value.res_main_v14 (F := Ideal) (Idealize.ShloMosaic.StableHlo.launchContents m' c))) rfl ?_
      rw [Cert.ProjS.run_pR, a0, a1, a2]
      exact Cert.ProjS.ref17 _ _ _
    · refine Eq.trans (b := Cert.ProjS.dsaOf (Cert.Reference6Ideal.Value.res_main_v14 (F := Ideal) (Idealize.ShloMosaic.StableHlo.launchContents m' c))) rfl ?_
      rw [Cert.ProjS.run_pR, a0, a1, a2]
      exact Cert.ProjS.ref18 _ _ _
    · refine Eq.trans (b := Cert.ProjS.nsaOf (Cert.Reference6Ideal.Value.res_main_v14 (F := Ideal) (Idealize.ShloMosaic.StableHlo.launchContents m' c))) rfl ?_
      rw [Cert.ProjS.run_pR, a0, a1, a2]
      exact Cert.ProjS.ref19 _ _ _
    · refine Eq.trans (b := Cert.ProjS.mlaOf (Cert.Reference6Ideal.Value.res_main_v14 (F := Ideal) (Idealize.ShloMosaic.StableHlo.launchContents m' c)) (m' ((c.tc : Thread Cert.Reference6Ideal.nD Cert.Reference6Ideal.τ).loc Cert.Reference6Ideal.main_arg5))) rfl ?_
      rw [Cert.ProjS.run_pR, a0, a1, a2, a5]
      exact Cert.ProjS.ref20 _ _ _ _
    · refine Eq.trans (b := Cert.ProjS.winOf (Cert.Reference6Ideal.Value.res_main_v14 (F := Ideal) (Idealize.ShloMosaic.StableHlo.launchContents m' c))) rfl ?_
      rw [Cert.ProjS.run_pR, a0, a1, a2]
      exact Cert.ProjS.ref21 _ _ _
    · refine Eq.trans (b := Cert.ProjS.kv7Of (Cert.Reference6Ideal.Value.res_main_v14 (F := Ideal) (Idealize.ShloMosaic.StableHlo.launchContents m' c))) rfl ?_
      rw [Cert.ProjS.run_pR, a0, a1, a2]
      exact Cert.ProjS.ref22 _ _ _
    · refine Eq.trans (b := Cert.ProjS.mlaOf (Cert.Reference6Ideal.Value.res_main_v14 (F := Ideal) (Idealize.ShloMosaic.StableHlo.launchContents m' c)) (m' ((c.tc : Thread Cert.Reference6Ideal.nD Cert.Reference6Ideal.τ).loc Cert.Reference6Ideal.main_arg5))) rfl ?_
      rw [Cert.ProjS.run_pR, a0, a1, a2, a5]
      exact Cert.ProjS.ref20 _ _ _ _

/-- From any memory, the sample merge reference ends with its arguments as launched and no semaphore raised. -/
theorem Cert.MergeS.ref_frame : Cert.quiescent_Reference7Ideal := fun m g _ =>
  (θ_run Cert.Reference7Ideal.defs _ _).mono (fun r h => ⟨fun c => (h c).2, sem_eq_zero_of_no_sems (by decide) r.2⟩) (Cert.Reference7Ideal.Value.run (F := Ideal) m g)

/-- The sample merge kernel and its reference end with one result: the merge of the arguments. -/
theorem Cert.MergeS.agree : Cert.algebraic_Kernel7Ideal_Reference7Ideal := by
  intro m g m' g' _ hagree
  refine ⟨fun c => Cert.MergeS.merged (Cert.MergeS.xs m c) (Cert.MergeS.gs m c) (Cert.MergeS.ws m c) (Cert.MergeS.o0s m c) (Cert.MergeS.o1s m c) (Cert.MergeS.o2s m c)
    (Cert.MergeS.b0s m c) (Cert.MergeS.b1s m c) (Cert.MergeS.b2s m c) (Cert.MergeS.wos m c), ?_, ?_⟩
  · exact (θ_run _ _ _).mono (fun _ h c => ⟨(h c).1.trans (Cert.MergeS.final m c), (h c).2⟩) (Cert.Kernel7Ideal.Value.run_blocks (F := Ideal) m g)
  · refine (θ_run _ _ _).mono (fun _ h c => ?_) (Cert.Reference7Ideal.Value.run (F := Ideal) m' g')
    obtain ⟨a0, a1, a2, a3, a4, a5, a6, a7, a8, a9⟩ := hagree c
    refine ⟨(h c).1.trans ?_, (h c).2⟩
    rw [Cert.MergeS.res_eq, a0, a1, a2, a3, a4, a5, a6, a7, a8, a9]
    exact Cert.MergeS.resR_eq _ _ _ _ _ _ _ _ _ _

/-- From any memory, the sample feed-forward reference ends with its arguments as launched and no semaphore raised. -/
theorem Cert.FfnS.ref_frame : Cert.quiescent_Reference8Ideal := fun m g _ =>
  (θ_run Cert.Reference8Ideal.defs _ _).mono (fun r h => ⟨fun c => (h c).2.2, sem_eq_zero_of_no_sems (by decide) r.2⟩) (Cert.Reference8Ideal.Value.run (F := Ideal) m g)

/-- The sample feed-forward kernel and its reference end with one pair of results: the feed-forward block of the arguments, and its normalisation. -/
theorem Cert.FfnS.agree : Cert.algebraic_Kernel8Ideal_Reference8Ideal := by
  intro m g m' g' _ hagree
  refine ⟨fun c => Cert.FfnS.mid (Cert.FfnS.xs m c) (Cert.FfnS.gs m c) (Cert.FfnS.wgs m c) (Cert.FfnS.wus m c) (Cert.FfnS.wds m c),
    fun c => Cert.FfnS.normed (Cert.FfnS.mid (Cert.FfnS.xs m c) (Cert.FfnS.gs m c) (Cert.FfnS.wgs m c) (Cert.FfnS.wus m c) (Cert.FfnS.wds m c)) (Cert.FfnS.gfs m c), ?_, ?_⟩
  · exact (θ_run _ _ _).mono (fun _ h c => ⟨(h c).1.trans (Cert.FfnS.final6 m c), (h c).2.1.trans (Cert.FfnS.final7 m c), (h c).2.2⟩)
      (Cert.Kernel8Ideal.Value.run_blocks (F := Ideal) m g)
  · refine (θ_run _ _ _).mono (fun _ h c => ?_) (Cert.Reference8Ideal.Value.run (F := Ideal) m' g')
    obtain ⟨a0, a1, a2, a3, a4, a5⟩ := hagree c
    refine ⟨(h c).1.trans ?_, (h c).2.1.trans ?_, (h c).2.2⟩
    · rw [a0, a1, a2, a3, a4]
      exact Cert.FfnS.midR_eq _ _ _ _ _
    · rw [Cert.FfnS.res_eq, a0, a1, a2, a3, a4, a5, Cert.FfnS.midR_eq]
      exact Cert.FfnS.normR_eq _ _

/-- From any memory, the sample group's first feed-forward reference ends with its arguments as launched and no semaphore raised. -/
theorem Cert.Ffn1S.ref_frame : Cert.quiescent_Reference9Ideal := fun m g _ =>
  (θ_run Cert.Reference9Ideal.defs _ _).mono (fun r h => ⟨fun c => (h c).2, sem_eq_zero_of_no_sems (by decide) r.2⟩) (Cert.Reference9Ideal.Value.run (F := Ideal) m g)

/-- The sample group's first feed-forward kernel and its reference end with one result: the feed-forward block of the arguments. -/
theorem Cert.Ffn1S.agree : Cert.algebraic_Kernel9Ideal_Reference9Ideal := by
  intro m g m' g' _ hagree
  refine ⟨fun c => Cert.FfnS.mid (Cert.Ffn1S.xs m c) (Cert.Ffn1S.gs m c) (Cert.Ffn1S.wgs m c) (Cert.Ffn1S.wus m c) (Cert.Ffn1S.wds m c), ?_, ?_⟩
  · exact (θ_run _ _ _).mono (fun _ h c => ⟨(h c).1.trans (Cert.Ffn1S.final6 m c), (h c).2⟩) (Cert.Kernel9Ideal.Value.run_blocks (F := Ideal) m g)
  · refine (θ_run _ _ _).mono (fun _ h c => ?_) (Cert.Reference9Ideal.Value.run (F := Ideal) m' g')
    obtain ⟨a0, a1, a2, a3, a4, _⟩ := hagree c
    refine ⟨(h c).1.trans ?_, (h c).2⟩
    rw [a0, a1, a2, a3, a4]
    exact Cert.FfnS.midR_eq _ _ _ _ _

/-- From any memory, the block choice's reference ends with its argument as launched and no semaphore raised. -/
theorem Cert.Pick.ref_frame (m : (ℓ : Loc Cert.Reference10Ideal.nD Cert.Reference10Ideal.τ Cert.Reference10Ideal.sig) → Buf (Elt Ideal) ℓ)
    (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0) :=
  (θ_run Cert.Reference10Ideal.defs _ _).mono (fun r h => And.intro (fun c => (h c).2) (sem_eq_zero_of_no_sems (by decide) r.2)) (Cert.Reference10Ideal.Value.run (F := Ideal) m g)

/-- The block choice's kernel and its reference end with one result: the picked blocks' numbers, best first. -/
theorem Cert.Pick.agree : Cert.algebraic_Kernel10Ideal_Reference10Ideal_pre_above := by
  intro m g m' g' hpre hagree
  refine ⟨fun c => Cert.Pick.puts (m ((c.tc : Thread Cert.Kernel10Ideal.nD Cert.Kernel10Ideal.τ).loc Cert.Kernel10Ideal.main_arg0)) 14, ?_, ?_⟩
  · exact (θ_run _ _ _).mono (fun _ h c => ⟨(h c).1.trans (Cert.Pick.G1_eq _), (h c).2⟩) (Cert.Kernel10Ideal.Value.run (F := Ideal) m g)
  · refine (θ_run _ _ _).mono (fun _ h c => ?_) (Cert.Reference10Ideal.Value.run (F := Ideal) m' g')
    have a0 := hagree c
    refine ⟨(h c).1.trans ?_, (h c).2⟩
    rw [a0]
    exact Cert.Pick.ref_eq _ (Cert.Pick.above_of_pre _ (hpre c))

/-- The claim. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts, Cert.Pre_above.Gen.facts,
    fun m g _ => Cert.Kernel.Gen.frame m g, fun m g _ => Cert.KernelIdeal.Gen.frame m g, fun m g _ => Cert.KernelIdeal.Gen.frame m g,
    fun m g _ => Cert.Mla.ref_frame m g, fun m g _ => Cert.Mla.ref_frame m g,
    fun m g _ => Cert.Kernel2.Gen.frame m g, fun m g _ => Cert.Kernel2Ideal.Gen.frame m g, Cert.Ffn.ref_frame,
    fun m g _ => Cert.Kernel3.Gen.frame m g, fun m g _ => Cert.Kernel3Ideal.Gen.frame m g, Cert.Merge.ref_frame,
    fun m g _ => Cert.Kernel4.Gen.frame m g, fun m g _ => Cert.Kernel4Ideal.Gen.frame m g, Cert.Proj.ref_frame,
    fun m g _ => Cert.Kernel5.Gen.frame m g, fun m g _ => Cert.Kernel5Ideal.Gen.frame m g, Cert.Ffn1.ref_frame,
    fun m g _ => Cert.Kernel6.Gen.frame m g, fun m g _ => Cert.Kernel6Ideal.Gen.frame m g, Cert.ProjS.ref_frame,
    fun m g _ => Cert.Kernel7.Gen.frame m g, fun m g _ => Cert.Kernel7Ideal.Gen.frame m g, Cert.MergeS.ref_frame,
    fun m g _ => Cert.Kernel8.Gen.frame m g, fun m g _ => Cert.Kernel8Ideal.Gen.frame m g, Cert.FfnS.ref_frame,
    fun m g _ => Cert.Kernel9.Gen.frame m g, fun m g _ => Cert.Kernel9Ideal.Gen.frame m g, Cert.Ffn1S.ref_frame,
    fun m g _ => Cert.Kernel10.Gen.frame m g, fun m g _ => Cert.Kernel10Ideal.Gen.frame m g, fun m g _ => Cert.Kernel10Ideal.Gen.frame m g,
    fun m g _ => Cert.Pick.ref_frame m g, fun m g _ => Cert.Pick.ref_frame m g,
    ⟨IdealRules.named_const.statement Cert.KernelIdeal.κ "start" .f32 0xF1C9F2CA#32 ⊥ rfl,
      IdealRules.named_const.statement Cert.KernelIdeal.κ "mask" .f32 0xF149F2CA#32 ⊥ rfl⟩,
    Cert.Mla.agree, trivial, Cert.Ffn.agree, trivial, Cert.Merge.agree, trivial, Cert.Proj.agree,
    trivial, Cert.Ffn1.agree, trivial, Cert.ProjS.agree, trivial, Cert.MergeS.agree, trivial, Cert.FfnS.agree, trivial, Cert.Ffn1S.agree,
    trivial, Cert.Pick.agree⟩
